-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)) (v3 : (c : Dev Cert.Kernel2Ideal.nD) → Buf (Elt Ideal) ((c.tc : Thread Cert.Kernel2Ideal.nD Cert.Kernel2Ideal.τ).loc Cert.Kernel2Ideal.main_v7_3)) (v4 : (c : Dev Cert.Kernel2Ideal.nD) → Buf (Elt Ideal) ((c.tc : Thread Cert.Kernel2Ideal.nD Cert.Kernel2Ideal.τ).loc Cert.Kernel2Ideal.main_v7_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_v7_3) = v3 c
          ∧ r.2.mem ((c.tc : Thread Cert.Kernel2Ideal.nD Cert.Kernel2Ideal.τ).loc Cert.Kernel2Ideal.main_v7_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_v69) = v1 c
          ∧ r.2.mem ((c.tc : Thread Cert.Reference2Ideal.nD Cert.Reference2Ideal.τ).loc Cert.Reference2Ideal.main_v68) = v2 c
          ∧ r.2.mem ((c.tc : Thread Cert.Reference2Ideal.nD Cert.Reference2Ideal.τ).loc Cert.Reference2Ideal.main_v40) = v3 c
          ∧ r.2.mem ((c.tc : Thread Cert.Reference2Ideal.nD Cert.Reference2Ideal.τ).loc Cert.Reference2Ideal.main_v37) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v19)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v11_0)) (v1 : (c : Dev Cert.Kernel6Ideal.nD) → Buf (Elt Ideal) ((c.tc : Thread Cert.Kernel6Ideal.nD Cert.Kernel6Ideal.τ).loc Cert.Kernel6Ideal.main_v11_1)) (v2 : (c : Dev Cert.Kernel6Ideal.nD) → Buf (Elt Ideal) ((c.tc : Thread Cert.Kernel6Ideal.nD Cert.Kernel6Ideal.τ).loc Cert.Kernel6Ideal.main_v11_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11_0) = v0 c
          ∧ r.2.mem ((c.tc : Thread Cert.Kernel6Ideal.nD Cert.Kernel6Ideal.τ).loc Cert.Kernel6Ideal.main_v11_1) = v1 c
          ∧ r.2.mem ((c.tc : Thread Cert.Kernel6Ideal.nD Cert.Kernel6Ideal.τ).loc Cert.Kernel6Ideal.main_v11_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v49) = v0 c
          ∧ r.2.mem ((c.tc : Thread Cert.Reference6Ideal.nD Cert.Reference6Ideal.τ).loc Cert.Reference6Ideal.main_v50) = v1 c
          ∧ r.2.mem ((c.tc : Thread Cert.Reference6Ideal.nD Cert.Reference6Ideal.τ).loc Cert.Reference6Ideal.main_v27) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v11_0)) (v1 : (c : Dev Cert.Kernel7Ideal.nD) → Buf (Elt Ideal) ((c.tc : Thread Cert.Kernel7Ideal.nD Cert.Kernel7Ideal.τ).loc Cert.Kernel7Ideal.main_v11_1)) (v2 : (c : Dev Cert.Kernel7Ideal.nD) → Buf (Elt Ideal) ((c.tc : Thread Cert.Kernel7Ideal.nD Cert.Kernel7Ideal.τ).loc Cert.Kernel7Ideal.main_v11_2)) (v3 : (c : Dev Cert.Kernel7Ideal.nD) → Buf (Elt Ideal) ((c.tc : Thread Cert.Kernel7Ideal.nD Cert.Kernel7Ideal.τ).loc Cert.Kernel7Ideal.main_v11_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11_0) = v0 c
          ∧ r.2.mem ((c.tc : Thread Cert.Kernel7Ideal.nD Cert.Kernel7Ideal.τ).loc Cert.Kernel7Ideal.main_v11_1) = v1 c
          ∧ r.2.mem ((c.tc : Thread Cert.Kernel7Ideal.nD Cert.Kernel7Ideal.τ).loc Cert.Kernel7Ideal.main_v11_2) = v2 c
          ∧ r.2.mem ((c.tc : Thread Cert.Kernel7Ideal.nD Cert.Kernel7Ideal.τ).loc Cert.Kernel7Ideal.main_v11_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v64) = v0 c
          ∧ r.2.mem ((c.tc : Thread Cert.Reference7Ideal.nD Cert.Reference7Ideal.τ).loc Cert.Reference7Ideal.main_v65) = v1 c
          ∧ r.2.mem ((c.tc : Thread Cert.Reference7Ideal.nD Cert.Reference7Ideal.τ).loc Cert.Reference7Ideal.main_v27) = v2 c
          ∧ r.2.mem ((c.tc : Thread Cert.Reference7Ideal.nD Cert.Reference7Ideal.τ).loc Cert.Reference7Ideal.main_v66) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v10_0)) (v1 : (c : Dev Cert.Kernel8Ideal.nD) → Buf (Elt Ideal) ((c.tc : Thread Cert.Kernel8Ideal.nD Cert.Kernel8Ideal.τ).loc Cert.Kernel8Ideal.main_v10_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10_0) = v0 c
          ∧ r.2.mem ((c.tc : Thread Cert.Kernel8Ideal.nD Cert.Kernel8Ideal.τ).loc Cert.Kernel8Ideal.main_v10_2) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v47) = v0 c
          ∧ r.2.mem ((c.tc : Thread Cert.Reference8Ideal.nD Cert.Reference8Ideal.τ).loc Cert.Reference8Ideal.main_v33) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v10_0)) (v1 : (c : Dev Cert.Kernel9Ideal.nD) → Buf (Elt Ideal) ((c.tc : Thread Cert.Kernel9Ideal.nD Cert.Kernel9Ideal.τ).loc Cert.Kernel9Ideal.main_v10_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10_0) = v0 c
          ∧ r.2.mem ((c.tc : Thread Cert.Kernel9Ideal.nD Cert.Kernel9Ideal.τ).loc Cert.Kernel9Ideal.main_v10_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v82) = v0 c
          ∧ r.2.mem ((c.tc : Thread Cert.Reference9Ideal.nD Cert.Reference9Ideal.τ).loc Cert.Reference9Ideal.main_v84) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v35) = v0 c
          ∧ r.2.mem ((c.tc : Thread Cert.Reference10Ideal.nD Cert.Reference10Ideal.τ).loc Cert.Reference10Ideal.main_v37) = v1 c
          ∧ r.2.mem ((c.tc : Thread Cert.Reference10Ideal.nD Cert.Reference10Ideal.τ).loc Cert.Reference10Ideal.main_v38) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v10_0)) (v1 : (c : Dev Cert.Kernel11Ideal.nD) → Buf (Elt Ideal) ((c.tc : Thread Cert.Kernel11Ideal.nD Cert.Kernel11Ideal.τ).loc Cert.Kernel11Ideal.main_v10_1)) (v2 : (c : Dev Cert.Kernel11Ideal.nD) → Buf (Elt Ideal) ((c.tc : Thread Cert.Kernel11Ideal.nD Cert.Kernel11Ideal.τ).loc Cert.Kernel11Ideal.main_v10_2)) (v3 : (c : Dev Cert.Kernel11Ideal.nD) → Buf (Elt Ideal) ((c.tc : Thread Cert.Kernel11Ideal.nD Cert.Kernel11Ideal.τ).loc Cert.Kernel11Ideal.main_v10_3)) (v4 : (c : Dev Cert.Kernel11Ideal.nD) → Buf (Elt Ideal) ((c.tc : Thread Cert.Kernel11Ideal.nD Cert.Kernel11Ideal.τ).loc Cert.Kernel11Ideal.main_v10_4)) (v5 : (c : Dev Cert.Kernel11Ideal.nD) → Buf (Elt Ideal) ((c.tc : Thread Cert.Kernel11Ideal.nD Cert.Kernel11Ideal.τ).loc Cert.Kernel11Ideal.main_v10_5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v10_0) = v0 c
          ∧ r.2.mem ((c.tc : Thread Cert.Kernel11Ideal.nD Cert.Kernel11Ideal.τ).loc Cert.Kernel11Ideal.main_v10_1) = v1 c
          ∧ r.2.mem ((c.tc : Thread Cert.Kernel11Ideal.nD Cert.Kernel11Ideal.τ).loc Cert.Kernel11Ideal.main_v10_2) = v2 c
          ∧ r.2.mem ((c.tc : Thread Cert.Kernel11Ideal.nD Cert.Kernel11Ideal.τ).loc Cert.Kernel11Ideal.main_v10_3) = v3 c
          ∧ r.2.mem ((c.tc : Thread Cert.Kernel11Ideal.nD Cert.Kernel11Ideal.τ).loc Cert.Kernel11Ideal.main_v10_4) = v4 c
          ∧ r.2.mem ((c.tc : Thread Cert.Kernel11Ideal.nD Cert.Kernel11Ideal.τ).loc Cert.Kernel11Ideal.main_v10_5) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v84) = v0 c
          ∧ r.2.mem ((c.tc : Thread Cert.Reference11Ideal.nD Cert.Reference11Ideal.τ).loc Cert.Reference11Ideal.main_v85) = v1 c
          ∧ r.2.mem ((c.tc : Thread Cert.Reference11Ideal.nD Cert.Reference11Ideal.τ).loc Cert.Reference11Ideal.main_v36) = v2 c
          ∧ r.2.mem ((c.tc : Thread Cert.Reference11Ideal.nD Cert.Reference11Ideal.τ).loc Cert.Reference11Ideal.main_v87) = v3 c
          ∧ r.2.mem ((c.tc : Thread Cert.Reference11Ideal.nD Cert.Reference11Ideal.τ).loc Cert.Reference11Ideal.main_v88) = v4 c
          ∧ r.2.mem ((c.tc : Thread Cert.Reference11Ideal.nD Cert.Reference11Ideal.τ).loc Cert.Reference11Ideal.main_v32) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S4096x512 : Shape := ⟨2, ![4096, 512]⟩
abbrev S4096x256 : Shape := ⟨2, ![4096, 256]⟩
abbrev S4096x128 : Shape := ⟨2, ![4096, 128]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bitsLt_bf16_f32 : FTy.bits .bf16 < FTy.bits .f32
  bcast_S_S4096x256 : S_.BroadcastsInDim S4096x256 (![] : Fin 0 → Fin S4096x256.rank)
  reducesTo_S4096x256_S_d0_1 : S4096x256.ReducesTo [0, 1] S_
  bcast_S_S4096x128 : S_.BroadcastsInDim S4096x128 (![] : Fin 0 → Fin S4096x128.rank)
  reducesTo_S4096x128_S_d0_1 : S4096x128.ReducesTo [0, 1] S_

variable [Facts]

def fn_part1 {F : FTy → Type} [FloatOps F] (main_arg4 : FVec F S4096x128 .f32) (main_arg5 : FVec F S4096x512 .bf16) (main_v14 : IVec S_ 1) (main_v15 : FVec F S4096x256 .f32) (main_v16 : FVec F S4096x256 .f32) : IVec S_ 1 :=
  let main_v17 : IVec S4096x256 1 := cmpf .olt main_v15 main_v16
  let main_c_5 : IVec S_ 1 := constantI S_ 1 1#1
  let main_v18 : IVec S_ 1 := (fun x v => Host.reduce IntOp.andi x v reducesTo_S4096x256_S_d0_1 h_S_) main_v17 main_c_5
  let main_v19 : IVec S_ 1 := andi main_v14 main_v18
  let main_v20 : FVec F S4096x128 .f32 := Host.absf main_arg4
  let main_cst_6 : FVec F S_ .f32 := constant S_ .f32 0x7F800000#32
  let main_v21 : FVec F S4096x128 .f32 := broadcastInDim S4096x128 ![] bcast_S_S4096x128 main_cst_6
  let main_v22 : IVec S4096x128 1 := cmpf .olt main_v20 main_v21
  let main_c_7 : IVec S_ 1 := constantI S_ 1 1#1
  let main_v23 : IVec S_ 1 := (fun x v => Host.reduce IntOp.andi x v reducesTo_S4096x128_S_d0_1 h_S_) main_v22 main_c_7
  let main_v24 : IVec S_ 1 := andi main_v19 main_v23
  let main_v25 : FVec F S4096x512 .f32 := (extf .f32 · bitsLt_bf16_f32) main_arg5
  let main_v26 : FVec F S4096x512 .f32 := Host.absf main_v25
  let main_cst_8 : FVec F S_ .f32 := constant S_ .f32 0x7F800000#32
  let main_v27 : FVec F S4096x512 .f32 := broadcastInDim S4096x512 ![] bcast_S_S4096x512 main_cst_8
  let main_v28 : IVec S4096x512 1 := cmpf .olt main_v26 main_v27
  let main_c_9 : IVec S_ 1 := constantI S_ 1 1#1
  let main_v29 : IVec S_ 1 := (fun x v => Host.reduce IntOp.andi x v reducesTo_S4096x512_S_d0_1 h_S_) main_v28 main_c_9
  let main_v30 : IVec S_ 1 := andi main_v24 main_v29
  main_v30

def fn {F : FTy → Type} [FloatOps F] (main_arg0 : FVec F S4096x512 .f32) (main_arg1 : FVec F S4096x512 .f32) (main_arg2 : FVec F S4096x512 .bf16) (main_arg3 : FVec F S4096x256 .f32) (main_arg4 : FVec F S4096x128 .f32) (main_arg5 : FVec F S4096x512 .bf16) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := (extf .f32 · bitsLt_bf16_f32) main_arg2
  let main_v10 : FVec F S4096x512 .f32 := Host.absf main_v9
  let main_cst_2 : FVec F S_ .f32 := constant S_ .f32 0x7F800000#32
  let main_v11 : FVec F S4096x512 .f32 := broadcastInDim S4096x512 ![] bcast_S_S4096x512 main_cst_2
  let main_v12 : IVec S4096x512 1 := cmpf .olt main_v10 main_v11
  let main_c_3 : IVec S_ 1 := constantI S_ 1 1#1
  let main_v13 : IVec S_ 1 := (fun x v => Host.reduce IntOp.andi x v reducesTo_S4096x512_S_d0_1 h_S_) main_v12 main_c_3
  let main_v14 : IVec S_ 1 := andi main_v8 main_v13
  let main_v15 : FVec F S4096x256 .f32 := Host.absf main_arg3
  let main_cst_4 : FVec F S_ .f32 := constant S_ .f32 0x7F800000#32
  let main_v16 : FVec F S4096x256 .f32 := broadcastInDim S4096x256 ![] bcast_S_S4096x256 main_cst_4
  fn_part1 (F := F) main_arg4 main_arg5 main_v14 main_v15 main_v16
-- ==== Pre_finite2.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S1024x1024 .f32 := Host.absf main_arg4
  let main_cst_6 : FVec F S_ .f32 := constant S_ .f32 0x7F800000#32
  let main_v21 : FVec F S1024x1024 .f32 := broadcastInDim S1024x1024 ![] bcast_S_S1024x1024 main_cst_6
  let main_v22 : IVec S1024x1024 1 := cmpf .olt main_v20 main_v21
  let main_c_7 : IVec S_ 1 := constantI S_ 1 1#1
  let main_v23 : IVec S_ 1 := (fun x v => Host.reduce IntOp.andi x v reducesTo_S1024x1024_S_d0_1 h_S_) main_v22 main_c_7
  let main_v24 : IVec S_ 1 := andi main_v19 main_v23
  main_v24

def fn {F : FTy → Type} [FloatOps F] (main_arg0 : FVec F S4096x1024 .f32) (main_arg1 : FVec F S4096x1024 .f32) (main_arg2 : FVec F S4096x1024 .bf16) (main_arg3 : FVec F S1x1024 .f32) (main_arg4 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := (extf .f32 · bitsLt_bf16_f32) main_arg2
  let main_v10 : FVec F S4096x1024 .f32 := Host.absf main_v9
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v8 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_arg4 main_v14 main_v15 main_v16
-- ==== Kernel.lean ====
abbrev S4096x512 : Shape := ⟨2, ![4096, 512]⟩
abbrev S4096x256 : Shape := ⟨2, ![4096, 256]⟩
abbrev S4096x128 : Shape := ⟨2, ![4096, 128]⟩
abbrev S64x4x128x128 : Shape := ⟨4, ![64, 4, 128, 128]⟩
abbrev S512x512 : Shape := ⟨2, ![512, 512]⟩
abbrev S512x256 : Shape := ⟨2, ![512, 256]⟩
abbrev S512x128 : Shape := ⟨2, ![512, 128]⟩
abbrev S8x4x128x128 : Shape := ⟨4, ![8, 4, 128, 128]⟩
abbrev S4x128x128 : Shape := ⟨3, ![4, 128, 128]⟩
abbrev S1x128x128 : Shape := ⟨3, ![1, 128, 128]⟩
abbrev S128x128 : Shape := ⟨2, ![128, 128]⟩
abbrev S64x128 : Shape := ⟨2, ![64, 128]⟩
abbrev S64x1 : Shape := ⟨2, ![64, 1]⟩
abbrev S1x1 : Shape := ⟨2, ![1, 1]⟩
abbrev S1x1x128x128 : Shape := ⟨4, ![1, 1, 128, 128]⟩
abbrev S64x64 : Shape := ⟨2, ![64, 64]⟩

abbrev nBuf : Space → Nat
  | .hbm => 8
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .bf16⟩
  | .hbm, ⟨3, _⟩ => ⟨S4096x256, .f32⟩
  | .hbm, ⟨4, _⟩ => ⟨S4096x128, .f32⟩
  | .hbm, ⟨5, _⟩ => ⟨S4096x512, .bf16⟩
  | .hbm, ⟨6, _⟩ => ⟨S4096x512, .f32⟩
  | .hbm, ⟨7, _⟩ => ⟨S64x4x128x128, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x256, .f32⟩
  | .local _ .vmem, ⟨7, _⟩ => ⟨S512x256, .f32⟩
  | .local _ .vmem, ⟨8, _⟩ => ⟨S512x128, .f32⟩
  | .local _ .vmem, ⟨9, _⟩ => ⟨S512x128, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S8x4x128x128, .bf16⟩
  | .local _ .vmem, ⟨15, _⟩ => ⟨S8x4x128x128, .bf16⟩
  | .local _ .vmem, ⟨16, _⟩ => ⟨S4x128x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4096x512 : Shape := ⟨2, ![4096, 512]⟩
abbrev S4096x256 : Shape := ⟨2, ![4096, 256]⟩
abbrev S4096x128 : Shape := ⟨2, ![4096, 128]⟩
abbrev S4096x4 : Shape := ⟨2, ![4096, 4]⟩
abbrev S64x64x4 : Shape := ⟨3, ![64, 64, 4]⟩
abbrev S64x4x64 : Shape := ⟨3, ![64, 4, 64]⟩
abbrev S64x64x4x128 : Shape := ⟨4, ![64, 64, 4, 128]⟩
abbrev S64x4x64x128 : Shape := ⟨4, ![64, 4, 64, 128]⟩
abbrev S64x64x4x64 : Shape := ⟨4, ![64, 64, 4, 64]⟩
abbrev S64x4x64x64 : Shape := ⟨4, ![64, 4, 64, 64]⟩
abbrev S64x4x64x1 : Shape := ⟨4, ![64, 4, 64, 1]⟩
abbrev S64x4x1 : Shape := ⟨3, ![64, 4, 1]⟩
abbrev S64x4 : Shape := ⟨2, ![64, 4]⟩
abbrev S64x4x1x1 : Shape := ⟨4, ![64, 4, 1, 1]⟩
abbrev S_ : Shape := ⟨0, ![]⟩
abbrev S4x128x128 : Shape := ⟨3, ![4, 128, 128]⟩
abbrev S64x4x128x128 : Shape := ⟨4, ![64, 4, 128, 128]⟩
abbrev S1x4x64x128 : Shape := ⟨4, ![1, 4, 64, 128]⟩
abbrev S4x64x128 : Shape := ⟨3, ![4, 64, 128]⟩
abbrev S1x4x1x1 : Shape := ⟨4, ![1, 4, 1, 1]⟩
abbrev S4x1x1 : Shape := ⟨3, ![4, 1, 1]⟩
abbrev S1x4x64x64 : Shape := ⟨4, ![1, 4, 64, 64]⟩
abbrev S4x64x64 : Shape := ⟨3, ![4, 64, 64]⟩
abbrev S4x128x64 : Shape := ⟨3, ![4, 128, 64]⟩
abbrev S1x4x128x128 : Shape := ⟨4, ![1, 4, 128, 128]⟩

abbrev nBuf : Space → Nat
  | .hbm => 120
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .bf16⟩
  | .hbm, ⟨3, _⟩ => ⟨S4096x256, .f32⟩
  | .hbm, ⟨4, _⟩ => ⟨S4096x128, .f32⟩
  | .hbm, ⟨5, _⟩ => ⟨S4096x512, .bf16⟩
  | .hbm, ⟨6, _⟩ => ⟨S4096x4, .f32⟩
  | .hbm, ⟨7, _⟩ => ⟨S64x64x4, .f32⟩
  | .hbm, ⟨8, _⟩ => ⟨S64x4x64, .f32⟩
  | .hbm, ⟨9, _⟩ => ⟨S64x64x4x128, .f32⟩
  | .hbm, ⟨10, _⟩ => ⟨S64x4x64x128, .f32⟩
  | .hbm, ⟨11, _⟩ => ⟨S64x64x4x128, .f32⟩
  | .hbm, ⟨12, _⟩ => ⟨S64x4x64x128, .f32⟩
  | .hbm, ⟨13, _⟩ => ⟨S4096x512, .f32⟩
  | .hbm, ⟨14, _⟩ => ⟨S64x64x4x128, .f32⟩
  | .hbm, ⟨15, _⟩ => ⟨S64x4x64x128, .f32⟩
  | .hbm, ⟨16, _⟩ => ⟨S64x64x4x64, .f32⟩
  | .hbm, ⟨17, _⟩ => ⟨S64x4x64x64, .f32⟩
  | .hbm, ⟨18, _⟩ => ⟨S4096x512, .f32⟩
  | .hbm, ⟨19, _⟩ => ⟨S64x64x4x128, .f32⟩
  | .hbm, ⟨20, _⟩ => ⟨S64x4x64x128, .f32⟩
  | .hbm, ⟨21, _⟩ => ⟨S64x4x64, .f32⟩
  | .hbm, ⟨22, _⟩ => ⟨S64x4x64x1, .f32⟩
  | .hbm, ⟨23, _⟩ => ⟨S64x4x64x128, .f32⟩
  | .hbm, ⟨24, _⟩ => ⟨S64x4x64x128, .f32⟩
  | .hbm, ⟨25, _⟩ => ⟨S64x4x1, .f32⟩
  | .hbm, ⟨26, _⟩ => ⟨S64x4x64, .f32⟩
  | .hbm, ⟨27, _⟩ => ⟨S64x4x64, .f32⟩
  | .hbm, ⟨28, _⟩ => ⟨S64x4x64, .f32⟩
  | .hbm, ⟨29, _⟩ => ⟨S64x4x64x1, .f32⟩
  | .hbm, ⟨30, _⟩ => ⟨S64x4x64x128, .f32⟩
  | .hbm, ⟨31, _⟩ => ⟨S64x4x64x128, .f32⟩
  | .hbm, ⟨32, _⟩ => ⟨S64x4x1, .f32⟩
  | .hbm, ⟨33, _⟩ => ⟨S64x4, .f32⟩
  | .hbm, ⟨34, _⟩ => ⟨S64x4, .f32⟩
  | .hbm, ⟨35, _⟩ => ⟨S64x4x1x1, .f32⟩
  | .hbm, ⟨36, _⟩ => ⟨S_, .f32⟩
  | .hbm, ⟨37, _⟩ => ⟨S4x128x128, .f32⟩
  | .hbm, ⟨38, _⟩ => ⟨S_, .f32⟩
  | .hbm, ⟨39, _⟩ => ⟨S4x128x128, .f32⟩
  | .hbm, ⟨40, _⟩ => ⟨S_, .f32⟩
  | .hbm, ⟨41, _⟩ => ⟨S64x4x64x128, .f32⟩
  | .hbm, ⟨42, _⟩ => ⟨S_, .f32⟩
  | .hbm, ⟨43, _⟩ => ⟨S64x4x128x128, .f32⟩
  | .hbm, ⟨44, _⟩ => ⟨S_, .i32⟩
  | .hbm, ⟨45, _⟩ => ⟨S64x4x64x128, .f32⟩
  | .hbm, ⟨46, _⟩ => ⟨S64x4x1x1, .f32⟩
  | .hbm, ⟨47, _⟩ => ⟨S64x4x64x128, .f32⟩
  | .hbm, ⟨48, _⟩ => ⟨S64x4x64x128, .f32⟩
  | .hbm, ⟨49, _⟩ => ⟨S64x4x64x128, .f32⟩
  | .hbm, ⟨50, _⟩ => ⟨S64x4x64x64, .f32⟩
  | .hbm, ⟨51, _⟩ => ⟨S_, .i32⟩
  | .hbm, ⟨52, _⟩ => ⟨S4x128x128, .f32⟩
  | .hbm, ⟨53, _⟩ => ⟨S64x4x64x128, .f32⟩
  | .hbm, ⟨54, _⟩ => ⟨S64x4x128x128, .f32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S1x4x64x128, .f32⟩
  | .hbm, ⟨65, _⟩ => ⟨S4x64x128, .f32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S1x4x1x1, .f32⟩
  | .hbm, ⟨70, _⟩ => ⟨S4x1x1, .f32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S1x4x64x128, .f32⟩
  | .hbm, ⟨75, _⟩ => ⟨S4x64x128, .f32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S1x4x64x128, .f32⟩
  | .hbm, ⟨80, _⟩ => ⟨S4x64x128, .f32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S1x4x64x128, .f32⟩
  | .hbm, ⟨85, _⟩ => ⟨S4x64x128, .f32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S1x4x64x64, .f32⟩
  | .hbm, ⟨90, _⟩ => ⟨S4x64x64, .f32⟩
  | .hbm, ⟨91, _⟩ => ⟨S4x128x64, .f32⟩
  | .hbm, ⟨92, _⟩ => ⟨S4x64x128, .f32⟩
  | .hbm, ⟨93, _⟩ => ⟨S4x128x128, .f32⟩
  | .hbm, ⟨94, _⟩ => ⟨S4x128x128, .f32⟩
  | .hbm, ⟨95, _⟩ => ⟨S4x128x64, .f32⟩
  | .hbm, ⟨96, _⟩ => ⟨S4x64x128, .f32⟩
  | .hbm, ⟨97, _⟩ => ⟨S4x64x128, .f32⟩
  | .hbm, ⟨98, _⟩ => ⟨S4x128x128, .f32⟩
  | .hbm, ⟨99, _⟩ => ⟨S4x128x128, .f32⟩
  | .hbm, ⟨100, _⟩ => ⟨S4x128x128, .f32⟩
  | .hbm, ⟨101, _⟩ => ⟨S4x64x128, .f32⟩
  | .hbm, ⟨102, _⟩ => ⟨S4x128x128, .f32⟩
  | .hbm, ⟨103, _⟩ => ⟨S4x128x128, .f32⟩
  | .hbm, ⟨104, _⟩ => ⟨S4x128x128, .f32⟩
  | .hbm, ⟨105, _⟩ => ⟨S1x4x64x128, .f32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S64x4x64x128, .f32⟩
  | .hbm, ⟨110, _⟩ => ⟨S1x4x128x128, .f32⟩
  | .hbm, ⟨111, _⟩ => ⟨S_, .i32⟩
  | .hbm, ⟨112, _⟩ => ⟨S_, .i32⟩
  | .hbm, ⟨113, _⟩ => ⟨S_, .i32⟩
  | .hbm, ⟨114, _⟩ => ⟨S64x4x128x128, .f32⟩
  | .hbm, ⟨115, _⟩ => ⟨S_, .i32⟩
  | .hbm, ⟨116, _⟩ => ⟨S_, .i32⟩
  | .hbm, ⟨117, _⟩ => ⟨S64x64x4x128, .f32⟩
  | .hbm, ⟨118, _⟩ => ⟨S4096x512, .f32⟩
  | .hbm, ⟨119, _⟩ => ⟨S64x4x128x128, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_v30 : Ref sig .tc := ⟨.hbm, 37, rfl⟩
abbrev main_cst_0 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_c : Ref sig .tc := ⟨.hbm, 44, rfl⟩
abbrev main_v34_0 : Ref sig .tc := ⟨.hbm, 45, rfl⟩
abbrev main_v34_1 : Ref sig .tc := ⟨.hbm, 46, rfl⟩
abbrev main_v34_2 : Ref sig .tc := ⟨.hbm, 47, rfl⟩
abbrev main_v34_3 : Ref sig .tc := ⟨.hbm, 48, rfl⟩
abbrev main_v34_4 : Ref sig .tc := ⟨.hbm, 49, rfl⟩
abbrev main_v34_5 : Ref sig .tc := ⟨.hbm, 50, rfl⟩
abbrev main_v34_6 : Ref sig .tc := ⟨.hbm, 51, rfl⟩
abbrev main_v34_7 : Ref sig .tc := ⟨.hbm, 52, rfl⟩
abbrev main_v34_8 : Ref sig .tc := ⟨.hbm, 53, rfl⟩
abbrev main_v34_9 : Ref sig .tc := ⟨.hbm, 54, rfl⟩
abbrev main_while0c_c_12 : Ref sig .tc := ⟨.hbm, 55, rfl⟩
abbrev main_while0c_v38 : Ref sig .tc := ⟨.hbm, 56, rfl⟩
abbrev main_while0b_c_12 : Ref sig .tc := ⟨.hbm, 57, rfl⟩
abbrev main_while0b_v38 : Ref sig .tc := ⟨.hbm, 58, rfl⟩
abbrev main_while0b_c_13 : Ref sig .tc := ⟨.hbm, 59, rfl⟩
abbrev main_while0b_v39 : Ref sig .tc := ⟨.hbm, 60, rfl⟩
abbrev main_while0b_call0_c : Ref sig .tc := ⟨.hbm, 61, rfl⟩
abbrev main_while0b_call0_c_0 : Ref sig .tc := ⟨.hbm, 62, rfl⟩
abbrev main_while0b_call0_c_1 : Ref sig .tc := ⟨.hbm, 63, rfl⟩
abbrev main_while0b_call0_v0 : Ref sig .tc := ⟨.hbm, 64, rfl⟩
abbrev main_while0b_v40 : Ref sig .tc := ⟨.hbm, 65, rfl⟩
abbrev main_while0b_call1_c : Ref sig .tc := ⟨.hbm, 66, rfl⟩
abbrev main_while0b_call1_c_0 : Ref sig .tc := ⟨.hbm, 67, rfl⟩
abbrev main_while0b_call1_c_1 : Ref sig .tc := ⟨.hbm, 68, rfl⟩
abbrev main_while0b_call1_v0 : Ref sig .tc := ⟨.hbm, 69, rfl⟩
abbrev main_while0b_v41 : Ref sig .tc := ⟨.hbm, 70, rfl⟩
abbrev main_while0b_call2_c : Ref sig .tc := ⟨.hbm, 71, rfl⟩
abbrev main_while0b_call2_c_0 : Ref sig .tc := ⟨.hbm, 72, rfl⟩
abbrev main_while0b_call2_c_1 : Ref sig .tc := ⟨.hbm, 73, rfl⟩
abbrev main_while0b_call2_v0 : Ref sig .tc := ⟨.hbm, 74, rfl⟩
abbrev main_while0b_v42 : Ref sig .tc := ⟨.hbm, 75, rfl⟩
abbrev main_while0b_call3_c : Ref sig .tc := ⟨.hbm, 76, rfl⟩
abbrev main_while0b_call3_c_0 : Ref sig .tc := ⟨.hbm, 77, rfl⟩
abbrev main_while0b_call3_c_1 : Ref sig .tc := ⟨.hbm, 78, rfl⟩
abbrev main_while0b_call3_v0 : Ref sig .tc := ⟨.hbm, 79, rfl⟩
abbrev main_while0b_v43 : Ref sig .tc := ⟨.hbm, 80, rfl⟩
abbrev main_while0b_call4_c : Ref sig .tc := ⟨.hbm, 81, rfl⟩
abbrev main_while0b_call4_c_0 : Ref sig .tc := ⟨.hbm, 82, rfl⟩
abbrev main_while0b_call4_c_1 : Ref sig .tc := ⟨.hbm, 83, rfl⟩
abbrev main_while0b_call4_v0 : Ref sig .tc := ⟨.hbm, 84, rfl⟩
abbrev main_while0b_v44 : Ref sig .tc := ⟨.hbm, 85, rfl⟩
abbrev main_while0b_call5_c : Ref sig .tc := ⟨.hbm, 86, rfl⟩
abbrev main_while0b_call5_c_0 : Ref sig .tc := ⟨.hbm, 87, rfl⟩
abbrev main_while0b_call5_c_1 : Ref sig .tc := ⟨.hbm, 88, rfl⟩
abbrev main_while0b_call5_v0 : Ref sig .tc := ⟨.hbm, 89, rfl⟩
abbrev main_while0b_v45 : Ref sig .tc := ⟨.hbm, 90, rfl⟩
abbrev main_while0b_v46 : Ref sig .tc := ⟨.hbm, 91, rfl⟩
abbrev main_while0b_v47 : Ref sig .tc := ⟨.hbm, 92, rfl⟩
abbrev main_while0b_v48 : Ref sig .tc := ⟨.hbm, 93, rfl⟩
abbrev main_while0b_v49 : Ref sig .tc := ⟨.hbm, 94, rfl⟩
abbrev main_while0b_v50 : Ref sig .tc := ⟨.hbm, 95, rfl⟩
abbrev main_while0b_v51 : Ref sig .tc := ⟨.hbm, 96, rfl⟩
abbrev main_while0b_v52 : Ref sig .tc := ⟨.hbm, 97, rfl⟩
abbrev main_while0b_v53 : Ref sig .tc := ⟨.hbm, 98, rfl⟩
abbrev main_while0b_v54 : Ref sig .tc := ⟨.hbm, 99, rfl⟩
abbrev main_while0b_v55 : Ref sig .tc := ⟨.hbm, 100, rfl⟩
abbrev main_while0b_v56 : Ref sig .tc := ⟨.hbm, 101, rfl⟩
abbrev main_while0b_v57 : Ref sig .tc := ⟨.hbm, 102, rfl⟩
abbrev main_while0b_v58 : Ref sig .tc := ⟨.hbm, 103, rfl⟩
abbrev main_while0b_v59 : Ref sig .tc := ⟨.hbm, 104, rfl⟩
abbrev main_while0b_call6_v0 : Ref sig .tc := ⟨.hbm, 105, rfl⟩
abbrev main_while0b_call6_c : Ref sig .tc := ⟨.hbm, 106, rfl⟩
abbrev main_while0b_call6_c_0 : Ref sig .tc := ⟨.hbm, 107, rfl⟩
abbrev main_while0b_call6_c_1 : Ref sig .tc := ⟨.hbm, 108, rfl⟩
abbrev main_while0b_v60 : Ref sig .tc := ⟨.hbm, 109, rfl⟩
abbrev main_while0b_call7_v0 : Ref sig .tc := ⟨.hbm, 110, rfl⟩
abbrev main_while0b_call7_c : Ref sig .tc := ⟨.hbm, 111, rfl⟩
abbrev main_while0b_call7_c_0 : Ref sig .tc := ⟨.hbm, 112, rfl⟩
abbrev main_while0b_call7_c_1 : Ref sig .tc := ⟨.hbm, 113, rfl⟩
abbrev main_while0b_v61 : Ref sig .tc := ⟨.hbm, 114, rfl⟩
abbrev main_while0b_c_14 : Ref sig .tc := ⟨.hbm, 115, rfl⟩
abbrev main_while0b_v62 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 18
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1x1024, .f32⟩
  | .hbm, ⟨4, _⟩ => ⟨S1024x1024, .f32⟩
  | .hbm, ⟨5, _⟩ => ⟨S1024x1024, .bf16⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1024x1024, .f32⟩
  | .hbm, ⟨16, _⟩ => ⟨S1x1024, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1x1024, .f32⟩
  | .hbm, ⟨4, _⟩ => ⟨S1024x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x1024, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096, .f32⟩
  | .hbm, ⟨89, _⟩ => ⟨S4096x1024, .f32⟩
  | .hbm, ⟨90, _⟩ => ⟨S4096x1024, .f32⟩
  | .hbm, ⟨91, _⟩ => ⟨S1024x1024, .f32⟩
  | .hbm, ⟨92, _⟩ => ⟨S1024x1024, .f32⟩
  | .hbm, ⟨93, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_v53 : Ref sig .tc := ⟨.hbm, 73, rfl⟩
abbrev main_cst_14 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_16 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== Kernel3.lean ====
abbrev S4096x3336 : Shape := ⟨2, ![4096, 3336]⟩
abbrev S1024x3336 : Shape := ⟨2, ![1024, 3336]⟩
abbrev S4096x1024 : Shape := ⟨2, ![4096, 1024]⟩
abbrev S4096x2048 : Shape := ⟨2, ![4096, 2048]⟩
abbrev S4096x512 : Shape := ⟨2, ![4096, 512]⟩
abbrev S4096x3072 : Shape := ⟨2, ![4096, 3072]⟩
abbrev S4096x128 : Shape := ⟨2, ![4096, 128]⟩
abbrev S4096x8 : Shape := ⟨2, ![4096, 8]⟩
abbrev S_ : Shape := ⟨0, ![]⟩
abbrev S4096x384 : Shape := ⟨2, ![4096, 384]⟩
abbrev S3336x1024 : Shape := ⟨2, ![3336, 1024]⟩
abbrev S8x1024 : Shape := ⟨2, ![8, 1024]⟩
abbrev S128x1024 : Shape := ⟨2, ![128, 1024]⟩
abbrev S2048x1024 : Shape := ⟨2, ![2048, 1024]⟩
abbrev S512x1024 : Shape := ⟨2, ![512, 1024]⟩
abbrev S3456x1024 : Shape := ⟨2, ![3456, 1024]⟩
abbrev S512x3072 : Shape := ⟨2, ![512, 3072]⟩
abbrev S512x384 : Shape := ⟨2, ![512, 384]⟩
abbrev S3072x1024 : Shape := ⟨2, ![3072, 1024]⟩
abbrev S384x1024 : Shape := ⟨2, ![384, 1024]⟩

abbrev nBuf : Space → Nat
  | .hbm => 27
  | .vmem => 10
  | .smem => 0
  | _ => 0

abbrev bufTy : (tb : Table) → Fin (tcTables nBuf tb) → BufTy
  | .hbm, ⟨0, _⟩ => ⟨S4096x3336, .bf16⟩
  | .hbm, ⟨1, _⟩ => ⟨S1024x3336, .f32⟩
  | .hbm, ⟨2, _⟩ => ⟨S4096x1024, .f32⟩
  | .hbm, ⟨3, _⟩ => ⟨S4096x2048, .bf16⟩
  | .hbm, ⟨4, _⟩ => ⟨S4096x512, .bf16⟩
  | .hbm, ⟨5, _⟩ => ⟨S4096x512, .bf16⟩
  | .hbm, ⟨6, _⟩ => ⟨S4096x3072, .bf16⟩
  | .hbm, ⟨7, _⟩ => ⟨S4096x128, .bf16⟩
  | .hbm, ⟨8, _⟩ => ⟨S4096x128, .bf16⟩
  | .hbm, ⟨9, _⟩ => ⟨S4096x8, .bf16⟩
  | .hbm, ⟨10, _⟩ => ⟨S_, .i32⟩
  | .hbm, ⟨11, _⟩ => ⟨S_, .bf16⟩
  | .hbm, ⟨12, _⟩ => ⟨S4096x128, .bf16⟩
  | .hbm, ⟨13, _⟩ => ⟨S4096x384, .bf16⟩
  | .hbm, ⟨14, _⟩ => ⟨S3336x1024, .f32⟩
  | .hbm, ⟨15, _⟩ => ⟨S3336x1024, .bf16⟩
  | .hbm, ⟨16, _⟩ => ⟨S8x1024, .bf16⟩
  | .hbm, ⟨17, _⟩ => ⟨S_, .i32⟩
  | .hbm, ⟨18, _⟩ => ⟨S_, .bf16⟩
  | .hbm, ⟨19, _⟩ => ⟨S128x1024, .bf16⟩
  | .hbm, ⟨20, _⟩ => ⟨S2048x1024, .bf16⟩
  | .hbm, ⟨21, _⟩ => ⟨S512x1024, .bf16⟩
  | .hbm, ⟨22, _⟩ => ⟨S512x1024, .bf16⟩
  | .hbm, ⟨23, _⟩ => ⟨S128x1024, .bf16⟩
  | .hbm, ⟨24, _⟩ => ⟨S128x1024, .bf16⟩
  | .hbm, ⟨25, _⟩ => ⟨S3456x1024, .bf16⟩
  | .hbm, ⟨26, _⟩ => ⟨S4096x1024, .f32⟩
  | .local _ .vmem, ⟨0, _⟩ => ⟨S512x3072, .bf16⟩
  | .local _ .vmem, ⟨1, _⟩ => ⟨S512x3072, .bf16⟩
  | .local _ .vmem, ⟨2, _⟩ => ⟨S512x384, .bf16⟩
  | .local _ .vmem, ⟨3, _⟩ => ⟨S512x384, .bf16⟩
  | .local _ .vmem, ⟨4, _⟩ => ⟨S3072x1024, .bf16⟩
  | .local _ .vmem, ⟨5, _⟩ => ⟨S384x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x3336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let c0_i32_0 : BitVec 32 := 0#32
  ![c8_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4096x3336 : Shape := ⟨2, ![4096, 3336]⟩
abbrev S1024x3336 : Shape := ⟨2, ![1024, 3336]⟩
abbrev S4096x1024 : Shape := ⟨2, ![4096, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x3336, .bf16⟩
  | .hbm, ⟨1, _⟩ => ⟨S1024x3336, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x3336, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x3336, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | _, _ => ⟨S4096x3336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel4.lean ====
abbrev S4096x3336 : Shape := ⟨2, ![4096, 3336]⟩
abbrev S4096x1024 : Shape := ⟨2, ![4096, 1024]⟩
abbrev S4096x2048 : Shape := ⟨2, ![4096, 2048]⟩
abbrev S4096x512 : Shape := ⟨2, ![4096, 512]⟩
abbrev S4096x3072 : Shape := ⟨2, ![4096, 3072]⟩
abbrev S4096x128 : Shape := ⟨2, ![4096, 128]⟩
abbrev S4096x8 : Shape := ⟨2, ![4096, 8]⟩
abbrev S_ : Shape := ⟨0, ![]⟩
abbrev S4096x384 : Shape := ⟨2, ![4096, 384]⟩
abbrev S3072x1024 : Shape := ⟨2, ![3072, 1024]⟩
abbrev S384x1024 : Shape := ⟨2, ![384, 1024]⟩
abbrev S512x3072 : Shape := ⟨2, ![512, 3072]⟩
abbrev S512x384 : Shape := ⟨2, ![512, 384]⟩
abbrev S512x1024 : Shape := ⟨2, ![512, 1024]⟩

abbrev nBuf : Space → Nat
  | .hbm => 15
  | .vmem => 8
  | .smem => 0
  | _ => 0

abbrev bufTy : (tb : Table) → Fin (tcTables nBuf tb) → BufTy
  | .hbm, ⟨0, _⟩ => ⟨S4096x3336, .bf16⟩
  | .hbm, ⟨1, _⟩ => ⟨S4096x1024, .f32⟩
  | .hbm, ⟨2, _⟩ => ⟨S4096x2048, .bf16⟩
  | .hbm, ⟨3, _⟩ => ⟨S4096x512, .bf16⟩
  | .hbm, ⟨4, _⟩ => ⟨S4096x512, .bf16⟩
  | .hbm, ⟨5, _⟩ => ⟨S4096x3072, .bf16⟩
  | .hbm, ⟨6, _⟩ => ⟨S4096x128, .bf16⟩
  | .hbm, ⟨7, _⟩ => ⟨S4096x128, .bf16⟩
  | .hbm, ⟨8, _⟩ => ⟨S4096x8, .bf16⟩
  | .hbm, ⟨9, _⟩ => ⟨S_, .i32⟩
  | .hbm, ⟨10, _⟩ => ⟨S_, .bf16⟩
  | .hbm, ⟨11, _⟩ => ⟨S4096x128, .bf16⟩
  | .hbm, ⟨12, _⟩ => ⟨S4096x384, .bf16⟩
  | .hbm, ⟨13, _⟩ => ⟨S3072x1024, .f32⟩
  | .hbm, ⟨14, _⟩ => ⟨S384x1024, .f32⟩
  | .local _ .vmem, ⟨0, _⟩ => ⟨S512x3072, .bf16⟩
  | .local _ .vmem, ⟨1, _⟩ => ⟨S512x3072, .bf16⟩
  | .local _ .vmem, ⟨2, _⟩ => ⟨S512x384, .bf16⟩
  | .local _ .vmem, ⟨3, _⟩ => ⟨S512x384, .bf16⟩
  | .local _ .vmem, ⟨4, _⟩ => ⟨S512x1024, .f32⟩
  | .local _ .vmem, ⟨5, _⟩ => ⟨S512x1024, .f32⟩
  | .local _ .vmem, ⟨6, _⟩ => ⟨S3072x1024, .f32⟩
  | .local _ .vmem, ⟨7, _⟩ => ⟨S384x1024, .f32⟩
  | _, _ => ⟨S4096x3336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference4Ideal.lean ====
abbrev S4096x3336 : Shape := ⟨2, ![4096, 3336]⟩
abbrev S4096x1024 : Shape := ⟨2, ![4096, 1024]⟩
abbrev S_ : Shape := ⟨0, ![]⟩
abbrev S1024x3336 : Shape := ⟨2, ![1024, 3336]⟩
abbrev S3336x1024 : Shape := ⟨2, ![3336, 1024]⟩
abbrev S2048x1024 : Shape := ⟨2, ![2048, 1024]⟩
abbrev S8x1024 : Shape := ⟨2, ![8, 1024]⟩
abbrev S512x1024 : Shape := ⟨2, ![512, 1024]⟩
abbrev S128x1024 : Shape := ⟨2, ![128, 1024]⟩
abbrev S3072x1024 : Shape := ⟨2, ![3072, 1024]⟩
abbrev S120x1024 : Shape := ⟨2, ![120, 1024]⟩
abbrev S384x1024 : Shape := ⟨2, ![384, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x3336, .bf16⟩
  | .hbm, ⟨1, _⟩ => ⟨S4096x1024, .f32⟩
  | .hbm, ⟨2, _⟩ => ⟨S_, .f32⟩
  | .hbm, ⟨3, _⟩ => ⟨S1024x3336, .f32⟩
  | .hbm, ⟨4, _⟩ => ⟨S4096x3336, .f32⟩
  | .hbm, ⟨5, _⟩ => ⟨S4096x3336, .f32⟩
  | .hbm, ⟨6, _⟩ => ⟨S3336x1024, .f32⟩
  | .hbm, ⟨7, _⟩ => ⟨S1024x3336, .f32⟩
  | .hbm, ⟨8, _⟩ => ⟨S3336x1024, .f32⟩
  | .hbm, ⟨9, _⟩ => ⟨S2048x1024, .f32⟩
  | .hbm, ⟨10, _⟩ => ⟨S8x1024, .f32⟩
  | .hbm, ⟨11, _⟩ => ⟨S512x1024, .f32⟩
  | .hbm, ⟨12, _⟩ => ⟨S128x1024, .f32⟩
  | .hbm, ⟨13, _⟩ => ⟨S128x1024, .f32⟩
  | .hbm, ⟨14, _⟩ => ⟨S512x1024, .f32⟩
  | .hbm, ⟨15, _⟩ => ⟨S3072x1024, .f32⟩
  | .hbm, ⟨16, _⟩ => ⟨S_, .f32⟩
  | .hbm, ⟨17, _⟩ => ⟨S120x1024, .f32⟩
  | .hbm, ⟨18, _⟩ => ⟨S384x1024, .f32⟩
  | _, _ => ⟨S4096x3336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel5.lean ====
abbrev S4096x1024 : Shape := ⟨2, ![4096, 1024]⟩
abbrev S1024x3336 : Shape := ⟨2, ![1024, 3336]⟩
abbrev S3336x1024 : Shape := ⟨2, ![3336, 1024]⟩
abbrev S8x1024 : Shape := ⟨2, ![8, 1024]⟩
abbrev S_ : Shape := ⟨0, ![]⟩
abbrev S128x1024 : Shape := ⟨2, ![128, 1024]⟩
abbrev S2048x1024 : Shape := ⟨2, ![2048, 1024]⟩
abbrev S512x1024 : Shape := ⟨2, ![512, 1024]⟩
abbrev S3456x1024 : Shape := ⟨2, ![3456, 1024]⟩
abbrev S4096x3456 : Shape := ⟨2, ![4096, 3456]⟩
abbrev S512x3456 : Shape := ⟨2, ![512, 3456]⟩

abbrev nBuf : Space → Nat
  | .hbm => 15
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x3336, .f32⟩
  | .hbm, ⟨2, _⟩ => ⟨S3336x1024, .f32⟩
  | .hbm, ⟨3, _⟩ => ⟨S3336x1024, .bf16⟩
  | .hbm, ⟨4, _⟩ => ⟨S8x1024, .bf16⟩
  | .hbm, ⟨5, _⟩ => ⟨S_, .i32⟩
  | .hbm, ⟨6, _⟩ => ⟨S_, .bf16⟩
  | .hbm, ⟨7, _⟩ => ⟨S128x1024, .bf16⟩
  | .hbm, ⟨8, _⟩ => ⟨S2048x1024, .bf16⟩
  | .hbm, ⟨9, _⟩ => ⟨S512x1024, .bf16⟩
  | .hbm, ⟨10, _⟩ => ⟨S512x1024, .bf16⟩
  | .hbm, ⟨11, _⟩ => ⟨S128x1024, .bf16⟩
  | .hbm, ⟨12, _⟩ => ⟨S128x1024, .bf16⟩
  | .hbm, ⟨13, _⟩ => ⟨S3456x1024, .bf16⟩
  | .hbm, ⟨14, _⟩ => ⟨S4096x3456, .bf16⟩
  | .local _ .vmem, ⟨0, _⟩ => ⟨S512x1024, .f32⟩
  | .local _ .vmem, ⟨1, _⟩ => ⟨S512x1024, .f32⟩
  | .local _ .vmem, ⟨2, _⟩ => ⟨S3456x1024, .bf16⟩
  | .local _ .vmem, ⟨3, _⟩ => ⟨S512x3456, .bf16⟩
  | .local _ .vmem, ⟨4, _⟩ => ⟨S512x3456, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3456x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3456 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x1024 : Shape := ⟨2, ![4096, 1024]⟩
abbrev S1024x3336 : Shape := ⟨2, ![1024, 3336]⟩
abbrev S4096x3336 : Shape := ⟨2, ![4096, 3336]⟩
abbrev S4096x2048 : Shape := ⟨2, ![4096, 2048]⟩
abbrev S4096x8 : Shape := ⟨2, ![4096, 8]⟩
abbrev S4096x512 : Shape := ⟨2, ![4096, 512]⟩
abbrev S4096x128 : Shape := ⟨2, ![4096, 128]⟩
abbrev S_ : Shape := ⟨0, ![]⟩
abbrev S4096x120 : Shape := ⟨2, ![4096, 120]⟩
abbrev S4096x3456 : Shape := ⟨2, ![4096, 3456]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3336, .f32⟩
  | .hbm, ⟨2, _⟩ => ⟨S4096x3336, .f32⟩
  | .hbm, ⟨3, _⟩ => ⟨S4096x2048, .f32⟩
  | .hbm, ⟨4, _⟩ => ⟨S4096x8, .f32⟩
  | .hbm, ⟨5, _⟩ => ⟨S4096x512, .f32⟩
  | .hbm, ⟨6, _⟩ => ⟨S4096x128, .f32⟩
  | .hbm, ⟨7, _⟩ => ⟨S4096x128, .f32⟩
  | .hbm, ⟨8, _⟩ => ⟨S4096x512, .f32⟩
  | .hbm, ⟨9, _⟩ => ⟨S_, .f32⟩
  | .hbm, ⟨10, _⟩ => ⟨S4096x120, .f32⟩
  | .hbm, ⟨11, _⟩ => ⟨S4096x3456, .f32⟩
  | .hbm, ⟨12, _⟩ => ⟨S4096x3456, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S4096x1024 : Shape := ⟨2, ![4096, 1024]⟩
abbrev S4096x512 : Shape := ⟨2, ![4096, 512]⟩
abbrev S4096x3336 : Shape := ⟨2, ![4096, 3336]⟩
abbrev S1x128 : Shape := ⟨2, ![1, 128]⟩
abbrev S1024x1024 : Shape := ⟨2, ![1024, 1024]⟩
abbrev S1x1024 : Shape := ⟨2, ![1, 1024]⟩
abbrev S4096x2048 : Shape := ⟨2, ![4096, 2048]⟩
abbrev S4096x3072 : Shape := ⟨2, ![4096, 3072]⟩
abbrev S4096x128 : Shape := ⟨2, ![4096, 128]⟩
abbrev S4096x8 : Shape := ⟨2, ![4096, 8]⟩
abbrev S_ : Shape := ⟨0, ![]⟩
abbrev S4096x384 : Shape := ⟨2, ![4096, 384]⟩
abbrev S4096x3456 : Shape := ⟨2, ![4096, 3456]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 24
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x3336, .bf16⟩
  | .hbm, ⟨4, _⟩ => ⟨S1x128, .f32⟩
  | .hbm, ⟨5, _⟩ => ⟨S1024x1024, .f32⟩
  | .hbm, ⟨6, _⟩ => ⟨S1x1024, .f32⟩
  | .hbm, ⟨7, _⟩ => ⟨S1x1024, .f32⟩
  | .hbm, ⟨8, _⟩ => ⟨S4096x2048, .bf16⟩
  | .hbm, ⟨9, _⟩ => ⟨S4096x512, .bf16⟩
  | .hbm, ⟨10, _⟩ => ⟨S4096x512, .bf16⟩
  | .hbm, ⟨11, _⟩ => ⟨S4096x3072, .bf16⟩
  | .hbm, ⟨12, _⟩ => ⟨S4096x128, .bf16⟩
  | .hbm, ⟨13, _⟩ => ⟨S4096x128, .bf16⟩
  | .hbm, ⟨14, _⟩ => ⟨S4096x8, .bf16⟩
  | .hbm, ⟨15, _⟩ => ⟨S_, .i32⟩
  | .hbm, ⟨16, _⟩ => ⟨S_, .bf16⟩
  | .hbm, ⟨17, _⟩ => ⟨S4096x128, .bf16⟩
  | .hbm, ⟨18, _⟩ => ⟨S4096x384, .bf16⟩
  | .hbm, ⟨19, _⟩ => ⟨S4096x3456, .bf16⟩
  | .hbm, ⟨20, _⟩ => ⟨S1024x1024, .bf16⟩
  | .hbm, ⟨21, _⟩ => ⟨S4096x1024, .f32⟩
  | .hbm, ⟨22, _⟩ => ⟨S4096x1024, .bf16⟩
  | .hbm, ⟨23, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x128, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S4096x1024 : Shape := ⟨2, ![4096, 1024]⟩
abbrev S4096x512 : Shape := ⟨2, ![4096, 512]⟩
abbrev S4096x3336 : Shape := ⟨2, ![4096, 3336]⟩
abbrev S1x128 : Shape := ⟨2, ![1, 128]⟩
abbrev S1024x1024 : Shape := ⟨2, ![1024, 1024]⟩
abbrev S1x1024 : Shape := ⟨2, ![1, 1024]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S4096 : Shape := ⟨1, ![4096]⟩
abbrev S4096x1 : Shape := ⟨2, ![4096, 1]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x3336, .bf16⟩
  | .hbm, ⟨4, _⟩ => ⟨S1x128, .f32⟩
  | .hbm, ⟨5, _⟩ => ⟨S1024x1024, .f32⟩
  | .hbm, ⟨6, _⟩ => ⟨S1x1024, .f32⟩
  | .hbm, ⟨7, _⟩ => ⟨S1x1024, .f32⟩
  | .hbm, ⟨8, _⟩ => ⟨S4096x512, .bf16⟩
  | .hbm, ⟨9, _⟩ => ⟨S4096x512, .f32⟩
  | .hbm, ⟨10, _⟩ => ⟨S4096x512, .bf16⟩
  | .hbm, ⟨11, _⟩ => ⟨S4096x512, .f32⟩
  | .hbm, ⟨12, _⟩ => ⟨S4096x4x128, .f32⟩
  | .hbm, ⟨13, _⟩ => ⟨S4096x4x128, .f32⟩
  | .hbm, ⟨14, _⟩ => ⟨S_, .f32⟩
  | .hbm, ⟨15, _⟩ => ⟨S4096x4, .f32⟩
  | .hbm, ⟨16, _⟩ => ⟨S4096x4x1, .f32⟩
  | .hbm, ⟨17, _⟩ => ⟨S_, .f32⟩
  | .hbm, ⟨18, _⟩ => ⟨S4096x4x1, .f32⟩
  | .hbm, ⟨19, _⟩ => ⟨S4096x4x1, .f32⟩
  | .hbm, ⟨20, _⟩ => ⟨S_, .f32⟩
  | .hbm, ⟨21, _⟩ => ⟨S4096x4x1, .f32⟩
  | .hbm, ⟨22, _⟩ => ⟨S4096x4x1, .f32⟩
  | .hbm, ⟨23, _⟩ => ⟨S4096x4x1, .f32⟩
  | .hbm, ⟨24, _⟩ => ⟨S4096x4x128, .f32⟩
  | .hbm, ⟨25, _⟩ => ⟨S4096x4x128, .f32⟩
  | .hbm, ⟨26, _⟩ => ⟨S1x1x128, .f32⟩
  | .hbm, ⟨27, _⟩ => ⟨S4096x4x128, .f32⟩
  | .hbm, ⟨28, _⟩ => ⟨S4096x4x128, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_2 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_3 : Ref sig .tc := ⟨.hbm, 56, rfl⟩
abbrev main_v28 : Ref sig .tc := ⟨.hbm, 57, rfl⟩
abbrev main_v29 : Ref sig .tc := ⟨.hbm, 58, rfl⟩
abbrev main_cst_4 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_5 : Ref sig .tc := ⟨.hbm, 65, rfl⟩
abbrev main_v35 : Ref sig .tc := ⟨.hbm, 66, rfl⟩
abbrev main_v36 : Ref sig .tc := ⟨.hbm, 67, rfl⟩
abbrev main_cst_6 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_7 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩

abbrev nD : Nat := 1
abbrev τ : Topo := Topo.v7x

variable {F : FTy → Type} [FloatOps F]
-- ==== Kernel7.lean ====
abbrev S4096x1024 : Shape := ⟨2, ![4096, 1024]⟩
abbrev S4096x512 : Shape := ⟨2, ![4096, 512]⟩
abbrev S4096x3336 : Shape := ⟨2, ![4096, 3336]⟩
abbrev S1x128 : Shape := ⟨2, ![1, 128]⟩
abbrev S1024x1024 : Shape := ⟨2, ![1024, 1024]⟩
abbrev S1x1024 : Shape := ⟨2, ![1, 1024]⟩
abbrev S4096x2048 : Shape := ⟨2, ![4096, 2048]⟩
abbrev S4096x3072 : Shape := ⟨2, ![4096, 3072]⟩
abbrev S4096x128 : Shape := ⟨2, ![4096, 128]⟩
abbrev S4096x8 : Shape := ⟨2, ![4096, 8]⟩
abbrev S_ : Shape := ⟨0, ![]⟩
abbrev S4096x384 : Shape := ⟨2, ![4096, 384]⟩
abbrev S4096x3456 : Shape := ⟨2, ![4096, 3456]⟩
abbrev S8x128 : Shape := ⟨2, ![8, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 26
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x3336, .bf16⟩
  | .hbm, ⟨4, _⟩ => ⟨S1x128, .f32⟩
  | .hbm, ⟨5, _⟩ => ⟨S1024x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x2048, .bf16⟩
  | .hbm, ⟨10, _⟩ => ⟨S4096x512, .bf16⟩
  | .hbm, ⟨11, _⟩ => ⟨S4096x512, .bf16⟩
  | .hbm, ⟨12, _⟩ => ⟨S4096x3072, .bf16⟩
  | .hbm, ⟨13, _⟩ => ⟨S4096x128, .bf16⟩
  | .hbm, ⟨14, _⟩ => ⟨S4096x128, .bf16⟩
  | .hbm, ⟨15, _⟩ => ⟨S4096x8, .bf16⟩
  | .hbm, ⟨16, _⟩ => ⟨S_, .i32⟩
  | .hbm, ⟨17, _⟩ => ⟨S_, .bf16⟩
  | .hbm, ⟨18, _⟩ => ⟨S4096x128, .bf16⟩
  | .hbm, ⟨19, _⟩ => ⟨S4096x384, .bf16⟩
  | .hbm, ⟨20, _⟩ => ⟨S4096x3456, .bf16⟩
  | .hbm, ⟨21, _⟩ => ⟨S1024x1024, .bf16⟩
  | .hbm, ⟨22, _⟩ => ⟨S4096x1024, .f32⟩
  | .hbm, ⟨23, _⟩ => ⟨S4096x1024, .bf16⟩
  | .hbm, ⟨24, _⟩ => ⟨S4096x1024, .f32⟩
  | .hbm, ⟨25, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x128, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference7Ideal.lean ====
abbrev S4096x1024 : Shape := ⟨2, ![4096, 1024]⟩
abbrev S4096x512 : Shape := ⟨2, ![4096, 512]⟩
abbrev S4096x3336 : Shape := ⟨2, ![4096, 3336]⟩
abbrev S1x128 : Shape := ⟨2, ![1, 128]⟩
abbrev S1024x1024 : Shape := ⟨2, ![1024, 1024]⟩
abbrev S1x1024 : Shape := ⟨2, ![1, 1024]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S4096 : Shape := ⟨1, ![4096]⟩
abbrev S4096x1 : Shape := ⟨2, ![4096, 1]⟩
abbrev S8x128 : Shape := ⟨2, ![8, 128]⟩

abbrev nBuf : Space → Nat
  | .hbm => 109
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x3336, .bf16⟩
  | .hbm, ⟨4, _⟩ => ⟨S1x128, .f32⟩
  | .hbm, ⟨5, _⟩ => ⟨S1024x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x512, .bf16⟩
  | .hbm, ⟨10, _⟩ => ⟨S4096x512, .f32⟩
  | .hbm, ⟨11, _⟩ => ⟨S4096x512, .bf16⟩
  | .hbm, ⟨12, _⟩ => ⟨S4096x512, .f32⟩
  | .hbm, ⟨13, _⟩ => ⟨S4096x4x128, .f32⟩
  | .hbm, ⟨14, _⟩ => ⟨S4096x4x128, .f32⟩
  | .hbm, ⟨15, _⟩ => ⟨S_, .f32⟩
  | .hbm, ⟨16, _⟩ => ⟨S4096x4, .f32⟩
  | .hbm, ⟨17, _⟩ => ⟨S4096x4x1, .f32⟩
  | .hbm, ⟨18, _⟩ => ⟨S_, .f32⟩
  | .hbm, ⟨19, _⟩ => ⟨S4096x4x1, .f32⟩
  | .hbm, ⟨20, _⟩ => ⟨S4096x4x1, .f32⟩
  | .hbm, ⟨21, _⟩ => ⟨S_, .f32⟩
  | .hbm, ⟨22, _⟩ => ⟨S4096x4x1, .f32⟩
  | .hbm, ⟨23, _⟩ => ⟨S4096x4x1, .f32⟩
  | .hbm, ⟨24, _⟩ => ⟨S4096x4x1, .f32⟩
  | .hbm, ⟨25, _⟩ => ⟨S4096x4x128, .f32⟩
  | .hbm, ⟨26, _⟩ => ⟨S4096x4x128, .f32⟩
  | .hbm, ⟨27, _⟩ => ⟨S1x1x128, .f32⟩
  | .hbm, ⟨28, _⟩ => ⟨S4096x4x128, .f32⟩
  | .hbm, ⟨29, _⟩ => ⟨S4096x4x128, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S_, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096x512, .f32⟩
  | .hbm, ⟨45, _⟩ => ⟨S4096x512, .f32⟩
  | .hbm, ⟨46, _⟩ => ⟨S_, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S4096x1, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S_, .f32⟩
  | .hbm, ⟨92, _⟩ => ⟨S4096, .f32⟩
  | .hbm, ⟨93, _⟩ => ⟨S4096, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S4096, .f32⟩
  | .hbm, ⟨102, _⟩ => ⟨S_, .f32⟩
  | .hbm, ⟨103, _⟩ => ⟨S4096, .f32⟩
  | .hbm, ⟨104, _⟩ => ⟨S4096, .f32⟩
  | .hbm, ⟨105, _⟩ => ⟨S4096x1024, .f32⟩
  | .hbm, ⟨106, _⟩ => ⟨S4096x1024, .f32⟩
  | .hbm, ⟨107, _⟩ => ⟨S4096x1024, .bf16⟩
  | .hbm, ⟨108, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_2 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_3 : Ref sig .tc := ⟨.hbm, 57, rfl⟩
abbrev main_v28 : Ref sig .tc := ⟨.hbm, 58, rfl⟩
abbrev main_v29 : Ref sig .tc := ⟨.hbm, 59, rfl⟩
abbrev main_cst_4 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_5 : Ref sig .tc := ⟨.hbm, 66, rfl⟩
abbrev main_v35 : Ref sig .tc := ⟨.hbm, 67, rfl⟩
abbrev main_v36 : Ref sig .tc := ⟨.hbm, 68, rfl⟩
abbrev main_cst_6 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_7 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_8 : Ref sig .tc := ⟨.hbm, 86, rfl⟩
abbrev main_v52 : Ref sig .tc := ⟨.hbm, 87, rfl⟩
abbrev main_v53 : Ref sig .tc := ⟨.hbm, 88, rfl⟩
abbrev main_cst_9 : Ref sig .tc := ⟨.hbm, 89, rfl⟩
abbrev main_v54 : Ref sig .tc := ⟨.hbm, 90, rfl⟩
abbrev main_cst_10 : Ref sig .tc := ⟨.hbm, 91, rfl⟩
abbrev main_v55 : Ref sig .tc := ⟨.hbm, 92, rfl⟩
abbrev main_v56 : Ref sig .tc := ⟨.hbm, 93, rfl⟩
abbrev main_cst_11 : Ref sig .tc := ⟨.hbm, 94, rfl⟩
abbrev main_v57 : Ref sig .tc := ⟨.hbm, 95, rfl⟩
abbrev main_cst_12 : Ref sig .tc := ⟨.hbm, 96, rfl⟩
abbrev main_v58 : Ref sig .tc := ⟨.hbm, 97, rfl⟩
abbrev main_cst_13 : Ref sig .tc := ⟨.hbm, 98, rfl⟩
abbrev main_cst_14 : Ref sig .tc := ⟨.hbm, 99, rfl⟩
abbrev main_v59 : Ref sig .tc := ⟨.hbm, 100, rfl⟩
abbrev main_v60 : Ref sig .tc := ⟨.hbm, 101, rfl⟩
abbrev main_cst_15 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩

abbrev nD : Nat := 1
abbrev τ : Topo := Topo.v7x

variable {F : FTy → Type} [FloatOps F]
-- ==== Kernel8.lean ====
abbrev S4096x1024 : Shape := ⟨2, ![4096, 1024]⟩
abbrev S4096x512 : Shape := ⟨2, ![4096, 512]⟩
abbrev S4096x3336 : Shape := ⟨2, ![4096, 3336]⟩
abbrev S1x128 : Shape := ⟨2, ![1, 128]⟩
abbrev S4096x2048 : Shape := ⟨2, ![4096, 2048]⟩
abbrev S4096x3072 : Shape := ⟨2, ![4096, 3072]⟩
abbrev S4096x128 : Shape := ⟨2, ![4096, 128]⟩
abbrev S4096x8 : Shape := ⟨2, ![4096, 8]⟩
abbrev S_ : Shape := ⟨0, ![]⟩
abbrev S4096x384 : Shape := ⟨2, ![4096, 384]⟩
abbrev S4096x3456 : Shape := ⟨2, ![4096, 3456]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 19
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x3336, .bf16⟩
  | .hbm, ⟨3, _⟩ => ⟨S1x128, .f32⟩
  | .hbm, ⟨4, _⟩ => ⟨S4096x2048, .bf16⟩
  | .hbm, ⟨5, _⟩ => ⟨S4096x512, .bf16⟩
  | .hbm, ⟨6, _⟩ => ⟨S4096x512, .bf16⟩
  | .hbm, ⟨7, _⟩ => ⟨S4096x3072, .bf16⟩
  | .hbm, ⟨8, _⟩ => ⟨S4096x128, .bf16⟩
  | .hbm, ⟨9, _⟩ => ⟨S4096x128, .bf16⟩
  | .hbm, ⟨10, _⟩ => ⟨S4096x8, .bf16⟩
  | .hbm, ⟨11, _⟩ => ⟨S_, .i32⟩
  | .hbm, ⟨12, _⟩ => ⟨S_, .bf16⟩
  | .hbm, ⟨13, _⟩ => ⟨S4096x128, .bf16⟩
  | .hbm, ⟨14, _⟩ => ⟨S4096x384, .bf16⟩
  | .hbm, ⟨15, _⟩ => ⟨S4096x3456, .bf16⟩
  | .hbm, ⟨16, _⟩ => ⟨S4096x512, .bf16⟩
  | .hbm, ⟨17, _⟩ => ⟨S4096x3072, .bf16⟩
  | .hbm, ⟨18, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S1x128, .f32⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S4096x1024 : Shape := ⟨2, ![4096, 1024]⟩
abbrev S4096x512 : Shape := ⟨2, ![4096, 512]⟩
abbrev S4096x3336 : Shape := ⟨2, ![4096, 3336]⟩
abbrev S1x128 : Shape := ⟨2, ![1, 128]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S128 : Shape := ⟨1, ![128]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x3336, .bf16⟩
  | .hbm, ⟨3, _⟩ => ⟨S1x128, .f32⟩
  | .hbm, ⟨4, _⟩ => ⟨S4096x4x128, .f32⟩
  | .hbm, ⟨5, _⟩ => ⟨S4096x4x128, .f32⟩
  | .hbm, ⟨6, _⟩ => ⟨S_, .f32⟩
  | .hbm, ⟨7, _⟩ => ⟨S4096x4x128, .f32⟩
  | .hbm, ⟨8, _⟩ => ⟨S4096x4x128, .f32⟩
  | .hbm, ⟨9, _⟩ => ⟨S_, .f32⟩
  | .hbm, ⟨10, _⟩ => ⟨S4096x4, .f32⟩
  | .hbm, ⟨11, _⟩ => ⟨S4096x4x1, .f32⟩
  | .hbm, ⟨12, _⟩ => ⟨S_, .f32⟩
  | .hbm, ⟨13, _⟩ => ⟨S4096x4x1, .f32⟩
  | .hbm, ⟨14, _⟩ => ⟨S4096x4x1, .f32⟩
  | .hbm, ⟨15, _⟩ => ⟨S_, .f32⟩
  | .hbm, ⟨16, _⟩ => ⟨S4096x4x1, .f32⟩
  | .hbm, ⟨17, _⟩ => ⟨S4096x4x1, .f32⟩
  | .hbm, ⟨18, _⟩ => ⟨S4096x4x1, .f32⟩
  | .hbm, ⟨19, _⟩ => ⟨S4096x4x1, .f32⟩
  | .hbm, ⟨20, _⟩ => ⟨S_, .f32⟩
  | .hbm, ⟨21, _⟩ => ⟨S4096x4x1, .f32⟩
  | .hbm, ⟨22, _⟩ => ⟨S4096x4x1, .f32⟩
  | .hbm, ⟨23, _⟩ => ⟨S4096x4x128, .f32⟩
  | .hbm, ⟨24, _⟩ => ⟨S4096x4x128, .f32⟩
  | .hbm, ⟨25, _⟩ => ⟨S1x1x128, .f32⟩
  | .hbm, ⟨26, _⟩ => ⟨S4096x4x128, .f32⟩
  | .hbm, ⟨27, _⟩ => ⟨S4096x4x128, .f32⟩
  | .hbm, ⟨28, _⟩ => ⟨S4096x512, .f32⟩
  | .hbm, ⟨29, _⟩ => ⟨S4096x512, .bf16⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S_, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x4x128, .f32⟩
  | .hbm, ⟨44, _⟩ => ⟨S4096x4x128, .f32⟩
  | .hbm, ⟨45, _⟩ => ⟨S_, .f32⟩
  | .hbm, ⟨46, _⟩ => ⟨S128, .f32⟩
  | .hbm, ⟨47, _⟩ => ⟨S1x1x128, .f32⟩
  | .hbm, ⟨48, _⟩ => ⟨S4096x4x128, .f32⟩
  | .hbm, ⟨49, _⟩ => ⟨S4096x4x128, .f32⟩
  | .hbm, ⟨50, _⟩ => ⟨S_, .f32⟩
  | .hbm, ⟨51, _⟩ => ⟨S128, .f32⟩
  | .hbm, ⟨52, _⟩ => ⟨S1x128, .f32⟩
  | .hbm, ⟨53, _⟩ => ⟨S4096x4x128, .f32⟩
  | .hbm, ⟨54, _⟩ => ⟨S_, .f32⟩
  | .hbm, ⟨55, _⟩ => ⟨S4096x4, .f32⟩
  | .hbm, ⟨56, _⟩ => ⟨S4096x4x1, .f32⟩
  | .hbm, ⟨57, _⟩ => ⟨S4096x4x128, .f32⟩
  | .hbm, ⟨58, _⟩ => ⟨S4096x4x128, .f32⟩
  | .hbm, ⟨59, _⟩ => ⟨S4096x4x1, .f32⟩
  | .hbm, ⟨60, _⟩ => ⟨S_, .f32⟩
  | .hbm, ⟨61, _⟩ => ⟨S4096x4x1, .f32⟩
  | .hbm, ⟨62, _⟩ => ⟨S4096x4x1, .f32⟩
  | .hbm, ⟨63, _⟩ => ⟨S_, .f32⟩
  | .hbm, ⟨64, _⟩ => ⟨S4096x4, .f32⟩
  | .hbm, ⟨65, _⟩ => ⟨S4096x4x128, .f32⟩
  | .hbm, ⟨66, _⟩ => ⟨S4096x4x128, .f32⟩
  | .hbm, ⟨67, _⟩ => ⟨S4096x4x128, .f32⟩
  | .hbm, ⟨68, _⟩ => ⟨S4096x512, .f32⟩
  | .hbm, ⟨69, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]
-- ==== Kernel9.lean ====
abbrev S4096x1536 : Shape := ⟨2, ![4096, 1536]⟩
abbrev S4096x3336 : Shape := ⟨2, ![4096, 3336]⟩
abbrev S4x1536 : Shape := ⟨2, ![4, 1536]⟩
abbrev S4096x3072 : Shape := ⟨2, ![4096, 3072]⟩
abbrev S4096x2048 : Shape := ⟨2, ![4096, 2048]⟩
abbrev S4096x512 : Shape := ⟨2, ![4096, 512]⟩
abbrev S4096x128 : Shape := ⟨2, ![4096, 128]⟩
abbrev S4096x8 : Shape := ⟨2, ![4096, 8]⟩
abbrev S_ : Shape := ⟨0, ![]⟩
abbrev S4096x384 : Shape := ⟨2, ![4096, 384]⟩
abbrev S4096x3456 : Shape := ⟨2, ![4096, 3456]⟩
abbrev S8x1536 : Shape := ⟨2, ![8, 1536]⟩
abbrev S512x1536 : Shape := ⟨2, ![512, 1536]⟩
abbrev S1x1536 : Shape := ⟨2, ![1, 1536]⟩
abbrev S1536 : Shape := ⟨1, ![1536]⟩
abbrev S504x1536 : Shape := ⟨2, ![504, 1536]⟩

abbrev nBuf : Space → Nat
  | .hbm => 18
  | .vmem => 10
  | .smem => 0
  | _ => 0

abbrev bufTy : (tb : Table) → Fin (tcTables nBuf tb) → BufTy
  | .hbm, ⟨0, _⟩ => ⟨S4096x1536, .f32⟩
  | .hbm, ⟨1, _⟩ => ⟨S4096x3336, .bf16⟩
  | .hbm, ⟨2, _⟩ => ⟨S4x1536, .f32⟩
  | .hbm, ⟨3, _⟩ => ⟨S4096x3072, .bf16⟩
  | .hbm, ⟨4, _⟩ => ⟨S4096x2048, .bf16⟩
  | .hbm, ⟨5, _⟩ => ⟨S4096x512, .bf16⟩
  | .hbm, ⟨6, _⟩ => ⟨S4096x512, .bf16⟩
  | .hbm, ⟨7, _⟩ => ⟨S4096x3072, .bf16⟩
  | .hbm, ⟨8, _⟩ => ⟨S4096x128, .bf16⟩
  | .hbm, ⟨9, _⟩ => ⟨S4096x128, .bf16⟩
  | .hbm, ⟨10, _⟩ => ⟨S4096x8, .bf16⟩
  | .hbm, ⟨11, _⟩ => ⟨S_, .i32⟩
  | .hbm, ⟨12, _⟩ => ⟨S_, .bf16⟩
  | .hbm, ⟨13, _⟩ => ⟨S4096x128, .bf16⟩
  | .hbm, ⟨14, _⟩ => ⟨S4096x384, .bf16⟩
  | .hbm, ⟨15, _⟩ => ⟨S4096x3456, .bf16⟩
  | .hbm, ⟨16, _⟩ => ⟨S4096x3072, .bf16⟩
  | .hbm, ⟨17, _⟩ => ⟨S8x1536, .f32⟩
  | .local _ .vmem, ⟨0, _⟩ => ⟨S512x1536, .f32⟩
  | .local _ .vmem, ⟨1, _⟩ => ⟨S512x1536, .f32⟩
  | .local _ .vmem, ⟨2, _⟩ => ⟨S8x1536, .f32⟩
  | .local _ .vmem, ⟨3, _⟩ => ⟨S8x1536, .f32⟩
  | .local _ .vmem, ⟨4, _⟩ => ⟨S512x1536, .bf16⟩
  | .local _ .vmem, ⟨5, _⟩ => ⟨S512x1536, .bf16⟩
  | .local _ .vmem, ⟨6, _⟩ => ⟨S4x1536, .f32⟩
  | .local _ .vmem, ⟨7, _⟩ => ⟨S512x1536, .bf16⟩
  | .local _ .vmem, ⟨8, _⟩ => ⟨S512x1536, .bf16⟩
  | .local _ .vmem, ⟨9, _⟩ => ⟨S8x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference9Ideal.lean ====
abbrev S4096x1536 : Shape := ⟨2, ![4096, 1536]⟩
abbrev S4096x3336 : Shape := ⟨2, ![4096, 3336]⟩
abbrev S4x1536 : Shape := ⟨2, ![4, 1536]⟩
abbrev S4096x3072 : Shape := ⟨2, ![4096, 3072]⟩
abbrev S_ : Shape := ⟨0, ![]⟩
abbrev S3x1536 : Shape := ⟨2, ![3, 1536]⟩
abbrev S4099x1536 : Shape := ⟨2, ![4099, 1536]⟩
abbrev S1x1536 : Shape := ⟨2, ![1, 1536]⟩
abbrev S1536 : Shape := ⟨1, ![1536]⟩
abbrev S8x1536 : Shape := ⟨2, ![8, 1536]⟩

abbrev nBuf : Space → Nat
  | .hbm => 109
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x3336, .bf16⟩
  | .hbm, ⟨2, _⟩ => ⟨S4x1536, .f32⟩
  | .hbm, ⟨3, _⟩ => ⟨S4096x3072, .bf16⟩
  | .hbm, ⟨4, _⟩ => ⟨S4096x1536, .bf16⟩
  | .hbm, ⟨5, _⟩ => ⟨S4096x1536, .f32⟩
  | .hbm, ⟨6, _⟩ => ⟨S_, .f32⟩
  | .hbm, ⟨7, _⟩ => ⟨S3x1536, .f32⟩
  | .hbm, ⟨8, _⟩ => ⟨S4099x1536, .f32⟩
  | .hbm, ⟨9, _⟩ => ⟨S_, .f32⟩
  | .hbm, ⟨10, _⟩ => ⟨S3x1536, .f32⟩
  | .hbm, ⟨11, _⟩ => ⟨S4096x1536, .f32⟩
  | .hbm, ⟨12, _⟩ => ⟨S1x1536, .f32⟩
  | .hbm, ⟨13, _⟩ => ⟨S1536, .f32⟩
  | .hbm, ⟨14, _⟩ => ⟨S1x1536, .f32⟩
  | .hbm, ⟨15, _⟩ => ⟨S4096x1536, .f32⟩
  | .hbm, ⟨16, _⟩ => ⟨S4096x1536, .f32⟩
  | .hbm, ⟨17, _⟩ => ⟨S_, .f32⟩
  | .hbm, ⟨18, _⟩ => ⟨S4096x1536, .f32⟩
  | .hbm, ⟨19, _⟩ => ⟨S4096x1536, .f32⟩
  | .hbm, ⟨20, _⟩ => ⟨S4096x1536, .f32⟩
  | .hbm, ⟨21, _⟩ => ⟨S1x1536, .f32⟩
  | .hbm, ⟨22, _⟩ => ⟨S1536, .f32⟩
  | .hbm, ⟨23, _⟩ => ⟨S1x1536, .f32⟩
  | .hbm, ⟨24, _⟩ => ⟨S4096x1536, .f32⟩
  | .hbm, ⟨25, _⟩ => ⟨S4096x1536, .f32⟩
  | .hbm, ⟨26, _⟩ => ⟨S4096x1536, .f32⟩
  | .hbm, ⟨27, _⟩ => ⟨S4096x1536, .f32⟩
  | .hbm, ⟨28, _⟩ => ⟨S1x1536, .f32⟩
  | .hbm, ⟨29, _⟩ => ⟨S1536, .f32⟩
  | .hbm, ⟨30, _⟩ => ⟨S1x1536, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S4096x1536, .f32⟩
  | .hbm, ⟨35, _⟩ => ⟨S1x1536, .f32⟩
  | .hbm, ⟨36, _⟩ => ⟨S1536, .f32⟩
  | .hbm, ⟨37, _⟩ => ⟨S1x1536, .f32⟩
  | .hbm, ⟨38, _⟩ => ⟨S4096x1536, .f32⟩
  | .hbm, ⟨39, _⟩ => ⟨S4096x1536, .f32⟩
  | .hbm, ⟨40, _⟩ => ⟨S4096x1536, .f32⟩
  | .hbm, ⟨41, _⟩ => ⟨S4096x1536, .f32⟩
  | .hbm, ⟨42, _⟩ => ⟨S4096x1536, .f32⟩
  | .hbm, ⟨43, _⟩ => ⟨S4096x1536, .f32⟩
  | .hbm, ⟨44, _⟩ => ⟨S_, .f32⟩
  | .hbm, ⟨45, _⟩ => ⟨S1536, .f32⟩
  | .hbm, ⟨46, _⟩ => ⟨S1x1536, .f32⟩
  | .hbm, ⟨47, _⟩ => ⟨S4096x1536, .f32⟩
  | .hbm, ⟨48, _⟩ => ⟨S4096x1536, .f32⟩
  | .hbm, ⟨49, _⟩ => ⟨S_, .f32⟩
  | .hbm, ⟨50, _⟩ => ⟨S1536, .f32⟩
  | .hbm, ⟨51, _⟩ => ⟨S1x1536, .f32⟩
  | .hbm, ⟨52, _⟩ => ⟨S_, .f32⟩
  | .hbm, ⟨53, _⟩ => ⟨S4x1536, .f32⟩
  | .hbm, ⟨54, _⟩ => ⟨S_, .f32⟩
  | .hbm, ⟨55, _⟩ => ⟨S4099x1536, .f32⟩
  | .hbm, ⟨56, _⟩ => ⟨S4096x1536, .f32⟩
  | .hbm, ⟨57, _⟩ => ⟨S_, .f32⟩
  | .hbm, ⟨58, _⟩ => ⟨S1536, .f32⟩
  | .hbm, ⟨59, _⟩ => ⟨S1x1536, .f32⟩
  | .hbm, ⟨60, _⟩ => ⟨S4096x1536, .f32⟩
  | .hbm, ⟨61, _⟩ => ⟨S4096x1536, .f32⟩
  | .hbm, ⟨62, _⟩ => ⟨S_, .f32⟩
  | .hbm, ⟨63, _⟩ => ⟨S1536, .f32⟩
  | .hbm, ⟨64, _⟩ => ⟨S1x1536, .f32⟩
  | .hbm, ⟨65, _⟩ => ⟨S_, .f32⟩
  | .hbm, ⟨66, _⟩ => ⟨S4x1536, .f32⟩
  | .hbm, ⟨67, _⟩ => ⟨S4x1536, .f32⟩
  | .hbm, ⟨68, _⟩ => ⟨S_, .f32⟩
  | .hbm, ⟨69, _⟩ => ⟨S4099x1536, .f32⟩
  | .hbm, ⟨70, _⟩ => ⟨S4099x1536, .f32⟩
  | .hbm, ⟨71, _⟩ => ⟨S4096x1536, .f32⟩
  | .hbm, ⟨72, _⟩ => ⟨S_, .f32⟩
  | .hbm, ⟨73, _⟩ => ⟨S1536, .f32⟩
  | .hbm, ⟨74, _⟩ => ⟨S1x1536, .f32⟩
  | .hbm, ⟨75, _⟩ => ⟨S4096x1536, .f32⟩
  | .hbm, ⟨76, _⟩ => ⟨S4096x1536, .f32⟩
  | .hbm, ⟨77, _⟩ => ⟨S_, .f32⟩
  | .hbm, ⟨78, _⟩ => ⟨S1536, .f32⟩
  | .hbm, ⟨79, _⟩ => ⟨S1x1536, .f32⟩
  | .hbm, ⟨80, _⟩ => ⟨S_, .f32⟩
  | .hbm, ⟨81, _⟩ => ⟨S4x1536, .f32⟩
  | .hbm, ⟨82, _⟩ => ⟨S4x1536, .f32⟩
  | .hbm, ⟨83, _⟩ => ⟨S_, .f32⟩
  | .hbm, ⟨84, _⟩ => ⟨S4099x1536, .f32⟩
  | .hbm, ⟨85, _⟩ => ⟨S4099x1536, .f32⟩
  | .hbm, ⟨86, _⟩ => ⟨S4096x1536, .f32⟩
  | .hbm, ⟨87, _⟩ => ⟨S_, .f32⟩
  | .hbm, ⟨88, _⟩ => ⟨S1536, .f32⟩
  | .hbm, ⟨89, _⟩ => ⟨S1x1536, .f32⟩
  | .hbm, ⟨90, _⟩ => ⟨S4096x1536, .f32⟩
  | .hbm, ⟨91, _⟩ => ⟨S4096x1536, .f32⟩
  | .hbm, ⟨92, _⟩ => ⟨S_, .f32⟩
  | .hbm, ⟨93, _⟩ => ⟨S1536, .f32⟩
  | .hbm, ⟨94, _⟩ => ⟨S1x1536, .f32⟩
  | .hbm, ⟨95, _⟩ => ⟨S_, .f32⟩
  | .hbm, ⟨96, _⟩ => ⟨S4x1536, .f32⟩
  | .hbm, ⟨97, _⟩ => ⟨S4x1536, .f32⟩
  | .hbm, ⟨98, _⟩ => ⟨S_, .f32⟩
  | .hbm, ⟨99, _⟩ => ⟨S4099x1536, .f32⟩
  | .hbm, ⟨100, _⟩ => ⟨S4099x1536, .f32⟩
  | .hbm, ⟨101, _⟩ => ⟨S3x1536, .f32⟩
  | .hbm, ⟨102, _⟩ => ⟨S4096x1536, .f32⟩
  | .hbm, ⟨103, _⟩ => ⟨S4096x1536, .bf16⟩
  | .hbm, ⟨104, _⟩ => ⟨S4096x1536, .bf16⟩
  | .hbm, ⟨105, _⟩ => ⟨S4096x3072, .bf16⟩
  | .hbm, ⟨106, _⟩ => ⟨S_, .f32⟩
  | .hbm, ⟨107, _⟩ => ⟨S4x1536, .f32⟩
  | .hbm, ⟨108, _⟩ => ⟨S8x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_v53 : Ref sig .tc := ⟨.hbm, 67, rfl⟩
abbrev main_cst_9 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_cst_12 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_14 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_15 : Ref sig .tc := ⟨.hbm, 92, rfl⟩
abbrev main_v72 : Ref sig .tc := ⟨.hbm, 93, rfl⟩
abbrev main_v73 : Ref sig .tc := ⟨.hbm, 94, rfl⟩
abbrev main_cst_16 : Ref sig .tc := ⟨.hbm, 95, rfl⟩
abbrev main_v74 : Ref sig .tc := ⟨.hbm, 96, rfl⟩
abbrev main_v75 : Ref sig .tc := ⟨.hbm, 97, rfl⟩
abbrev main_cst_17 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_18 : Ref sig .tc := ⟨.hbm, 106, rfl⟩
abbrev main_v83 : Ref sig .tc := ⟨.hbm, 107, rfl⟩
abbrev main_v84 : Ref sig .tc := ⟨.hbm, 108, rfl⟩

abbrev nD : Nat := 1
abbrev τ : Topo := Topo.v7x

variable {F : FTy → Type} [FloatOps F]
-- ==== Kernel10.lean ====
abbrev S4096x512 : Shape := ⟨2, ![4096, 512]⟩
abbrev S4096x256 : Shape := ⟨2, ![4096, 256]⟩
abbrev S4096x128 : Shape := ⟨2, ![4096, 128]⟩
abbrev S64x4x128x128 : Shape := ⟨4, ![64, 4, 128, 128]⟩
abbrev S512x512 : Shape := ⟨2, ![512, 512]⟩
abbrev S512x256 : Shape := ⟨2, ![512, 256]⟩
abbrev S512x128 : Shape := ⟨2, ![512, 128]⟩
abbrev S8x4x128x128 : Shape := ⟨4, ![8, 4, 128, 128]⟩
abbrev S4x128x128 : Shape := ⟨3, ![4, 128, 128]⟩
abbrev S1x128x128 : Shape := ⟨3, ![1, 128, 128]⟩
abbrev S128x128 : Shape := ⟨2, ![128, 128]⟩
abbrev S64x128 : Shape := ⟨2, ![64, 128]⟩
abbrev S64x1 : Shape := ⟨2, ![64, 1]⟩
abbrev S1x1 : Shape := ⟨2, ![1, 1]⟩
abbrev S1x1x128x128 : Shape := ⟨4, ![1, 1, 128, 128]⟩
abbrev S64x64 : Shape := ⟨2, ![64, 64]⟩

abbrev nBuf : Space → Nat
  | .hbm => 9
  | .vmem => 19
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .bf16⟩
  | .hbm, ⟨4, _⟩ => ⟨S4096x256, .f32⟩
  | .hbm, ⟨5, _⟩ => ⟨S4096x128, .f32⟩
  | .hbm, ⟨6, _⟩ => ⟨S4096x512, .f32⟩
  | .hbm, ⟨7, _⟩ => ⟨S4096x512, .f32⟩
  | .hbm, ⟨8, _⟩ => ⟨S64x4x128x128, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x256, .f32⟩
  | .local _ .vmem, ⟨9, _⟩ => ⟨S512x256, .f32⟩
  | .local _ .vmem, ⟨10, _⟩ => ⟨S512x128, .f32⟩
  | .local _ .vmem, ⟨11, _⟩ => ⟨S512x128, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S8x4x128x128, .bf16⟩
  | .local _ .vmem, ⟨17, _⟩ => ⟨S8x4x128x128, .bf16⟩
  | .local _ .vmem, ⟨18, _⟩ => ⟨S4x128x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x4x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S4096x512 : Shape := ⟨2, ![4096, 512]⟩
abbrev S4096x256 : Shape := ⟨2, ![4096, 256]⟩
abbrev S4096x128 : Shape := ⟨2, ![4096, 128]⟩
abbrev S4096x4 : Shape := ⟨2, ![4096, 4]⟩
abbrev S64x64x4 : Shape := ⟨3, ![64, 64, 4]⟩
abbrev S64x4x64 : Shape := ⟨3, ![64, 4, 64]⟩
abbrev S64x64x4x128 : Shape := ⟨4, ![64, 64, 4, 128]⟩
abbrev S64x4x64x128 : Shape := ⟨4, ![64, 4, 64, 128]⟩
abbrev S64x64x4x64 : Shape := ⟨4, ![64, 64, 4, 64]⟩
abbrev S64x4x64x64 : Shape := ⟨4, ![64, 4, 64, 64]⟩
abbrev S64x4x64x1 : Shape := ⟨4, ![64, 4, 64, 1]⟩
abbrev S64x4x1 : Shape := ⟨3, ![64, 4, 1]⟩
abbrev S64x4 : Shape := ⟨2, ![64, 4]⟩
abbrev S64x4x1x1 : Shape := ⟨4, ![64, 4, 1, 1]⟩
abbrev S_ : Shape := ⟨0, ![]⟩
abbrev S4x128x128 : Shape := ⟨3, ![4, 128, 128]⟩
abbrev S64x4x128x128 : Shape := ⟨4, ![64, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S1x4x1x1 : Shape := ⟨4, ![1, 4, 1, 1]⟩
abbrev S4x1x1 : Shape := ⟨3, ![4, 1, 1]⟩
abbrev S1x4x128x128 : Shape := ⟨4, ![1, 4, 128, 128]⟩

abbrev nBuf : Space → Nat
  | .hbm => 118
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .bf16⟩
  | .hbm, ⟨4, _⟩ => ⟨S4096x256, .f32⟩
  | .hbm, ⟨5, _⟩ => ⟨S4096x128, .f32⟩
  | .hbm, ⟨6, _⟩ => ⟨S4096x4, .f32⟩
  | .hbm, ⟨7, _⟩ => ⟨S64x64x4, .f32⟩
  | .hbm, ⟨8, _⟩ => ⟨S64x4x64, .f32⟩
  | .hbm, ⟨9, _⟩ => ⟨S64x64x4x128, .f32⟩
  | .hbm, ⟨10, _⟩ => ⟨S64x4x64x128, .f32⟩
  | .hbm, ⟨11, _⟩ => ⟨S64x64x4x128, .f32⟩
  | .hbm, ⟨12, _⟩ => ⟨S64x4x64x128, .f32⟩
  | .hbm, ⟨13, _⟩ => ⟨S64x64x4x128, .f32⟩
  | .hbm, ⟨14, _⟩ => ⟨S64x4x64x128, .f32⟩
  | .hbm, ⟨15, _⟩ => ⟨S4096x512, .f32⟩
  | .hbm, ⟨16, _⟩ => ⟨S64x64x4x128, .f32⟩
  | .hbm, ⟨17, _⟩ => ⟨S64x4x64x128, .f32⟩
  | .hbm, ⟨18, _⟩ => ⟨S64x64x4x64, .f32⟩
  | .hbm, ⟨19, _⟩ => ⟨S64x4x64x64, .f32⟩
  | .hbm, ⟨20, _⟩ => ⟨S64x4x64, .f32⟩
  | .hbm, ⟨21, _⟩ => ⟨S64x4x64x1, .f32⟩
  | .hbm, ⟨22, _⟩ => ⟨S64x4x64x128, .f32⟩
  | .hbm, ⟨23, _⟩ => ⟨S64x4x64x128, .f32⟩
  | .hbm, ⟨24, _⟩ => ⟨S64x4x1, .f32⟩
  | .hbm, ⟨25, _⟩ => ⟨S64x4x64, .f32⟩
  | .hbm, ⟨26, _⟩ => ⟨S64x4x64, .f32⟩
  | .hbm, ⟨27, _⟩ => ⟨S64x4x64, .f32⟩
  | .hbm, ⟨28, _⟩ => ⟨S64x4x64x1, .f32⟩
  | .hbm, ⟨29, _⟩ => ⟨S64x4x64x128, .f32⟩
  | .hbm, ⟨30, _⟩ => ⟨S64x4x64x128, .f32⟩
  | .hbm, ⟨31, _⟩ => ⟨S64x4x1, .f32⟩
  | .hbm, ⟨32, _⟩ => ⟨S64x4, .f32⟩
  | .hbm, ⟨33, _⟩ => ⟨S64x4, .f32⟩
  | .hbm, ⟨34, _⟩ => ⟨S64x4x1x1, .f32⟩
  | .hbm, ⟨35, _⟩ => ⟨S_, .f32⟩
  | .hbm, ⟨36, _⟩ => ⟨S4x128x128, .f32⟩
  | .hbm, ⟨37, _⟩ => ⟨S_, .f32⟩
  | .hbm, ⟨38, _⟩ => ⟨S64x4x64x128, .f32⟩
  | .hbm, ⟨39, _⟩ => ⟨S_, .f32⟩
  | .hbm, ⟨40, _⟩ => ⟨S64x4x64x128, .f32⟩
  | .hbm, ⟨41, _⟩ => ⟨S_, .f32⟩
  | .hbm, ⟨42, _⟩ => ⟨S64x4x128x128, .f32⟩
  | .hbm, ⟨43, _⟩ => ⟨S_, .i32⟩
  | .hbm, ⟨44, _⟩ => ⟨S64x4x64x128, .f32⟩
  | .hbm, ⟨45, _⟩ => ⟨S64x4x64x128, .f32⟩
  | .hbm, ⟨46, _⟩ => ⟨S64x4x64x128, .f32⟩
  | .hbm, ⟨47, _⟩ => ⟨S64x4x64x128, .f32⟩
  | .hbm, ⟨48, _⟩ => ⟨S64x4x64x64, .f32⟩
  | .hbm, ⟨49, _⟩ => ⟨S64x4x1x1, .f32⟩
  | .hbm, ⟨50, _⟩ => ⟨S_, .i32⟩
  | .hbm, ⟨51, _⟩ => ⟨S4x128x128, .f32⟩
  | .hbm, ⟨52, _⟩ => ⟨S64x4x64x128, .f32⟩
  | .hbm, ⟨53, _⟩ => ⟨S64x4x64x128, .f32⟩
  | .hbm, ⟨54, _⟩ => ⟨S64x4x128x128, .f32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1x4x64x128, .f32⟩
  | .hbm, ⟨61, _⟩ => ⟨S4x64x128, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1x4x64x128, .f32⟩
  | .hbm, ⟨66, _⟩ => ⟨S4x64x128, .f32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S1x4x64x128, .f32⟩
  | .hbm, ⟨71, _⟩ => ⟨S4x64x128, .f32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S1x4x64x128, .f32⟩
  | .hbm, ⟨76, _⟩ => ⟨S4x64x128, .f32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S1x4x64x64, .f32⟩
  | .hbm, ⟨81, _⟩ => ⟨S4x64x64, .f32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S1x4x1x1, .f32⟩
  | .hbm, ⟨86, _⟩ => ⟨S4x1x1, .f32⟩
  | .hbm, ⟨87, _⟩ => ⟨S4x64x128, .f32⟩
  | .hbm, ⟨88, _⟩ => ⟨S4x64x128, .f32⟩
  | .hbm, ⟨89, _⟩ => ⟨S4x64x128, .f32⟩
  | .hbm, ⟨90, _⟩ => ⟨S4x64x128, .f32⟩
  | .hbm, ⟨91, _⟩ => ⟨S4x64x128, .f32⟩
  | .hbm, ⟨92, _⟩ => ⟨S4x128x128, .f32⟩
  | .hbm, ⟨93, _⟩ => ⟨S4x128x128, .f32⟩
  | .hbm, ⟨94, _⟩ => ⟨S4x128x128, .f32⟩
  | .hbm, ⟨95, _⟩ => ⟨S4x128x128, .f32⟩
  | .hbm, ⟨96, _⟩ => ⟨S1x4x64x128, .f32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S64x4x64x128, .f32⟩
  | .hbm, ⟨101, _⟩ => ⟨S1x4x64x128, .f32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S64x4x64x128, .f32⟩
  | .hbm, ⟨106, _⟩ => ⟨S1x4x128x128, .f32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S64x4x128x128, .f32⟩
  | .hbm, ⟨111, _⟩ => ⟨S_, .i32⟩
  | .hbm, ⟨112, _⟩ => ⟨S_, .i32⟩
  | .hbm, ⟨113, _⟩ => ⟨S64x64x4x128, .f32⟩
  | .hbm, ⟨114, _⟩ => ⟨S4096x512, .f32⟩
  | .hbm, ⟨115, _⟩ => ⟨S64x64x4x128, .f32⟩
  | .hbm, ⟨116, _⟩ => ⟨S4096x512, .f32⟩
  | .hbm, ⟨117, _⟩ => ⟨S64x4x128x128, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_cst_1 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_c : Ref sig .tc := ⟨.hbm, 43, rfl⟩
abbrev main_v33_0 : Ref sig .tc := ⟨.hbm, 44, rfl⟩
abbrev main_v33_1 : Ref sig .tc := ⟨.hbm, 45, rfl⟩
abbrev main_v33_2 : Ref sig .tc := ⟨.hbm, 46, rfl⟩
abbrev main_v33_3 : Ref sig .tc := ⟨.hbm, 47, rfl⟩
abbrev main_v33_4 : Ref sig .tc := ⟨.hbm, 48, rfl⟩
abbrev main_v33_5 : Ref sig .tc := ⟨.hbm, 49, rfl⟩
abbrev main_v33_6 : Ref sig .tc := ⟨.hbm, 50, rfl⟩
abbrev main_v33_7 : Ref sig .tc := ⟨.hbm, 51, rfl⟩
abbrev main_v33_8 : Ref sig .tc := ⟨.hbm, 52, rfl⟩
abbrev main_v33_9 : Ref sig .tc := ⟨.hbm, 53, rfl⟩
abbrev main_v33_10 : Ref sig .tc := ⟨.hbm, 54, rfl⟩
abbrev main_while0c_c_13 : Ref sig .tc := ⟨.hbm, 55, rfl⟩
abbrev main_while0c_v39 : Ref sig .tc := ⟨.hbm, 56, rfl⟩
abbrev main_while0b_call0_c : Ref sig .tc := ⟨.hbm, 57, rfl⟩
abbrev main_while0b_call0_c_0 : Ref sig .tc := ⟨.hbm, 58, rfl⟩
abbrev main_while0b_call0_c_1 : Ref sig .tc := ⟨.hbm, 59, rfl⟩
abbrev main_while0b_call0_v0 : Ref sig .tc := ⟨.hbm, 60, rfl⟩
abbrev main_while0b_v39 : Ref sig .tc := ⟨.hbm, 61, rfl⟩
abbrev main_while0b_call1_c : Ref sig .tc := ⟨.hbm, 62, rfl⟩
abbrev main_while0b_call1_c_0 : Ref sig .tc := ⟨.hbm, 63, rfl⟩
abbrev main_while0b_call1_c_1 : Ref sig .tc := ⟨.hbm, 64, rfl⟩
abbrev main_while0b_call1_v0 : Ref sig .tc := ⟨.hbm, 65, rfl⟩
abbrev main_while0b_v40 : Ref sig .tc := ⟨.hbm, 66, rfl⟩
abbrev main_while0b_call2_c : Ref sig .tc := ⟨.hbm, 67, rfl⟩
abbrev main_while0b_call2_c_0 : Ref sig .tc := ⟨.hbm, 68, rfl⟩
abbrev main_while0b_call2_c_1 : Ref sig .tc := ⟨.hbm, 69, rfl⟩
abbrev main_while0b_call2_v0 : Ref sig .tc := ⟨.hbm, 70, rfl⟩
abbrev main_while0b_v41 : Ref sig .tc := ⟨.hbm, 71, rfl⟩
abbrev main_while0b_call3_c : Ref sig .tc := ⟨.hbm, 72, rfl⟩
abbrev main_while0b_call3_c_0 : Ref sig .tc := ⟨.hbm, 73, rfl⟩
abbrev main_while0b_call3_c_1 : Ref sig .tc := ⟨.hbm, 74, rfl⟩
abbrev main_while0b_call3_v0 : Ref sig .tc := ⟨.hbm, 75, rfl⟩
abbrev main_while0b_v42 : Ref sig .tc := ⟨.hbm, 76, rfl⟩
abbrev main_while0b_call4_c : Ref sig .tc := ⟨.hbm, 77, rfl⟩
abbrev main_while0b_call4_c_0 : Ref sig .tc := ⟨.hbm, 78, rfl⟩
abbrev main_while0b_call4_c_1 : Ref sig .tc := ⟨.hbm, 79, rfl⟩
abbrev main_while0b_call4_v0 : Ref sig .tc := ⟨.hbm, 80, rfl⟩
abbrev main_while0b_v43 : Ref sig .tc := ⟨.hbm, 81, rfl⟩
abbrev main_while0b_call5_c : Ref sig .tc := ⟨.hbm, 82, rfl⟩
abbrev main_while0b_call5_c_0 : Ref sig .tc := ⟨.hbm, 83, rfl⟩
abbrev main_while0b_call5_c_1 : Ref sig .tc := ⟨.hbm, 84, rfl⟩
abbrev main_while0b_call5_v0 : Ref sig .tc := ⟨.hbm, 85, rfl⟩
abbrev main_while0b_v44 : Ref sig .tc := ⟨.hbm, 86, rfl⟩
abbrev main_while0b_v45 : Ref sig .tc := ⟨.hbm, 87, rfl⟩
abbrev main_while0b_v46 : Ref sig .tc := ⟨.hbm, 88, rfl⟩
abbrev main_while0b_v47 : Ref sig .tc := ⟨.hbm, 89, rfl⟩
abbrev main_while0b_v48 : Ref sig .tc := ⟨.hbm, 90, rfl⟩
abbrev main_while0b_v49 : Ref sig .tc := ⟨.hbm, 91, rfl⟩
abbrev main_while0b_v50 : Ref sig .tc := ⟨.hbm, 92, rfl⟩
abbrev main_while0b_v51 : Ref sig .tc := ⟨.hbm, 93, rfl⟩
abbrev main_while0b_v52 : Ref sig .tc := ⟨.hbm, 94, rfl⟩
abbrev main_while0b_v53 : Ref sig .tc := ⟨.hbm, 95, rfl⟩
abbrev main_while0b_call6_v0 : Ref sig .tc := ⟨.hbm, 96, rfl⟩
abbrev main_while0b_call6_c : Ref sig .tc := ⟨.hbm, 97, rfl⟩
abbrev main_while0b_call6_c_0 : Ref sig .tc := ⟨.hbm, 98, rfl⟩
abbrev main_while0b_call6_c_1 : Ref sig .tc := ⟨.hbm, 99, rfl⟩
abbrev main_while0b_v54 : Ref sig .tc := ⟨.hbm, 100, rfl⟩
abbrev main_while0b_call7_v0 : Ref sig .tc := ⟨.hbm, 101, rfl⟩
abbrev main_while0b_call7_c : Ref sig .tc := ⟨.hbm, 102, rfl⟩
abbrev main_while0b_call7_c_0 : Ref sig .tc := ⟨.hbm, 103, rfl⟩
abbrev main_while0b_call7_c_1 : Ref sig .tc := ⟨.hbm, 104, rfl⟩
abbrev main_while0b_v55 : Ref sig .tc := ⟨.hbm, 105, rfl⟩
abbrev main_while0b_call8_v0 : Ref sig .tc := ⟨.hbm, 106, rfl⟩
abbrev main_while0b_call8_c : Ref sig .tc := ⟨.hbm, 107, rfl⟩
abbrev main_while0b_call8_c_0 : Ref sig .tc := ⟨.hbm, 108, rfl⟩
abbrev main_while0b_call8_c_1 : Ref sig .tc := ⟨.hbm, 109, rfl⟩
abbrev main_while0b_v56 : Ref sig .tc := ⟨.hbm, 110, rfl⟩
abbrev main_while0b_c_13 : Ref sig .tc := ⟨.hbm, 111, rfl⟩
abbrev main_while0b_v57 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩

abbrev nD : Nat := 1
abbrev τ : Topo := Topo.v7x

variable {F : FTy → Type} [FloatOps F]

abbrev main_while0_count : Scf.Loop 32 := ⟨0#32, 64#32, 1#32⟩
-- ==== Kernel11.lean ====
abbrev S4096x3336 : Shape := ⟨2, ![4096, 3336]⟩
abbrev S4x1536 : Shape := ⟨2, ![4, 1536]⟩
abbrev S8x128 : Shape := ⟨2, ![8, 128]⟩
abbrev S4096x2048 : Shape := ⟨2, ![4096, 2048]⟩
abbrev S4096x512 : Shape := ⟨2, ![4096, 512]⟩
abbrev S4096x3072 : Shape := ⟨2, ![4096, 3072]⟩
abbrev S4096x128 : Shape := ⟨2, ![4096, 128]⟩
abbrev S4096x8 : Shape := ⟨2, ![4096, 8]⟩
abbrev S_ : Shape := ⟨0, ![]⟩
abbrev S4096x384 : Shape := ⟨2, ![4096, 384]⟩
abbrev S4096x3456 : Shape := ⟨2, ![4096, 3456]⟩
abbrev S8x4096 : Shape := ⟨2, ![8, 4096]⟩
abbrev S4096x1536 : Shape := ⟨2, ![4096, 1536]⟩
abbrev S512x1536 : Shape := ⟨2, ![512, 1536]⟩
abbrev S16x1536 : Shape := ⟨2, ![16, 1536]⟩
abbrev S512x128 : Shape := ⟨2, ![512, 128]⟩
abbrev S512x512 : Shape := ⟨2, ![512, 512]⟩
abbrev S8x512 : Shape := ⟨2, ![8, 512]⟩
abbrev S8x1536 : Shape := ⟨2, ![8, 1536]⟩
abbrev S1x1536 : Shape := ⟨2, ![1, 1536]⟩
abbrev S504x1536 : Shape := ⟨2, ![504, 1536]⟩
abbrev S512 : Shape := ⟨1, ![512]⟩
abbrev S512x1 : Shape := ⟨2, ![512, 1]⟩
abbrev S1x128 : Shape := ⟨2, ![1, 128]⟩
abbrev S128x512 : Shape := ⟨2, ![128, 512]⟩

abbrev nBuf : Space → Nat
  | .hbm => 21
  | .vmem => 20
  | .smem => 0
  | _ => 0

abbrev bufTy : (tb : Table) → Fin (tcTables nBuf tb) → BufTy
  | .hbm, ⟨0, _⟩ => ⟨S4096x3336, .bf16⟩
  | .hbm, ⟨1, _⟩ => ⟨S4x1536, .f32⟩
  | .hbm, ⟨2, _⟩ => ⟨S8x128, .f32⟩
  | .hbm, ⟨3, _⟩ => ⟨S4096x2048, .bf16⟩
  | .hbm, ⟨4, _⟩ => ⟨S4096x512, .bf16⟩
  | .hbm, ⟨5, _⟩ => ⟨S4096x512, .bf16⟩
  | .hbm, ⟨6, _⟩ => ⟨S4096x3072, .bf16⟩
  | .hbm, ⟨7, _⟩ => ⟨S4096x128, .bf16⟩
  | .hbm, ⟨8, _⟩ => ⟨S4096x128, .bf16⟩
  | .hbm, ⟨9, _⟩ => ⟨S4096x8, .bf16⟩
  | .hbm, ⟨10, _⟩ => ⟨S_, .i32⟩
  | .hbm, ⟨11, _⟩ => ⟨S_, .bf16⟩
  | .hbm, ⟨12, _⟩ => ⟨S4096x128, .bf16⟩
  | .hbm, ⟨13, _⟩ => ⟨S4096x384, .bf16⟩
  | .hbm, ⟨14, _⟩ => ⟨S4096x3456, .bf16⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x128, .f32⟩
  | .hbm, ⟨19, _⟩ => ⟨S8x4096, .f32⟩
  | .hbm, ⟨20, _⟩ => ⟨S4096x1536, .f32⟩
  | .local _ .vmem, ⟨0, _⟩ => ⟨S512x1536, .bf16⟩
  | .local _ .vmem, ⟨1, _⟩ => ⟨S512x1536, .bf16⟩
  | .local _ .vmem, ⟨2, _⟩ => ⟨S16x1536, .bf16⟩
  | .local _ .vmem, ⟨3, _⟩ => ⟨S16x1536, .bf16⟩
  | .local _ .vmem, ⟨4, _⟩ => ⟨S512x128, .bf16⟩
  | .local _ .vmem, ⟨5, _⟩ => ⟨S512x128, .bf16⟩
  | .local _ .vmem, ⟨6, _⟩ => ⟨S4x1536, .f32⟩
  | .local _ .vmem, ⟨7, _⟩ => ⟨S8x128, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x128, .f32⟩
  | .local _ .vmem, ⟨15, _⟩ => ⟨S512x128, .f32⟩
  | .local _ .vmem, ⟨16, _⟩ => ⟨S8x512, .f32⟩
  | .local _ .vmem, ⟨17, _⟩ => ⟨S8x512, .f32⟩
  | .local _ .vmem, ⟨18, _⟩ => ⟨S512x1536, .f32⟩
  | .local _ .vmem, ⟨19, _⟩ => ⟨S512x1536, .f32⟩
  | _, _ => ⟨S4096x3336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev main_v10_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c26_i32 : BitVec 32 := 26#32
  let c0_i32 : BitVec 32 := 0#32
  ![arg0.toNat, c26_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference11Ideal.lean ====
abbrev S4096x3336 : Shape := ⟨2, ![4096, 3336]⟩
abbrev S4x1536 : Shape := ⟨2, ![4, 1536]⟩
abbrev S8x128 : Shape := ⟨2, ![8, 128]⟩
abbrev S_ : Shape := ⟨0, ![]⟩
abbrev S3x1536 : Shape := ⟨2, ![3, 1536]⟩
abbrev S4096x1536 : Shape := ⟨2, ![4096, 1536]⟩
abbrev S4099x1536 : Shape := ⟨2, ![4099, 1536]⟩
abbrev S1x1536 : Shape := ⟨2, ![1, 1536]⟩
abbrev S1536 : Shape := ⟨1, ![1536]⟩
abbrev S4096x512 : Shape := ⟨2, ![4096, 512]⟩
abbrev S4096x4x128 : Shape := ⟨3, ![4096, 4, 128]⟩
abbrev S4096x4 : Shape := ⟨2, ![4096, 4]⟩
abbrev S4096x4x1 : Shape := ⟨3, ![4096, 4, 1]⟩
abbrev S4096x8 : Shape := ⟨2, ![4096, 8]⟩
abbrev S1x4 : Shape := ⟨2, ![1, 4]⟩
abbrev S4 : Shape := ⟨1, ![4]⟩
abbrev S64x64x4 : Shape := ⟨3, ![64, 64, 4]⟩
abbrev S4096x120 : Shape := ⟨2, ![4096, 120]⟩
abbrev S4096x128 : Shape := ⟨2, ![4096, 128]⟩
abbrev S8x4096 : Shape := ⟨2, ![8, 4096]⟩

abbrev nBuf : Space → Nat
  | .hbm => 125
  | .vmem => 0
  | .smem => 0
  | _ => 0

abbrev bufTy : (tb : Table) → Fin (tcTables nBuf tb) → BufTy
  | .hbm, ⟨0, _⟩ => ⟨S4096x3336, .bf16⟩
  | .hbm, ⟨1, _⟩ => ⟨S4x1536, .f32⟩
  | .hbm, ⟨2, _⟩ => ⟨S8x128, .f32⟩
  | .hbm, ⟨3, _⟩ => ⟨S_, .f32⟩
  | .hbm, ⟨4, _⟩ => ⟨S3x1536, .f32⟩
  | .hbm, ⟨5, _⟩ => ⟨S4096x1536, .bf16⟩
  | .hbm, ⟨6, _⟩ => ⟨S4096x1536, .f32⟩
  | .hbm, ⟨7, _⟩ => ⟨S4099x1536, .f32⟩
  | .hbm, ⟨8, _⟩ => ⟨S4096x1536, .f32⟩
  | .hbm, ⟨9, _⟩ => ⟨S1x1536, .f32⟩
  | .hbm, ⟨10, _⟩ => ⟨S1536, .f32⟩
  | .hbm, ⟨11, _⟩ => ⟨S1x1536, .f32⟩
  | .hbm, ⟨12, _⟩ => ⟨S4096x1536, .f32⟩
  | .hbm, ⟨13, _⟩ => ⟨S4096x1536, .f32⟩
  | .hbm, ⟨14, _⟩ => ⟨S_, .f32⟩
  | .hbm, ⟨15, _⟩ => ⟨S4096x1536, .f32⟩
  | .hbm, ⟨16, _⟩ => ⟨S4096x1536, .f32⟩
  | .hbm, ⟨17, _⟩ => ⟨S4096x1536, .f32⟩
  | .hbm, ⟨18, _⟩ => ⟨S1x1536, .f32⟩
  | .hbm, ⟨19, _⟩ => ⟨S1536, .f32⟩
  | .hbm, ⟨20, _⟩ => ⟨S1x1536, .f32⟩
  | .hbm, ⟨21, _⟩ => ⟨S4096x1536, .f32⟩
  | .hbm, ⟨22, _⟩ => ⟨S4096x1536, .f32⟩
  | .hbm, ⟨23, _⟩ => ⟨S4096x1536, .f32⟩
  | .hbm, ⟨24, _⟩ => ⟨S4096x1536, .f32⟩
  | .hbm, ⟨25, _⟩ => ⟨S1x1536, .f32⟩
  | .hbm, ⟨26, _⟩ => ⟨S1536, .f32⟩
  | .hbm, ⟨27, _⟩ => ⟨S1x1536, .f32⟩
  | .hbm, ⟨28, _⟩ => ⟨S4096x1536, .f32⟩
  | .hbm, ⟨29, _⟩ => ⟨S4096x1536, .f32⟩
  | .hbm, ⟨30, _⟩ => ⟨S4096x1536, .f32⟩
  | .hbm, ⟨31, _⟩ => ⟨S4096x1536, .f32⟩
  | .hbm, ⟨32, _⟩ => ⟨S1x1536, .f32⟩
  | .hbm, ⟨33, _⟩ => ⟨S1536, .f32⟩
  | .hbm, ⟨34, _⟩ => ⟨S1x1536, .f32⟩
  | .hbm, ⟨35, _⟩ => ⟨S4096x1536, .f32⟩
  | .hbm, ⟨36, _⟩ => ⟨S4096x1536, .f32⟩
  | .hbm, ⟨37, _⟩ => ⟨S4096x1536, .f32⟩
  | .hbm, ⟨38, _⟩ => ⟨S4096x1536, .f32⟩
  | .hbm, ⟨39, _⟩ => ⟨S4096x1536, .f32⟩
  | .hbm, ⟨40, _⟩ => ⟨S_, .f32⟩
  | .hbm, ⟨41, _⟩ => ⟨S4096x1536, .f32⟩
  | .hbm, ⟨42, _⟩ => ⟨S4096x1536, .f32⟩
  | .hbm, ⟨43, _⟩ => ⟨S_, .f32⟩
  | .hbm, ⟨44, _⟩ => ⟨S4096x1536, .f32⟩
  | .hbm, ⟨45, _⟩ => ⟨S4096x1536, .f32⟩
  | .hbm, ⟨46, _⟩ => ⟨S4096x1536, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x4x128, .f32⟩
  | .hbm, ⟨51, _⟩ => ⟨S4096x4x128, .f32⟩
  | .hbm, ⟨52, _⟩ => ⟨S_, .f32⟩
  | .hbm, ⟨53, _⟩ => ⟨S4096x4, .f32⟩
  | .hbm, ⟨54, _⟩ => ⟨S4096x4x1, .f32⟩
  | .hbm, ⟨55, _⟩ => ⟨S_, .f32⟩
  | .hbm, ⟨56, _⟩ => ⟨S4096x4x1, .f32⟩
  | .hbm, ⟨57, _⟩ => ⟨S4096x4x1, .f32⟩
  | .hbm, ⟨58, _⟩ => ⟨S4096x4x1, .f32⟩
  | .hbm, ⟨59, _⟩ => ⟨S4096x4x128, .f32⟩
  | .hbm, ⟨60, _⟩ => ⟨S4096x4x128, .f32⟩
  | .hbm, ⟨61, _⟩ => ⟨S_, .f32⟩
  | .hbm, ⟨62, _⟩ => ⟨S4096x4x128, .f32⟩
  | .hbm, ⟨63, _⟩ => ⟨S4096x4x128, .f32⟩
  | .hbm, ⟨64, _⟩ => ⟨S4096x4x128, .f32⟩
  | .hbm, ⟨65, _⟩ => ⟨S4096x4x128, .f32⟩
  | .hbm, ⟨66, _⟩ => ⟨S_, .f32⟩
  | .hbm, ⟨67, _⟩ => ⟨S4096x4, .f32⟩
  | .hbm, ⟨68, _⟩ => ⟨S4096x4x1, .f32⟩
  | .hbm, ⟨69, _⟩ => ⟨S_, .f32⟩
  | .hbm, ⟨70, _⟩ => ⟨S4096x4x1, .f32⟩
  | .hbm, ⟨71, _⟩ => ⟨S4096x4x1, .f32⟩
  | .hbm, ⟨72, _⟩ => ⟨S4096x4x1, .f32⟩
  | .hbm, ⟨73, _⟩ => ⟨S4096x4x128, .f32⟩
  | .hbm, ⟨74, _⟩ => ⟨S4096x4x128, .f32⟩
  | .hbm, ⟨75, _⟩ => ⟨S4096x8, .bf16⟩
  | .hbm, ⟨76, _⟩ => ⟨S4096x8, .f32⟩
  | .hbm, ⟨77, _⟩ => ⟨S4096x4, .f32⟩
  | .hbm, ⟨78, _⟩ => ⟨S4096x4, .f32⟩
  | .hbm, ⟨79, _⟩ => ⟨S4096x4, .f32⟩
  | .hbm, ⟨80, _⟩ => ⟨S_, .f32⟩
  | .hbm, ⟨81, _⟩ => ⟨S4096x4, .f32⟩
  | .hbm, ⟨82, _⟩ => ⟨S4096x4, .f32⟩
  | .hbm, ⟨83, _⟩ => ⟨S_, .f32⟩
  | .hbm, ⟨84, _⟩ => ⟨S4096x4, .f32⟩
  | .hbm, ⟨85, _⟩ => ⟨S4096x4, .f32⟩
  | .hbm, ⟨86, _⟩ => ⟨S1x4, .f32⟩
  | .hbm, ⟨87, _⟩ => ⟨S4, .f32⟩
  | .hbm, ⟨88, _⟩ => ⟨S4, .f32⟩
  | .hbm, ⟨89, _⟩ => ⟨S4, .f32⟩
  | .hbm, ⟨90, _⟩ => ⟨S4096x4, .f32⟩
  | .hbm, ⟨91, _⟩ => ⟨S1x4, .f32⟩
  | .hbm, ⟨92, _⟩ => ⟨S4, .f32⟩
  | .hbm, ⟨93, _⟩ => ⟨S1x4, .f32⟩
  | .hbm, ⟨94, _⟩ => ⟨S4096x4, .f32⟩
  | .hbm, ⟨95, _⟩ => ⟨S4096x4, .f32⟩
  | .hbm, ⟨96, _⟩ => ⟨S_, .f32⟩
  | .hbm, ⟨97, _⟩ => ⟨S4096x4, .f32⟩
  | .hbm, ⟨98, _⟩ => ⟨S4096x4, .f32⟩
  | .hbm, ⟨99, _⟩ => ⟨S4096x4, .f32⟩
  | .hbm, ⟨100, _⟩ => ⟨S4096x4, .f32⟩
  | .hbm, ⟨101, _⟩ => ⟨S4096x4, .i1⟩
  | .hbm, ⟨102, _⟩ => ⟨S4096x4, .f32⟩
  | .hbm, ⟨103, _⟩ => ⟨S4096x4, .f32⟩
  | .hbm, ⟨104, _⟩ => ⟨S4096x4, .f32⟩
  | .hbm, ⟨105, _⟩ => ⟨S4096x4, .f32⟩
  | .hbm, ⟨106, _⟩ => ⟨S4096x4, .f32⟩
  | .hbm, ⟨107, _⟩ => ⟨S4096x4, .f32⟩
  | .hbm, ⟨108, _⟩ => ⟨S4096x4, .f32⟩
  | .hbm, ⟨109, _⟩ => ⟨S4096x4, .f32⟩
  | .hbm, ⟨110, _⟩ => ⟨S1x4, .f32⟩
  | .hbm, ⟨111, _⟩ => ⟨S4096x4, .f32⟩
  | .hbm, ⟨112, _⟩ => ⟨S4096x4, .f32⟩
  | .hbm, ⟨113, _⟩ => ⟨S64x64x4, .f32⟩
  | .hbm, ⟨114, _⟩ => ⟨S_, .f32⟩
  | .hbm, ⟨115, _⟩ => ⟨S_, .f32⟩
  | .hbm, ⟨116, _⟩ => ⟨S64x64x4, .f32⟩
  | .hbm, ⟨117, _⟩ => ⟨S4096x4, .f32⟩
  | .hbm, ⟨118, _⟩ => ⟨S4096x8, .f32⟩
  | .hbm, ⟨119, _⟩ => ⟨S4096x512, .f32⟩
  | .hbm, ⟨120, _⟩ => ⟨S4096x512, .f32⟩
  | .hbm, ⟨121, _⟩ => ⟨S_, .f32⟩
  | .hbm, ⟨122, _⟩ => ⟨S4096x120, .f32⟩
  | .hbm, ⟨123, _⟩ => ⟨S4096x128, .f32⟩
  | .hbm, ⟨124, _⟩ => ⟨S8x4096, .f32⟩
  | _, _ => ⟨S4096x3336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_1 : Ref sig .tc := ⟨.hbm, 52, rfl⟩
abbrev main_v39 : Ref sig .tc := ⟨.hbm, 53, rfl⟩
abbrev main_v40 : Ref sig .tc := ⟨.hbm, 54, rfl⟩
abbrev main_cst_2 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_3 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_4 : Ref sig .tc := ⟨.hbm, 66, rfl⟩
abbrev main_v50 : Ref sig .tc := ⟨.hbm, 67, rfl⟩
abbrev main_v51 : Ref sig .tc := ⟨.hbm, 68, rfl⟩
abbrev main_cst_5 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_6 : Ref sig .tc := ⟨.hbm, 80, rfl⟩
abbrev main_v62 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_call2_call0_cst : Ref sig .tc := ⟨.hbm, 114, rfl⟩
abbrev main_call2_call0_v0 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_8 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩

abbrev nD : Nat := 1
abbrev τ : Topo := Topo.v7x

variable {F : FTy → Type} [FloatOps F]
-- ==== Proof.Block.lean ====
/-
  One block of the kernel's backward recurrence, as functions of vectors: what a chunk makes of one head's cotangent
  (`dvK` the new values', `nxK` the state's before the chunk), and the block's states chunk after chunk (`bS`), over the
  parts of the six input blocks that the body loads (`Rd`); and that what the body stores in its two outputs and in the
  scratch is these functions' lists, chunk by chunk and head by head.
-/
module

public import proofs.«01_k».proof.Proof.Gen.KernelIdeal.Frame
import all proofs.«01_k».proof.Proof.Gen.KernelIdeal.Frame.RunA
import all proofs.«01_k».proof.Proof.Gen.KernelIdeal.Frame.RunB

@[expose] public section

set_option maxRecDepth 16384

noncomputable section

namespace Cert.Block

open Idealize.ShloMosaic Idealize.ShloMosaic.TcCoe
open Cert.KernelIdeal Cert.KernelIdeal.Gen

variable {F : FTy → Type} [FloatOps F]

theorem gcol_fits (h : Fin 4) : S64x128.Slices ![0, 4 + h.val] S64x1 :=
  ⟨rfl, by intro a; fin_cases a <;> simp [S64x128, S64x1] <;> omega⟩

/-- The head's gates of the chunk, a column; -/
def gcK (h : Fin 4) (g : Vec F S64x128 .f32) : FVec F S64x1 .f32 := extractStridedSlice S64x1 ![0, 4 + h.val] g (gcol_fits h)
/-- and the last of them. -/
def glK (h : Fin 4) (g : Vec F S64x128 .f32) : FVec F S1x1 .f32 := extractStridedSlice S1x1 ![63, 0] (gcK h g) slices_S64x1_o63_0_S1x1

def dvK (h : Fin 4) (g k : Vec F S64x128 .f32) (a : Vec F S64x64 .f32) (o : Vec F S64x128 .bf16) (s : FVec F S128x128 .f32) : FVec F S64x128 .f32 :=
  addf (matmul dot_S64x64_S64x128_S64x128_0_0_1_1_n_n none (truncf .bf16 a bitsLt_bf16_f32) o (constant S64x128 .f32 0x00000000#32))
    (matmul dot_S64x128_S128x128_S64x128_1_0_0_1_n_n none
      (truncf .bf16 (mulf k (broadcastTo S64x128 (exp (subf (broadcastTo S64x1 (glK h g) broadcasts_S1x1_S64x1) (gcK h g))) broadcasts_S64x1_S64x128)) bitsLt_bf16_f32)
      (truncf .bf16 s bitsLt_bf16_f32) (constant S64x128 .f32 0x00000000#32))

def nxK (h : Fin 4) (g q : Vec F S64x128 .f32) (w o : Vec F S64x128 .bf16) (s : FVec F S128x128 .f32) (v : FVec F S64x128 .f32) : FVec F S128x128 .f32 :=
  subf (addf (matmul dot_S64x128_S64x128_S128x128_0_0_1_1_n_n none
        (truncf .bf16 (mulf q (broadcastTo S64x128 (exp (gcK h g)) broadcasts_S64x1_S64x128)) bitsLt_bf16_f32) o (constant S128x128 .f32 0x00000000#32))
      (mulf (broadcastTo S128x128 (exp (glK h g)) broadcasts_S1x1_S128x128) s))
    (matmul dot_S64x128_S64x128_S128x128_0_0_1_1_n_n none w (truncf .bf16 v bitsLt_bf16_f32) (constant S128x128 .f32 0x00000000#32))

/-- The parts of a block's inputs, by chunk and head. -/
structure Rd (F : FTy → Type) [FloatOps F] where
  q : Fin 8 → Fin 4 → Vec F S64x128 .f32
  k : Fin 8 → Fin 4 → Vec F S64x128 .f32
  w : Fin 8 → Fin 4 → Vec F S64x128 .bf16
  a : Fin 8 → Fin 4 → Vec F S64x64 .f32
  g : Fin 8 → Vec F S64x128 .f32
  o : Fin 8 → Fin 4 → Vec F S64x128 .bf16

/-- The chunk a block handles `i`-th: its last one first. -/
def chunkAt (i : ℕ) : Fin 8 := ⟨7 - i, by omega⟩

def Rd.dv (R : Rd F) (c : Fin 8) (h : Fin 4) (s : FVec F S128x128 .f32) : FVec F S64x128 .f32 :=
  dvK h (R.g c) (R.k c h) (R.a c h) (R.o c h) s
def Rd.nx (R : Rd F) (c : Fin 8) (h : Fin 4) (s : FVec F S128x128 .f32) : FVec F S128x128 .f32 :=
  nxK h (R.g c) (R.q c h) (R.w c h) (R.o c h) s (R.dv c h s)

/-- One head's state after `i` chunks of the block. -/
def bS (R : Rd F) (h : Fin 4) (s : FVec F S128x128 .f32) : ℕ → FVec F S128x128 .f32
  | 0 => s
  | i + 1 => R.nx (chunkAt i) h (bS R h s i)

theorem inbW (c : Fin 8) (h : Fin 4) : ∀ a, (![64 * c.val, 128 * h.val] : Fin 2 → ℕ) a + S64x128.size a ≤ S512x512.size a := by
  intro a; fin_cases a <;> simp [S64x128, S512x512] <;> omega
theorem inbA (c : Fin 8) (h : Fin 4) : ∀ a, (![64 * c.val, 64 * h.val] : Fin 2 → ℕ) a + S64x64.size a ≤ S512x256.size a := by
  intro a; fin_cases a <;> simp [S64x64, S512x256] <;> omega
theorem inbG (c : Fin 8) : ∀ a, (![64 * c.val, 0] : Fin 2 → ℕ) a + S64x128.size a ≤ S512x128.size a := by
  intro a; fin_cases a <;> simp [S64x128, S512x128] <;> omega
theorem inbS (h : Fin 4) : ∀ a, (![h.val, 0, 0] : Fin 3 → ℕ) a + S1x128x128.size a ≤ S4x128x128.size a := by
  intro a; fin_cases a <;> simp [S1x128x128, S4x128x128] <;> omega

theorem inbD (c : Fin 8) (h : Fin 4) : ∀ a, (![c.val, h.val, 0, 0] : Fin 4 → ℕ) a + S1x1x128x128.size a ≤ S8x4x128x128.size a := by
  intro a; fin_cases a <;> simp [S1x1x128x128, S8x4x128x128] <;> omega

/-- A state as the body stores it in the second output. -/
def stK (s : FVec F S128x128 .f32) : FVec F S1x1x128x128 .bf16 :=
  shapeCast S1x1x128x128 (truncf .bf16 s bitsLt_bf16_f32) shapeCasts_S128x128_S1x1x128x128
/-- A state as the body leaves it in the scratch. -/
def scK (s : FVec F S128x128 .f32) : FVec F S1x128x128 .f32 := shapeCast S1x128x128 s shapeCasts_S128x128_S1x128x128

/-- One entry for each chunk and head, the last chunk and the last head first. -/
def each {α : Type} (f : Fin 8 → Fin 4 → α) : List α := [7, 6, 5, 4, 3, 2, 1, 0].flatMap fun c => [f c 3, f c 2, f c 1, f c 0]

theorem mem_each {α : Type} {f : Fin 8 → Fin 4 → α} {p : α} (hp : p ∈ each f) : ∃ c h, p = f c h := by
  unfold each at hp
  obtain ⟨c, _, hp⟩ := List.mem_flatMap.mp hp
  simp only [List.mem_cons, List.not_mem_nil, or_false] at hp
  rcases hp with h | h | h | h <;> exact ⟨c, _, h⟩

/-- The outputs' pieces, from the states the heads start from. -/
abbrev Rd.lD (R : Rd F) (s : Fin 4 → FVec F S128x128 .f32) : List (View.Piece (Elt F) S512x512 .f32) :=
  each fun i h => ⟨Rect.unit (s := S512x512) ![64 * (chunkAt i.val).val, 128 * h.val] S64x128.size (inbW (chunkAt i.val) h),
    R.dv (chunkAt i.val) h (bS R h (s h) i.val)⟩
abbrev Rd.lS (R : Rd F) (s : Fin 4 → FVec F S128x128 .f32) : List (View.Piece (Elt F) S8x4x128x128 .bf16) :=
  each fun i h => ⟨Rect.unit (s := S8x4x128x128) ![(chunkAt i.val).val, h.val, 0, 0] S1x1x128x128.size (inbD (chunkAt i.val) h),
    stK (bS R h (s h) i.val)⟩
/-- The four stores of one head each in the scratch. -/
abbrev four (P : Fin 4 → Vec F S1x128x128 .f32) : List (View.Piece (Elt F) S4x128x128 .f32) :=
  [⟨Rect.unit (s := S4x128x128) ![3, 0, 0] S1x128x128.size (inbS 3), P 3⟩, ⟨Rect.unit (s := S4x128x128) ![2, 0, 0] S1x128x128.size (inbS 2), P 2⟩,
   ⟨Rect.unit (s := S4x128x128) ![1, 0, 0] S1x128x128.size (inbS 1), P 1⟩, ⟨Rect.unit (s := S4x128x128) ![0, 0, 0] S1x128x128.size (inbS 0), P 0⟩]

section
variable (c : Dev nD) (i : grid0.Coords)
  (arg1 : Memref sig .tc .vmem S512x512 .f32) (harg1 : arg1.IsWhole) (arg2 : Memref sig .tc .vmem S512x512 .f32) (harg2 : arg2.IsWhole)
  (arg3 : Memref sig .tc .vmem S512x512 .bf16) (harg3 : arg3.IsWhole) (arg4 : Memref sig .tc .vmem S512x256 .f32) (harg4 : arg4.IsWhole)
  (arg5 : Memref sig .tc .vmem S512x128 .f32) (harg5 : arg5.IsWhole) (arg6 : Memref sig .tc .vmem S512x512 .bf16) (harg6 : arg6.IsWhole)
  (arg7 : Memref sig .tc .vmem S512x512 .f32) (harg7 : arg7.IsWhole) (arg8 : Memref sig .tc .vmem S8x4x128x128 .bf16) (harg8 : arg8.IsWhole)
  (arg9 : Memref sig .tc .vmem S4x128x128 .f32) (harg9 : arg9.IsWhole)
  (x0 x1 : Vec F S512x512 .f32) (x2 : Vec F S512x512 .bf16) (x3 : Vec F S512x256 .f32) (x4 : Vec F S512x128 .f32) (x5 : Vec F S512x512 .bf16)
  (xs0 : Vec F S4x128x128 .f32)

/-- What the body loads of the staged blocks. -/
def rd : Rd F where
  q c h := View.readAt (Elt F) arg1.view (Rect.unit (s := S512x512) ![64 * c.val, 128 * h.val] S64x128.size (inbW c h)).toLoadRect (harg1.unread x0)
  k c h := View.readAt (Elt F) arg2.view (Rect.unit (s := S512x512) ![64 * c.val, 128 * h.val] S64x128.size (inbW c h)).toLoadRect (harg2.unread x1)
  w c h := View.readAt (Elt F) arg3.view (Rect.unit (s := S512x512) ![64 * c.val, 128 * h.val] S64x128.size (inbW c h)).toLoadRect (harg3.unread x2)
  a c h := View.readAt (Elt F) arg4.view (Rect.unit (s := S512x256) ![64 * c.val, 64 * h.val] S64x64.size (inbA c h)).toLoadRect (harg4.unread x3)
  g c := View.readAt (Elt F) arg5.view (Rect.unit (s := S512x128) ![64 * c.val, 0] S64x128.size (inbG c)).toLoadRect (harg5.unread x4)
  o c h := View.readAt (Elt F) arg6.view (Rect.unit (s := S512x512) ![64 * c.val, 128 * h.val] S64x128.size (inbW c h)).toLoadRect (harg6.unread x5)

/-- The scratch just after the first block's body has cleared it. -/
abbrev cleared : List (View.Piece (Elt F) S4x128x128 .f32) :=
  [⟨Rect.unit (s := S4x128x128) ![0, 0, 0] S4x128x128.size inb_S4x128x128_S4x128x128_0_0_0, k0_pay4⟩]

/-- The head's state the first block starts from, loaded from the cleared scratch; -/
def sA (h : Fin 4) : FVec F S128x128 .f32 :=
  shapeCast S128x128 (arg9.view.readCov (Val := Elt F) cleared (Rect.unit (s := S4x128x128) ![h.val, 0, 0] S1x128x128.size (inbS h)).toLoadRect) shapeCasts_S1x128x128_S128x128
/-- and the one a later block starts from. -/
def sB (h : Fin 4) : FVec F S128x128 .f32 :=
  shapeCast S128x128 (View.readAt (Elt F) arg9.view (Rect.unit (s := S4x128x128) ![h.val, 0, 0] S1x128x128.size (inbS h)).toLoadRect (harg9.unread xs0)) shapeCasts_S1x128x128_S128x128

theorem runA_d (hc0 : cond0_0 i) : (kernelRun0_A c i arg1 harg1 arg2 harg2 arg3 harg3 arg4 harg4 arg5 harg5 arg6 harg6 arg7 harg7 arg8 harg8 arg9 harg9 hc0 x0 x1 x2 x3 x4 x5).1
    = (rd arg1 harg1 arg2 harg2 arg3 harg3 arg4 harg4 arg5 harg5 arg6 harg6 x0 x1 x2 x3 x4 x5).lD (sA arg9) := by
  sl_kernel_rfl
theorem runA_s (hc0 : cond0_0 i) : (kernelRun0_A c i arg1 harg1 arg2 harg2 arg3 harg3 arg4 harg4 arg5 harg5 arg6 harg6 arg7 harg7 arg8 harg8 arg9 harg9 hc0 x0 x1 x2 x3 x4 x5).2.1
    = (rd arg1 harg1 arg2 harg2 arg3 harg3 arg4 harg4 arg5 harg5 arg6 harg6 x0 x1 x2 x3 x4 x5).lS (sA arg9) := by
  sl_kernel_rfl
theorem runA_x (hc0 : cond0_0 i) : (kernelRun0_A c i arg1 harg1 arg2 harg2 arg3 harg3 arg4 harg4 arg5 harg5 arg6 harg6 arg7 harg7 arg8 harg8 arg9 harg9 hc0 x0 x1 x2 x3 x4 x5).2.2.1
    = four (fun h => scK (bS (rd arg1 harg1 arg2 harg2 arg3 harg3 arg4 harg4 arg5 harg5 arg6 harg6 x0 x1 x2 x3 x4 x5) h (sA arg9 h) 8)) ++ cleared := by
  sl_kernel_rfl
theorem runB_d (hc0 : ¬cond0_0 i) : (kernelRun0_B c i arg1 harg1 arg2 harg2 arg3 harg3 arg4 harg4 arg5 harg5 arg6 harg6 arg7 harg7 arg8 harg8 arg9 harg9 hc0 x0 x1 x2 x3 x4 x5 xs0).1
    = (rd arg1 harg1 arg2 harg2 arg3 harg3 arg4 harg4 arg5 harg5 arg6 harg6 x0 x1 x2 x3 x4 x5).lD (sB arg9 harg9 xs0) := by
  sl_kernel_rfl
theorem runB_s (hc0 : ¬cond0_0 i) : (kernelRun0_B c i arg1 harg1 arg2 harg2 arg3 harg3 arg4 harg4 arg5 harg5 arg6 harg6 arg7 harg7 arg8 harg8 arg9 harg9 hc0 x0 x1 x2 x3 x4 x5 xs0).2.1
    = (rd arg1 harg1 arg2 harg2 arg3 harg3 arg4 harg4 arg5 harg5 arg6 harg6 x0 x1 x2 x3 x4 x5).lS (sB arg9 harg9 xs0) := by
  sl_kernel_rfl
theorem runB_x (hc0 : ¬cond0_0 i) : (kernelRun0_B c i arg1 harg1 arg2 harg2 arg3 harg3 arg4 harg4 arg5 harg5 arg6 harg6 arg7 harg7 arg8 harg8 arg9 harg9 hc0 x0 x1 x2 x3 x4 x5 xs0).2.2.1
    = four (fun h => scK (bS (rd arg1 harg1 arg2 harg2 arg3 harg3 arg4 harg4 arg5 harg5 arg6 harg6 x0 x1 x2 x3 x4 x5) h (sB arg9 harg9 xs0 h) 8)) := by
  sl_kernel_rfl
end

end Cert.Block

end
-- ==== Proof.Spec.lean ====
/-
  The backward recurrence over the chunks, as plain functions of extended reals: what one chunk does to the
  cotangent of the recurrent state in the kernel's form (`nxt`, `dvn`) and in the derivative's form (`rnx`, `rvn`),
  and that the two agree on finite arrays. The derivative carries the minus sign on the cotangent of the values and
  the kernel carries it on the whole product; over extended reals these differ where a product's terms are
  infinities of both signs, so the step needs finite arrays, and the arrays' finiteness is handed from chunk to chunk.
-/
module

public import Idealize.ShloMosaic.Lib.Pointwise

@[expose] public section

set_option maxRecDepth 16384

noncomputable section

namespace Cert.Spec

open Idealize.ShloMosaic

/-! ## Finite extended reals -/

/-- `x` is a real number. -/
def Real' (x : EReal) : Prop := ∃ r : ℝ, x = (r : EReal)

theorem Real'.zero : Real' 0 := ⟨0, rfl⟩
theorem Real'.add {x y : EReal} : Real' x → Real' y → Real' (x + y)
  | ⟨a, ha⟩, ⟨b, hb⟩ => ⟨a + b, by rw [ha, hb, EReal.coe_add]⟩
theorem Real'.mul {x y : EReal} : Real' x → Real' y → Real' (x * y)
  | ⟨a, ha⟩, ⟨b, hb⟩ => ⟨a * b, by rw [ha, hb, EReal.coe_mul]⟩
theorem Real'.neg {x : EReal} : Real' x → Real' (-x)
  | ⟨a, ha⟩ => ⟨-a, by rw [ha, EReal.coe_neg]⟩
theorem Real'.sub {x y : EReal} : Real' x → Real' y → Real' (x - y)
  | ⟨a, ha⟩, ⟨b, hb⟩ => ⟨a - b, by rw [ha, hb, EReal.coe_sub]⟩
theorem Real'.exp {x : EReal} : Real' x → Real' (Ideal.exp x)
  | ⟨a, ha⟩ => ⟨Real.exp a, by rw [ha]; rfl⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Real'.sum {ι : Type} [Fintype ι] {f : ι → EReal} (h : ∀ i, Real' (f i)) : Real' (∑ i, f i) := by
  choose g hg using h
  exact ⟨∑ i, g i, by rw [coe_sum]; exact Finset.sum_congr rfl fun i _ => hg i⟩

/-- The minus sign leaves a sum of real numbers. -/
theorem sum_neg_real {ι : Type} [Fintype ι] {f : ι → EReal} (h : ∀ i, Real' (f i)) : ∑ i, -f i = -∑ i, f i := by
  choose g hg using h
  have e : f = fun i => (g i : EReal) := funext hg
  subst e
  rw [← coe_sum, ← EReal.coe_neg, ← Finset.sum_neg_distrib, coe_sum]
  exact Finset.sum_congr rfl fun i _ => (EReal.coe_neg _).symm

/-! ## The arrays, chunk by chunk -/

abbrev T4096x512 : Shape := ⟨2, ![4096, 512]⟩
abbrev T4096x256 : Shape := ⟨2, ![4096, 256]⟩
abbrev T4096x128 : Shape := ⟨2, ![4096, 128]⟩

def row (n r : Fin 64) : Fin 4096 := ⟨64 * n.val + r.val, by omega⟩
def col (h : Fin 4) (d : Fin 128) : Fin 512 := ⟨128 * h.val + d.val, by omega⟩
def colc (h : Fin 4) (j : Fin 64) : Fin 256 := ⟨64 * h.val + j.val, by omega⟩
def gcol (h : Fin 4) : Fin 128 := ⟨4 + h.val, by omega⟩

/-- The six arrays the recurrence reads. -/
structure Arr where
  q : T4096x512.Idx → EReal
  k : T4096x512.Idx → EReal
  w : T4096x512.Idx → EReal
  a : T4096x256.Idx → EReal
  g : T4096x128.Idx → EReal
  o : T4096x512.Idx → EReal

/-- All six hold real numbers. -/
structure Arr.Fin' (A : Arr) : Prop where
  q : ∀ i, Real' (A.q i)
  k : ∀ i, Real' (A.k i)
  w : ∀ i, Real' (A.w i)
  a : ∀ i, Real' (A.a i)
  g : ∀ i, Real' (A.g i)
  o : ∀ i, Real' (A.o i)

/-- A state of the recurrence, or its cotangent: one matrix per head. -/
abbrev St : Type := Fin 4 → Fin 128 → Fin 128 → EReal

variable (A : Arr)

def Arr.ge (n : Fin 64) (h : Fin 4) (r : Fin 64) : EReal := A.g (ix2 (row n r) (gcol h))
def Arr.qd (n : Fin 64) (h : Fin 4) (r : Fin 64) (d : Fin 128) : EReal := A.q (ix2 (row n r) (col h d)) * Ideal.exp (A.ge n h r)
def Arr.kd (n : Fin 64) (h : Fin 4) (r : Fin 64) (d : Fin 128) : EReal :=
  A.k (ix2 (row n r) (col h d)) * Ideal.exp (A.ge n h 63 - A.ge n h r)
def Arr.gt (n : Fin 64) (h : Fin 4) : EReal := Ideal.exp (A.ge n h 63)
def Arr.wc (n : Fin 64) (h : Fin 4) (r : Fin 64) (d : Fin 128) : EReal := A.w (ix2 (row n r) (col h d))
def Arr.oc (n : Fin 64) (h : Fin 4) (r : Fin 64) (e : Fin 128) : EReal := A.o (ix2 (row n r) (col h e))
def Arr.ac (n : Fin 64) (h : Fin 4) (j r : Fin 64) : EReal := A.a (ix2 (row n j) (colc h r))

/-- The cotangent of the chunk's new values, the kernel's order. -/
def Arr.dvn (n : Fin 64) (s : St) (h : Fin 4) (r : Fin 64) (e : Fin 128) : EReal :=
  (∑ j, A.ac n h j r * A.oc n h j e) + ∑ d, A.kd n h r d * s h d e
/-- The state's cotangent before the chunk, the kernel's form. -/
def Arr.nxt (n : Fin 64) (s : St) : St := fun h d e =>
  ((∑ r, A.qd n h r d * A.oc n h r e) + A.gt n h * s h d e) - ∑ r, A.wc n h r d * A.dvn n s h r e
/-- The cotangent of the chunk's new values, the derivative's order. -/
def Arr.rvn (n : Fin 64) (s : St) (h : Fin 4) (r : Fin 64) (e : Fin 128) : EReal :=
  (∑ d, s h d e * A.kd n h r d) + ∑ j, A.oc n h j e * A.ac n h j r
/-- The state's cotangent before the chunk, the derivative's form. -/
def Arr.rnx (n : Fin 64) (s : St) : St := fun h d e =>
  (s h d e * A.gt n h + ∑ r, A.oc n h r e * A.qd n h r d) + ∑ r, -A.rvn n s h r e * A.wc n h r d

theorem Arr.rvn_eq (n : Fin 64) (s : St) : A.rvn n s = A.dvn n s := by
  funext h r e
  unfold Arr.rvn Arr.dvn
  rw [add_comm]
  exact congrArg₂ (· + ·) (Finset.sum_congr rfl fun j _ => mul_comm _ _) (Finset.sum_congr rfl fun j _ => mul_comm _ _)

variable {A}

theorem Arr.Fin'.dvn (hA : A.Fin') (n : Fin 64) {s : St} (hs : ∀ h d e, Real' (s h d e)) (h : Fin 4) (r : Fin 64) (e : Fin 128) :
    Real' (A.dvn n s h r e) :=
  .add (.sum fun _ => .mul (hA.a _) (hA.o _)) (.sum fun _ => .mul (.mul (hA.k _) (.exp (.sub (hA.g _) (hA.g _)))) (hs _ _ _))

theorem Arr.Fin'.nxt (hA : A.Fin') (n : Fin 64) {s : St} (hs : ∀ h d e, Real' (s h d e)) (h : Fin 4) (d e : Fin 128) :
    Real' (A.nxt n s h d e) :=
  .sub (.add (.sum fun _ => .mul (.mul (hA.q _) (.exp (hA.g _))) (hA.o _)) (.mul (.exp (hA.g _)) (hs _ _ _)))
    (.sum fun _ => .mul (hA.w _) (hA.dvn n hs _ _ _))

theorem Arr.Fin'.rnx_eq (hA : A.Fin') (n : Fin 64) {s : St} (hs : ∀ h d e, Real' (s h d e)) : A.rnx n s = A.nxt n s := by
  funext h d e
  unfold Arr.rnx Arr.nxt
  rw [Arr.rvn_eq, sub_eq_add_neg,
    ← sum_neg_real (f := fun r => A.wc n h r d * A.dvn n s h r e) fun r => Real'.mul (hA.w _) (hA.dvn n hs h r e)]
  refine congrArg₂ (· + ·) ?_ (Finset.sum_congr rfl fun r _ => ?_)
  · rw [add_comm, mul_comm]
    exact congrArg₂ (· + ·) (Finset.sum_congr rfl fun j _ => mul_comm _ _) rfl
  · rw [EReal.neg_mul, mul_comm]

/-- The chunk handled at step `i` of the backward pass: the last one first. -/
def rev (i : ℕ) : Fin 64 := ⟨63 - i, by omega⟩

/-- The state's cotangent after `i` chunks of the backward pass. -/
def Arr.st (A : Arr) : ℕ → St
  | 0 => fun _ _ _ => 0
  | i + 1 => A.nxt (rev i) (A.st i)

theorem Arr.Fin'.st (hA : A.Fin') : ∀ (i : ℕ) (h : Fin 4) (d e : Fin 128), Real' (A.st i h d e)
  | 0 => fun _ _ _ => .zero
  | i + 1 => hA.nxt _ (hA.st i)

end Cert.Spec

end
-- ==== Proof.BlockVal.lean ====
/-
  The block's functions read at an index, over the extended reals: a block that holds the rows of chunks `8·(7-t) … ` of
  six arrays carries the arrays' recurrence (`Arr.st`) from chunk to chunk.
-/
module

public import proofs.«01_k».proof.Proof.Block
public import proofs.«01_k».proof.Proof.Spec
public import Idealize.ShloMosaic.Lib.WholeRead

@[expose] public section

set_option maxRecDepth 16384

noncomputable section

namespace Cert.Block

open Idealize.ShloMosaic Idealize.ShloMosaic.TcCoe
open Cert.KernelIdeal Cert.KernelIdeal.Gen Cert.Spec

theorem dvK_apply (h : Fin 4) (g k : Vec Ideal S64x128 .f32) (a : Vec Ideal S64x64 .f32) (o : Vec Ideal S64x128 .bf16) (s : FVec Ideal S128x128 .f32)
    (r : Fin 64) (e : Fin 128) :
    (dvK h g k a o s : FVec Ideal S64x128 .f32) (ix2 r e)
      = (∑ j : Fin 64, (a (ix2 j r) : EReal) * o (ix2 j e))
        + ∑ d : Fin 128, (k (ix2 r d) * Ideal.exp ((g (ix2 (63 : Fin 64) (gcol h)) : EReal) - g (ix2 r (gcol h)))) * s (ix2 d e) := by
  pointwise [dvK, gcK, glK]
  rfl

theorem nxK_apply (h : Fin 4) (g q : Vec Ideal S64x128 .f32) (w o : Vec Ideal S64x128 .bf16) (s : FVec Ideal S128x128 .f32) (v : FVec Ideal S64x128 .f32)
    (d e : Fin 128) :
    (nxK h g q w o s v : FVec Ideal S128x128 .f32) (ix2 d e)
      = ((∑ r : Fin 64, ((q (ix2 r d) : EReal) * Ideal.exp (g (ix2 r (gcol h)))) * o (ix2 r e))
          + Ideal.exp (g (ix2 (63 : Fin 64) (gcol h))) * s (ix2 d e))
        - ∑ r : Fin 64, (w (ix2 r d) : EReal) * v (ix2 r e) := by
  pointwise [nxK, gcK, glK]
  rfl

theorem stK_apply (s : FVec Ideal S128x128 .f32) (d e : Fin 128) :
    (stK s : FVec Ideal S1x1x128x128 .bf16) (ix4 (0 : Fin 1) (0 : Fin 1) d e) = s (ix2 d e) := by
  pointwise [stK]
theorem scK_apply (s : FVec Ideal S128x128 .f32) (d e : Fin 128) :
    (scK s : FVec Ideal S1x128x128 .f32) (ix3 (0 : Fin 1) d e) = s (ix2 d e) := by
  pointwise [scK]

/-- The `c`-th chunk of the block handled at point `t`. -/
def blk (t : ℕ) (c : Fin 8) : Fin 64 := ⟨8 * (7 - t) + c.val, by omega⟩

/-- The block's inputs are the arrays' rows of its chunks. -/
structure Holds (R : Rd Ideal) (A : Arr) (t : ℕ) : Prop where
  q : ∀ c h r d, R.q c h (ix2 r d) = A.q (ix2 (row (blk t c) r) (col h d))
  k : ∀ c h r d, R.k c h (ix2 r d) = A.k (ix2 (row (blk t c) r) (col h d))
  w : ∀ c h r d, R.w c h (ix2 r d) = A.w (ix2 (row (blk t c) r) (col h d))
  a : ∀ c h r j, R.a c h (ix2 r j) = A.a (ix2 (row (blk t c) r) (colc h j))
  g : ∀ c r (h : Fin 4), R.g c (ix2 r (gcol h)) = A.g (ix2 (row (blk t c) r) (gcol h))
  o : ∀ c h r d, R.o c h (ix2 r d) = A.o (ix2 (row (blk t c) r) (col h d))

variable {R : Rd Ideal} {A : Arr} {t : ℕ}

theorem Holds.dv (H : Holds R A t) (c : Fin 8) (h : Fin 4) {s : FVec Ideal S128x128 .f32} {S : St} (hs : ∀ d e, s (ix2 d e) = S h d e)
    (r : Fin 64) (e : Fin 128) : (R.dv c h s : FVec Ideal S64x128 .f32) (ix2 r e) = A.dvn (blk t c) S h r e := by
  unfold Rd.dv; rw [dvK_apply]
  unfold Arr.dvn
  refine congrArg₂ (· + ·) (Finset.sum_congr rfl fun j _ => ?_) (Finset.sum_congr rfl fun d _ => ?_)
  · rw [H.a, H.o]; rfl
  · rw [H.k, H.g, H.g, hs]; rfl

theorem Holds.nx (H : Holds R A t) (c : Fin 8) (h : Fin 4) {s : FVec Ideal S128x128 .f32} {S : St} (hs : ∀ d e, s (ix2 d e) = S h d e)
    (d e : Fin 128) : (R.nx c h s : FVec Ideal S128x128 .f32) (ix2 d e) = A.nxt (blk t c) S h d e := by
  unfold Rd.nx; rw [nxK_apply]
  unfold Arr.nxt
  refine congrArg₂ (· - ·) (congrArg₂ (· + ·) (Finset.sum_congr rfl fun r _ => ?_) ?_) (Finset.sum_congr rfl fun r _ => ?_)
  · rw [H.q, H.g, H.o]; rfl
  · rw [H.g, hs]; rfl
  · rw [H.w, H.dv c h hs]; rfl

theorem blk_rev {t i : ℕ} (ht : t < 8) (hi : i < 8) : blk t (chunkAt i) = rev (8 * t + i) :=
  Fin.ext (by show 8 * (7 - t) + (7 - i) = 63 - (8 * t + i); omega)

theorem Holds.bS (H : Holds R A t) (ht : t < 8) (h : Fin 4) {s : FVec Ideal S128x128 .f32} (hs : ∀ d e, s (ix2 d e) = A.st (8 * t) h d e) :
    ∀ i ≤ 8, ∀ d e, (bS R h s i : FVec Ideal S128x128 .f32) (ix2 d e) = A.st (8 * t + i) h d e
  | 0, _ => hs
  | i + 1, hi => fun d e => by
      show (R.nx (chunkAt i) h (Block.bS R h s i) : FVec Ideal S128x128 .f32) (ix2 d e) = A.nxt (rev (8 * t + i)) (A.st (8 * t + i)) h d e
      rw [H.nx (chunkAt i) h (H.bS ht h hs i (by omega)), blk_rev ht (by omega)]

/-! ## The blocks after a point -/

/-- The first output's block after point `t`. -/
def G6 (A : Arr) (t : ℕ) (y : S512x512.Idx) : EReal :=
  A.dvn ⟨8 * (7 - t) + (y 0).val / 64, by have : (y 0).val < 512 := (y 0).isLt; omega⟩ (A.st (8 * t + (7 - (y 0).val / 64)))
    ⟨(y 1).val / 128, by have : (y 1).val < 512 := (y 1).isLt; omega⟩ ⟨(y 0).val % 64, by omega⟩ ⟨(y 1).val % 128, by omega⟩
/-- The second output's block. -/
def G7 (A : Arr) (t : ℕ) (y : S8x4x128x128.Idx) : EReal := A.st (8 * t + (7 - (y 0).val)) (y 1) (y 2) (y 3)

theorem dvn_congr {A : Arr} {n n' : Fin 64} {S S' : St} {h h' : Fin 4} {r r' : Fin 64} {e e' : Fin 128} (hn : n.val = n'.val) (hS : S = S')
    (hh : h.val = h'.val) (hr : r.val = r'.val) (he : e.val = e'.val) : A.dvn n S h r e = A.dvn n' S' h' r' e' := by
  rw [Fin.ext hn, hS, Fin.ext hh, Fin.ext hr, Fin.ext he]

theorem st_congr {A : Arr} {n n' : ℕ} {h h' : Fin 4} {d d' e e' : Fin 128} (hn : n = n') (hh : h.val = h'.val) (hd : d.val = d'.val)
    (he : e.val = e'.val) : A.st n h d e = A.st n' h' d' e' := by
  rw [hn, Fin.ext hh, Fin.ext hd, Fin.ext he]

/-! ## The scratch after its four stores -/

theorem canon_append {S : Shape} {el : EltTy} (G : S.Idx → Elt Ideal el) (L' : List (View.Piece (Elt Ideal) S el)) :
    ∀ (L : List (View.Piece (Elt Ideal) S el)) (_ : ∀ p ∈ L, ∀ x : p.1.shape.Idx, p.2 x = G (p.1.emb x)) (y : S.Idx)
      (_ : ∃ p ∈ L, y ∈ p.1.set), View.canon (L ++ L') y = G y
  | [], _, _, hy => by obtain ⟨p, hp, _⟩ := hy; simp at hp
  | p :: L, hL, y, hy => by
      by_cases hm : y ∈ p.1.set
      · obtain ⟨x, rfl⟩ := p.1.exists_idx_of_mem hm
        rw [List.cons_append, show p.1.idx x = p.1.emb x from rfl, View.canon_cons_emb]
        exact hL p (by simp) x
      · rw [List.cons_append, View.canon_cons_of_not_mem _ _ hm]
        refine canon_append G L' L (fun q hq => hL q (by simp [hq])) y ?_
        obtain ⟨q, hq, hy⟩ := hy
        rcases List.mem_cons.mp hq with rfl | hq
        · exact absurd hy hm
        · exact ⟨q, hq, hy⟩

theorem four_canon (P : Fin 4 → Vec Ideal S1x128x128 .f32) (L' : List (View.Piece (Elt Ideal) S4x128x128 .f32)) (h : Fin 4) (d e : Fin 128) :
    View.canon (four P ++ L') (ix3 h d e) = P h (ix3 (0 : Fin 1) d e) := by
  have hp : ∀ (k : Fin 4) (x : S1x128x128.Idx), P k x
      = (fun z : S4x128x128.Idx => P (z 0) (ix3 (0 : Fin 1) (z 1) (z 2)))
          ((Rect.unit (s := S4x128x128) ![k.val, 0, 0] S1x128x128.size (inbS k)).emb x) := by
    intro k x
    have h0 : (x 0).val < 1 := (x 0).isLt
    have e0 : (Rect.unit (s := S4x128x128) ![k.val, 0, 0] S1x128x128.size (inbS k)).emb x 0 = k := Fin.ext (by simp [Rect.emb_apply]; omega)
    have e1 : x = ix3 (0 : Fin 1) ((Rect.unit (s := S4x128x128) ![k.val, 0, 0] S1x128x128.size (inbS k)).emb x 1)
        ((Rect.unit (s := S4x128x128) ![k.val, 0, 0] S1x128x128.size (inbS k)).emb x 2) :=
      funext fun a => by fin_cases a <;> apply Fin.ext <;> simp [Rect.emb_apply] <;> omega
    exact (congrArg (P k) e1).trans (congrArg (fun i => P i (ix3 (0 : Fin 1) ((Rect.unit (s := S4x128x128) ![k.val, 0, 0] S1x128x128.size (inbS k)).emb x 1)
      ((Rect.unit (s := S4x128x128) ![k.val, 0, 0] S1x128x128.size (inbS k)).emb x 2))) e0.symm)
  refine canon_append (fun z => P (z 0) (ix3 (0 : Fin 1) (z 1) (z 2))) L' (four P) ?_ (ix3 h d e)
    (View.cover_of_tiledL (four P) S1x128x128.size (by sl_kernel_rfl) _)
  refine List.forall_mem_cons.mpr ⟨hp 3, List.forall_mem_cons.mpr ⟨hp 2, List.forall_mem_cons.mpr ⟨hp 1, List.forall_mem_cons.mpr ⟨hp 0, ?_⟩⟩⟩⟩
  simp

/-! ## What the block's pieces hold -/

section
variable (H : Holds R A t) (ht : t < 8) {s : Fin 4 → FVec Ideal S128x128 .f32} (hs : ∀ h d e, s h (ix2 d e) = A.st (8 * t) h d e)

include H ht hs in
theorem pieces6 : ∀ p ∈ R.lD s, ∀ x : p.1.shape.Idx, p.2 x = G6 A t (p.1.emb x) := by
  intro p hp
  obtain ⟨i, h, rfl⟩ := mem_each hp
  intro (x : S64x128.Idx)
  have h0 : (x 0).val < 64 := (x 0).isLt
  have h1 : (x 1).val < 128 := (x 1).isLt
  have e : x = ix2 (⟨(x 0).val, h0⟩ : Fin 64) (⟨(x 1).val, h1⟩ : Fin 128) := funext fun a => by fin_cases a <;> rfl
  show (R.dv (chunkAt i.val) h (Block.bS R h (s h) i.val) : FVec Ideal S64x128 .f32) x = _
  rw [e, H.dv (chunkAt i.val) h (H.bS ht h (hs h) i.val (by omega))]
  have hv : (chunkAt i.val).val = 7 - i.val := rfl
  unfold G6
  refine dvn_congr ?_ (congrArg A.st ?_) ?_ ?_ ?_ <;> simp [Rect.emb_apply, hv, blk] <;> omega

include H ht hs in
theorem pieces7 : ∀ p ∈ R.lS s, ∀ x : p.1.shape.Idx, p.2 x = G7 A t (p.1.emb x) := by
  intro p hp
  obtain ⟨i, h, rfl⟩ := mem_each hp
  intro (x : S1x1x128x128.Idx)
  have h0 : (x 0).val < 1 := (x 0).isLt
  have h1 : (x 1).val < 1 := (x 1).isLt
  have h2 : (x 2).val < 128 := (x 2).isLt
  have h3 : (x 3).val < 128 := (x 3).isLt
  have e : x = ix4 (0 : Fin 1) (0 : Fin 1) (⟨(x 2).val, h2⟩ : Fin 128) (⟨(x 3).val, h3⟩ : Fin 128) :=
    funext fun a => by fin_cases a <;> first | rfl | (apply Fin.ext; simp; omega)
  show (stK (Block.bS R h (s h) i.val) : FVec Ideal S1x1x128x128 .bf16) x = _
  rw [e, stK_apply, H.bS ht h (hs h) i.val (by omega)]
  have hv : (chunkAt i.val).val = 7 - i.val := rfl
  unfold G7
  refine st_congr ?_ ?_ ?_ ?_ <;> simp [Rect.emb_apply, hv] <;> omega

include H ht hs in
theorem scratch (L : List (View.Piece (Elt Ideal) S4x128x128 .f32)) (h : Fin 4) (d e : Fin 128) :
    View.canon (four (fun h => scK (Block.bS R h (s h) 8)) ++ L) (ix3 h d e) = A.st (8 * (t + 1)) h d e := by
  refine (four_canon (fun h => scK (Block.bS R h (s h) 8)) L h d e).trans ?_
  rw [scK_apply, H.bS ht h (hs h) 8 le_rfl]; rfl
end

/-! ## The staged blocks -/

section
variable (arg1 : Memref sig .tc .vmem S512x512 .f32) (harg1 : arg1.IsWhole) (arg2 : Memref sig .tc .vmem S512x512 .f32) (harg2 : arg2.IsWhole)
  (arg3 : Memref sig .tc .vmem S512x512 .bf16) (harg3 : arg3.IsWhole) (arg4 : Memref sig .tc .vmem S512x256 .f32) (harg4 : arg4.IsWhole)
  (arg5 : Memref sig .tc .vmem S512x128 .f32) (harg5 : arg5.IsWhole) (arg6 : Memref sig .tc .vmem S512x512 .bf16) (harg6 : arg6.IsWhole)
  (arg9 : Memref sig .tc .vmem S4x128x128 .f32) (harg9 : arg9.IsWhole)
  (x0 x1 : Vec Ideal S512x512 .f32) (x2 : Vec Ideal S512x512 .bf16) (x3 : Vec Ideal S512x256 .f32) (x4 : Vec Ideal S512x128 .f32)
  (x5 : Vec Ideal S512x512 .bf16) (xs0 : Vec Ideal S4x128x128 .f32)

/-- The block's row in the whole array. -/
def brow (t : ℕ) (y : Fin 512) : Fin 4096 := ⟨512 * (7 - t) + y.val, by omega⟩

theorem row_eq (c : Fin 8) (r : Fin 64) (hlt : 64 * c.val + r.val < 512) : row (blk t c) r = brow t ⟨64 * c.val + r.val, hlt⟩ :=
  Fin.ext (by show 64 * (8 * (7 - t) + c.val) + r.val = 512 * (7 - t) + (64 * c.val + r.val); omega)

theorem rd_holds (e0 : ∀ y z, x0 (ix2 y z) = A.q (ix2 (brow t y) z)) (e1 : ∀ y z, x1 (ix2 y z) = A.k (ix2 (brow t y) z))
    (e2 : ∀ y z, x2 (ix2 y z) = A.w (ix2 (brow t y) z)) (e3 : ∀ y z, x3 (ix2 y z) = A.a (ix2 (brow t y) z))
    (e4 : ∀ y z, x4 (ix2 y z) = A.g (ix2 (brow t y) z)) (e5 : ∀ y z, x5 (ix2 y z) = A.o (ix2 (brow t y) z)) :
    Holds (rd arg1 harg1 arg2 harg2 arg3 harg3 arg4 harg4 arg5 harg5 arg6 harg6 x0 x1 x2 x3 x4 x5) A t where
  q c h r d := by
    have hlt : 64 * c.val + r.val < 512 := by omega
    rw [row_eq c r hlt, ← e0]
    refine (Memref.IsWhole.readAt_unread harg1 x0 _ _).trans (congrArg x0 ?_)
    funext a; fin_cases a <;> apply Fin.ext <;> simp [Rect.toLoadRect, col]
  k c h r d := by
    have hlt : 64 * c.val + r.val < 512 := by omega
    rw [row_eq c r hlt, ← e1]
    refine (Memref.IsWhole.readAt_unread harg2 x1 _ _).trans (congrArg x1 ?_)
    funext a; fin_cases a <;> apply Fin.ext <;> simp [Rect.toLoadRect, col]
  w c h r d := by
    have hlt : 64 * c.val + r.val < 512 := by omega
    rw [row_eq c r hlt, ← e2]
    refine (Memref.IsWhole.readAt_unread harg3 x2 _ _).trans (congrArg x2 ?_)
    funext a; fin_cases a <;> apply Fin.ext <;> simp [Rect.toLoadRect, col]
  a c h r d := by
    have hlt : 64 * c.val + r.val < 512 := by omega
    rw [row_eq c r hlt, ← e3]
    refine (Memref.IsWhole.readAt_unread harg4 x3 _ _).trans (congrArg x3 ?_)
    funext a; fin_cases a <;> apply Fin.ext <;> simp [Rect.toLoadRect, colc]
  g c r h := by
    have hlt : 64 * c.val + r.val < 512 := by omega
    rw [row_eq c r hlt, ← e4]
    refine (Memref.IsWhole.readAt_unread harg5 x4 _ _).trans (congrArg x4 ?_)
    funext a; fin_cases a <;> apply Fin.ext <;> simp [Rect.toLoadRect, gcol]
  o c h r d := by
    have hlt : 64 * c.val + r.val < 512 := by omega
    rw [row_eq c r hlt, ← e5]
    refine (Memref.IsWhole.readAt_unread harg6 x5 _ _).trans (congrArg x5 ?_)
    funext a; fin_cases a <;> apply Fin.ext <;> simp [Rect.toLoadRect, col]

theorem cast_apply (v : Vec Ideal S1x128x128 .f32) (d e : Fin 128) :
    (shapeCast S128x128 v shapeCasts_S1x128x128_S128x128 : FVec Ideal S128x128 .f32) (ix2 d e) = v (ix3 (0 : Fin 1) d e) := by
  pointwise

theorem sB_apply (h : Fin 4) (d e : Fin 128) : (sB arg9 harg9 xs0 h : FVec Ideal S128x128 .f32) (ix2 d e) = xs0 (ix3 h d e) := by
  refine (cast_apply _ d e).trans ((Memref.IsWhole.readAt_unread harg9 xs0 _ _).trans (congrArg xs0 ?_))
  funext a; fin_cases a <;> apply Fin.ext <;> simp [Rect.toLoadRect]

/-- The zeros stored first are what the first block starts from. -/
theorem sA_apply (h : Fin 4) (d e : Fin 128) : (sA (F := Ideal) arg9 h : FVec Ideal S128x128 .f32) (ix2 d e) = 0 := by
  refine (cast_apply _ d e).trans ?_
  rw [View.readCov_eq_canon']
  rw [View.canon_cons_unit_zero (by funext a; fin_cases a <;> rfl)]
  unfold k0_pay4
  pointwise
end

end Cert.Block

end
-- ==== Proof.KerRun.lean ====
/-
  The kernel's two result arrays, over the extended reals: point `t` of its grid handles the eight chunks of block `7 - t`,
  the scratch carries the state's cotangent from block to block, and every row of a result is the recurrence's value.
-/
module

public import proofs.«01_k».proof.Proof.BlockVal
public import proofs.«01_k».proof.Proof.Gen.KernelIdeal.Value
public import Idealize.ShloMosaic.Lib.Pipeline.ValueKit

@[expose] public section

set_option maxRecDepth 16384

noncomputable section

namespace Cert.KerRun

open Idealize.ShloMosaic Idealize.ShloMosaic.TcCoe Idealize.SL.Sem
open Cert.KernelIdeal Cert.KernelIdeal.Gen Cert.Block Cert.Spec

variable (m : (ℓ : Loc nD τ sig) → Buf (Elt Ideal) ℓ)

/-- The six arguments. -/
def arr (c : Dev nD) : Arr where
  q := m ((c : Thread nD τ).loc main_arg0)
  k := m ((c : Thread nD τ).loc main_arg1)
  w := m ((c : Thread nD τ).loc main_arg2)
  a := m ((c : Thread nD τ).loc main_arg3)
  g := m ((c : Thread nD τ).loc main_arg4)
  o := m ((c : Thread nD τ).loc main_arg5)

theorem ix0 : ∀ t : Fin cfg0.N, win0_0.index t = ![7 - t.val, 0] := (by decide +kernel : ∀ t : Fin grid0.N, _)
theorem ix1 : ∀ t : Fin cfg0.N, win0_1.index t = ![7 - t.val, 0] := (by decide +kernel : ∀ t : Fin grid0.N, _)
theorem ix2' : ∀ t : Fin cfg0.N, win0_2.index t = ![7 - t.val, 0] := (by decide +kernel : ∀ t : Fin grid0.N, _)
theorem ix3' : ∀ t : Fin cfg0.N, win0_3.index t = ![7 - t.val, 0] := (by decide +kernel : ∀ t : Fin grid0.N, _)
theorem ix4' : ∀ t : Fin cfg0.N, win0_4.index t = ![7 - t.val, 0] := (by decide +kernel : ∀ t : Fin grid0.N, _)
theorem ix5' : ∀ t : Fin cfg0.N, win0_5.index t = ![7 - t.val, 0] := (by decide +kernel : ∀ t : Fin grid0.N, _)
theorem ix6' : ∀ t : Fin cfg0.N, win0_6.index t = ![7 - t.val, 0] := (by decide +kernel : ∀ t : Fin grid0.N, _)
theorem ix7' : ∀ t : Fin cfg0.N, win0_7.index t = ![7 - t.val, 0, 0, 0] := (by decide +kernel : ∀ t : Fin grid0.N, _)

variable (c : Dev nD)

theorem tlt (t : Fin cfg0.N) : t.val < 8 := lt_of_lt_of_eq t.isLt (show cfg0.N = 8 from N_0)

/-! ## The input blocks are the arrays' rows -/

theorem e0 (t : Fin cfg0.N) (y : Fin 512) (z : Fin 512) : (iblk m c 0 t : Vec Ideal S512x512 .f32) (ix2 y z) = (arr m c).q (ix2 (brow t.val y) z) := by
  show m ((c : Thread nD τ).loc main_arg0) ((win0_0.blk t).view.emb (ix2 y z)) = m ((c : Thread nD τ).loc main_arg0) (ix2 (brow t.val y) z)
  congr 1
  funext a
  have hi := ix0 t
  fin_cases a <;> apply Fin.ext <;> blk_simp [hi] <;> simp [brow] <;> omega
theorem e1 (t : Fin cfg0.N) (y : Fin 512) (z : Fin 512) : (iblk m c 1 t : Vec Ideal S512x512 .f32) (ix2 y z) = (arr m c).k (ix2 (brow t.val y) z) := by
  show m ((c : Thread nD τ).loc main_arg1) ((win0_1.blk t).view.emb (ix2 y z)) = m ((c : Thread nD τ).loc main_arg1) (ix2 (brow t.val y) z)
  congr 1
  funext a
  have hi := ix1 t
  fin_cases a <;> apply Fin.ext <;> blk_simp [hi] <;> simp [brow] <;> omega
theorem e2 (t : Fin cfg0.N) (y : Fin 512) (z : Fin 512) : (iblk m c 2 t : Vec Ideal S512x512 .bf16) (ix2 y z) = (arr m c).w (ix2 (brow t.val y) z) := by
  show m ((c : Thread nD τ).loc main_arg2) ((win0_2.blk t).view.emb (ix2 y z)) = m ((c : Thread nD τ).loc main_arg2) (ix2 (brow t.val y) z)
  congr 1
  funext a
  have hi := ix2' t
  fin_cases a <;> apply Fin.ext <;> blk_simp [hi] <;> simp [brow] <;> omega
theorem e3 (t : Fin cfg0.N) (y : Fin 512) (z : Fin 256) : (iblk m c 3 t : Vec Ideal S512x256 .f32) (ix2 y z) = (arr m c).a (ix2 (brow t.val y) z) := by
  show m ((c : Thread nD τ).loc main_arg3) ((win0_3.blk t).view.emb (ix2 y z)) = m ((c : Thread nD τ).loc main_arg3) (ix2 (brow t.val y) z)
  congr 1
  funext a
  have hi := ix3' t
  fin_cases a <;> apply Fin.ext <;> blk_simp [hi] <;> simp [brow] <;> omega
theorem e4 (t : Fin cfg0.N) (y : Fin 512) (z : Fin 128) : (iblk m c 4 t : Vec Ideal S512x128 .f32) (ix2 y z) = (arr m c).g (ix2 (brow t.val y) z) := by
  show m ((c : Thread nD τ).loc main_arg4) ((win0_4.blk t).view.emb (ix2 y z)) = m ((c : Thread nD τ).loc main_arg4) (ix2 (brow t.val y) z)
  congr 1
  funext a
  have hi := ix4' t
  fin_cases a <;> apply Fin.ext <;> blk_simp [hi] <;> simp [brow] <;> omega
theorem e5 (t : Fin cfg0.N) (y : Fin 512) (z : Fin 512) : (iblk m c 5 t : Vec Ideal S512x512 .bf16) (ix2 y z) = (arr m c).o (ix2 (brow t.val y) z) := by
  show m ((c : Thread nD τ).loc main_arg5) ((win0_5.blk t).view.emb (ix2 y z)) = m ((c : Thread nD τ).loc main_arg5) (ix2 (brow t.val y) z)
  congr 1
  funext a
  have hi := ix5' t
  fin_cases a <;> apply Fin.ext <;> blk_simp [hi] <;> simp [brow] <;> omega

theorem holds (t : Fin cfg0.N) : Holds (rd (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t)
    (iblk m c 3 t) (iblk m c 4 t) (iblk m c 5 t)) (arr m c) t.val :=
  rd_holds _ _ _ _ _ _ _ _ _ _ _ _ _ _ _ _ _ _ (e0 m c t) (e1 m c t) (e2 m c t) (e3 m c t) (e4 m c t) (e5 m c t)

/-! ## The scratch, point after point -/

theorem startA (t : Fin cfg0.N) (h0 : t.val % 8 = 0) (h : Fin 4) (d e : Fin 128) :
    (sA (F := Ideal) scM0_0 h : FVec Ideal S128x128 .f32) (ix2 d e) = (arr m c).st (8 * t.val) h d e := by
  have ht : t.val = 0 := by have := tlt t; omega
  rw [sA_apply, ht]; rfl

theorem scr : ∀ (n : ℕ) (hn : n < cfg0.N) (h : Fin 4) (d e : Fin 128),
    (outsAt0 m c n hn).2.2 (ix3 h d e) = (arr m c).st (8 * (n + 1)) h d e := by
  intro n
  induction n with
  | zero =>
    intro hn h d e
    rw [outsAt0_A m c ⟨0, hn⟩ rfl]
    dsimp only
    unfold sout0_A_0
    rw [View.read_writes_junk_eq_canon, runA_x]
    exact scratch (holds m c ⟨0, hn⟩) (tlt _) (startA m c ⟨0, hn⟩ rfl) _ h d e
  | succ n ih =>
    intro hn h d e
    have h0 : ¬ (n + 1) % 8 = 0 := by have := tlt ⟨n + 1, hn⟩; simp at this; omega
    rw [outsAt0_B m c ⟨n + 1, hn⟩ h0]
    dsimp only
    unfold sout0_B_0
    rw [View.read_writes_junk_eq_canon, runB_x, ← List.append_nil (four _)]
    exact scratch (holds m c ⟨n + 1, hn⟩) (tlt _) (fun h d e => (sB_apply _ _ _ h d e).trans (ih (by omega) h d e)) _ h d e

theorem startB (t : Fin cfg0.N) (h0 : ¬ t.val % 8 = 0) (h : Fin 4) (d e : Fin 128) :
    (sB scM0_0 (Memref.isWhole_whole _) (outsAt0 m c (t.val - 1) (Nat.lt_of_le_of_lt (Nat.sub_le _ _) t.isLt)).2.2 h : FVec Ideal S128x128 .f32) (ix2 d e)
      = (arr m c).st (8 * t.val) h d e := by
  rw [sB_apply, scr, show t.val - 1 + 1 = t.val by omega]

theorem block6 (t : Fin cfg0.N) (y : S512x512.Idx) : (outsAt0 m c t.val t.isLt).1 y = G6 (arr m c) t.val y := by
  by_cases h0 : t.val % 8 = 0
  · rw [outsAt0_A m c t h0]
    dsimp only
    unfold out0_A_6
    rw [View.read_writes_junk_eq_canon]
    refine View.canon_apply_of_pieces (Val := Elt Ideal) (G6 (arr m c) t.val) _ ?_ y (cover0_A_6 _ _ _ _ _ _ _ _ _ _ _ _ _ _ _ _ _ _ _ _ _ _ _ _ _ _ _ y)
    rw [runA_d]
    exact pieces6 (holds m c t) (tlt t) (startA m c t h0)
  · rw [outsAt0_B m c t h0]
    dsimp only
    unfold out0_B_6
    rw [View.read_writes_junk_eq_canon]
    refine View.canon_apply_of_pieces (Val := Elt Ideal) (G6 (arr m c) t.val) _ ?_ y (cover0_B_6 _ _ _ _ _ _ _ _ _ _ _ _ _ _ _ _ _ _ _ _ _ _ _ _ _ _ _ _ y)
    rw [runB_d]
    exact pieces6 (holds m c t) (tlt t) (startB m c t h0)

theorem block7 (t : Fin cfg0.N) (y : S8x4x128x128.Idx) : (outsAt0 m c t.val t.isLt).2.1 y = G7 (arr m c) t.val y := by
  by_cases h0 : t.val % 8 = 0
  · rw [outsAt0_A m c t h0]
    dsimp only
    unfold out0_A_7
    rw [View.read_writes_junk_eq_canon]
    refine View.canon_apply_of_pieces (Val := Elt Ideal) (G7 (arr m c) t.val) _ ?_ y (cover0_A_7 _ _ _ _ _ _ _ _ _ _ _ _ _ _ _ _ _ _ _ _ _ _ _ _ _ _ _ y)
    rw [runA_s]
    exact pieces7 (holds m c t) (tlt t) (startA m c t h0)
  · rw [outsAt0_B m c t h0]
    dsimp only
    unfold out0_B_7
    rw [View.read_writes_junk_eq_canon]
    refine View.canon_apply_of_pieces (Val := Elt Ideal) (G7 (arr m c) t.val) _ ?_ y (cover0_B_7 _ _ _ _ _ _ _ _ _ _ _ _ _ _ _ _ _ _ _ _ _ _ _ _ _ _ _ _ y)
    rw [runB_s]
    exact pieces7 (holds m c t) (tlt t) (startB m c t h0)

/-! ## The whole arrays -/

/-- The first result. -/
def O6 (A : Arr) (x : S4096x512.Idx) : EReal :=
  A.dvn ⟨(x 0).val / 64, by have : (x 0).val < 4096 := (x 0).isLt; omega⟩ (A.st (63 - (x 0).val / 64))
    ⟨(x 1).val / 128, by have : (x 1).val < 512 := (x 1).isLt; omega⟩ ⟨(x 0).val % 64, by omega⟩ ⟨(x 1).val % 128, by omega⟩
/-- The second result. -/
def O7 (A : Arr) (x : S64x4x128x128.Idx) : EReal := A.st (63 - (x 0).val) (x 1) (x 2) (x 3)

theorem array6 : (dats m 0 c).arrAt 6 cfg0.N = (O6 (arr m c) : FVec Ideal S4096x512 .f32) := by
  refine (dats m 0 c).arrAt_eq_of_covers 6 _ (by decide +kernel) fun t hf y => ?_
  blk_simp
  rw [after0_6]
  refine (block6 m c t y).trans ?_
  have ht := tlt t
  have h0 : (y 0).val < 512 := (y 0).isLt
  have h1 : (y 1).val < 512 := (y 1).isLt
  have hi := ix6' t
  unfold G6 O6
  refine dvn_congr ?_ (congrArg (arr m c).st ?_) ?_ ?_ ?_ <;> blk_simp [hi] <;> simp <;> omega

theorem array7 : (dats m 0 c).arrAt 7 cfg0.N = (O7 (arr m c) : FVec Ideal S64x4x128x128 .bf16) := by
  refine (dats m 0 c).arrAt_eq_of_covers 7 _ (by decide +kernel) fun t hf y => ?_
  blk_simp
  rw [after0_7]
  refine (block7 m c t y).trans ?_
  have ht := tlt t
  have h0 : (y 0).val < 8 := (y 0).isLt
  have hi := ix7' t
  unfold G7 O7
  refine st_congr ?_ ?_ ?_ ?_ <;> blk_simp [hi] <;> simp <;> omega

end Cert.KerRun

end
-- ==== Proof.RefRun.lean ====
/-
  The reference's loop over the chunks: what one trip makes of the carried arrays, element by element, and that the
  state after `j` trips is `Arr.st j`, with the rows of the two stacked results written so far.
-/
module

public import proofs.«01_k».proof.Proof.Spec
public import proofs.«01_k».proof.Proof.Gen.ReferenceIdeal.Run
public import proofs.«01_k».proof.Proof.Gen.ReferenceIdeal.Step
public import Idealize.ShloMosaic.Lib.WordCmp

@[expose] public section

set_option maxRecDepth 16384

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.Spec Idealize.ShloMosaic.WordCmp

/-! ## One trip, as functions of arrays -/

abbrev W : Type := (⟨S_, .i32⟩ : BufTy).Contents (Elt Ideal)

/-- Where the trip's chunk begins in a stacked array. -/
def at4 (w : W) : Fin 4 → Int :=
  fun k => (((![w, constantI S_ 32 0#32, constantI S_ 32 0#32, constantI S_ 32 0#32] : Fin 4 → W)) k (Shape.Idx.first h_S_)).toInt

/-- The number of the trip's chunk, as the loop computes it. -/
def chunkW (n : W) : W := subi (subi (constantI S_ 32 64#32) n) (constantI S_ 32 1#32)

def cutW (w : W) (x : FVec Ideal S64x4x64x128 .f32) : FVec Ideal S4x64x128 .f32 :=
  shapeCast S4x64x128 (Host.dynamicSlice S1x4x64x128 x (at4 w) sliceFits_S64x4x64x128_S1x4x64x128) shapeCasts_S1x4x64x128_S4x64x128
def cutA (w : W) (x : FVec Ideal S64x4x64x64 .f32) : FVec Ideal S4x64x64 .f32 :=
  shapeCast S4x64x64 (Host.dynamicSlice S1x4x64x64 x (at4 w) sliceFits_S64x4x64x64_S1x4x64x64) shapeCasts_S1x4x64x64_S4x64x64
def cutG (w : W) (x : FVec Ideal S64x4x1x1 .f32) : FVec Ideal S4x1x1 .f32 :=
  shapeCast S4x1x1 (Host.dynamicSlice S1x4x1x1 x (at4 w) sliceFits_S64x4x1x1_S1x4x1x1) shapeCasts_S1x4x1x1_S4x1x1

def dvnF (s : FVec Ideal S4x128x128 .f32) (o k : FVec Ideal S4x64x128 .f32) (a : FVec Ideal S4x64x64 .f32) : FVec Ideal S4x64x128 .f32 :=
  addf (transpose S4x64x128 [0, 2, 1] (Host.dotGeneral dot_S4x128x128_S4x64x128_S4x128x64_1_2_2_1_0_0 none s k) transposes_S4x128x64_S4x64x128_0_2_1)
    (transpose S4x64x128 [0, 2, 1] (Host.dotGeneral dot_S4x64x128_S4x64x64_S4x128x64_1_1_2_2_0_0 none o a) transposes_S4x128x64_S4x64x128_0_2_1)

def nxtF (s : FVec Ideal S4x128x128 .f32) (t : FVec Ideal S4x1x1 .f32) (o q w v : FVec Ideal S4x64x128 .f32) : FVec Ideal S4x128x128 .f32 :=
  addf (addf (mulf s (broadcastInDim S4x128x128 ![0, 1, 2] bcast_S4x1x1_S4x128x128_0_1_2 t))
      (transpose S4x128x128 [0, 2, 1] (Host.dotGeneral dot_S4x64x128_S4x64x128_S4x128x128_1_1_2_2_0_0 none o q) transposes_S4x128x128_S4x128x128_0_2_1))
    (transpose S4x128x128 [0, 2, 1] (Host.dotGeneral dot_S4x64x128_S4x64x128_S4x128x128_1_1_2_2_0_0 none (Host.negf v) w) transposes_S4x128x128_S4x128x128_0_2_1)

def putV (w : W) (x : FVec Ideal S64x4x64x128 .f32) (v : FVec Ideal S4x64x128 .f32) : FVec Ideal S64x4x64x128 .f32 :=
  Host.dynamicUpdateSlice x (broadcastInDim S1x4x64x128 ![1, 2, 3] bcast_S4x64x128_S1x4x64x128_1_2_3 v) (at4 w) updateFits_S64x4x64x128_S1x4x64x128
def putS (w : W) (x : FVec Ideal S64x4x128x128 .f32) (v : FVec Ideal S4x128x128 .f32) : FVec Ideal S64x4x128x128 .f32 :=
  Host.dynamicUpdateSlice x (broadcastInDim S1x4x128x128 ![1, 2, 3] bcast_S4x128x128_S1x4x128x128_1_2_3 v) (at4 w) updateFits_S64x4x128x128_S1x4x128x128

theorem chunkW_eq (j : ℕ) (hj : j < 64) : chunkW (constantI S_ 32 (BitVec.ofNat 32 j)) = constantI S_ 32 (BitVec.ofNat 32 (63 - j)) := by
  funext i
  show (64#32 - BitVec.ofNat 32 j) - 1#32 = BitVec.ofNat 32 (63 - j)
  revert hj; revert j; decide +kernel

theorem at4_eq (n : ℕ) (hn : n < 64) (k : Fin 4) : at4 (constantI S_ 32 (BitVec.ofNat 32 n)) k = ((![n, 0, 0, 0] : Fin 4 → ℕ) k : Int) := by
  match k with
  | 0 => show (BitVec.ofNat 32 n).toInt = (n : Int)
         exact toInt_ofNat_of_lt (by omega)
  | 1 => rfl
  | 2 => rfl
  | 3 => rfl

theorem cutW_apply (n : Fin 64) (x : FVec Ideal S64x4x64x128 .f32) (h : Fin 4) (r : Fin 64) (d : Fin 128) :
    cutW (constantI S_ 32 (BitVec.ofNat 32 n.val)) x (ix3 h r d) = x (ix4 n h r d) := by
  have hk : S64x4x64x128.Slices ![n.val, 0, 0, 0] S1x4x64x128 := ⟨rfl, by intro a; fin_cases a <;> simp [S64x4x64x128, S1x4x64x128] <;> omega⟩
  unfold cutW
  rw [dynamicSlice_eq_extract _ _ _ _ ![n.val, 0, 0, 0] hk (at4_eq n.val n.isLt)]
  pointwise
theorem cutA_apply (n : Fin 64) (x : FVec Ideal S64x4x64x64 .f32) (h : Fin 4) (r d : Fin 64) :
    cutA (constantI S_ 32 (BitVec.ofNat 32 n.val)) x (ix3 h r d) = x (ix4 n h r d) := by
  have hk : S64x4x64x64.Slices ![n.val, 0, 0, 0] S1x4x64x64 := ⟨rfl, by intro a; fin_cases a <;> simp [S64x4x64x64, S1x4x64x64] <;> omega⟩
  unfold cutA
  rw [dynamicSlice_eq_extract _ _ _ _ ![n.val, 0, 0, 0] hk (at4_eq n.val n.isLt)]
  pointwise
theorem cutG_apply (n : Fin 64) (x : FVec Ideal S64x4x1x1 .f32) (h : Fin 4) :
    cutG (constantI S_ 32 (BitVec.ofNat 32 n.val)) x (ix3 h 0 0) = x (ix4 n h 0 0) := by
  have hk : S64x4x1x1.Slices ![n.val, 0, 0, 0] S1x4x1x1 := ⟨rfl, by intro a; fin_cases a <;> simp [S64x4x1x1, S1x4x1x1] <;> omega⟩
  unfold cutG
  rw [dynamicSlice_eq_extract _ _ _ _ ![n.val, 0, 0, 0] hk (at4_eq n.val n.isLt)]
  pointwise

theorem dvnF_apply (s : FVec Ideal S4x128x128 .f32) (o k : FVec Ideal S4x64x128 .f32) (a : FVec Ideal S4x64x64 .f32)
    (h : Fin 4) (r : Fin 64) (e : Fin 128) :
    dvnF s o k a (ix3 h r e) = (∑ d : Fin 128, s (ix3 h d e) * k (ix3 h r d)) + ∑ j : Fin 64, o (ix3 h j e) * a (ix3 h j r) := by
  pointwise [dvnF]

theorem nxtF_apply (s : FVec Ideal S4x128x128 .f32) (t : FVec Ideal S4x1x1 .f32) (o q w v : FVec Ideal S4x64x128 .f32)
    (h : Fin 4) (d e : Fin 128) :
    nxtF s t o q w v (ix3 h d e) = (s (ix3 h d e) * t (ix3 h 0 0) + ∑ r : Fin 64, o (ix3 h r e) * q (ix3 h r d))
      + ∑ r : Fin 64, -v (ix3 h r e) * w (ix3 h r d) := by
  pointwise [nxtF]

theorem put_if (n n' : Fin 64) (x y : EReal) : (if _ : n.val ≤ n'.val ∧ n'.val < n.val + 1 then x else y) = if n' = n then x else y := by
  by_cases e : n' = n
  · rw [if_pos e, dif_pos (by rw [e]; omega)]
  · rw [if_neg e, dif_neg (by intro ⟨h1, h2⟩; exact e (Fin.ext (by omega)))]

theorem putV_apply (n : Fin 64) (x : FVec Ideal S64x4x64x128 .f32) (v : FVec Ideal S4x64x128 .f32) (n' : Fin 64) (h : Fin 4)
    (r : Fin 64) (d : Fin 128) :
    putV (constantI S_ 32 (BitVec.ofNat 32 n.val)) x v (ix4 n' h r d) = if n' = n then v (ix3 h r d) else x (ix4 n' h r d) := by
  have hk : S64x4x64x128.Slices ![n.val, 0, 0, 0] S1x4x64x128 := ⟨rfl, by intro a; fin_cases a <;> simp [S64x4x64x128, S1x4x64x128] <;> omega⟩
  unfold putV
  rw [dynamicUpdateSlice_eq_update _ _ _ _ ![n.val, 0, 0, 0] hk (at4_eq n.val n.isLt)]
  pointwise
  exact put_if n n' _ _
theorem putS_apply (n : Fin 64) (x : FVec Ideal S64x4x128x128 .f32) (v : FVec Ideal S4x128x128 .f32) (n' : Fin 64) (h : Fin 4)
    (r : Fin 128) (d : Fin 128) :
    putS (constantI S_ 32 (BitVec.ofNat 32 n.val)) x v (ix4 n' h r d) = if n' = n then v (ix3 h r d) else x (ix4 n' h r d) := by
  have hk : S64x4x128x128.Slices ![n.val, 0, 0, 0] S1x4x128x128 := ⟨rfl, by intro a; fin_cases a <;> simp [S64x4x128x128, S1x4x128x128] <;> omega⟩
  unfold putS
  rw [dynamicUpdateSlice_eq_update _ _ _ _ ![n.val, 0, 0, 0] hk (at4_eq n.val n.isLt)]
  pointwise
  exact put_if n n' _ _

/-! ## The trips -/

variable (A : Arr)

/-- What the loop's buffers hold before trip `j`. -/
structure Inv (V0 : Valuation τ sig (Elt Ideal)) (j : ℕ) : Prop where
  s : ∀ h d e, (V0 (Proc.devRef .tc main_v34_7) : FVec Ideal S4x128x128 .f32) (ix3 h d e) = A.st j h d e
  v : ∀ (n : Fin 64) h r e, 64 ≤ n.val + j → (V0 (Proc.devRef .tc main_v34_8) : FVec Ideal S64x4x64x128 .f32) (ix4 n h r e) = A.dvn n (A.st (63 - n.val)) h r e
  t : ∀ (n : Fin 64) h d e, 64 ≤ n.val + j → (V0 (Proc.devRef .tc main_v34_9) : FVec Ideal S64x4x128x128 .f32) (ix4 n h d e) = A.st (63 - n.val) h d e
  o : ∀ n h r e, (V0 (Proc.devRef .tc main_v34_0) : FVec Ideal S64x4x64x128 .f32) (ix4 n h r e) = A.oc n h r e
  g : ∀ n h, (V0 (Proc.devRef .tc main_v34_1) : FVec Ideal S64x4x1x1 .f32) (ix4 n h 0 0) = A.gt n h
  k : ∀ n h r e, (V0 (Proc.devRef .tc main_v34_2) : FVec Ideal S64x4x64x128 .f32) (ix4 n h r e) = A.kd n h r e
  w : ∀ n h r e, (V0 (Proc.devRef .tc main_v34_3) : FVec Ideal S64x4x64x128 .f32) (ix4 n h r e) = A.wc n h r e
  q : ∀ n h r e, (V0 (Proc.devRef .tc main_v34_4) : FVec Ideal S64x4x64x128 .f32) (ix4 n h r e) = A.qd n h r e
  a : ∀ n h j r, (V0 (Proc.devRef .tc main_v34_5) : FVec Ideal S64x4x64x64 .f32) (ix4 n h j r) = A.ac n h j r
  n : V0 (Proc.devRef .tc main_v34_6) = constantI S_ 32 (BitVec.ofNat 32 j)

/-- The trip's cotangent of the new values. -/
def dvnV (V0 : Valuation τ sig (Elt Ideal)) : FVec Ideal S4x64x128 .f32 :=
  dvnF (V0 (Proc.devRef .tc main_v34_7)) (cutW (chunkW (V0 (Proc.devRef .tc main_v34_6))) (V0 (Proc.devRef .tc main_v34_0)))
    (cutW (chunkW (V0 (Proc.devRef .tc main_v34_6))) (V0 (Proc.devRef .tc main_v34_2)))
    (cutA (chunkW (V0 (Proc.devRef .tc main_v34_6))) (V0 (Proc.devRef .tc main_v34_5)))

theorem dvnV_eq (V0 : Valuation τ sig (Elt Ideal)) : res_main_while0b_v52 V0 = dvnV V0 := rfl

theorem step7 (V0 : Valuation τ sig (Elt Ideal)) : step_main_v34_7 V0 = nxtF (V0 (Proc.devRef .tc main_v34_7))
    (cutG (chunkW (V0 (Proc.devRef .tc main_v34_6))) (V0 (Proc.devRef .tc main_v34_1)))
    (cutW (chunkW (V0 (Proc.devRef .tc main_v34_6))) (V0 (Proc.devRef .tc main_v34_0)))
    (cutW (chunkW (V0 (Proc.devRef .tc main_v34_6))) (V0 (Proc.devRef .tc main_v34_4)))
    (cutW (chunkW (V0 (Proc.devRef .tc main_v34_6))) (V0 (Proc.devRef .tc main_v34_3))) (dvnV V0) := rfl

theorem step8 (V0 : Valuation τ sig (Elt Ideal)) : step_main_v34_8 V0 =
    putV (chunkW (V0 (Proc.devRef .tc main_v34_6))) (V0 (Proc.devRef .tc main_v34_8)) (dvnV V0) := by
  unfold step_main_v34_8 putV at4
  rw [id, ← dvnV_eq]
  rfl
theorem step9 (V0 : Valuation τ sig (Elt Ideal)) : step_main_v34_9 V0 =
    putS (chunkW (V0 (Proc.devRef .tc main_v34_6))) (V0 (Proc.devRef .tc main_v34_9)) (V0 (Proc.devRef .tc main_v34_7)) := by
  unfold step_main_v34_9 putS at4
  rw [id]
  rfl

variable {A}

theorem Inv.word {V0 : Valuation τ sig (Elt Ideal)} {j : ℕ} (I : Inv A V0 j) (hj : j < 64) :
    chunkW (V0 (Proc.devRef .tc main_v34_6)) = constantI S_ 32 (BitVec.ofNat 32 (rev j).val) := by
  rw [I.n]; exact chunkW_eq j hj

theorem Inv.dvnV {V0 : Valuation τ sig (Elt Ideal)} {j : ℕ} (I : Inv A V0 j) (hj : j < 64) (h : Fin 4) (r : Fin 64) (e : Fin 128) :
    dvnV V0 (ix3 h r e) = A.dvn (rev j) (A.st j) h r e := by
  unfold RefRun.dvnV
  rw [← Arr.rvn_eq, dvnF_apply, I.word hj]
  unfold Arr.rvn
  refine congrArg₂ (· + ·) (Finset.sum_congr rfl fun d _ => ?_) (Finset.sum_congr rfl fun d _ => ?_)
  · rw [cutW_apply, I.s, I.k]
  · rw [cutW_apply, cutA_apply, I.o, I.a]

theorem Inv.step (hA : A.Fin') {V0 : Valuation τ sig (Elt Ideal)} {j : ℕ} (I : Inv A V0 j) (hj : j < 64) : Inv A (STEP V0) (j + 1) where
  s h d e := by
    rw [STEP_main_v34_7, step7, nxtF_apply, I.word hj]
    show _ = A.nxt (rev j) (A.st j) h d e
    rw [← hA.rnx_eq (rev j) (hA.st j)]
    unfold Arr.rnx
    rw [cutG_apply, I.s, I.g, Arr.rvn_eq]
    refine congrArg₂ (· + ·) (congrArg₂ (· + ·) rfl (Finset.sum_congr rfl fun r _ => ?_)) (Finset.sum_congr rfl fun r _ => ?_)
    · rw [cutW_apply, cutW_apply, I.o, I.q]
    · rw [cutW_apply, I.dvnV hj, I.w]
  v n h r e hn := by
    rw [STEP_main_v34_8, step8, I.word hj, putV_apply]
    split
    · next hc =>
      rw [I.dvnV hj, hc]
      have : 63 - (rev j).val = j := by show 63 - (63 - j) = j; omega
      rw [this]
    · next hc =>
      refine I.v n h r e ?_
      have : n.val ≠ 63 - j := fun c => hc (Fin.ext c)
      omega
  t n h d e hn := by
    rw [STEP_main_v34_9, step9, I.word hj, putS_apply]
    split
    · next hc =>
      rw [I.s, hc]
      have : 63 - (rev j).val = j := by show 63 - (63 - j) = j; omega
      rw [this]
    · next hc =>
      refine I.t n h d e ?_
      have : n.val ≠ 63 - j := fun c => hc (Fin.ext c)
      omega
  o n h r e := by rw [STEP_main_v34_0]; exact I.o n h r e
  g n h := by rw [STEP_main_v34_1]; exact I.g n h
  k n h r e := by rw [STEP_main_v34_2]; exact I.k n h r e
  w n h r e := by rw [STEP_main_v34_3]; exact I.w n h r e
  q n h r e := by rw [STEP_main_v34_4]; exact I.q n h r e
  a n h r e := by rw [STEP_main_v34_5]; exact I.a n h r e
  n := by
    rw [STEP_main_v34_6]
    unfold step_main_v34_6
    rw [I.n]
    funext i
    show BitVec.ofNat 32 j + 1#32 = BitVec.ofNat 32 (j + 1)
    rw [BitVec.ofNat_add]

/-! ## Before the loop and after it -/

variable (m : (ℓ : Loc nD τ sig) → Buf (Elt Ideal) ℓ) (c : Dev nD)

/-- The six arrays of the run's memory. -/
def arr : Arr where
  q := m ((c.tc : Thread nD τ).loc main_arg0)
  k := m ((c.tc : Thread nD τ).loc main_arg1)
  w := m ((c.tc : Thread nD τ).loc main_arg2)
  a := m ((c.tc : Thread nD τ).loc main_arg3)
  g := m ((c.tc : Thread nD τ).loc main_arg4)
  o := m ((c.tc : Thread nD τ).loc main_arg5)

section
open Cert.ReferenceIdeal.Step

variable (x0 x1 : FVec Ideal S4096x512 .f32) (x2 : FVec Ideal S4096x512 .bf16) (x3 : FVec Ideal S4096x256 .f32)
  (x4 : FVec Ideal S4096x128 .f32) (x5 : FVec Ideal S4096x512 .bf16)

theorem idx2_eq {a b : ℕ} {r r' : Fin a} {c c' : Fin b} (h : r.val = r'.val) (h' : c.val = c'.val) :
    (ix2 r c : Shape.Idx ⟨2, ![a, b]⟩) = ix2 r' c' := by rw [Fin.ext h, Fin.ext h']

theorem v2_apply (n : Fin 64) (h : Fin 4) (r : Fin 64) :
    (A_main_v2 (F := Ideal) x0 x1 x2 x3 x4 x5 : FVec Ideal S64x4x64 .f32) (ix3 n h r) = x4 (ix2 (row n r) (gcol h)) := by
  pointwise [A_main_v2, A_main_v1, A_main_v0]
  exact congrArg x4 (idx2_eq (by show n.val * 64 + r.val = 64 * n.val + r.val; omega) rfl)

theorem split4 {φ : FTy} (x : FVec Ideal S4096x512 φ) (n : Fin 64) (h : Fin 4) (r : Fin 64) (e : Fin 128) :
    (transpose S64x4x64x128 [0, 2, 1, 3] (shapeCast S64x64x4x128 x shapeCasts_S4096x512_S64x64x4x128) transposes_S64x64x4x128_S64x4x64x128_0_2_1_3)
      (ix4 n h r e) = x (ix2 (row n r) (col h e)) := by
  pointwise
  exact congrArg x (idx2_eq (by show n.val * 64 + r.val = 64 * n.val + r.val; omega) (by show h.val * 128 + e.val = 128 * h.val + e.val; omega))
theorem split4a {φ : FTy} (x : FVec Ideal S4096x256 φ) (n : Fin 64) (h : Fin 4) (r e : Fin 64) :
    (transpose S64x4x64x64 [0, 2, 1, 3] (shapeCast S64x64x4x64 x shapeCasts_S4096x256_S64x64x4x64) transposes_S64x64x4x64_S64x4x64x64_0_2_1_3)
      (ix4 n h r e) = x (ix2 (row n r) (colc h e)) := by
  pointwise
  exact congrArg x (idx2_eq (by show n.val * 64 + r.val = 64 * n.val + r.val; omega) (by show h.val * 64 + e.val = 64 * h.val + e.val; omega))

theorem v14_apply (n : Fin 64) (h : Fin 4) (r : Fin 64) (e : Fin 128) :
    (A_main_v14 (F := Ideal) x0 x1 x2 x3 x4 x5 : FVec Ideal S64x4x64x128 .f32) (ix4 n h r e) = x5 (ix2 (row n r) (col h e)) :=
  split4 (φ := .f32) _ n h r e
theorem v9_apply (n : Fin 64) (h : Fin 4) (r : Fin 64) (e : Fin 128) :
    (A_main_v9 (F := Ideal) x0 x1 x2 x3 x4 x5 : FVec Ideal S64x4x64x128 .f32) (ix4 n h r e) = x2 (ix2 (row n r) (col h e)) :=
  split4 (φ := .f32) _ n h r e
theorem v11_apply (n : Fin 64) (h : Fin 4) (r e : Fin 64) :
    (A_main_v11 (F := Ideal) x0 x1 x2 x3 x4 x5 : FVec Ideal S64x4x64x64 .f32) (ix4 n h r e) = x3 (ix2 (row n r) (colc h e)) :=
  split4a (φ := .f32) _ n h r e
theorem v18_apply (n : Fin 64) (h : Fin 4) (r : Fin 64) (e : Fin 128) :
    (A_main_v18 (F := Ideal) x0 x1 x2 x3 x4 x5 : FVec Ideal S64x4x64x128 .f32) (ix4 n h r e)
      = x0 (ix2 (row n r) (col h e)) * Ideal.exp (x4 (ix2 (row n r) (gcol h))) := by
  rw [← v2_apply x0 x1 x2 x3 x4 x5, ← split4 x0]
  unfold A_main_v18 A_main_v17 A_main_v16 A_main_v15 A_main_v4 A_main_v3
  generalize A_main_v2 (F := Ideal) x0 x1 x2 x3 x4 x5 = g
  generalize transpose _ _ _ _ = y
  pointwise
theorem v25_apply (n : Fin 64) (h : Fin 4) (r : Fin 64) (e : Fin 128) :
    (A_main_v25 (F := Ideal) x0 x1 x2 x3 x4 x5 : FVec Ideal S64x4x64x128 .f32) (ix4 n h r e)
      = x1 (ix2 (row n r) (col h e)) * Ideal.exp (x4 (ix2 (row n 63) (gcol h)) - x4 (ix2 (row n r) (gcol h))) := by
  rw [← v2_apply x0 x1 x2 x3 x4 x5, ← v2_apply x0 x1 x2 x3 x4 x5, ← split4 x1]
  unfold A_main_v25 A_main_v24 A_main_v23 A_main_v22 A_main_v21 A_main_v20 A_main_v19 A_main_v6 A_main_v5
  generalize A_main_v2 (F := Ideal) x0 x1 x2 x3 x4 x5 = g
  generalize transpose _ _ _ _ = y
  pointwise
theorem v29_apply (n : Fin 64) (h : Fin 4) :
    (A_main_v29 (F := Ideal) x0 x1 x2 x3 x4 x5 : FVec Ideal S64x4x1x1 .f32) (ix4 n h 0 0) = Ideal.exp (x4 (ix2 (row n 63) (gcol h))) := by
  rw [← v2_apply x0 x1 x2 x3 x4 x5]
  unfold A_main_v29 A_main_v28 A_main_v27 A_main_v26
  generalize A_main_v2 (F := Ideal) x0 x1 x2 x3 x4 x5 = g
  pointwise
end

theorem entry0 : entryContents preI m c (Proc.devRef .tc main_v34_0) = Step.A_main_v14 (arr m c).q (arr m c).k (arr m c).w (arr m c).a (arr m c).g (arr m c).o := by
  simp only [entryContents, afterL_cons, afterL_nil]
  after_reads_simp
  rfl
theorem entry1 : entryContents preI m c (Proc.devRef .tc main_v34_1) = Step.A_main_v29 (arr m c).q (arr m c).k (arr m c).w (arr m c).a (arr m c).g (arr m c).o := by
  simp only [entryContents, afterL_cons, afterL_nil]
  after_reads_simp
  rfl
theorem entry2 : entryContents preI m c (Proc.devRef .tc main_v34_2) = Step.A_main_v25 (arr m c).q (arr m c).k (arr m c).w (arr m c).a (arr m c).g (arr m c).o := by
  simp only [entryContents, afterL_cons, afterL_nil]
  after_reads_simp
  rfl
theorem entry3 : entryContents preI m c (Proc.devRef .tc main_v34_3) = Step.A_main_v9 (arr m c).q (arr m c).k (arr m c).w (arr m c).a (arr m c).g (arr m c).o := by
  simp only [entryContents, afterL_cons, afterL_nil]
  after_reads_simp
  rfl
theorem entry4 : entryContents preI m c (Proc.devRef .tc main_v34_4) = Step.A_main_v18 (arr m c).q (arr m c).k (arr m c).w (arr m c).a (arr m c).g (arr m c).o := by
  simp only [entryContents, afterL_cons, afterL_nil]
  after_reads_simp
  rfl
theorem entry5 : entryContents preI m c (Proc.devRef .tc main_v34_5) = Step.A_main_v11 (arr m c).q (arr m c).k (arr m c).w (arr m c).a (arr m c).g (arr m c).o := by
  simp only [entryContents, afterL_cons, afterL_nil]
  after_reads_simp
  rfl
theorem entry7 : entryContents preI m c (Proc.devRef .tc main_v34_7) = Step.K_main_v31 := by
  simp only [entryContents, afterL_cons, afterL_nil]
  after_reads_simp
  rfl

theorem entry_inv : Inv (arr m c) (entryContents preI m c) 0 where
  s h d e := by
    rw [entry7]
    show (Step.K_main_v31 (F := Ideal) : FVec Ideal S4x128x128 .f32) (ix3 h d e) = 0
    pointwise [Step.K_main_v31, Step.K_main_cst_0]
  v n h r e hn := absurd hn (by omega)
  t n h d e hn := absurd hn (by omega)
  o n h r e := by rw [entry0]; exact v14_apply _ _ _ _ _ _ n h r e
  g n h := by rw [entry1]; exact v29_apply _ _ _ _ _ _ n h
  k n h r e := by rw [entry2]; exact v25_apply _ _ _ _ _ _ n h r e
  w n h r e := by rw [entry3]; exact v9_apply _ _ _ _ _ _ n h r e
  q n h r e := by rw [entry4]; exact v18_apply _ _ _ _ _ _ n h r e
  a n h j r := by rw [entry5]; exact v11_apply _ _ _ _ _ _ n h j r
  n := ctr_entry m c

theorem inv_iter (hA : (arr m c).Fin') : ∀ j, j ≤ 64 → Inv (arr m c) (STEP^[j] (entryContents preI m c)) j
  | 0, _ => entry_inv m c
  | j + 1, hj => by
    rw [Function.iterate_succ_apply']
    exact (inv_iter hA j (by omega)).step hA (by omega)

/-- The cotangents of the chunks' new values, as the result holds them. -/
def outV (A : Arr) (x : Fin 4096) (y : Fin 512) : EReal :=
  A.dvn ⟨x.val / 64, by omega⟩ (A.st (63 - x.val / 64)) ⟨y.val / 128, by omega⟩ ⟨x.val % 64, by omega⟩ ⟨y.val % 128, by omega⟩

theorem out36 (hA : (arr m c).Fin') (x : Fin 4096) (y : Fin 512) :
    (out_main_v36 (STEP^[64] (entryContents preI m c)) : FVec Ideal S4096x512 .f32) (ix2 x y) = outV (arr m c) x y := by
  have I := inv_iter m c hA 64 le_rfl
  unfold outV
  rw [← I.v ⟨x.val / 64, by omega⟩ _ _ _ (by omega)]
  unfold out_main_v36
  generalize (STEP^[64] (entryContents preI m c)) (Proc.devRef .tc main_v34_8) = z
  change FVec Ideal S64x4x64x128 .f32 at z
  pointwise

theorem out37 (hA : (arr m c).Fin') (n : Fin 64) (h : Fin 4) (d e : Fin 128) :
    (out_main_v37 (STEP^[64] (entryContents preI m c)) : FVec Ideal S64x4x128x128 .bf16) (ix4 n h d e) = (arr m c).st (63 - n.val) h d e :=
  (inv_iter m c hA 64 le_rfl).t n h d e (by omega)

end Cert.RefRun

end
-- ==== Proof.Finite.lean ====
/-
  The precondition read back: where `finite` is all ones, each of the six arrays holds real numbers.
-/
module

public import proofs.«01_k».proof.Pre_finite
public import proofs.«01_k».proof.Proof.Spec
public import Idealize.ShloMosaic.Lib.ReduceAll

@[expose] public section

set_option maxRecDepth 16384

noncomputable section

namespace Cert.Finite

open Idealize.ShloMosaic Cert.Pre_finite Cert.Spec

theorem facts : Cert.Pre_finite.Facts where
  bcast_S_S4096x512 := by decide
  reducesTo_S4096x512_S_d0_1 := by decide
  h_S_ := by decide
  bitsLt_bf16_f32 := by decide
  bcast_S_S4096x256 := by decide
  reducesTo_S4096x256_S_d0_1 := by decide
  bcast_S_S4096x128 := by decide
  reducesTo_S4096x128_S_d0_1 := by decide

/-- A number whose absolute value is below infinity is real. -/
theorem real_of_lt {x : EReal} (h : max x (-x) < ⊤) : Real' x := by
  induction x with
  | bot => simp at h
  | top => simp at h
  | coe r => exact ⟨r, rfl⟩

theorem elt {S : Shape} {φ : FTy} (x : FVec Ideal S φ) (i : S.Idx) (T : FVec Ideal S φ) (hT : T i = (⊤ : EReal))
    (h : cmpf .olt (Host.absf x) T i = 1#1) : Real' (x i) := by
  have h0 : Ideal.cmp .olt (max (x i) (-(x i))) (T i) = 1#1 := h
  rw [hT] at h0
  refine real_of_lt ?_
  by_contra hn
  simp [Ideal.cmp, hn] at h0

theorem inf_top {S : Shape} (hb : S_.BroadcastsInDim S (![] : Fin 0 → Fin S.rank)) (i : S.Idx) :
    (broadcastInDim S ![] hb (constant S_ .f32 0x7F800000#32 : FVec Ideal S_ .f32) : FVec Ideal S .f32) i = (⊤ : EReal) := by
  show Ideal.ofBits .f32 0x7F800000#32 = ⊤
  simp [Ideal.ofBits, Ideal.ieee]

variable [Cert.Pre_finite.Facts]

instance : Subsingleton S_.Idx := ⟨fun a b => funext fun k => k.elim0⟩

theorem all {S : Shape} (x : FVec Ideal S .f32) (hb : S_.BroadcastsInDim S (![] : Fin 0 → Fin S.rank)) {axes : List (Fin S.rank)}
    (hr : S.ReducesTo axes S_) (hu : 0 < S_.numel) (j : S_.Idx)
    (e : Host.reduce IntOp.andi (cmpf .olt (Host.absf x) (broadcastInDim S ![] hb (constant S_ .f32 0x7F800000#32 : FVec Ideal S_ .f32)))
      (constantI S_ 1 1#1) hr hu j = 1#1) (i : S.Idx) : Real' (x i) :=
  elt x i _ (inf_top hb i) (Host.reduce_andi_all _ _ hr hu j e i)

/-- The precondition gives real numbers everywhere. -/
theorem of_fn (x0 x1 : FVec Ideal S4096x512 .f32) (x2 : FVec Ideal S4096x512 .bf16) (x3 : FVec Ideal S4096x256 .f32) (x4 : FVec Ideal S4096x128 .f32)
    (x5 : FVec Ideal S4096x512 .bf16) (h : ∀ j, fn x0 x1 x2 x3 x4 x5 j = 1#1) :
    Arr.Fin' { q := x0, k := x1, w := x2, a := x3, g := x4, o := x5 } := by
  have hj := h (fun k => k.elim0)
  unfold fn fn_part1 at hj
  dsimp only at hj
  obtain ⟨h4, h5⟩ := IntOp.andi_eq_one.1 hj
  obtain ⟨h3, h4⟩ := IntOp.andi_eq_one.1 h4
  obtain ⟨h2, h3⟩ := IntOp.andi_eq_one.1 h3
  obtain ⟨h1, h2⟩ := IntOp.andi_eq_one.1 h2
  obtain ⟨h0, h1⟩ := IntOp.andi_eq_one.1 h1
  exact ⟨all _ _ _ _ _ h0, all _ _ _ _ _ h1, all (extf .f32 x2 _) _ _ _ _ h2, all _ _ _ _ _ h3, all _ _ _ _ _ h4, all (extf .f32 x5 _) _ _ _ _ h5⟩

end Cert.Finite

end
-- ==== Proof.Cols.lean ====
/-
  The order in which the kernel keeps the 3336 columns of the layer's input projection: the columns 0–2047, 2056–2567, 2824–3335,
  2568–2695, 2696–2823 and 2048–2055 of the model's order, followed by 120 columns of zeros. `pick f r` is the entry of `f` that the
  kernel's position `r` holds.
-/
module

public import Idealize.ShloMosaic.Lib.Pointwise

@[expose] public section

noncomputable section

namespace Cert.Cols

/-- What position `r` of the kernel's order holds. -/
def pick (f : Fin 3336 → EReal) (r : Fin 3456) : EReal :=
  if h : r.val < 2048 then f ⟨r.val, by omega⟩
  else if h : r.val - 2048 < 512 then f ⟨2056 + (r.val - 2048), by omega⟩
  else if h : r.val - 2048 - 512 < 512 then f ⟨2824 + (r.val - 2048 - 512), by omega⟩
  else if h : r.val - 2048 - 512 - 512 < 128 then f ⟨2568 + (r.val - 2048 - 512 - 512), by omega⟩
  else if h : r.val - 2048 - 512 - 512 - 128 < 128 then f ⟨2696 + (r.val - 2048 - 512 - 512 - 128), by omega⟩
  else if h : r.val - 2048 - 512 - 512 - 128 - 128 < 8 then f ⟨2048 + (r.val - 2048 - 512 - 512 - 128 - 128), by omega⟩
  else 0

/-- The column of the model's order at position `r` of the kernel's. -/
def fwd (r : ℕ) : ℕ :=
  if r < 2048 then r else if r < 2560 then r + 8 else if r < 3072 then r + 264 else if r < 3328 then r - 504 else r - 1280
/-- The position of the kernel's order at which a column of the model's stands. -/
def bwd (k : ℕ) : ℕ :=
  if k < 2048 then k else if k < 2056 then k + 1280 else if k < 2568 then k - 8 else if k < 2824 then k + 504 else k - 264

/-- The two orders of the 3336 columns. -/
def order : Fin 3336 ≃ Fin 3336 where
  toFun r := ⟨fwd r.val, by unfold fwd; split_ifs <;> omega⟩
  invFun k := ⟨bwd k.val, by unfold bwd; split_ifs <;> omega⟩
  left_inv r := by apply Fin.ext; simp only [fwd, bwd]; split_ifs <;> omega
  right_inv k := by apply Fin.ext; simp only [fwd, bwd]; split_ifs <;> omega

theorem pick_of_lt (f : Fin 3336 → EReal) (r : Fin 3336) : pick f ⟨r.val, by omega⟩ = f (order r) := by
  obtain ⟨n, hn⟩ := r
  have hv : (order ⟨n, hn⟩).val = fwd n := rfl
  have hf : ∀ a : ℕ, ∀ h : a < 3336, a = fwd n → f ⟨a, h⟩ = f (order ⟨n, hn⟩) := fun a h e => congrArg f (Fin.ext (e.trans hv.symm))
  clear hv
  unfold pick
  dsimp only
  unfold fwd at hf
  split_ifs with h1 h2 h3 h4 h5 h6
  · exact hf _ _ (by rw [if_pos h1])
  · exact hf _ _ (by rw [if_neg h1, if_pos (by omega)]; omega)
  · exact hf _ _ (by rw [if_neg h1, if_neg (by omega), if_pos (by omega)]; omega)
  · exact hf _ _ (by rw [if_neg h1, if_neg (by omega), if_neg (by omega), if_pos (by omega)]; omega)
  · exact hf _ _ (by rw [if_neg h1, if_neg (by omega), if_neg (by omega), if_pos (by omega)]; omega)
  · exact hf _ _ (by rw [if_neg h1, if_neg (by omega), if_neg (by omega), if_neg (by omega)]; omega)
  · omega

theorem pick_of_ge (f : Fin 3336 → EReal) (r : Fin 3456) (h : 3336 ≤ r.val) : pick f r = 0 := by
  unfold pick
  split_ifs <;> first | omega | rfl

/-- A product summed over the contracted axis is picked after or before the sum. -/
theorem sum_mul_pick {n : ℕ} (x : Fin n → EReal) (w : Fin n → Fin 3336 → EReal) (r : Fin 3456) :
    ∑ k, x k * pick (w k) r = pick (fun c => ∑ k, x k * w k c) r := by
  unfold pick
  split_ifs <;> first | rfl | simp

/-- The same with the factors exchanged. -/
theorem sum_pick_mul {n : ℕ} (x : Fin n → EReal) (w : Fin n → Fin 3336 → EReal) (r : Fin 3456) :
    ∑ k, pick (w k) r * x k = pick (fun c => ∑ k, w k c * x k) r := by
  unfold pick
  split_ifs <;> first | rfl | simp

/-- A sum over the kernel's positions, split as the kernel splits it, is the sum over the model's columns. -/
theorem sum_split (f g : Fin 3336 → EReal) :
    (∑ k : Fin 3072, pick f ⟨k.val, by omega⟩ * pick g ⟨k.val, by omega⟩)
      + (∑ k : Fin 384, pick f ⟨3072 + k.val, by omega⟩ * pick g ⟨3072 + k.val, by omega⟩) = ∑ k, f k * g k := by
  have e1 : (∑ k : Fin (3072 + 384), pick f ⟨k.val, by omega⟩ * pick g ⟨k.val, by omega⟩)
      = (∑ k : Fin 3072, pick f ⟨k.val, by omega⟩ * pick g ⟨k.val, by omega⟩)
      + (∑ k : Fin 384, pick f ⟨3072 + k.val, by omega⟩ * pick g ⟨3072 + k.val, by omega⟩) := Fin.sum_univ_add _
  have e2 : (∑ k : Fin (3336 + 120), pick f ⟨k.val, by omega⟩ * pick g ⟨k.val, by omega⟩)
      = (∑ k : Fin 3336, pick f ⟨k.val, by omega⟩ * pick g ⟨k.val, by omega⟩)
      + (∑ k : Fin 120, pick f ⟨3336 + k.val, by omega⟩ * pick g ⟨3336 + k.val, by omega⟩) := Fin.sum_univ_add _
  have e3 : (∑ k : Fin 120, pick f ⟨3336 + k.val, by omega⟩ * pick g ⟨3336 + k.val, by omega⟩) = 0 :=
    Finset.sum_eq_zero fun k _ => by rw [pick_of_ge f _ (by dsimp only; omega), zero_mul]
  have e4 : (∑ k : Fin 3336, pick f ⟨k.val, by omega⟩ * pick g ⟨k.val, by omega⟩) = ∑ k, f k * g k := by
    simp only [pick_of_lt]
    exact Equiv.sum_comp order fun k => f k * g k
  rw [← e1, ← e4, ← add_zero (∑ k : Fin 3336, pick f ⟨k.val, by omega⟩ * pick g ⟨k.val, by omega⟩), ← e3, ← e2]

/-- The first 3072 positions. -/
theorem pick_main (f : Fin 3336 → EReal) (r : Fin 3072) : pick f ⟨r.val, by omega⟩
    = if h : r.val < 2048 then f ⟨r.val, by omega⟩
      else if h : r.val - 2048 < 512 then f ⟨2056 + (r.val - 2048), by omega⟩
      else f ⟨2824 + (r.val - 2048 - 512), by omega⟩ := by
  obtain ⟨n, hn⟩ := r
  have hf : ∀ (a b : ℕ) (ha : a < 3336) (hb : b < 3336), a = b → f ⟨a, ha⟩ = f ⟨b, hb⟩ := fun a b _ _ e => congrArg f (Fin.ext e)
  unfold pick
  dsimp only
  split_ifs <;> first | (exfalso; omega) | exact hf _ _ _ _ (by omega)

/-- The other 384. -/
theorem pick_tail (f : Fin 3336 → EReal) (r : Fin 384) : pick f ⟨3072 + r.val, by omega⟩
    = if h : r.val < 128 then f ⟨2568 + r.val, by omega⟩
      else if h : r.val - 128 < 128 then f ⟨2696 + (r.val - 128), by omega⟩
      else if h : r.val - 128 - 128 < 8 then f ⟨2048 + (r.val - 128 - 128), by omega⟩
      else 0 := by
  obtain ⟨n, hn⟩ := r
  have hf : ∀ (a b : ℕ) (ha : a < 3336) (hb : b < 3336), a = b → f ⟨a, ha⟩ = f ⟨b, hb⟩ := fun a b _ _ e => congrArg f (Fin.ext e)
  unfold pick
  dsimp only
  split_ifs <;> first | (exfalso; omega) | exact hf _ _ _ _ (by omega) | rfl

end Cert.Cols

end
-- ==== Proof.DxProj.lean ====
/-
  The layer's input cotangent: every entry of the kernel's result is the reference's, the cotangent of the projections times the
  projection's matrix transposed, plus the residual connection's part. The kernel sums the columns in its own order and in two parts.
-/
module

public import proofs.«01_k».proof.Proof.Gen.Kernel3Ideal.Value
public import proofs.«01_k».proof.Proof.Gen.Reference3Ideal.Run
public import proofs.«01_k».proof.Proof.Cols
public import Idealize.ShloMosaic.Lib.Pipeline.ValueKit
public import Idealize.ShloMosaic.Lib.Pointwise
public import Idealize.ShloMosaic.Lib.WholeRead
public import Idealize.ShloMosaic.Lib.StableHlo.ReadAt
public import Idealize.ShloMosaic.Lib.Claim

@[expose] public section

set_option maxRecDepth 16384

noncomputable section

namespace Cert.DxProj

open Idealize.ShloMosaic Idealize.ShloMosaic.TcCoe Idealize.SL.Sem
open Cert.Kernel3Ideal Cert.Kernel3Ideal.Gen Cert.Cols

theorem hz : (![0, 0] : Fin 2 → Nat) = fun _ => 0 := funext fun a => by fin_cases a <;> rfl

theorem zero_bits : FloatOps.sitofp (F := Ideal) FTy.bf16 (0#32 : BitVec 32) = (0 : EReal) := by
  show ((BitVec.toInt 0#32 : ℝ) : EReal) = 0
  simp

variable (m : (ℓ : Loc nD τ sig) → Buf (Elt Ideal) ℓ)

/-- The first 3072 columns of the cotangent in the kernel's order. -/
def mainT (d : FVec Ideal S4096x3336 .bf16) : FVec Ideal S4096x3072 .bf16 :=
  concatenate S4096x3072 1 [⟨S4096x2048, (extractStridedSlice S4096x2048 ![0, 0] d slices_S4096x3336_S4096x2048_0_0)⟩,
    ⟨S4096x512, (extractStridedSlice S4096x512 ![0, 2056] d slices_S4096x3336_S4096x512_0_2056)⟩,
    ⟨S4096x512, (extractStridedSlice S4096x512 ![0, 2824] d slices_S4096x3336_S4096x512_0_2824)⟩]
    concatenates_S4096x2048_S4096x512_S4096x512_S4096x3072_d1

/-- The other 384. -/
def tailT (d : FVec Ideal S4096x3336 .bf16) : FVec Ideal S4096x384 .bf16 :=
  concatenate S4096x384 1 [⟨S4096x128, (extractStridedSlice S4096x128 ![0, 2568] d slices_S4096x3336_S4096x128_0_2568)⟩,
    ⟨S4096x128, (extractStridedSlice S4096x128 ![0, 2696] d slices_S4096x3336_S4096x128_0_2696)⟩,
    ⟨S4096x128, (pad S4096x128 ![0, 0] ![0, 120] ![0, 0] (extractStridedSlice S4096x8 ![0, 2048] d slices_S4096x3336_S4096x8_0_2048)
      (sitofp .bf16 (constantI S_ 32 0#32)) pads_S4096x8_S4096x128_000_01200 h_S_)⟩]
    concatenates_S4096x128_S4096x128_S4096x128_S4096x384_d1

theorem mainT_ix (d : FVec Ideal S4096x3336 .bf16) (t : Fin 4096) (r : Fin 3072) :
    mainT d (ix2 t r) = pick (fun k => d (ix2 t k)) ⟨r.val, by omega⟩ := by
  rw [pick_main]
  pointwise [mainT]

theorem tailT_ix (d : FVec Ideal S4096x3336 .bf16) (t : Fin 4096) (r : Fin 384) :
    tailT d (ix2 t r) = pick (fun k => d (ix2 t k)) ⟨3072 + r.val, by omega⟩ := by
  rw [pick_tail]
  have h0 := zero_bits
  pointwise [tailT]
  split_ifs
  any_goals rfl
  exact h0

theorem main_eq (c : Dev nD) : (V m c main_v3 : FVec Ideal S4096x3072 .bf16) = mainT (m ((c : Thread nD τ).loc main_arg0)) := by
  unfold mainT
  unfold_abbrev_sides
  simp only [hostOps0, hostOps0_1, hostOps0_2, hostOps0_3, hostOps0_4, List.flatten_cons, List.flatten_nil, List.append_nil, List.cons_append, List.nil_append]
  after_results <;> rfl

theorem tail_eq (c : Dev nD) : (V m c main_v8 : FVec Ideal S4096x384 .bf16) = tailT (m ((c : Thread nD τ).loc main_arg0)) := by
  unfold tailT
  unfold_abbrev_sides
  simp only [hostOps0, hostOps0_1, hostOps0_2, hostOps0_3, hostOps0_4, List.flatten_cons, List.flatten_nil, List.append_nil, List.cons_append, List.nil_append]
  after_results <;> rfl

/-- The rows of the kernel's order of the product's matrix. -/
def wtT (w : FVec Ideal S1024x3336 .f32) : FVec Ideal S3456x1024 .bf16 :=
  have u : FVec Ideal S3336x1024 .bf16 := truncf .bf16 (transpose S3336x1024 [1, 0] w transposes_S1024x3336_S3336x1024_1_0) bitsLt_bf16_f32
  concatenate S3456x1024 0 [⟨S2048x1024, (extractStridedSlice S2048x1024 ![0, 0] u slices_S3336x1024_S2048x1024_0_0)⟩,
    ⟨S512x1024, (extractStridedSlice S512x1024 ![2056, 0] u slices_S3336x1024_S512x1024_2056_0)⟩,
    ⟨S512x1024, (extractStridedSlice S512x1024 ![2824, 0] u slices_S3336x1024_S512x1024_2824_0)⟩,
    ⟨S128x1024, (extractStridedSlice S128x1024 ![2568, 0] u slices_S3336x1024_S128x1024_2568_0)⟩,
    ⟨S128x1024, (extractStridedSlice S128x1024 ![2696, 0] u slices_S3336x1024_S128x1024_2696_0)⟩,
    ⟨S128x1024, (pad S128x1024 ![0, 0] ![120, 0] ![0, 0] (extractStridedSlice S8x1024 ![2048, 0] u slices_S3336x1024_S8x1024_2048_0)
      (sitofp .bf16 (constantI S_ 32 0#32)) pads_S8x1024_S128x1024_01200_000 h_S_)⟩]
    concatenates_S2048x1024_S512x1024_S512x1024_S128x1024_S128x1024_S128x1024_S3456x1024_d0

theorem wt_eq (c : Dev nD) : (V m c main_v18 : FVec Ideal S3456x1024 .bf16) = wtT (m ((c : Thread nD τ).loc main_arg1)) := by
  unfold wtT
  dsimp only
  unfold_abbrev_sides
  simp only [hostOps0, hostOps0_1, hostOps0_2, hostOps0_3, hostOps0_4, List.flatten_cons, List.flatten_nil, List.append_nil, List.cons_append, List.nil_append]
  after_results <;> rfl

theorem wtT_ix (w : FVec Ideal S1024x3336 .f32) (r : Fin 3456) (d : Fin 1024) :
    wtT w (ix2 r d) = pick (fun k => w (ix2 d k)) r := by
  have h0 := zero_bits
  pointwise [wtT]
  unfold pick
  split_ifs
  any_goals rfl
  exact h0

theorem out_eq (c : Dev nD) (i : grid0.Coords) (arg1 : Memref sig .tc .vmem S512x3072 .bf16) (harg1 : arg1.IsWhole) (arg2 : Memref sig .tc .vmem S512x384 .bf16) (harg2 : arg2.IsWhole) (arg3 : Memref sig .tc .vmem S3072x1024 .bf16) (harg3 : arg3.IsWhole) (arg4 : Memref sig .tc .vmem S384x1024 .bf16) (harg4 : arg4.IsWhole) (arg5 : Memref sig .tc .vmem S512x1024 .f32) (harg5 : arg5.IsWhole) (arg6 : Memref sig .tc .vmem S512x1024 .f32) (harg6 : arg6.IsWhole)
    (x0 : Vec Ideal S512x3072 .bf16) (x1 : Vec Ideal S512x384 .bf16) (x2 : Vec Ideal S3072x1024 .bf16) (x3 : Vec Ideal S384x1024 .bf16) (x4 : Vec Ideal S512x1024 .f32) :
    out0_A_5 c i arg1 harg1 arg2 harg2 arg3 harg3 arg4 harg4 arg5 harg5 arg6 harg6 x0 x1 x2 x3 x4 = k0_pay1 x0 x2 x1 x3 x4 := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  try sl_unfold_words
  rw [View.canon_unit_zero hz]
  simp only [View.readAt_eq_ld, harg1.read_unread, harg2.read_unread, harg3.read_unread, harg4.read_unread, harg5.read_unread, View.ld_unit_zero (S := S3072x1024) hz, View.ld_unit_zero (S := S384x1024) hz, View.ld_unit_zero (S := S512x1024) hz, View.ld_unit_zero (S := S512x3072) hz, View.ld_unit_zero (S := S512x384) hz]

/-- The factor of the residual connection. -/
def alpha : EReal := Ideal.ofBits .f32 0x3FB504F3#32

theorem pay (x0 : Vec Ideal S512x3072 .bf16) (x1 : Vec Ideal S512x384 .bf16) (x2 : Vec Ideal S3072x1024 .bf16) (x3 : Vec Ideal S384x1024 .bf16) (x4 : Vec Ideal S512x1024 .f32)
    (i : Fin 512) (j : Fin 1024) :
    k0_pay1 x0 x2 x1 x3 x4 (ix2 i j)
      = (∑ k, x0 (ix2 i k) * x2 (ix2 k j)) + (∑ k, x1 (ix2 i k) * x3 (ix2 k j)) + alpha * x4 (ix2 i j) := by
  pointwise [k0_pay1]
  rfl

theorem ix0' : ∀ t : Fin cfg0.N, win0_0.index t = ![t.val, 0] := (by decide +kernel : ∀ t : Fin grid0.N, _)
theorem ix1' : ∀ t : Fin cfg0.N, win0_1.index t = ![t.val, 0] := (by decide +kernel : ∀ t : Fin grid0.N, _)
theorem ix2' : ∀ t : Fin cfg0.N, win0_2.index t = ![0, 0] := (by decide +kernel : ∀ t : Fin grid0.N, _)
theorem ix3' : ∀ t : Fin cfg0.N, win0_3.index t = ![8, 0] := (by decide +kernel : ∀ t : Fin grid0.N, _)
theorem ix4' : ∀ t : Fin cfg0.N, win0_4.index t = ![t.val, 0] := (by decide +kernel : ∀ t : Fin grid0.N, _)
theorem ix5' : ∀ t : Fin cfg0.N, win0_5.index t = ![t.val, 0] := (by decide +kernel : ∀ t : Fin grid0.N, _)

theorem tlt (t : Fin cfg0.N) : t.val < 8 := lt_of_lt_of_eq t.isLt (show cfg0.N = 8 from N_0)

theorem e0 (c : Dev nD) (t : Fin cfg0.N) (y : Fin 512) (z : Fin 3072) : (iblk m c 0 t : Vec Ideal S512x3072 .bf16) (ix2 y z)
    = pick (fun k => (m ((c : Thread nD τ).loc main_arg0) : FVec Ideal S4096x3336 .bf16) (ix2 (⟨512 * t.val + y.val, by have := tlt t; omega⟩ : Fin 4096) k)) ⟨z.val, by omega⟩ := by
  rw [← mainT_ix, ← main_eq]
  show V m c main_v3 ((win0_0.blk t).view.emb (ix2 y z)) = _
  congr 1
  funext a
  have hi := ix0' t
  have ht := tlt t
  fin_cases a <;> apply Fin.ext <;> blk_simp [hi] <;> simp <;> omega

theorem e1 (c : Dev nD) (t : Fin cfg0.N) (y : Fin 512) (z : Fin 384) : (iblk m c 1 t : Vec Ideal S512x384 .bf16) (ix2 y z)
    = pick (fun k => (m ((c : Thread nD τ).loc main_arg0) : FVec Ideal S4096x3336 .bf16) (ix2 (⟨512 * t.val + y.val, by have := tlt t; omega⟩ : Fin 4096) k)) ⟨3072 + z.val, by omega⟩ := by
  rw [← tailT_ix, ← tail_eq]
  show V m c main_v8 ((win0_1.blk t).view.emb (ix2 y z)) = _
  congr 1
  funext a
  have hi := ix1' t
  have ht := tlt t
  fin_cases a <;> apply Fin.ext <;> blk_simp [hi] <;> simp <;> omega

theorem e2 (c : Dev nD) (t : Fin cfg0.N) (y : Fin 3072) (z : Fin 1024) : (X0_2 m c t : Vec Ideal S3072x1024 .bf16) (ix2 y z)
    = pick (fun k => (m ((c : Thread nD τ).loc main_arg1) : FVec Ideal S1024x3336 .f32) (ix2 z k)) ⟨y.val, by omega⟩ := by
  rw [← wtT_ix, ← wt_eq]
  unfold X0_2 Pipeline.Window.fill
  rw [dif_pos (moved0_2 t _)]
  show V m c main_v18 ((win0_2.blk t).view.emb (fun a => ⟨((ix2 y z : S3072x1024.Idx) a).val, _⟩)) = _
  congr 1
  funext a
  have hi := ix2' t
  have ht := tlt t
  fin_cases a <;> apply Fin.ext <;> blk_simp [hi] <;> simp <;> omega

theorem e3 (c : Dev nD) (t : Fin cfg0.N) (y : Fin 384) (z : Fin 1024) : (iblk m c 3 t : Vec Ideal S384x1024 .bf16) (ix2 y z)
    = pick (fun k => (m ((c : Thread nD τ).loc main_arg1) : FVec Ideal S1024x3336 .f32) (ix2 z k)) ⟨3072 + y.val, by omega⟩ := by
  rw [← wtT_ix, ← wt_eq]
  show V m c main_v18 ((win0_3.blk t).view.emb (ix2 y z)) = _
  congr 1
  funext a
  have hi := ix3' t
  have ht := tlt t
  fin_cases a <;> apply Fin.ext <;> blk_simp [hi] <;> simp <;> omega

theorem e4 (c : Dev nD) (t : Fin cfg0.N) (y : Fin 512) (z : Fin 1024) : (iblk m c 4 t : Vec Ideal S512x1024 .f32) (ix2 y z)
    = m ((c : Thread nD τ).loc main_arg2) (ix2 (⟨512 * t.val + y.val, by have := tlt t; omega⟩ : Fin 4096) z) := by
  have hV : V m c main_arg2 = m ((c : Thread nD τ).loc main_arg2) := V_main_arg2 m c
  show V m c main_arg2 ((win0_4.blk t).view.emb (ix2 y z)) = _
  rw [hV]
  congr 1
  funext a
  have hi := ix4' t
  have ht := tlt t
  fin_cases a <;> apply Fin.ext <;> blk_simp [hi] <;> simp <;> omega

/-- The kernel's result. -/
def O (d : FVec Ideal S4096x3336 .bf16) (w : FVec Ideal S1024x3336 .f32) (r : FVec Ideal S4096x1024 .f32) (i : S4096x1024.Idx) : EReal :=
  (∑ k, d (ix2 (i 0) k) * w (ix2 (i 1) k)) + alpha * r (ix2 (i 0) (i 1))

theorem O_eq (d : FVec Ideal S4096x3336 .bf16) (w : FVec Ideal S1024x3336 .f32) (r : FVec Ideal S4096x1024 .f32) (t : Fin 4096) (z : Fin 1024) (i : S4096x1024.Idx)
    (h0 : t.val = (i 0).val) (h1 : z.val = (i 1).val) : (∑ k, d (ix2 t k) * w (ix2 z k)) + alpha * r (ix2 t z) = O d w r i := by
  have e0 : t = i 0 := Fin.ext h0
  have e1 : z = i 1 := Fin.ext h1
  rw [e0, e1]
  rfl

theorem array5 (c : Dev nD) : (dats m 0 c).arrAt 5 cfg0.N
    = (O (m ((c : Thread nD τ).loc main_arg0)) (m ((c : Thread nD τ).loc main_arg1)) (m ((c : Thread nD τ).loc main_arg2)) : FVec Ideal S4096x1024 .f32) := by
  refine (dats m 0 c).arrAt_eq_of_covers 5 _ (by decide +kernel) fun t hf y => ?_
  blk_simp
  rw [after0_5]
  have ht := tlt t
  have hi := ix5' t
  have h0 : (y 0).val < 512 := (y 0).isLt
  have h1 : (y 1).val < 1024 := (y 1).isLt
  have hy : y = ix2 (⟨(y 0).val, h0⟩ : Fin 512) (⟨(y 1).val, h1⟩ : Fin 1024) := by funext k; fin_cases k <;> rfl
  rw [hy]
  unfold outsAt0
  rw [out_eq]
  refine (pay _ _ _ _ _ _ _).trans ?_
  simp only [e0, e1, e2, e3, e4]
  rw [sum_split]
  refine O_eq _ _ _ _ _ _ ?_ ?_ <;> blk_simp [hi] <;> simp <;> omega

end Cert.DxProj

namespace Cert.DxProj.Ref

open Idealize.ShloMosaic Idealize.ShloMosaic.TcCoe
open Cert.Reference3Ideal Cert.Reference3Ideal.Gen

/-- The reference's result. -/
def refT (d : FVec Ideal S4096x3336 .bf16) (w : FVec Ideal S1024x3336 .f32) (r : FVec Ideal S4096x1024 .f32) : FVec Ideal S4096x1024 .f32 :=
  addf (mulf (broadcastInDim S4096x1024 ![] bcast_S_S4096x1024 (constant S_ .f32 0x3FB504F3#32)) r)
    (Host.dotGeneral dot_S4096x3336_S1024x3336_S4096x1024_1_1_0_0_n_n none (extf .f32 d bitsLt_bf16_f32) w)

theorem ref_ix (d : FVec Ideal S4096x3336 .bf16) (w : FVec Ideal S1024x3336 .f32) (r : FVec Ideal S4096x1024 .f32) (t : Fin 4096) (z : Fin 1024) :
    refT d w r (ix2 t z) = (∑ k, d (ix2 t k) * w (ix2 z k)) + alpha * r (ix2 t z) := by
  rw [add_comm]
  pointwise [refT]
  rfl

end Cert.DxProj.Ref

end
-- ==== Proof.DwProj.lean ====
/-
  The projection's matrix cotangent: every entry of the kernel's two results is the reference's, the cotangent of the projections
  transposed times the layer's input. The kernel sums the rows block by block, and keeps its rows in its own order.
-/
module

public import proofs.«01_k».proof.Proof.Gen.Kernel4Ideal.Value
public import proofs.«01_k».proof.Proof.Gen.Reference4Ideal.Run
public import proofs.«01_k».proof.Proof.Cols
public import Idealize.ShloMosaic.Lib.Pipeline.ValueKit
public import Idealize.ShloMosaic.Lib.Pointwise
public import Idealize.ShloMosaic.Lib.WholeRead
public import Idealize.ShloMosaic.Lib.StableHlo.ReadAt
public import Idealize.ShloMosaic.Lib.Claim

@[expose] public section

set_option maxRecDepth 16384

noncomputable section

namespace Cert.DwProj

open Idealize.ShloMosaic Idealize.ShloMosaic.TcCoe Idealize.SL.Sem
open Cert.Kernel4Ideal Cert.Kernel4Ideal.Gen Cert.Cols

theorem hz : (![0, 0] : Fin 2 → Nat) = fun _ => 0 := funext fun a => by fin_cases a <;> rfl

theorem zero_bits : FloatOps.sitofp (F := Ideal) FTy.bf16 (0#32 : BitVec 32) = (0 : EReal) := by
  show ((BitVec.toInt 0#32 : ℝ) : EReal) = 0
  simp

variable (m : (ℓ : Loc nD τ sig) → Buf (Elt Ideal) ℓ)

/-- The first 3072 columns of the cotangent in the kernel's order. -/
def mainT (d : FVec Ideal S4096x3336 .bf16) : FVec Ideal S4096x3072 .bf16 :=
  concatenate S4096x3072 1 [⟨S4096x2048, (extractStridedSlice S4096x2048 ![0, 0] d slices_S4096x3336_S4096x2048_0_0)⟩,
    ⟨S4096x512, (extractStridedSlice S4096x512 ![0, 2056] d slices_S4096x3336_S4096x512_0_2056)⟩,
    ⟨S4096x512, (extractStridedSlice S4096x512 ![0, 2824] d slices_S4096x3336_S4096x512_0_2824)⟩]
    concatenates_S4096x2048_S4096x512_S4096x512_S4096x3072_d1

/-- The other 384. -/
def tailT (d : FVec Ideal S4096x3336 .bf16) : FVec Ideal S4096x384 .bf16 :=
  concatenate S4096x384 1 [⟨S4096x128, (extractStridedSlice S4096x128 ![0, 2568] d slices_S4096x3336_S4096x128_0_2568)⟩,
    ⟨S4096x128, (extractStridedSlice S4096x128 ![0, 2696] d slices_S4096x3336_S4096x128_0_2696)⟩,
    ⟨S4096x128, (pad S4096x128 ![0, 0] ![0, 120] ![0, 0] (extractStridedSlice S4096x8 ![0, 2048] d slices_S4096x3336_S4096x8_0_2048)
      (sitofp .bf16 (constantI S_ 32 0#32)) pads_S4096x8_S4096x128_000_01200 h_S_)⟩]
    concatenates_S4096x128_S4096x128_S4096x128_S4096x384_d1

theorem mainT_ix (d : FVec Ideal S4096x3336 .bf16) (t : Fin 4096) (r : Fin 3072) :
    mainT d (ix2 t r) = pick (fun k => d (ix2 t k)) ⟨r.val, by omega⟩ := by
  rw [pick_main]
  pointwise [mainT]

theorem tailT_ix (d : FVec Ideal S4096x3336 .bf16) (t : Fin 4096) (r : Fin 384) :
    tailT d (ix2 t r) = pick (fun k => d (ix2 t k)) ⟨3072 + r.val, by omega⟩ := by
  rw [pick_tail]
  have h0 := zero_bits
  pointwise [tailT]
  split_ifs
  any_goals rfl
  exact h0

theorem main_eq (c : Dev nD) : (V m c main_v3 : FVec Ideal S4096x3072 .bf16) = mainT (m ((c : Thread nD τ).loc main_arg0)) := by
  unfold mainT
  unfold_abbrev_sides
  simp only [hostOps0, hostOps0_1, hostOps0_2, List.flatten_cons, List.flatten_nil, List.append_nil, List.cons_append, List.nil_append]
  after_results <;> rfl

theorem tail_eq (c : Dev nD) : (V m c main_v8 : FVec Ideal S4096x384 .bf16) = tailT (m ((c : Thread nD τ).loc main_arg0)) := by
  unfold tailT
  unfold_abbrev_sides
  simp only [hostOps0, hostOps0_1, hostOps0_2, List.flatten_cons, List.flatten_nil, List.append_nil, List.cons_append, List.nil_append]
  after_results <;> rfl

theorem pay4 (x2 : Vec Ideal S512x1024 .f32) (acc : Vec Ideal S3072x1024 .f32) (x0 : Vec Ideal S512x3072 .bf16) (i : Fin 3072) (j : Fin 1024) :
    k0_pay4 x2 acc x0 (ix2 i j) = acc (ix2 i j) + ∑ k, x0 (ix2 k i) * x2 (ix2 k j) := by
  pointwise [k0_pay4, k0_pay3]

theorem pay5 (x2 : Vec Ideal S512x1024 .f32) (acc : Vec Ideal S384x1024 .f32) (x1 : Vec Ideal S512x384 .bf16) (i : Fin 384) (j : Fin 1024) :
    k0_pay5 x2 acc x1 (ix2 i j) = acc (ix2 i j) + ∑ k, x1 (ix2 k i) * x2 (ix2 k j) := by
  pointwise [k0_pay5, k0_pay3]

theorem pay1 (i : Fin 3072) (j : Fin 1024) : k0_pay1 (F := Ideal) (ix2 i j) = (0 : EReal) := by
  pointwise [k0_pay1]

theorem pay2 (i : Fin 384) (j : Fin 1024) : k0_pay2 (F := Ideal) (ix2 i j) = (0 : EReal) := by
  pointwise [k0_pay2]

theorem ix0' : ∀ t : Fin cfg0.N, win0_0.index t = ![t.val, 0] := (by decide +kernel : ∀ t : Fin grid0.N, _)
theorem ix1' : ∀ t : Fin cfg0.N, win0_1.index t = ![t.val, 0] := (by decide +kernel : ∀ t : Fin grid0.N, _)
theorem ix2' : ∀ t : Fin cfg0.N, win0_2.index t = ![t.val, 0] := (by decide +kernel : ∀ t : Fin grid0.N, _)

theorem tlt (t : Fin cfg0.N) : t.val < 8 := lt_of_lt_of_eq t.isLt (show cfg0.N = 8 from N_0)

theorem e0 (c : Dev nD) (t : Fin cfg0.N) (y : Fin 512) (z : Fin 3072) : (iblk m c 0 t : Vec Ideal S512x3072 .bf16) (ix2 y z)
    = pick (fun k => (m ((c : Thread nD τ).loc main_arg0) : FVec Ideal S4096x3336 .bf16) (ix2 (⟨512 * t.val + y.val, by have := tlt t; omega⟩ : Fin 4096) k)) ⟨z.val, by omega⟩ := by
  rw [← mainT_ix, ← main_eq]
  show V m c main_v3 ((win0_0.blk t).view.emb (ix2 y z)) = _
  congr 1
  funext a
  have hi := ix0' t
  have ht := tlt t
  fin_cases a <;> apply Fin.ext <;> blk_simp [hi] <;> simp <;> omega

theorem e1 (c : Dev nD) (t : Fin cfg0.N) (y : Fin 512) (z : Fin 384) : (iblk m c 1 t : Vec Ideal S512x384 .bf16) (ix2 y z)
    = pick (fun k => (m ((c : Thread nD τ).loc main_arg0) : FVec Ideal S4096x3336 .bf16) (ix2 (⟨512 * t.val + y.val, by have := tlt t; omega⟩ : Fin 4096) k)) ⟨3072 + z.val, by omega⟩ := by
  rw [← tailT_ix, ← tail_eq]
  show V m c main_v8 ((win0_1.blk t).view.emb (ix2 y z)) = _
  congr 1
  funext a
  have hi := ix1' t
  have ht := tlt t
  fin_cases a <;> apply Fin.ext <;> blk_simp [hi] <;> simp <;> omega

theorem e2 (c : Dev nD) (t : Fin cfg0.N) (y : Fin 512) (z : Fin 1024) : (iblk m c 2 t : Vec Ideal S512x1024 .f32) (ix2 y z)
    = m ((c : Thread nD τ).loc main_arg1) (ix2 (⟨512 * t.val + y.val, by have := tlt t; omega⟩ : Fin 4096) z) := by
  have hV : V m c main_arg1 = m ((c : Thread nD τ).loc main_arg1) := V_main_arg1 m c
  show V m c main_arg1 ((win0_2.blk t).view.emb (ix2 y z)) = _
  rw [hV]
  congr 1
  funext a
  have hi := ix2' t
  have ht := tlt t
  fin_cases a <;> apply Fin.ext <;> blk_simp [hi] <;> simp <;> omega

/-- What the 512 rows of block `k` contribute to an entry of the result. -/
def part (d : FVec Ideal S4096x3336 .bf16) (x : FVec Ideal S4096x1024 .f32) (r : Fin 3456) (z : Fin 1024) (k : ℕ) : EReal :=
  pick (fun q => ∑ y : Fin 512, d (ix2 (⟨(512 * k + y.val) % 4096, Nat.mod_lt _ (by decide)⟩ : Fin 4096) q)
    * x (ix2 (⟨(512 * k + y.val) % 4096, Nat.mod_lt _ (by decide)⟩ : Fin 4096) z)) r

theorem term_eq (d : FVec Ideal S4096x3336 .bf16) (x : FVec Ideal S4096x1024 .f32) (r : Fin 3456) (z : Fin 1024) (t k : ℕ)
    (h : ∀ y : Fin 512, 512 * t + y.val < 4096) (e : t = k) :
    (∑ y : Fin 512, pick (fun q => d (ix2 (⟨512 * t + y.val, h y⟩ : Fin 4096) q)) r * x (ix2 (⟨512 * t + y.val, h y⟩ : Fin 4096) z))
      = part d x r z k := by
  subst e
  unfold part
  rw [sum_pick_mul]
  congr 1
  funext q
  refine Finset.sum_congr rfl fun y _ => ?_
  have e : (⟨512 * t + y.val, h y⟩ : Fin 4096) = ⟨(512 * t + y.val) % 4096, Nat.mod_lt _ (by decide)⟩ := Fin.ext (Nat.mod_eq_of_lt (h y)).symm
  rw [e]

/-- The eight blocks are all the rows. -/
theorem rows_eq (f : Fin 4096 → EReal) :
    (∑ k ∈ Finset.range 8, ∑ y : Fin 512, f ⟨(512 * k + y.val) % 4096, Nat.mod_lt _ (by decide)⟩) = ∑ t, f t := by
  rw [Finset.sum_range, ← Fintype.sum_prod_type' (f := fun (k : Fin 8) (y : Fin 512) => f ⟨(512 * k.val + y.val) % 4096, Nat.mod_lt _ (by decide)⟩)]
  refine Fintype.sum_equiv (finProdFinEquiv (m := 8) (n := 512)) _ (fun t => f t) fun x => congrArg f (Fin.ext ?_)
  show (512 * x.1.val + x.2.val) % 4096 = x.2.val + 512 * x.1.val
  have h1 := x.1.isLt
  have h2 := x.2.isLt
  omega

theorem sum_pick (f : ℕ → Fin 3336 → EReal) (r : Fin 3456) (n : ℕ) :
    (∑ k ∈ Finset.range n, pick (f k) r) = pick (fun q => ∑ k ∈ Finset.range n, f k q) r := by
  unfold pick
  split_ifs <;> first | rfl | simp

theorem parts_eq (d : FVec Ideal S4096x3336 .bf16) (x : FVec Ideal S4096x1024 .f32) (r : Fin 3456) (z : Fin 1024) :
    (∑ k ∈ Finset.range (7 + 1), part d x r z k) = pick (fun q => ∑ k, d (ix2 k q) * x (ix2 k z)) r := by
  unfold part
  rw [sum_pick]
  congr 1
  funext q
  exact rows_eq fun t => d (ix2 t q) * x (ix2 t z)

theorem acc3 (c : Dev nD) (b : ℕ) (hb : b = 0) (r : Fin 3072) (z : Fin 1024) : ∀ (j : ℕ) (h : b + j < cfg0.N),
    (Pipeline.accAt (Cert.Kernel4Ideal.Value.reset3 m c) (Cert.Kernel4Ideal.Value.step3 m c) b j h) (ix2 r z)
      = ∑ k ∈ Finset.range (j + 1), part (m ((c : Thread nD τ).loc main_arg0)) (m ((c : Thread nD τ).loc main_arg1)) ⟨r.val, by omega⟩ z k
  | 0, h => by
    subst hb
    rw [Pipeline.accAt_zero]
    unfold Cert.Kernel4Ideal.Value.reset3
    refine (pay4 _ _ _ _ _).trans ?_
    rw [pay1, zero_add, Finset.sum_range_one]
    simp only [e0, e2]
    exact term_eq _ _ _ _ _ _ _ (by simp)
  | j + 1, h => by
    rw [Pipeline.accAt_succ]
    refine (pay4 _ _ _ _ _).trans ?_
    rw [acc3 c b hb r z j (Nat.lt_of_succ_lt h), Finset.sum_range_succ _ (j + 1)]
    congr 1
    simp only [e0, e2]
    subst hb
    exact term_eq _ _ _ _ _ _ _ (by simp)

/-- The kernel's result 0. -/
def O3 (d : FVec Ideal S4096x3336 .bf16) (x : FVec Ideal S4096x1024 .f32) (i : S3072x1024.Idx) : EReal :=
  pick (fun q => ∑ k, d (ix2 k q) * x (ix2 k (i 1))) ⟨(i 0).val, by have : (i 0).val < 3072 := (i 0).isLt; omega⟩

theorem array3 (c : Dev nD) : Cert.Kernel4Ideal.Value.G3 m c = (O3 (m ((c : Thread nD τ).loc main_arg0)) (m ((c : Thread nD τ).loc main_arg1)) : FVec Ideal S3072x1024 .f32) := by
  funext (i : S3072x1024.Idx)
  have h0 : (i 0).val < 3072 := (i 0).isLt
  have h1 : (i 1).val < 1024 := (i 1).isLt
  have hq : Cert.Kernel4Ideal.Value.run3Of i = 0 := by
    show 1 * ((i 0).val / 3072 - 0) + 1 * ((i 1).val / 1024 - 0) = 0
    omega
  have hl : Cert.Kernel4Ideal.Value.loc3Of i = ix2 (⟨(i 0).val, h0⟩ : Fin 3072) (⟨(i 1).val, h1⟩ : Fin 1024) := by
    funext a
    fin_cases a
    · exact Fin.ext (Nat.mod_eq_of_lt h0)
    · exact Fin.ext (Nat.mod_eq_of_lt h1)
  unfold Cert.Kernel4Ideal.Value.G3
  rw [dif_pos (by rw [hq]; show 8 * 0 + 7 < cfg0.N; rw [show cfg0.N = 8 from N_0]; omega), hl]
  refine (acc3 m c _ (by rw [hq]) _ _ _ _).trans ?_
  exact parts_eq _ _ _ _

theorem acc4 (c : Dev nD) (b : ℕ) (hb : b = 0) (r : Fin 384) (z : Fin 1024) : ∀ (j : ℕ) (h : b + j < cfg0.N),
    (Pipeline.accAt (Cert.Kernel4Ideal.Value.reset4 m c) (Cert.Kernel4Ideal.Value.step4 m c) b j h) (ix2 r z)
      = ∑ k ∈ Finset.range (j + 1), part (m ((c : Thread nD τ).loc main_arg0)) (m ((c : Thread nD τ).loc main_arg1)) ⟨3072 + r.val, by omega⟩ z k
  | 0, h => by
    subst hb
    rw [Pipeline.accAt_zero]
    unfold Cert.Kernel4Ideal.Value.reset4
    refine (pay5 _ _ _ _ _).trans ?_
    rw [pay2, zero_add, Finset.sum_range_one]
    simp only [e1, e2]
    exact term_eq _ _ _ _ _ _ _ (by simp)
  | j + 1, h => by
    rw [Pipeline.accAt_succ]
    refine (pay5 _ _ _ _ _).trans ?_
    rw [acc4 c b hb r z j (Nat.lt_of_succ_lt h), Finset.sum_range_succ _ (j + 1)]
    congr 1
    simp only [e1, e2]
    subst hb
    exact term_eq _ _ _ _ _ _ _ (by simp)

/-- The kernel's result 1. -/
def O4 (d : FVec Ideal S4096x3336 .bf16) (x : FVec Ideal S4096x1024 .f32) (i : S384x1024.Idx) : EReal :=
  pick (fun q => ∑ k, d (ix2 k q) * x (ix2 k (i 1))) ⟨3072 + (i 0).val, by have : (i 0).val < 384 := (i 0).isLt; omega⟩

theorem array4 (c : Dev nD) : Cert.Kernel4Ideal.Value.G4 m c = (O4 (m ((c : Thread nD τ).loc main_arg0)) (m ((c : Thread nD τ).loc main_arg1)) : FVec Ideal S384x1024 .f32) := by
  funext (i : S384x1024.Idx)
  have h0 : (i 0).val < 384 := (i 0).isLt
  have h1 : (i 1).val < 1024 := (i 1).isLt
  have hq : Cert.Kernel4Ideal.Value.run4Of i = 0 := by
    show 1 * ((i 0).val / 384 - 0) + 1 * ((i 1).val / 1024 - 0) = 0
    omega
  have hl : Cert.Kernel4Ideal.Value.loc4Of i = ix2 (⟨(i 0).val, h0⟩ : Fin 384) (⟨(i 1).val, h1⟩ : Fin 1024) := by
    funext a
    fin_cases a
    · exact Fin.ext (Nat.mod_eq_of_lt h0)
    · exact Fin.ext (Nat.mod_eq_of_lt h1)
  unfold Cert.Kernel4Ideal.Value.G4
  rw [dif_pos (by rw [hq]; show 8 * 0 + 7 < cfg0.N; rw [show cfg0.N = 8 from N_0]; omega), hl]
  refine (acc4 m c _ (by rw [hq]) _ _ _ _).trans ?_
  exact parts_eq _ _ _ _

end Cert.DwProj

namespace Cert.DwProj.Ref

open Idealize.ShloMosaic Idealize.ShloMosaic.TcCoe
open Cert.Reference4Ideal Cert.Reference4Ideal.Gen Cert.Cols

/-- The projection's matrix cotangent, a row for each column of the model's order. -/
def prodT (d : FVec Ideal S4096x3336 .bf16) (x : FVec Ideal S4096x1024 .f32) : FVec Ideal S3336x1024 .f32 :=
  transpose S3336x1024 [1, 0] (transpose S1024x3336 [1, 0] (Host.dotGeneral dot_S4096x3336_S4096x1024_S3336x1024_0_0_1_1_n_n none (extf .f32 d bitsLt_bf16_f32) x) transposes_S3336x1024_S1024x3336_1_0) transposes_S1024x3336_S3336x1024_1_0

/-- The reference's first result. -/
def ref3 (d : FVec Ideal S4096x3336 .bf16) (x : FVec Ideal S4096x1024 .f32) : FVec Ideal S3072x1024 .f32 :=
  concatenate S3072x1024 0 [⟨S2048x1024, (extractStridedSlice S2048x1024 ![0, 0] (prodT d x) slices_S3336x1024_S2048x1024_0_0)⟩,
    ⟨S512x1024, (extractStridedSlice S512x1024 ![2056, 0] (prodT d x) slices_S3336x1024_S512x1024_2056_0)⟩,
    ⟨S512x1024, (extractStridedSlice S512x1024 ![2824, 0] (prodT d x) slices_S3336x1024_S512x1024_2824_0)⟩]
    concatenates_S2048x1024_S512x1024_S512x1024_S3072x1024_d0

/-- The reference's second result. -/
def ref4 (d : FVec Ideal S4096x3336 .bf16) (x : FVec Ideal S4096x1024 .f32) : FVec Ideal S384x1024 .f32 :=
  concatenate S384x1024 0 [⟨S128x1024, (extractStridedSlice S128x1024 ![2568, 0] (prodT d x) slices_S3336x1024_S128x1024_2568_0)⟩,
    ⟨S128x1024, (extractStridedSlice S128x1024 ![2696, 0] (prodT d x) slices_S3336x1024_S128x1024_2696_0)⟩,
    ⟨S8x1024, (extractStridedSlice S8x1024 ![2048, 0] (prodT d x) slices_S3336x1024_S8x1024_2048_0)⟩,
    ⟨S120x1024, ((broadcastInDim S120x1024 ![] bcast_S_S120x1024 (constant S_ .f32 0x00000000#32)) : FVec Ideal S120x1024 .f32)⟩]
    concatenates_S128x1024_S128x1024_S8x1024_S120x1024_S384x1024_d0

theorem ref3_ix (d : FVec Ideal S4096x3336 .bf16) (x : FVec Ideal S4096x1024 .f32) (r : Fin 3072) (z : Fin 1024) :
    ref3 d x (ix2 r z) = pick (fun q => ∑ k, d (ix2 k q) * x (ix2 k z)) ⟨r.val, by omega⟩ := by
  rw [pick_main]
  pointwise [ref3, prodT]

theorem ref4_ix (d : FVec Ideal S4096x3336 .bf16) (x : FVec Ideal S4096x1024 .f32) (r : Fin 384) (z : Fin 1024) :
    ref4 d x (ix2 r z) = pick (fun q => ∑ k, d (ix2 k q) * x (ix2 k z)) ⟨3072 + r.val, by omega⟩ := by
  rw [pick_tail]
  pointwise [ref4, prodT]

end Cert.DwProj.Ref

end
-- ==== Proof.FwdProj.lean ====
/-
  The layer's input projection: every entry of the kernel's result is the reference's, the product of a row of the layer's input
  and the column of the projection's matrix that stands at that position of the kernel's order.
-/
module

public import proofs.«01_k».proof.Proof.Gen.Kernel5Ideal.Value
public import proofs.«01_k».proof.Proof.Gen.Reference5Ideal.Run
public import proofs.«01_k».proof.Proof.Cols
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.FwdProj

open Idealize.ShloMosaic Idealize.ShloMosaic.TcCoe Idealize.SL.Sem
open Cert.Kernel5Ideal Cert.Kernel5Ideal.Gen Cert.Cols

theorem hz : (![0, 0] : Fin 2 → Nat) = fun _ => 0 := funext fun a => by fin_cases a <;> rfl

variable (m : (ℓ : Loc nD τ sig) → Buf (Elt Ideal) ℓ)

/-- The rows of the kernel's order of the product's matrix. -/
def wtT (w : FVec Ideal S1024x3336 .f32) : FVec Ideal S3456x1024 .bf16 :=
  have u : FVec Ideal S3336x1024 .bf16 := truncf .bf16 (transpose S3336x1024 [1, 0] w transposes_S1024x3336_S3336x1024_1_0) bitsLt_bf16_f32
  concatenate S3456x1024 0 [⟨S2048x1024, (extractStridedSlice S2048x1024 ![0, 0] u slices_S3336x1024_S2048x1024_0_0)⟩,
    ⟨S512x1024, (extractStridedSlice S512x1024 ![2056, 0] u slices_S3336x1024_S512x1024_2056_0)⟩,
    ⟨S512x1024, (extractStridedSlice S512x1024 ![2824, 0] u slices_S3336x1024_S512x1024_2824_0)⟩,
    ⟨S128x1024, (extractStridedSlice S128x1024 ![2568, 0] u slices_S3336x1024_S128x1024_2568_0)⟩,
    ⟨S128x1024, (extractStridedSlice S128x1024 ![2696, 0] u slices_S3336x1024_S128x1024_2696_0)⟩,
    ⟨S128x1024, (pad S128x1024 ![0, 0] ![120, 0] ![0, 0] (extractStridedSlice S8x1024 ![2048, 0] u slices_S3336x1024_S8x1024_2048_0)
      (sitofp .bf16 (constantI S_ 32 0#32)) pads_S8x1024_S128x1024_01200_000 h_S_)⟩]
    concatenates_S2048x1024_S512x1024_S512x1024_S128x1024_S128x1024_S128x1024_S3456x1024_d0

theorem wt_eq (c : Dev nD) : (V m c main_v9 : FVec Ideal S3456x1024 .bf16) = wtT (m ((c : Thread nD τ).loc main_arg1)) := by
  unfold wtT
  dsimp only
  unfold_abbrev_sides
  simp only [hostOps0, hostOps0_1, hostOps0_2, List.flatten_cons, List.flatten_nil, List.append_nil, List.cons_append, List.nil_append]
  after_results <;> rfl

theorem wtT_ix (w : FVec Ideal S1024x3336 .f32) (r : Fin 3456) (d : Fin 1024) :
    wtT w (ix2 r d) = pick (fun k => w (ix2 d k)) r := by
  have h0 : FloatOps.sitofp (F := Ideal) FTy.bf16 (0#32 : BitVec 32) = (0 : EReal) := by
    show ((BitVec.toInt 0#32 : ℝ) : EReal) = 0
    simp
  pointwise [wtT]
  unfold pick
  split_ifs
  any_goals rfl
  exact h0

theorem pay (x : Vec Ideal S512x1024 .f32) (y : Vec Ideal S3456x1024 .bf16) (i : Fin 512) (j : Fin 3456) :
    out0_2 x y (ix2 i j) = ∑ d, x (ix2 i d) * y (ix2 j d) := by
  unfold out0_2
  rw [View.canon_unit_zero hz, View.ld_unit_zero (S := S512x1024) hz, View.ld_unit_zero (S := S3456x1024) hz]
  pointwise [k0_pay1]

theorem ix0 : ∀ t : Fin cfg0.N, win0_0.index t = ![t.val, 0] := (by decide +kernel : ∀ t : Fin grid0.N, _)
theorem ix1 : ∀ t : Fin cfg0.N, win0_1.index t = ![0, 0] := (by decide +kernel : ∀ t : Fin grid0.N, _)
theorem ix2' : ∀ t : Fin cfg0.N, win0_2.index t = ![t.val, 0] := (by decide +kernel : ∀ t : Fin grid0.N, _)

theorem tlt (t : Fin cfg0.N) : t.val < 8 := lt_of_lt_of_eq t.isLt (show cfg0.N = 8 from N_0)

theorem e0 (c : Dev nD) (t : Fin cfg0.N) (y : Fin 512) (z : Fin 1024) : (iblk m c 0 t : Vec Ideal S512x1024 .f32) (ix2 y z)
    = m ((c : Thread nD τ).loc main_arg0) (ix2 (⟨512 * t.val + y.val, by have := tlt t; omega⟩ : Fin 4096) z) := by
  have hV : V m c main_arg0 = m ((c : Thread nD τ).loc main_arg0) := V_main_arg0 m c
  show V m c main_arg0 ((win0_0.blk t).view.emb (ix2 y z)) = _
  rw [hV]
  congr 1
  funext a
  have hi := ix0 t
  fin_cases a <;> apply Fin.ext <;> blk_simp [hi] <;> simp <;> omega

theorem e1 (c : Dev nD) (t : Fin cfg0.N) (y : Fin 3456) (z : Fin 1024) : (iblk m c 1 t : Vec Ideal S3456x1024 .bf16) (ix2 y z)
    = pick (fun k => (m ((c : Thread nD τ).loc main_arg1) : FVec Ideal S1024x3336 .f32) (ix2 z k)) y := by
  rw [← wtT_ix, ← wt_eq]
  show V m c main_v9 ((win0_1.blk t).view.emb (ix2 y z)) = _
  congr 1
  funext a
  have hi := ix1 t
  fin_cases a <;> apply Fin.ext <;> blk_simp [hi] <;> simp <;> omega

/-- The kernel's result. -/
def O (x : FVec Ideal S4096x1024 .f32) (w : FVec Ideal S1024x3336 .f32) (i : S4096x3456.Idx) : EReal :=
  pick (fun k => ∑ d, x (ix2 (i 0) d) * w (ix2 d k)) (i 1)

theorem O_eq (x : FVec Ideal S4096x1024 .f32) (w : FVec Ideal S1024x3336 .f32) (t : Fin 4096) (r : Fin 3456) (i : S4096x3456.Idx)
    (h0 : t.val = (i 0).val) (h1 : r.val = (i 1).val) : pick (fun k => ∑ d, x (ix2 t d) * w (ix2 d k)) r = O x w i := by
  have e0 : t = i 0 := Fin.ext h0
  have e1 : r = i 1 := Fin.ext h1
  rw [e0, e1]
  rfl

theorem array2 (c : Dev nD) : (dats m 0 c).arrAt 2 cfg0.N
    = (O (m ((c : Thread nD τ).loc main_arg0)) (m ((c : Thread nD τ).loc main_arg1)) : FVec Ideal S4096x3456 .bf16) := by
  refine (dats m 0 c).arrAt_eq_of_covers 2 _ (by decide +kernel) fun t hf y => ?_
  blk_simp
  rw [after0_2]
  have ht := tlt t
  have hi := ix2' t
  have h0 : (y 0).val < 512 := (y 0).isLt
  have h1 : (y 1).val < 3456 := (y 1).isLt
  have hy : y = ix2 (⟨(y 0).val, h0⟩ : Fin 512) (⟨(y 1).val, h1⟩ : Fin 3456) := by funext k; fin_cases k <;> rfl
  rw [hy]
  refine (pay _ _ _ _).trans ?_
  simp only [e0, e1]
  rw [sum_mul_pick]
  refine O_eq _ _ _ _ _ ?_ ?_ <;> blk_simp [hi] <;> simp <;> omega

end Cert.FwdProj
namespace Cert.FwdProj.Ref
open Idealize.ShloMosaic Idealize.ShloMosaic.TcCoe
open Cert.Reference5Ideal Cert.Reference5Ideal.Gen Cert.Cols
def refT (x : FVec Ideal S4096x1024 .f32) (w : FVec Ideal S1024x3336 .f32) : FVec Ideal S4096x3456 .bf16 :=
  truncf .bf16 ((concatenate S4096x3456 1 [⟨S4096x2048, ((extractStridedSlice S4096x2048 ![0, 0] (Host.dotGeneral dot_S4096x1024_S1024x3336_S4096x3336_1_0_0_1_n_n none x w) slices_S4096x3336_S4096x2048_0_0) : (⟨S4096x2048, .f32⟩ : BufTy).Contents (Elt Idealize.ShloMosaic.Ideal))⟩, ⟨S4096x512, ((extractStridedSlice S4096x512 ![0, 2056] (Host.dotGeneral dot_S4096x1024_S1024x3336_S4096x3336_1_0_0_1_n_n none x w) slices_S4096x3336_S4096x512_0_2056) : (⟨S4096x512, .f32⟩ : BufTy).Contents (Elt Idealize.ShloMosaic.Ideal))⟩, ⟨S4096x512, ((extractStridedSlice S4096x512 ![0, 2824] (Host.dotGeneral dot_S4096x1024_S1024x3336_S4096x3336_1_0_0_1_n_n none x w) slices_S4096x3336_S4096x512_0_2824) : (⟨S4096x512, .f32⟩ : BufTy).Contents (Elt Idealize.ShloMosaic.Ideal))⟩, ⟨S4096x128, ((extractStridedSlice S4096x128 ![0, 2568] (Host.dotGeneral dot_S4096x1024_S1024x3336_S4096x3336_1_0_0_1_n_n none x w) slices_S4096x3336_S4096x128_0_2568) : (⟨S4096x128, .f32⟩ : BufTy).Contents (Elt Idealize.ShloMosaic.Ideal))⟩, ⟨S4096x128, ((extractStridedSlice S4096x128 ![0, 2696] (Host.dotGeneral dot_S4096x1024_S1024x3336_S4096x3336_1_0_0_1_n_n none x w) slices_S4096x3336_S4096x128_0_2696) : (⟨S4096x128, .f32⟩ : BufTy).Contents (Elt Idealize.ShloMosaic.Ideal))⟩, ⟨S4096x8, ((extractStridedSlice S4096x8 ![0, 2048] (Host.dotGeneral dot_S4096x1024_S1024x3336_S4096x3336_1_0_0_1_n_n none x w) slices_S4096x3336_S4096x8_0_2048) : (⟨S4096x8, .f32⟩ : BufTy).Contents (Elt Idealize.ShloMosaic.Ideal))⟩, ⟨S4096x120, ((broadcastInDim S4096x120 ![] bcast_S_S4096x120 (constant S_ .f32 0x00000000#32)) : FVec Idealize.ShloMosaic.Ideal S4096x120 .f32)⟩] concatenates_S4096x2048_S4096x512_S4096x512_S4096x128_S4096x128_S4096x8_S4096x120_S4096x3456_d1 : (⟨S4096x3456, .f32⟩ : BufTy).Contents (Elt Ideal))) bitsLt_bf16_f32

theorem ref_ix (x : FVec Ideal S4096x1024 .f32) (w : FVec Ideal S1024x3336 .f32) (t : Fin 4096) (r : Fin 3456) :
    refT x w (ix2 t r) = pick (fun k => ∑ d, x (ix2 t d) * w (ix2 d k)) r := by
  pointwise [refT]
  unfold pick
  rfl

end Cert.FwdProj.Ref

end
-- ==== Proof.LnOut.lean ====
/-
  What one grid point of the layer norm's backward leaves in each of its five outputs, as the payloads of its input blocks and, for
  the three it accumulates, of what the point before left.
-/
module

public import proofs.«01_k».proof.Proof.Gen.Kernel2Ideal.Value
public import Idealize.ShloMosaic.Lib.Pointwise
public import Idealize.ShloMosaic.Lib.WholeRead
public import Idealize.ShloMosaic.Lib.Pipeline.ValueKit

@[expose] public section

set_option maxRecDepth 16384

noncomputable section

namespace Cert.Ln.Ker

open Idealize.ShloMosaic Idealize.ShloMosaic.TcCoe Idealize.SL.Sem
open Cert.Kernel2Ideal Cert.Kernel2Ideal.Gen

theorem hz : (![0, 0] : Fin 2 → Nat) = fun _ => 0 := funext fun a => by fin_cases a <;> rfl

theorem outA5 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole) (hc0 : cond0_0 i)
    (x0 : Vec Ideal S512x1024 .f32) (x1 : Vec Ideal S512x1024 .f32) (x2 : Vec Ideal S512x1024 .bf16) (x3 : Vec Ideal S1x1024 .f32) (x4 : Vec Ideal S1024x1024 .bf16) :
    out0_A_5 c i arg1 harg1 arg2 harg2 arg3 harg3 arg4 harg4 arg5 harg5 arg6 harg6 arg7 harg7 arg8 harg8 arg9 harg9 arg10 harg10 hc0 x0 x1 x2 x3 x4 = k0_pay12 x1 x0 x3 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  try sl_unfold_words
  rw [View.canon_unit_zero hz]
  simp only [View.readAt_eq_ld, harg1.read_unread, harg2.read_unread, harg3.read_unread, harg4.read_unread, harg5.read_unread, harg8.read_unread, harg9.read_unread, harg10.read_unread, View.ld_unit_zero (S := S512x1024) hz, View.ld_unit_zero (S := S1x1024) hz, View.ld_unit_zero (S := S1024x1024) hz]

theorem outA6 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole) (hc0 : cond0_0 i)
    (x0 : Vec Ideal S512x1024 .f32) (x1 : Vec Ideal S512x1024 .f32) (x2 : Vec Ideal S512x1024 .bf16) (x3 : Vec Ideal S1x1024 .f32) (x4 : Vec Ideal S1024x1024 .bf16) :
    out0_A_6 c i arg1 harg1 arg2 harg2 arg3 harg3 arg4 harg4 arg5 harg5 arg6 harg6 arg7 harg7 arg8 harg8 arg9 harg9 arg10 harg10 hc0 x0 x1 x2 x3 x4 = k0_pay4 (k0_pay12 x1 x0 x3) x4 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  try sl_unfold_words
  rw [View.canon_unit_zero hz]
  simp only [View.readAt_eq_ld, harg1.read_unread, harg2.read_unread, harg3.read_unread, harg4.read_unread, harg5.read_unread, harg8.read_unread, harg9.read_unread, harg10.read_unread, View.ld_unit_zero (S := S512x1024) hz, View.ld_unit_zero (S := S1x1024) hz, View.ld_unit_zero (S := S1024x1024) hz]

theorem outA7 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole) (hc0 : cond0_0 i)
    (x0 : Vec Ideal S512x1024 .f32) (x1 : Vec Ideal S512x1024 .f32) (x2 : Vec Ideal S512x1024 .bf16) (x3 : Vec Ideal S1x1024 .f32) (x4 : Vec Ideal S1024x1024 .bf16) :
    out0_A_7 c i arg1 harg1 arg2 harg2 arg3 harg3 arg4 harg4 arg5 harg5 arg6 harg6 arg7 harg7 arg8 harg8 arg9 harg9 arg10 harg10 hc0 x0 x1 x2 x3 x4 = k0_pay5 (k0_pay12 x1 x0 x3) (k0_pay6 (F := Ideal)) x2 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  try sl_unfold_words
  rw [View.canon_cons_unit_zero (S := S1024x1024) hz]
  simp only [View.readCov_unit_zero (S := S1x1024) _ hz, View.readCov_unit_zero (S := S1024x1024) _ hz, View.readAt_eq_ld, harg1.read_unread, harg2.read_unread, harg3.read_unread, harg4.read_unread, harg5.read_unread, harg8.read_unread, harg9.read_unread, harg10.read_unread, View.ld_unit_zero (S := S512x1024) hz, View.ld_unit_zero (S := S1x1024) hz, View.ld_unit_zero (S := S1024x1024) hz]

theorem outA8 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole) (hc0 : cond0_0 i)
    (x0 : Vec Ideal S512x1024 .f32) (x1 : Vec Ideal S512x1024 .f32) (x2 : Vec Ideal S512x1024 .bf16) (x3 : Vec Ideal S1x1024 .f32) (x4 : Vec Ideal S1024x1024 .bf16) :
    out0_A_8 c i arg1 harg1 arg2 harg2 arg3 harg3 arg4 harg4 arg5 harg5 arg6 harg6 arg7 harg7 arg8 harg8 arg9 harg9 arg10 harg10 hc0 x0 x1 x2 x3 x4 = k0_pay1 (k0_pay11 x1) x0 (k0_pay7 (F := Ideal)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  try sl_unfold_words
  rw [View.canon_cons_unit_zero (S := S1x1024) hz]
  simp only [View.readCov_unit_zero (S := S1x1024) _ hz, View.readCov_unit_zero (S := S1024x1024) _ hz, View.readAt_eq_ld, harg1.read_unread, harg2.read_unread, harg3.read_unread, harg4.read_unread, harg5.read_unread, harg8.read_unread, harg9.read_unread, harg10.read_unread, View.ld_unit_zero (S := S512x1024) hz, View.ld_unit_zero (S := S1x1024) hz, View.ld_unit_zero (S := S1024x1024) hz]

theorem outA9 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole) (hc0 : cond0_0 i)
    (x0 : Vec Ideal S512x1024 .f32) (x1 : Vec Ideal S512x1024 .f32) (x2 : Vec Ideal S512x1024 .bf16) (x3 : Vec Ideal S1x1024 .f32) (x4 : Vec Ideal S1024x1024 .bf16) :
    out0_A_9 c i arg1 harg1 arg2 harg2 arg3 harg3 arg4 harg4 arg5 harg5 arg6 harg6 arg7 harg7 arg8 harg8 arg9 harg9 arg10 harg10 hc0 x0 x1 x2 x3 x4 = k0_pay2 x0 (k0_pay8 (F := Ideal)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  try sl_unfold_words
  rw [View.canon_cons_unit_zero (S := S1x1024) hz]
  simp only [View.readCov_unit_zero (S := S1x1024) _ hz, View.readCov_unit_zero (S := S1024x1024) _ hz, View.readAt_eq_ld, harg1.read_unread, harg2.read_unread, harg3.read_unread, harg4.read_unread, harg5.read_unread, harg8.read_unread, harg9.read_unread, harg10.read_unread, View.ld_unit_zero (S := S512x1024) hz, View.ld_unit_zero (S := S1x1024) hz, View.ld_unit_zero (S := S1024x1024) hz]

theorem outB5 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole) (hc0 : ¬cond0_0 i)
    (x0 : Vec Ideal S512x1024 .f32) (x1 : Vec Ideal S512x1024 .f32) (x2 : Vec Ideal S512x1024 .bf16) (x3 : Vec Ideal S1x1024 .f32) (x4 : Vec Ideal S1024x1024 .bf16) (xo7 : Vec Ideal S1024x1024 .f32) (xo8 : Vec Ideal S1x1024 .f32) (xo9 : Vec Ideal S1x1024 .f32) :
    out0_B_5 c i arg1 harg1 arg2 harg2 arg3 harg3 arg4 harg4 arg5 harg5 arg6 harg6 arg7 harg7 arg8 harg8 arg9 harg9 arg10 harg10 hc0 x0 x1 x2 x3 x4 xo7 xo8 xo9 = k0_pay12 x1 x0 x3 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 x0 x1 x2 x3 x4 xo7 xo8 xo9)]
  unfold kernelRun0_B
  dsimp only
  try sl_unfold_words
  rw [View.canon_unit_zero hz]
  simp only [View.readAt_eq_ld, harg1.read_unread, harg2.read_unread, harg3.read_unread, harg4.read_unread, harg5.read_unread, harg8.read_unread, harg9.read_unread, harg10.read_unread, View.ld_unit_zero (S := S512x1024) hz, View.ld_unit_zero (S := S1x1024) hz, View.ld_unit_zero (S := S1024x1024) hz]

theorem outB6 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole) (hc0 : ¬cond0_0 i)
    (x0 : Vec Ideal S512x1024 .f32) (x1 : Vec Ideal S512x1024 .f32) (x2 : Vec Ideal S512x1024 .bf16) (x3 : Vec Ideal S1x1024 .f32) (x4 : Vec Ideal S1024x1024 .bf16) (xo7 : Vec Ideal S1024x1024 .f32) (xo8 : Vec Ideal S1x1024 .f32) (xo9 : Vec Ideal S1x1024 .f32) :
    out0_B_6 c i arg1 harg1 arg2 harg2 arg3 harg3 arg4 harg4 arg5 harg5 arg6 harg6 arg7 harg7 arg8 harg8 arg9 harg9 arg10 harg10 hc0 x0 x1 x2 x3 x4 xo7 xo8 xo9 = k0_pay4 (k0_pay12 x1 x0 x3) x4 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 x4 xo7 xo8 xo9)]
  unfold kernelRun0_B
  dsimp only
  try sl_unfold_words
  rw [View.canon_unit_zero hz]
  simp only [View.readAt_eq_ld, harg1.read_unread, harg2.read_unread, harg3.read_unread, harg4.read_unread, harg5.read_unread, harg8.read_unread, harg9.read_unread, harg10.read_unread, View.ld_unit_zero (S := S512x1024) hz, View.ld_unit_zero (S := S1x1024) hz, View.ld_unit_zero (S := S1024x1024) hz]

theorem outB7 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole) (hc0 : ¬cond0_0 i)
    (x0 : Vec Ideal S512x1024 .f32) (x1 : Vec Ideal S512x1024 .f32) (x2 : Vec Ideal S512x1024 .bf16) (x3 : Vec Ideal S1x1024 .f32) (x4 : Vec Ideal S1024x1024 .bf16) (xo7 : Vec Ideal S1024x1024 .f32) (xo8 : Vec Ideal S1x1024 .f32) (xo9 : Vec Ideal S1x1024 .f32) :
    out0_B_7 c i arg1 harg1 arg2 harg2 arg3 harg3 arg4 harg4 arg5 harg5 arg6 harg6 arg7 harg7 arg8 harg8 arg9 harg9 arg10 harg10 hc0 x0 x1 x2 x3 x4 xo7 xo8 xo9 = k0_pay5 (k0_pay12 x1 x0 x3) xo7 x2 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 xo7 xo8 xo9)]
  unfold kernelRun0_B
  dsimp only
  try sl_unfold_words
  rw [View.canon_unit_zero hz]
  simp only [View.readAt_eq_ld, harg1.read_unread, harg2.read_unread, harg3.read_unread, harg4.read_unread, harg5.read_unread, harg8.read_unread, harg9.read_unread, harg10.read_unread, View.ld_unit_zero (S := S512x1024) hz, View.ld_unit_zero (S := S1x1024) hz, View.ld_unit_zero (S := S1024x1024) hz]

theorem outB8 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole) (hc0 : ¬cond0_0 i)
    (x0 : Vec Ideal S512x1024 .f32) (x1 : Vec Ideal S512x1024 .f32) (x2 : Vec Ideal S512x1024 .bf16) (x3 : Vec Ideal S1x1024 .f32) (x4 : Vec Ideal S1024x1024 .bf16) (xo7 : Vec Ideal S1024x1024 .f32) (xo8 : Vec Ideal S1x1024 .f32) (xo9 : Vec Ideal S1x1024 .f32) :
    out0_B_8 c i arg1 harg1 arg2 harg2 arg3 harg3 arg4 harg4 arg5 harg5 arg6 harg6 arg7 harg7 arg8 harg8 arg9 harg9 arg10 harg10 hc0 x0 x1 x2 x3 x4 xo7 xo8 xo9 = k0_pay1 (k0_pay11 x1) x0 xo8 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 xo7 xo8 xo9)]
  unfold kernelRun0_B
  dsimp only
  try sl_unfold_words
  rw [View.canon_unit_zero hz]
  simp only [View.readAt_eq_ld, harg1.read_unread, harg2.read_unread, harg3.read_unread, harg4.read_unread, harg5.read_unread, harg8.read_unread, harg9.read_unread, harg10.read_unread, View.ld_unit_zero (S := S512x1024) hz, View.ld_unit_zero (S := S1x1024) hz, View.ld_unit_zero (S := S1024x1024) hz]

theorem outB9 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole) (hc0 : ¬cond0_0 i)
    (x0 : Vec Ideal S512x1024 .f32) (x1 : Vec Ideal S512x1024 .f32) (x2 : Vec Ideal S512x1024 .bf16) (x3 : Vec Ideal S1x1024 .f32) (x4 : Vec Ideal S1024x1024 .bf16) (xo7 : Vec Ideal S1024x1024 .f32) (xo8 : Vec Ideal S1x1024 .f32) (xo9 : Vec Ideal S1x1024 .f32) :
    out0_B_9 c i arg1 harg1 arg2 harg2 arg3 harg3 arg4 harg4 arg5 harg5 arg6 harg6 arg7 harg7 arg8 harg8 arg9 harg9 arg10 harg10 hc0 x0 x1 x2 x3 x4 xo7 xo8 xo9 = k0_pay2 x0 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 x4 xo7 xo8 xo9)]
  unfold kernelRun0_B
  dsimp only
  try sl_unfold_words
  rw [View.canon_unit_zero hz]
  simp only [View.readAt_eq_ld, harg1.read_unread, harg2.read_unread, harg3.read_unread, harg4.read_unread, harg5.read_unread, harg8.read_unread, harg9.read_unread, harg10.read_unread, View.ld_unit_zero (S := S512x1024) hz, View.ld_unit_zero (S := S1x1024) hz, View.ld_unit_zero (S := S1024x1024) hz]

end Cert.Ln.Ker

end
-- ==== Proof.LnRow.lean ====
/-
  One row of the layer norm's derivative. `dr` is the cotangent of the row as the kernel writes it, in closed form; `rdr` is the
  same cotangent as the chain rule leaves it, the centring and the variance taken apart. They agree on rows of real numbers.
-/
module

public import Idealize.ShloMosaic.Lib.Pointwise
public import proofs.«01_k».proof.Proof.Spec

@[expose] public section

set_option maxRecDepth 16384

noncomputable section

namespace Cert.Ln

open Idealize.ShloMosaic Cert.Spec

/-- A row of an array of 1024 columns. -/
abbrev Row : Type := Fin 1024 → EReal

/-- The row's length, the guard of the variance, and the two factors of the chain rule. -/
def len : EReal := Ideal.ofBits .f32 0x44800000#32
def eps : EReal := Ideal.ofBits .f32 0x3727C5AC#32
def two : EReal := Ideal.ofBits .f32 0x40000000#32
def mhalf : EReal := Ideal.ofBits .f32 0xBF000000#32
def alpha : EReal := Ideal.ofBits .f32 0x3FB504F3#32

/-- The mean of a row. -/
def mean (f : Row) : EReal := Ideal.div (∑ d, f d) len
/-- The row less its mean. -/
def cen (r : Row) (d : Fin 1024) : EReal := r d - mean r
/-- The variance, guarded. -/
def ve (r : Row) : EReal := mean (fun d => cen r d * cen r d) + eps
/-- One over the standard deviation. -/
def rs (r : Row) : EReal := Ideal.rsqrt (ve r)
/-- The normalised row. -/
def hat (r : Row) (d : Fin 1024) : EReal := cen r d * rs r

/-- The row's cotangent in closed form: `y` the cotangent of the result, `g` the gains. -/
def dr (r y g : Row) (d : Fin 1024) : EReal :=
  rs r * (y d * g d - mean (fun e => y e * g e) - hat r d * mean (fun e => y e * g e * hat r e))

/-- The variance's cotangent's part of an entry. -/
def vpart (r y g : Row) (d : Fin 1024) : EReal :=
  Ideal.div ((∑ e, cen r e * (y e * g e)) * (mhalf * Ideal.div (rs r) (ve r))) len * (two * cen r d)

/-- The row's cotangent as the chain rule leaves it. -/
def rdr (r y g : Row) (d : Fin 1024) : EReal :=
  (y d * g d * rs r + vpart r y g d) + Ideal.div ((∑ e, -(y e * g e * rs r)) + ∑ e, -(vpart r y g e)) len

theorem len_eq : len = ((1024 : ℝ) : EReal) := by
  simp [len, Ideal.ofBits, Ideal.ieee]
  rw [← EReal.coe_mul]
  norm_num

theorem two_eq : two = ((2 : ℝ) : EReal) := by
  simp [two, Ideal.ofBits, Ideal.ieee]
  rw [← EReal.coe_mul]
  norm_num

theorem mhalf_eq : mhalf = ((-(1/2) : ℝ) : EReal) := by
  simp [mhalf, Ideal.ofBits, Ideal.ieee]
  rw [← EReal.coe_mul]
  norm_num

theorem eps_eq : ∃ e : ℝ, 0 < e ∧ eps = (e : EReal) := by
  refine ⟨_, ?_, by simp only [eps, Ideal.ofBits, Ideal.ieee]; simp; rfl⟩
  norm_num

theorem alpha_real : Real' alpha := by
  refine ⟨_, by simp only [alpha, Ideal.ofBits, Ideal.ieee]; simp; rfl⟩

theorem div_coe (a : ℝ) {b : ℝ} (hb : b ≠ 0) : Ideal.div (a : EReal) (b : EReal) = ((a / b : ℝ) : EReal) := by
  have h : (b : EReal) ≠ 0 := by exact_mod_cast hb
  simp [Ideal.div, h]
  rw [div_eq_mul_inv, EReal.coe_mul, EReal.coe_inv]

theorem mean_coe (f : Fin 1024 → ℝ) : mean (fun d => (f d : EReal)) = (((∑ d, f d) / 1024 : ℝ) : EReal) := by
  unfold mean
  rw [← coe_sum, len_eq, div_coe _ (by norm_num)]

/-- The closed form is the chain rule's, on rows of real numbers; and it is a row of real numbers. -/
theorem dr_eq (r y g : Row) (hr : ∀ d, Real' (r d)) (hy : ∀ d, Real' (y d)) (hg : ∀ d, Real' (g d)) (d : Fin 1024) :
    dr r y g d = rdr r y g d := by
  choose r' hr using hr
  choose y' hy using hy
  choose g' hg using hg
  obtain rfl : r = fun d => (r' d : EReal) := funext hr
  obtain rfl : y = fun d => (y' d : EReal) := funext hy
  obtain rfl : g = fun d => (g' d : EReal) := funext hg
  obtain ⟨e, he, hE⟩ := eps_eq
  obtain ⟨c, hc⟩ : ∃ c : Fin 1024 → ℝ, c = fun d => r' d - (∑ d, r' d) / 1024 := ⟨_, rfl⟩
  have hcen : ∀ d, cen (fun d => (r' d : EReal)) d = (c d : EReal) := fun d => by
    unfold cen; rw [mean_coe, ← EReal.coe_sub, hc]
  have hsum : ∑ d, c d = 0 := by
    rw [hc, Finset.sum_sub_distrib, Finset.sum_const, Finset.card_univ, Fintype.card_fin]; simp; ring
  obtain ⟨v, hv⟩ : ∃ v : ℝ, v = (∑ d, c d * c d) / 1024 + e := ⟨_, rfl⟩
  have hvp : 0 < v := by
    rw [hv]
    exact add_pos_of_nonneg_of_pos (div_nonneg (Finset.sum_nonneg fun d _ => mul_self_nonneg _) (by norm_num)) he
  have hve : ve (fun d => (r' d : EReal)) = (v : EReal) := by
    unfold ve
    simp only [hcen, ← EReal.coe_mul]
    rw [mean_coe, hE, ← EReal.coe_add, hv]
  obtain ⟨s, hs⟩ : ∃ s : ℝ, s = (Real.sqrt v)⁻¹ := ⟨_, rfl⟩
  have hss : s * s * v = 1 := by
    have := Real.mul_self_sqrt hvp.le
    have h0 : Real.sqrt v ≠ 0 := (Real.sqrt_pos.mpr hvp).ne'
    rw [hs]
    field_simp
    linarith [Real.sq_sqrt hvp.le]
  have hrs : rs (fun d => (r' d : EReal)) = (s : EReal) := by
    unfold rs
    rw [hve, Ideal.rsqrt_coe, if_neg (not_lt.mpr hvp.le), if_neg hvp.ne', hs]
  have hsv : s / v = s * (s * s) := by
    rw [div_eq_iff hvp.ne']; linear_combination (-s) * hss
  have hhat : ∀ d, hat (fun d => (r' d : EReal)) d = ((c d * s : ℝ) : EReal) := fun d => by
    unfold hat; rw [hcen, hrs, EReal.coe_mul]
  have hvpart : ∀ d, vpart (fun d => (r' d : EReal)) (fun d => (y' d : EReal)) (fun d => (g' d : EReal)) d
      = (((∑ e, c e * (y' e * g' e)) * (-(1/2) * (s / v)) / 1024 * (2 * c d) : ℝ) : EReal) := fun d => by
    unfold vpart
    simp only [hcen, hrs, hve, mhalf_eq, two_eq, len_eq]
    rw [div_coe _ hvp.ne']
    simp only [← EReal.coe_mul, ← coe_sum]
    rw [div_coe _ (by norm_num), ← EReal.coe_mul]
  unfold dr rdr
  simp only [hvpart, hhat, hrs]
  simp only [← EReal.coe_mul, ← EReal.coe_neg, ← coe_sum, mean_coe, ← EReal.coe_add, ← EReal.coe_sub, len_eq]
  rw [div_coe _ (by norm_num), ← EReal.coe_add]
  congr 1
  rw [hsv]
  simp only [Finset.sum_neg_distrib, ← Finset.mul_sum, ← Finset.sum_mul, hsum]
  have e1 : (∑ x, y' x * g' x * (c x * s)) = s * ∑ x, c x * (y' x * g' x) := by
    rw [Finset.mul_sum]; exact Finset.sum_congr rfl fun x _ => by ring
  rw [e1]
  ring

end Cert.Ln

end
-- ==== Proof.LnKer.lean ====
/-
  The layer norm's backward kernel, array by array: each of its five results as a function of the arguments. The cotangent of a
  row is `Ln.dr`; the three sums over the rows are added up block by block.
-/
module

public import proofs.«01_k».proof.Proof.LnOut
public import proofs.«01_k».proof.Proof.LnRow
public import proofs.«01_k».proof.Proof.DwProj
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.Ln.Ker

open Idealize.ShloMosaic Idealize.ShloMosaic.TcCoe Idealize.SL.Sem
open Cert.Kernel2Ideal Cert.Kernel2Ideal.Gen

variable (m : (ℓ : Loc nD τ sig) → Buf (Elt Ideal) ℓ)

/-! ## The payloads -/

/-- A row of a block. -/
def brow (v : Vec Ideal S512x1024 .f32) (i : Fin 512) : Row := fun d => v (ix2 i d)

theorem pay9 (v : Vec Ideal S512x1024 .f32) (i : Fin 512) (d : Fin 1024) : k0_pay9 v (ix2 i d) = cen (brow v i) d := by
  pointwise [k0_pay9]
  rfl

theorem pay10 (v : Vec Ideal S512x1024 .f32) (i : Fin 512) (u : Fin 1) : k0_pay10 v (ix2 i u) = rs (brow v i) := by
  pointwise [k0_pay10]
  simp only [pay9]
  rfl

theorem pay11 (v : Vec Ideal S512x1024 .f32) (i : Fin 512) (d : Fin 1024) : k0_pay11 v (ix2 i d) = hat (brow v i) d := by
  pointwise [k0_pay11]
  rw [pay9, pay10]
  rfl

theorem pay12 (v y : Vec Ideal S512x1024 .f32) (g : Vec Ideal S1x1024 .f32) (i : Fin 512) (d : Fin 1024) :
    k0_pay12 v y g (ix2 i d) = dr (brow v i) (brow y i) (fun e => g (ix2 0 e)) d := by
  pointwise [k0_pay12]
  simp only [pay10, pay11]
  rfl

theorem pay1 (a y : Vec Ideal S512x1024 .f32) (acc : Vec Ideal S1x1024 .f32) (u : Fin 1) (d : Fin 1024) :
    k0_pay1 a y acc (ix2 u d) = acc (ix2 u d) + ∑ i, y (ix2 i d) * a (ix2 i d) := by
  pointwise [k0_pay1]

theorem pay2 (y : Vec Ideal S512x1024 .f32) (acc : Vec Ideal S1x1024 .f32) (u : Fin 1) (d : Fin 1024) :
    k0_pay2 y acc (ix2 u d) = acc (ix2 u d) + ∑ i, y (ix2 i d) := by
  pointwise [k0_pay2]

theorem pay4 (a : Vec Ideal S512x1024 .f32) (w : Vec Ideal S1024x1024 .bf16) (i : Fin 512) (k : Fin 1024) :
    k0_pay4 a w (ix2 i k) = ∑ d, a (ix2 i d) * w (ix2 k d) := by
  pointwise [k0_pay4, k0_pay3]

theorem pay5 (a : Vec Ideal S512x1024 .f32) (acc : Vec Ideal S1024x1024 .f32) (mx : Vec Ideal S512x1024 .bf16) (k d : Fin 1024) :
    k0_pay5 a acc mx (ix2 k d) = acc (ix2 k d) + ∑ i, mx (ix2 i k) * a (ix2 i d) := by
  pointwise [k0_pay5, k0_pay3]

theorem pay6 (k d : Fin 1024) : k0_pay6 (F := Ideal) (ix2 k d) = (0 : EReal) := by
  pointwise [k0_pay6]

theorem pay7 (u : Fin 1) (d : Fin 1024) : k0_pay7 (F := Ideal) (ix2 u d) = (0 : EReal) := by
  pointwise [k0_pay7]

theorem pay8 (u : Fin 1) (d : Fin 1024) : k0_pay8 (F := Ideal) (ix2 u d) = (0 : EReal) := by
  pointwise [k0_pay8]

/-! ## The blocks -/

/-- The layer's output before its norm. -/
def rK (x : FVec Ideal S4096x1024 .f32) (mx : FVec Ideal S4096x1024 .bf16) (w : FVec Ideal S1024x1024 .f32) : FVec Ideal S4096x1024 .f32 :=
  addf (mulf (broadcastInDim S4096x1024 ![] bcast_S_S4096x1024 (constant (F := Ideal) S_ .f32 0x3FB504F3#32)) x)
    (Host.dotGeneral dot_S4096x1024_S1024x1024_S4096x1024_1_0_0_1_n_n none (extf .f32 mx bitsLt_bf16_f32)
      (extf .f32 (truncf .bf16 w bitsLt_bf16_f32 : FVec Ideal S1024x1024 .bf16) bitsLt_bf16_f32))

theorem r_eq (c : Dev nD) : (V m c main_v6 : FVec Ideal S4096x1024 .f32)
    = rK (m ((c : Thread nD τ).loc main_arg1)) (m ((c : Thread nD τ).loc main_arg2)) (m ((c : Thread nD τ).loc main_arg4)) := by
  unfold rK
  unfold_abbrev_sides
  simp only [hostOps0, List.flatten_cons, List.flatten_nil, List.append_nil, List.cons_append, List.nil_append]
  after_results <;> rfl

def wT (w : FVec Ideal S1024x1024 .f32) : FVec Ideal S1024x1024 .bf16 := truncf .bf16 w bitsLt_bf16_f32

theorem w_eq (c : Dev nD) : (V m c main_v0 : FVec Ideal S1024x1024 .bf16) = wT (m ((c : Thread nD τ).loc main_arg4)) := by
  unfold wT
  unfold_abbrev_sides
  simp only [hostOps0, List.flatten_cons, List.flatten_nil, List.append_nil, List.cons_append, List.nil_append]
  after_results <;> rfl

theorem rK_ix (x : FVec Ideal S4096x1024 .f32) (mx : FVec Ideal S4096x1024 .bf16) (w : FVec Ideal S1024x1024 .f32) (t : Fin 4096) (d : Fin 1024) :
    rK x mx w (ix2 t d) = alpha * x (ix2 t d) + ∑ k, mx (ix2 t k) * w (ix2 k d) := by
  pointwise [rK]
  rfl

theorem ix0' : ∀ t : Fin cfg0.N, win0_0.index t = ![t.val, 0] := (by decide +kernel : ∀ t : Fin grid0.N, _)
theorem ix1' : ∀ t : Fin cfg0.N, win0_1.index t = ![t.val, 0] := (by decide +kernel : ∀ t : Fin grid0.N, _)
theorem ix2' : ∀ t : Fin cfg0.N, win0_2.index t = ![t.val, 0] := (by decide +kernel : ∀ t : Fin grid0.N, _)
theorem ix3' : ∀ t : Fin cfg0.N, win0_3.index t = ![0, 0] := (by decide +kernel : ∀ t : Fin grid0.N, _)
theorem ix4' : ∀ t : Fin cfg0.N, win0_4.index t = ![0, 0] := (by decide +kernel : ∀ t : Fin grid0.N, _)
theorem ix5' : ∀ t : Fin cfg0.N, win0_5.index t = ![t.val, 0] := (by decide +kernel : ∀ t : Fin grid0.N, _)
theorem ix6' : ∀ t : Fin cfg0.N, win0_6.index t = ![t.val, 0] := (by decide +kernel : ∀ t : Fin grid0.N, _)
theorem ix7' : ∀ t : Fin cfg0.N, win0_7.index t = ![0, 0] := (by decide +kernel : ∀ t : Fin grid0.N, _)
theorem ix8' : ∀ t : Fin cfg0.N, win0_8.index t = ![0, 0] := (by decide +kernel : ∀ t : Fin grid0.N, _)
theorem ix9' : ∀ t : Fin cfg0.N, win0_9.index t = ![0, 0] := (by decide +kernel : ∀ t : Fin grid0.N, _)

theorem tlt (t : Fin cfg0.N) : t.val < 8 := lt_of_lt_of_eq t.isLt (show cfg0.N = 8 from N_0)

/-- Row `y` of block `t`. -/
def at' (t : ℕ) (y : Fin 512) : Fin 4096 := ⟨(512 * t + y.val) % 4096, Nat.mod_lt _ (by decide)⟩

theorem e0 (c : Dev nD) (t : Fin cfg0.N) (y : Fin 512) (z : Fin 1024) : (iblk m c 0 t : Vec Ideal S512x1024 .f32) (ix2 y z)
    = (m ((c : Thread nD τ).loc main_arg0) : FVec Ideal S4096x1024 .f32) (ix2 (at' t.val y) z) := by
  have hV : V m c main_arg0 = m ((c : Thread nD τ).loc main_arg0) := V_main_arg0 m c
  show V m c main_arg0 ((win0_0.blk t).view.emb (ix2 y z)) = _
  rw [hV]
  unfold at'
  congr 1
  funext a
  have hi := ix0' t
  have ht := tlt t
  fin_cases a <;> apply Fin.ext <;> blk_simp [hi] <;> simp <;> omega

theorem e1 (c : Dev nD) (t : Fin cfg0.N) (y : Fin 512) (z : Fin 1024) : (iblk m c 1 t : Vec Ideal S512x1024 .f32) (ix2 y z)
    = rK (m ((c : Thread nD τ).loc main_arg1)) (m ((c : Thread nD τ).loc main_arg2)) (m ((c : Thread nD τ).loc main_arg4)) (ix2 (at' t.val y) z) := by
  rw [← r_eq]
  show V m c main_v6 ((win0_1.blk t).view.emb (ix2 y z)) = _
  unfold at'
  congr 1
  funext a
  have hi := ix1' t
  have ht := tlt t
  fin_cases a <;> apply Fin.ext <;> blk_simp [hi] <;> simp <;> omega

theorem e2 (c : Dev nD) (t : Fin cfg0.N) (y : Fin 512) (z : Fin 1024) : (iblk m c 2 t : Vec Ideal S512x1024 .bf16) (ix2 y z)
    = (m ((c : Thread nD τ).loc main_arg2) : FVec Ideal S4096x1024 .bf16) (ix2 (at' t.val y) z) := by
  have hV : V m c main_arg2 = m ((c : Thread nD τ).loc main_arg2) := V_main_arg2 m c
  show V m c main_arg2 ((win0_2.blk t).view.emb (ix2 y z)) = _
  rw [hV]
  unfold at'
  congr 1
  funext a
  have hi := ix2' t
  have ht := tlt t
  fin_cases a <;> apply Fin.ext <;> blk_simp [hi] <;> simp <;> omega

theorem e3 (c : Dev nD) (t : Fin cfg0.N) (y : Fin 1) (z : Fin 1024) : (iblk m c 3 t : Vec Ideal S1x1024 .f32) (ix2 y z)
    = (m ((c : Thread nD τ).loc main_arg3) : FVec Ideal S1x1024 .f32) (ix2 y z) := by
  have hV : V m c main_arg3 = m ((c : Thread nD τ).loc main_arg3) := V_main_arg3 m c
  show V m c main_arg3 ((win0_3.blk t).view.emb (ix2 y z)) = _
  rw [hV]
  congr 1
  funext a
  have hi := ix3' t
  fin_cases a <;> apply Fin.ext <;> blk_simp [hi] <;> simp

theorem e4 (c : Dev nD) (t : Fin cfg0.N) (y z : Fin 1024) : (iblk m c 4 t : Vec Ideal S1024x1024 .bf16) (ix2 y z)
    = (m ((c : Thread nD τ).loc main_arg4) : FVec Ideal S1024x1024 .f32) (ix2 y z) := by
  have hw : (m ((c : Thread nD τ).loc main_arg4) : FVec Ideal S1024x1024 .f32) (ix2 y z) = (V m c main_v0 : FVec Ideal S1024x1024 .bf16) (ix2 y z) := by
    rw [w_eq]; rfl
  rw [hw]
  show V m c main_v0 ((win0_4.blk t).view.emb (ix2 y z)) = _
  congr 1
  funext a
  have hi := ix4' t
  fin_cases a <;> apply Fin.ext <;> blk_simp [hi] <;> simp

/-! ## The results -/

/-- A row of an array. -/
def row (v : FVec Ideal S4096x1024 .f32) (t : Fin 4096) : Row := fun d => v (ix2 t d)

/-- The cotangent of a row. -/
def D (r y : FVec Ideal S4096x1024 .f32) (g : FVec Ideal S1x1024 .f32) (t : Fin 4096) : Row := dr (row r t) (row y t) fun e => g (ix2 0 e)

abbrev X0 (c : Dev nD) : FVec Ideal S4096x1024 .f32 := m ((c : Thread nD τ).loc main_arg0)
abbrev X2 (c : Dev nD) : FVec Ideal S4096x1024 .bf16 := m ((c : Thread nD τ).loc main_arg2)
abbrev X3 (c : Dev nD) : FVec Ideal S1x1024 .f32 := m ((c : Thread nD τ).loc main_arg3)
abbrev X4 (c : Dev nD) : FVec Ideal S1024x1024 .f32 := m ((c : Thread nD τ).loc main_arg4)
abbrev R (c : Dev nD) : FVec Ideal S4096x1024 .f32 :=
  rK (m ((c : Thread nD τ).loc main_arg1)) (m ((c : Thread nD τ).loc main_arg2)) (m ((c : Thread nD τ).loc main_arg4))

def O5 (r y : FVec Ideal S4096x1024 .f32) (g : FVec Ideal S1x1024 .f32) (i : S4096x1024.Idx) : EReal := D r y g (i 0) (i 1)
def O6 (r y : FVec Ideal S4096x1024 .f32) (g : FVec Ideal S1x1024 .f32) (w : FVec Ideal S1024x1024 .f32) (i : S4096x1024.Idx) : EReal :=
  ∑ d, D r y g (i 0) d * w (ix2 (i 1) d)
def O7 (r y : FVec Ideal S4096x1024 .f32) (g : FVec Ideal S1x1024 .f32) (mx : FVec Ideal S4096x1024 .bf16) (i : S1024x1024.Idx) : EReal :=
  ∑ t, mx (ix2 t (i 0)) * D r y g t (i 1)
def O8 (r y : FVec Ideal S4096x1024 .f32) (i : S1x1024.Idx) : EReal := ∑ t, y (ix2 t (i 1)) * hat (row r t) (i 1)
def O9 (y : FVec Ideal S4096x1024 .f32) (i : S1x1024.Idx) : EReal := ∑ t, y (ix2 t (i 1))

theorem brow0 (c : Dev nD) (t : Fin cfg0.N) (i : Fin 512) : brow (iblk m c 0 t) i = row (X0 m c) (at' t.val i) := funext fun d => e0 m c t i d
theorem brow1 (c : Dev nD) (t : Fin cfg0.N) (i : Fin 512) : brow (iblk m c 1 t) i = row (R m c) (at' t.val i) := funext fun d => e1 m c t i d

theorem D_eq (c : Dev nD) (t : Fin cfg0.N) (i : Fin 512) (d : Fin 1024) :
    k0_pay12 (iblk m c 1 t) (iblk m c 0 t) (iblk m c 3 t) (ix2 i d) = D (R m c) (X0 m c) (X3 m c) (at' t.val i) d := by
  refine (pay12 _ _ _ _ _).trans ?_
  rw [brow0, brow1]
  simp only [e3]
  rfl

theorem block5 (c : Dev nD) (t : Fin cfg0.N) (i : Fin 512) (d : Fin 1024) :
    (outsAt0 m c t.val t.isLt).1 (ix2 i d) = D (R m c) (X0 m c) (X3 m c) (at' t.val i) d := by
  by_cases h0 : t.val % 8 = 0
  · rw [outsAt0_A m c t h0]
    dsimp only
    rw [outA5]
    exact D_eq m c t i d
  · rw [outsAt0_B m c t h0]
    dsimp only
    rw [outB5]
    exact D_eq m c t i d

theorem dm_eq (c : Dev nD) (t : Fin cfg0.N) (i : Fin 512) (k : Fin 1024) :
    k0_pay4 (k0_pay12 (iblk m c 1 t) (iblk m c 0 t) (iblk m c 3 t)) (iblk m c 4 t) (ix2 i k)
      = ∑ d, D (R m c) (X0 m c) (X3 m c) (at' t.val i) d * X4 m c (ix2 k d) := by
  refine (pay4 _ _ _ _).trans ?_
  simp only [D_eq, e4]

theorem block6 (c : Dev nD) (t : Fin cfg0.N) (i : Fin 512) (k : Fin 1024) :
    (outsAt0 m c t.val t.isLt).2.1 (ix2 i k) = ∑ d, D (R m c) (X0 m c) (X3 m c) (at' t.val i) d * X4 m c (ix2 k d) := by
  by_cases h0 : t.val % 8 = 0
  · rw [outsAt0_A m c t h0]
    dsimp only
    rw [outA6]
    exact dm_eq m c t i k
  · rw [outsAt0_B m c t h0]
    dsimp only
    rw [outB6]
    exact dm_eq m c t i k

theorem acc7 (c : Dev nD) (k d : Fin 1024) : ∀ (n : ℕ) (h : n < cfg0.N),
    (outsAt0 m c n h).2.2.1 (ix2 k d)
      = ∑ j ∈ Finset.range (n + 1), ∑ y : Fin 512, X2 m c (ix2 (at' j y) k) * D (R m c) (X0 m c) (X3 m c) (at' j y) d
  | 0, h => by
    refine (congrArg (fun q => q.2.2.1 (ix2 k d)) (outsAt0_A m c ⟨0, h⟩ (Nat.zero_mod 8))).trans ?_
    dsimp only
    rw [outA7]
    refine (pay5 _ _ _ _ _).trans ?_
    rw [pay6, zero_add, Finset.sum_range_one]
    simp only [D_eq, e2]
  | n + 1, h => by
    have h8 : n + 1 < 8 := tlt ⟨n + 1, h⟩
    refine (congrArg (fun q => q.2.2.1 (ix2 k d)) (outsAt0_B m c ⟨n + 1, h⟩ (by show ¬ (n + 1) % 8 = 0; omega))).trans ?_
    dsimp only
    rw [outB7]
    refine (pay5 _ _ _ _ _).trans ?_
    rw [Finset.sum_range_succ _ (n + 1)]
    refine congrArg₂ (· + ·) (acc7 c k d n (Nat.lt_of_succ_lt h)) ?_
    simp only [D_eq, e2]

theorem acc8 (c : Dev nD) (u : Fin 1) (d : Fin 1024) : ∀ (n : ℕ) (h : n < cfg0.N),
    (outsAt0 m c n h).2.2.2.1 (ix2 u d)
      = ∑ j ∈ Finset.range (n + 1), ∑ y : Fin 512, X0 m c (ix2 (at' j y) d) * hat (row (R m c) (at' j y)) d
  | 0, h => by
    refine (congrArg (fun q => q.2.2.2.1 (ix2 u d)) (outsAt0_A m c ⟨0, h⟩ (Nat.zero_mod 8))).trans ?_
    dsimp only
    rw [outA8]
    refine (pay1 _ _ _ _ _).trans ?_
    rw [pay7, zero_add, Finset.sum_range_one]
    simp only [pay11, brow1, e0]
  | n + 1, h => by
    have h8 : n + 1 < 8 := tlt ⟨n + 1, h⟩
    refine (congrArg (fun q => q.2.2.2.1 (ix2 u d)) (outsAt0_B m c ⟨n + 1, h⟩ (by show ¬ (n + 1) % 8 = 0; omega))).trans ?_
    dsimp only
    rw [outB8]
    refine (pay1 _ _ _ _ _).trans ?_
    rw [Finset.sum_range_succ _ (n + 1)]
    refine congrArg₂ (· + ·) (acc8 c u d n (Nat.lt_of_succ_lt h)) ?_
    simp only [pay11, brow1, e0]

theorem acc9 (c : Dev nD) (u : Fin 1) (d : Fin 1024) : ∀ (n : ℕ) (h : n < cfg0.N),
    (outsAt0 m c n h).2.2.2.2 (ix2 u d) = ∑ j ∈ Finset.range (n + 1), ∑ y : Fin 512, X0 m c (ix2 (at' j y) d)
  | 0, h => by
    refine (congrArg (fun q => q.2.2.2.2 (ix2 u d)) (outsAt0_A m c ⟨0, h⟩ (Nat.zero_mod 8))).trans ?_
    dsimp only
    rw [outA9]
    refine (pay2 _ _ _ _).trans ?_
    rw [pay8, zero_add, Finset.sum_range_one]
    simp only [e0]
  | n + 1, h => by
    have h8 : n + 1 < 8 := tlt ⟨n + 1, h⟩
    refine (congrArg (fun q => q.2.2.2.2 (ix2 u d)) (outsAt0_B m c ⟨n + 1, h⟩ (by show ¬ (n + 1) % 8 = 0; omega))).trans ?_
    dsimp only
    rw [outB9]
    refine (pay2 _ _ _ _).trans ?_
    rw [Finset.sum_range_succ _ (n + 1)]
    refine congrArg₂ (· + ·) (acc9 c u d n (Nat.lt_of_succ_lt h)) ?_
    simp only [e0]

/-! ## The arrays -/

theorem D_congr (r y : FVec Ideal S4096x1024 .f32) (g : FVec Ideal S1x1024 .f32) {t t' : Fin 4096} {d d' : Fin 1024}
    (h0 : t.val = t'.val) (h1 : d.val = d'.val) : D r y g t d = D r y g t' d' := by
  rw [Fin.ext h0, Fin.ext h1]

theorem dm_congr (r y : FVec Ideal S4096x1024 .f32) (g : FVec Ideal S1x1024 .f32) (w : FVec Ideal S1024x1024 .f32) {t t' : Fin 4096} {k k' : Fin 1024}
    (h0 : t.val = t'.val) (h1 : k.val = k'.val) : (∑ d, D r y g t d * w (ix2 k d)) = ∑ d, D r y g t' d * w (ix2 k' d) := by
  rw [Fin.ext h0, Fin.ext h1]

theorem array5 (c : Dev nD) : (dats m 0 c).arrAt 5 cfg0.N = (O5 (R m c) (X0 m c) (X3 m c) : FVec Ideal S4096x1024 .f32) := by
  refine (dats m 0 c).arrAt_eq_of_covers 5 _ (by decide +kernel) fun t hf y => ?_
  blk_simp
  rw [after0_5]
  have ht := tlt t
  have hi := ix5' t
  have h0 : (y 0).val < 512 := (y 0).isLt
  have h1 : (y 1).val < 1024 := (y 1).isLt
  have hy : y = ix2 (⟨(y 0).val, h0⟩ : Fin 512) (⟨(y 1).val, h1⟩ : Fin 1024) := by funext k; fin_cases k <;> rfl
  rw [hy]
  refine (block5 m c t _ _).trans ?_
  unfold O5 at'
  refine D_congr _ _ _ ?_ ?_ <;> blk_simp [hi] <;> simp <;> omega

theorem array6 (c : Dev nD) : (dats m 0 c).arrAt 6 cfg0.N = (O6 (R m c) (X0 m c) (X3 m c) (X4 m c) : FVec Ideal S4096x1024 .f32) := by
  refine (dats m 0 c).arrAt_eq_of_covers 6 _ (by decide +kernel) fun t hf y => ?_
  blk_simp
  rw [after0_6]
  have ht := tlt t
  have hi := ix6' t
  have h0 : (y 0).val < 512 := (y 0).isLt
  have h1 : (y 1).val < 1024 := (y 1).isLt
  have hy : y = ix2 (⟨(y 0).val, h0⟩ : Fin 512) (⟨(y 1).val, h1⟩ : Fin 1024) := by funext k; fin_cases k <;> rfl
  rw [hy]
  refine (block6 m c t _ _).trans ?_
  unfold O6 at'
  refine dm_congr _ _ _ _ ?_ ?_ <;> blk_simp [hi] <;> simp <;> omega

theorem array7 (c : Dev nD) : (dats m 0 c).arrAt 7 cfg0.N = (O7 (R m c) (X0 m c) (X3 m c) (X2 m c) : FVec Ideal S1024x1024 .f32) := by
  refine (dats m 0 c).arrAt_eq_of_covers 7 _ (by decide +kernel) fun t hf y => ?_
  have ht := tlt t
  have h7 : t.val = 7 := by have := (flush0_7 t).1 hf; omega
  blk_simp
  rw [after0_7]
  have hi := ix7' t
  have h0 : (y 0).val < 1024 := (y 0).isLt
  have h1 : (y 1).val < 1024 := (y 1).isLt
  have hy : y = ix2 (⟨(y 0).val, h0⟩ : Fin 1024) (⟨(y 1).val, h1⟩ : Fin 1024) := by funext k; fin_cases k <;> rfl
  have he : (win0_7.blk t).view.emb y = ix2 (⟨(y 0).val, h0⟩ : Fin 1024) (⟨(y 1).val, h1⟩ : Fin 1024) := by
    funext a
    fin_cases a <;> apply Fin.ext <;> blk_simp [hi] <;> simp
  refine Eq.trans ?_ (congrArg (O7 (R m c) (X0 m c) (X3 m c) (X2 m c)) he.symm)
  refine (congrArg (outsAt0 m c t.val t.isLt).2.2.1 hy).trans ?_
  refine (acc7 m c _ _ _ _).trans ?_
  rw [h7]
  exact Cert.DwProj.rows_eq fun t => X2 m c (ix2 t _) * D (R m c) (X0 m c) (X3 m c) t _

theorem array8 (c : Dev nD) : (dats m 0 c).arrAt 8 cfg0.N = (O8 (R m c) (X0 m c) : FVec Ideal S1x1024 .f32) := by
  refine (dats m 0 c).arrAt_eq_of_covers 8 _ (by decide +kernel) fun t hf y => ?_
  have ht := tlt t
  have h7 : t.val = 7 := by have := (flush0_8 t).1 hf; omega
  blk_simp
  rw [after0_8]
  have hi := ix8' t
  have h0 : (y 0).val < 1 := (y 0).isLt
  have h1 : (y 1).val < 1024 := (y 1).isLt
  have hy : y = ix2 (⟨(y 0).val, h0⟩ : Fin 1) (⟨(y 1).val, h1⟩ : Fin 1024) := by funext k; fin_cases k <;> rfl
  have he : (win0_8.blk t).view.emb y = ix2 (⟨(y 0).val, h0⟩ : Fin 1) (⟨(y 1).val, h1⟩ : Fin 1024) := by
    funext a
    fin_cases a <;> apply Fin.ext <;> blk_simp [hi] <;> simp
  refine Eq.trans ?_ (congrArg (O8 (R m c) (X0 m c)) he.symm)
  refine (congrArg (outsAt0 m c t.val t.isLt).2.2.2.1 hy).trans ?_
  refine (acc8 m c _ _ _ _).trans ?_
  rw [h7]
  exact Cert.DwProj.rows_eq fun t => X0 m c (ix2 t _) * hat (row (R m c) t) _

theorem array9 (c : Dev nD) : (dats m 0 c).arrAt 9 cfg0.N = (O9 (X0 m c) : FVec Ideal S1x1024 .f32) := by
  refine (dats m 0 c).arrAt_eq_of_covers 9 _ (by decide +kernel) fun t hf y => ?_
  have ht := tlt t
  have h7 : t.val = 7 := by have := (flush0_9 t).1 hf; omega
  blk_simp
  rw [after0_9]
  have hi := ix9' t
  have h0 : (y 0).val < 1 := (y 0).isLt
  have h1 : (y 1).val < 1024 := (y 1).isLt
  have hy : y = ix2 (⟨(y 0).val, h0⟩ : Fin 1) (⟨(y 1).val, h1⟩ : Fin 1024) := by funext k; fin_cases k <;> rfl
  have he : (win0_9.blk t).view.emb y = ix2 (⟨(y 0).val, h0⟩ : Fin 1) (⟨(y 1).val, h1⟩ : Fin 1024) := by
    funext a
    fin_cases a <;> apply Fin.ext <;> blk_simp [hi] <;> simp
  refine Eq.trans ?_ (congrArg (O9 (X0 m c)) he.symm)
  refine (congrArg (outsAt0 m c t.val t.isLt).2.2.2.2 hy).trans ?_
  refine (acc9 m c _ _ _ _).trans ?_
  rw [h7]
  exact Cert.DwProj.rows_eq fun t => X0 m c (ix2 t _)

end Cert.Ln.Ker

end
-- ==== Proof.LnRef.lean ====
/-
  The reference for the layer norm and the output projection, read element by element: each row's cotangent is `Ln.rdr`, and the
  other four results are sums of products with it, with the normalised rows, or of the result's cotangent alone.
-/
module

public import proofs.«01_k».proof.Proof.Gen.Reference2Ideal.Run
public import proofs.«01_k».proof.Proof.LnRow
public import Idealize.ShloMosaic.Lib.Pointwise

@[expose] public section

set_option maxRecDepth 16384

noncomputable section

namespace Cert.Ln.Ref

open Idealize.ShloMosaic Idealize.ShloMosaic.TcCoe
open Cert.Reference2Ideal Cert.Reference2Ideal.Gen Cert.Ln

abbrev A : Type := FVec Ideal S4096x1024 .f32
abbrev C : Type := FVec Ideal S4096x1 .f32

def zeroT : FVec Ideal S_ .f32 := constant S_ .f32 0x00000000#32

/-- The layer's output before its norm. -/
def rT (x : A) (mx : FVec Ideal S4096x1024 .bf16) (w : FVec Ideal S1024x1024 .f32) : A :=
  addf (mulf (broadcastInDim S4096x1024 ![] bcast_S_S4096x1024 (constant (F := Ideal) S_ .f32 0x3FB504F3#32)) x)
    (addf (Host.dotGeneral dot_S4096x1024_S1024x1024_S4096x1024_1_0_0_1_n_n none (extf .f32 mx bitsLt_bf16_f32) w)
      (broadcastInDim S4096x1024 ![] bcast_S_S4096x1024 zeroT))

def lenT : C := broadcastInDim S4096x1 ![] bcast_S_S4096x1 (constant (F := Ideal) S_ .f32 0x44800000#32)

def wide (a : C) : A := broadcastInDim S4096x1024 ![0, 1] bcast_S4096x1_S4096x1024_0_1 a

/-- The means of the rows. -/
def muT (r : A) : C :=
  Host.divf (broadcastInDim S4096x1 ![0] bcast_S4096_S4096x1_0 (Host.reduceAdd r zeroT reducesTo_S4096x1024_S4096_d1 h_S_)) lenT
def cenT (r : A) : A := subf r (wide (muT r))
def veT (r : A) : C := addf (muT (mulf (cenT r) (cenT r))) (broadcastInDim S4096x1 ![] bcast_S_S4096x1 (constant (F := Ideal) S_ .f32 0x3727C5AC#32))
def rsT (r : A) : C := Host.rsqrt (veT r)
def hatT (r : A) : A := mulf (cenT r) (wide (rsT r))

/-- The cotangent of the normalised rows. -/
def dxhT (y : A) (g : FVec Ideal S1x1024 .f32) : A :=
  mulf (shapeCast _ y shapeCasts_S4096x1024_S4096x1024) (broadcastInDim S4096x1024 ![0, 1] bcast_S1x1024_S4096x1024_0_1 g)

/-- The sums of the rows, as a column. -/
def sumT (a : A) : C := shapeCast S4096x1 (Host.reduceAdd a zeroT reducesTo_S4096x1024_S4096_d1 h_S_) shapeCasts_S4096_S4096x1
/-- A column spread over the rows. -/
def spreadT (a : C) : A :=
  broadcastInDim S4096x1024 ![0] bcast_S4096_S4096x1024_0 (Host.reduceAdd a zeroT reducesTo_S4096x1_S4096_d1 h_S_)

def vpT (r y : A) (g : FVec Ideal S1x1024 .f32) : A :=
  mulf (spreadT (Host.divf (mulf (sumT (mulf (cenT r) (dxhT y g)))
      (mulf (broadcastInDim S4096x1 ![] bcast_S_S4096x1 (constant (F := Ideal) S_ .f32 0xBF000000#32)) (Host.divf (rsT r) (veT r)))) lenT))
    (mulf (broadcastInDim S4096x1024 ![] bcast_S_S4096x1024 (constant (F := Ideal) S_ .f32 0x40000000#32)) (cenT r))

def lpT (r y : A) (g : FVec Ideal S1x1024 .f32) : A := mulf (dxhT y g) (wide (rsT r))

def drT (r y : A) (g : FVec Ideal S1x1024 .f32) : A :=
  addf (addf (lpT r y g) (vpT r y g)) (spreadT (Host.divf (addf (sumT (Host.negf (lpT r y g))) (sumT (Host.negf (vpT r y g)))) lenT))

variable (m : (ℓ : Loc nD τ sig) → Buf (Elt Ideal) ℓ)

theorem v66 (c : Dev nD) : Cert.Reference2Ideal.Value.res_main_v66 m c
    = drT (rT (m ((c : Thread nD τ).loc main_arg1)) (m ((c : Thread nD τ).loc main_arg2)) (m ((c : Thread nD τ).loc main_arg4)))
        (m ((c : Thread nD τ).loc main_arg0)) (m ((c : Thread nD τ).loc main_arg3)) := by
  rfl

theorem v69 (c : Dev nD) : Cert.Reference2Ideal.Value.res_main_v69 m c
    = Host.dotGeneral (φ₂ := .f32) dot_S4096x1024_S1024x1024_S4096x1024_1_1_0_0_n_n none
        (drT (rT (m ((c : Thread nD τ).loc main_arg1)) (m ((c : Thread nD τ).loc main_arg2)) (m ((c : Thread nD τ).loc main_arg4)))
          (m ((c : Thread nD τ).loc main_arg0)) (m ((c : Thread nD τ).loc main_arg3))) (m ((c : Thread nD τ).loc main_arg4)) := by
  rfl

theorem v68 (c : Dev nD) : Cert.Reference2Ideal.Value.res_main_v68 m c
    = transpose S1024x1024 [1, 0] (Host.dotGeneral dot_S4096x1024_S4096x1024_S1024x1024_0_0_1_1_n_n none
        (drT (rT (m ((c : Thread nD τ).loc main_arg1)) (m ((c : Thread nD τ).loc main_arg2)) (m ((c : Thread nD τ).loc main_arg4)))
          (m ((c : Thread nD τ).loc main_arg0)) (m ((c : Thread nD τ).loc main_arg3))) (extf .f32 (m ((c : Thread nD τ).loc main_arg2)) bitsLt_bf16_f32))
        transposes_S1024x1024_S1024x1024_1_0 := by
  rfl

theorem rT_ix (x : A) (mx : FVec Ideal S4096x1024 .bf16) (w : FVec Ideal S1024x1024 .f32) (t : Fin 4096) (d : Fin 1024) :
    rT x mx w (ix2 t d) = alpha * x (ix2 t d) + ∑ k, mx (ix2 t k) * w (ix2 k d) := by
  pointwise [rT, zeroT]
  rfl

theorem muT_ix (r : A) (t : Fin 4096) (u : Fin 1) : muT r (ix2 t u) = mean fun d => r (ix2 t d) := by
  pointwise [muT, lenT, zeroT]
  rfl

theorem wide_ix (a : C) (t : Fin 4096) (d : Fin 1024) : wide a (ix2 t d) = a (ix2 t 0) := by
  pointwise [wide]

theorem cenT_ix (r : A) (t : Fin 4096) (d : Fin 1024) : cenT r (ix2 t d) = cen (fun d => r (ix2 t d)) d := by
  have h : cenT r (ix2 t d) = r (ix2 t d) - wide (muT r) (ix2 t d) := rfl
  rw [h, wide_ix, muT_ix]
  rfl

theorem veT_ix (r : A) (t : Fin 4096) (u : Fin 1) : veT r (ix2 t u) = ve fun d => r (ix2 t d) := by
  have h : veT r (ix2 t u) = muT (mulf (cenT r) (cenT r)) (ix2 t u) + eps := rfl
  rw [h, muT_ix]
  have e : ∀ d, mulf (cenT r) (cenT r) (ix2 t d) = cen (fun d => r (ix2 t d)) d * cen (fun d => r (ix2 t d)) d := fun d => by
    rw [← cenT_ix]; rfl
  simp only [e]
  rfl

theorem rsT_ix (r : A) (t : Fin 4096) (u : Fin 1) : rsT r (ix2 t u) = rs fun d => r (ix2 t d) := by
  have h : rsT r (ix2 t u) = Ideal.rsqrt (veT r (ix2 t u)) := rfl
  rw [h, veT_ix]
  rfl

theorem hatT_ix (r : A) (t : Fin 4096) (d : Fin 1024) : hatT r (ix2 t d) = hat (fun d => r (ix2 t d)) d := by
  have h : hatT r (ix2 t d) = cenT r (ix2 t d) * wide (rsT r) (ix2 t d) := rfl
  rw [h, wide_ix, rsT_ix, cenT_ix]
  rfl

theorem dxhT_ix (y : A) (g : FVec Ideal S1x1024 .f32) (t : Fin 4096) (d : Fin 1024) : dxhT y g (ix2 t d) = y (ix2 t d) * g (ix2 0 d) := by
  pointwise [dxhT]

theorem sumT_ix (a : A) (t : Fin 4096) (u : Fin 1) : sumT a (ix2 t u) = ∑ d, a (ix2 t d) := by
  pointwise [sumT, zeroT]

theorem spreadT_ix (a : C) (t : Fin 4096) (d : Fin 1024) : spreadT a (ix2 t d) = a (ix2 t 0) := by
  pointwise [spreadT, zeroT]
  exact Fin.sum_univ_one _

theorem vpT_ix (r y : A) (g : FVec Ideal S1x1024 .f32) (t : Fin 4096) (d : Fin 1024) :
    vpT r y g (ix2 t d) = vpart (fun d => r (ix2 t d)) (fun d => y (ix2 t d)) (fun d => g (ix2 0 d)) d := by
  have h : vpT r y g (ix2 t d) = spreadT (Host.divf (mulf (sumT (mulf (cenT r) (dxhT y g)))
      (mulf (broadcastInDim S4096x1 ![] bcast_S_S4096x1 (constant (F := Ideal) S_ .f32 0xBF000000#32)) (Host.divf (rsT r) (veT r)))) lenT) (ix2 t d)
        * (two * cenT r (ix2 t d)) := rfl
  rw [h, spreadT_ix, cenT_ix]
  have h' : Host.divf (mulf (sumT (mulf (cenT r) (dxhT y g)))
      (mulf (broadcastInDim S4096x1 ![] bcast_S_S4096x1 (constant (F := Ideal) S_ .f32 0xBF000000#32)) (Host.divf (rsT r) (veT r)))) lenT (ix2 t 0)
      = Ideal.div (sumT (mulf (cenT r) (dxhT y g)) (ix2 t 0) * (mhalf * Ideal.div (rsT r (ix2 t 0)) (veT r (ix2 t 0)))) len := rfl
  rw [h', sumT_ix, rsT_ix, veT_ix]
  have e : ∀ d, mulf (cenT r) (dxhT y g) (ix2 t d) = cen (fun d => r (ix2 t d)) d * (y (ix2 t d) * g (ix2 0 d)) := fun d => by
    rw [← cenT_ix, ← dxhT_ix]; rfl
  simp only [e]
  rfl

theorem lpT_ix (r y : A) (g : FVec Ideal S1x1024 .f32) (t : Fin 4096) (d : Fin 1024) :
    lpT r y g (ix2 t d) = y (ix2 t d) * g (ix2 0 d) * rs (fun d => r (ix2 t d)) := by
  have h : lpT r y g (ix2 t d) = dxhT y g (ix2 t d) * wide (rsT r) (ix2 t d) := rfl
  rw [h, wide_ix, rsT_ix, dxhT_ix]

theorem drT_ix (r y : A) (g : FVec Ideal S1x1024 .f32) (t : Fin 4096) (d : Fin 1024) :
    drT r y g (ix2 t d) = rdr (fun d => r (ix2 t d)) (fun d => y (ix2 t d)) (fun d => g (ix2 0 d)) d := by
  have h : drT r y g (ix2 t d) = (lpT r y g (ix2 t d) + vpT r y g (ix2 t d))
      + spreadT (Host.divf (addf (sumT (Host.negf (lpT r y g))) (sumT (Host.negf (vpT r y g)))) lenT) (ix2 t d) := rfl
  rw [h, spreadT_ix, lpT_ix, vpT_ix]
  have h' : Host.divf (addf (sumT (Host.negf (lpT r y g))) (sumT (Host.negf (vpT r y g)))) lenT (ix2 t 0)
      = Ideal.div (sumT (Host.negf (lpT r y g)) (ix2 t 0) + sumT (Host.negf (vpT r y g)) (ix2 t 0)) len := rfl
  rw [h', sumT_ix, sumT_ix]
  have e1 : ∀ d, Host.negf (lpT r y g) (ix2 t d) = -(y (ix2 t d) * g (ix2 0 d) * rs (fun d => r (ix2 t d))) := fun d => by
    rw [← lpT_ix]; rfl
  have e2 : ∀ d, Host.negf (vpT r y g) (ix2 t d) = -(vpart (fun d => r (ix2 t d)) (fun d => y (ix2 t d)) (fun d => g (ix2 0 d)) d) := fun d => by
    rw [← vpT_ix]; rfl
  simp only [e1, e2]
  rfl

/-- The products' elements. -/
theorem dm_ix (a : A) (w : FVec Ideal S1024x1024 .f32) (t : Fin 4096) (k : Fin 1024) :
    Host.dotGeneral dot_S4096x1024_S1024x1024_S4096x1024_1_1_0_0_n_n none a w (ix2 t k) = ∑ d, a (ix2 t d) * w (ix2 k d) := by
  pointwise

theorem dw_ix (a : A) (mx : FVec Ideal S4096x1024 .bf16) (k d : Fin 1024) :
    transpose S1024x1024 [1, 0] (Host.dotGeneral dot_S4096x1024_S4096x1024_S1024x1024_0_0_1_1_n_n none a (extf .f32 mx bitsLt_bf16_f32))
        transposes_S1024x1024_S1024x1024_1_0 (ix2 k d) = ∑ t, a (ix2 t d) * mx (ix2 t k) := by
  pointwise

/-- The sums of the columns, as a row. -/
theorem col_ix (a : A) (u : Fin 1) (d : Fin 1024) :
    shapeCast S1x1024 (Host.reduceAdd a zeroT reducesTo_S4096x1024_S1024_d0 h_S_) shapeCasts_S1024_S1x1024 (ix2 u d) = ∑ t, a (ix2 t d) := by
  pointwise [zeroT]

end Cert.Ln.Ref

end
-- ==== Proof.Finite2.lean ====
/-
  The precondition read back: where `finite2` is all ones, each of the five arrays holds real numbers.
-/
module

public import proofs.«01_k».proof.Pre_finite2
public import proofs.«01_k».proof.Proof.Spec
public import Idealize.ShloMosaic.Lib.ReduceAll

@[expose] public section

set_option maxRecDepth 16384

noncomputable section

namespace Cert.Finite2

open Idealize.ShloMosaic Cert.Pre_finite2 Cert.Spec

theorem facts : Cert.Pre_finite2.Facts where
  bcast_S_S4096x1024 := by decide
  reducesTo_S4096x1024_S_d0_1 := by decide
  h_S_ := by decide
  bitsLt_bf16_f32 := by decide
  bcast_S_S1x1024 := by decide
  reducesTo_S1x1024_S_d0_1 := by decide
  bcast_S_S1024x1024 := by decide
  reducesTo_S1024x1024_S_d0_1 := by decide

/-- A number whose absolute value is below infinity is real. -/
theorem real_of_lt {x : EReal} (h : max x (-x) < ⊤) : Real' x := by
  induction x with
  | bot => simp at h
  | top => simp at h
  | coe r => exact ⟨r, rfl⟩

theorem elt {S : Shape} {φ : FTy} (x : FVec Ideal S φ) (i : S.Idx) (T : FVec Ideal S φ) (hT : T i = (⊤ : EReal))
    (h : cmpf .olt (Host.absf x) T i = 1#1) : Real' (x i) := by
  have h0 : Ideal.cmp .olt (max (x i) (-(x i))) (T i) = 1#1 := h
  rw [hT] at h0
  refine real_of_lt ?_
  by_contra hn
  simp [Ideal.cmp, hn] at h0

theorem inf_top {S : Shape} (hb : S_.BroadcastsInDim S (![] : Fin 0 → Fin S.rank)) (i : S.Idx) :
    (broadcastInDim S ![] hb (constant S_ .f32 0x7F800000#32 : FVec Ideal S_ .f32) : FVec Ideal S .f32) i = (⊤ : EReal) := by
  show Ideal.ofBits .f32 0x7F800000#32 = ⊤
  simp [Ideal.ofBits, Ideal.ieee]

variable [Cert.Pre_finite2.Facts]

instance : Subsingleton S_.Idx := ⟨fun a b => funext fun k => k.elim0⟩

theorem all {S : Shape} (x : FVec Ideal S .f32) (hb : S_.BroadcastsInDim S (![] : Fin 0 → Fin S.rank)) {axes : List (Fin S.rank)}
    (hr : S.ReducesTo axes S_) (hu : 0 < S_.numel) (j : S_.Idx)
    (e : Host.reduce IntOp.andi (cmpf .olt (Host.absf x) (broadcastInDim S ![] hb (constant S_ .f32 0x7F800000#32 : FVec Ideal S_ .f32)))
      (constantI S_ 1 1#1) hr hu j = 1#1) (i : S.Idx) : Real' (x i) :=
  elt x i _ (inf_top hb i) (Host.reduce_andi_all _ _ hr hu j e i)

/-- The precondition gives real numbers everywhere. -/
theorem of_fn (y x : FVec Ideal S4096x1024 .f32) (mx : FVec Ideal S4096x1024 .bf16) (g : FVec Ideal S1x1024 .f32) (w : FVec Ideal S1024x1024 .f32)
    (h : ∀ j, fn y x mx g w j = 1#1) :
    (∀ i, Real' (y i)) ∧ (∀ i, Real' (x i)) ∧ (∀ i, Real' (mx i)) ∧ (∀ i, Real' (g i)) ∧ ∀ i, Real' (w i) := by
  have hj := h (fun k => k.elim0)
  unfold fn fn_part1 at hj
  dsimp only at hj
  obtain ⟨h3, h4⟩ := IntOp.andi_eq_one.1 hj
  obtain ⟨h2, h3⟩ := IntOp.andi_eq_one.1 h3
  obtain ⟨h1, h2⟩ := IntOp.andi_eq_one.1 h2
  obtain ⟨h0, h1⟩ := IntOp.andi_eq_one.1 h1
  exact ⟨all _ _ _ _ _ h0, all _ _ _ _ _ h1, all (extf .f32 mx _) _ _ _ _ h2, all _ _ _ _ _ h3, all _ _ _ _ _ h4⟩

end Cert.Finite2

end
-- ==== Proof.LnVal.lean ====
/-
  The layer norm's backward: the kernel's five results are the reference's, at real arguments.
-/
module

public import proofs.«01_k».proof.Proof.LnKer
public import proofs.«01_k».proof.Proof.LnRef
public import proofs.«01_k».proof.Proof.Finite2

@[expose] public section

set_option maxRecDepth 16384

noncomputable section

namespace Cert.Ln.Val

open Idealize.ShloMosaic Cert.Ln Cert.Spec
open Cert.Ln.Ref
open Cert.Ln.Ker (rK D row O5 O6 O7 O8 O9)

abbrev S : Shape := Cert.Reference2Ideal.S4096x1024

variable (y x : FVec Ideal S .f32) (mx : FVec Ideal S .bf16) (g : FVec Ideal Cert.Reference2Ideal.S1x1024 .f32)
  (w : FVec Ideal Cert.Reference2Ideal.S1024x1024 .f32)

theorem r_same (t : Fin 4096) : (fun d => rT x mx w (ix2 t d)) = row (rK x mx w) t :=
  funext fun d => (rT_ix x mx w t d).trans (Ker.rK_ix x mx w t d).symm

theorem r_real (hx : ∀ i, Real' (x i)) (hm : ∀ i, Real' (mx i)) (hw : ∀ i, Real' (w i)) (t : Fin 4096) (d : Fin 1024) :
    Real' (row (rK x mx w) t d) := by
  have e : row (rK x mx w) t d = alpha * x (ix2 t d) + ∑ k, mx (ix2 t k) * w (ix2 k d) := Ker.rK_ix x mx w t d
  rw [e]
  exact .add (.mul alpha_real (hx _)) (.sum fun k => .mul (hm _) (hw _))

theorem dr_same (hy : ∀ i, Real' (y i)) (hx : ∀ i, Real' (x i)) (hm : ∀ i, Real' (mx i)) (hg : ∀ i, Real' (g i)) (hw : ∀ i, Real' (w i))
    (t : Fin 4096) (d : Fin 1024) : drT (rT x mx w) y g (ix2 t d) = D (rK x mx w) y g t d := by
  rw [drT_ix, r_same]
  exact (dr_eq _ _ _ (r_real x mx w hx hm hw t) (fun e => hy _) (fun e => hg _) d).symm

theorem val5 (hy : ∀ i, Real' (y i)) (hx : ∀ i, Real' (x i)) (hm : ∀ i, Real' (mx i)) (hg : ∀ i, Real' (g i)) (hw : ∀ i, Real' (w i)) :
    drT (rT x mx w) y g = O5 (rK x mx w) y g := by
  funext (i : S.Idx)
  obtain ⟨a, b, rfl⟩ : ∃ (a : Fin 4096) (b : Fin 1024), i = ix2 a b := ⟨i 0, i 1, by funext k; fin_cases k <;> rfl⟩
  exact dr_same y x mx g w hy hx hm hg hw a b

theorem val6 (hy : ∀ i, Real' (y i)) (hx : ∀ i, Real' (x i)) (hm : ∀ i, Real' (mx i)) (hg : ∀ i, Real' (g i)) (hw : ∀ i, Real' (w i)) (i : S.Idx) :
    Host.dotGeneral (φ₂ := .f32) Cert.Reference2Ideal.dot_S4096x1024_S1024x1024_S4096x1024_1_1_0_0_n_n none (drT (rT x mx w) y g) w i
      = O6 (rK x mx w) y g w i := by
  obtain ⟨a, b, rfl⟩ : ∃ (a : Fin 4096) (b : Fin 1024), i = ix2 a b := ⟨i 0, i 1, by funext k; fin_cases k <;> rfl⟩
  refine (dm_ix _ _ a b).trans ?_
  simp only [dr_same y x mx g w hy hx hm hg hw]
  rfl

theorem val7 (hy : ∀ i, Real' (y i)) (hx : ∀ i, Real' (x i)) (hm : ∀ i, Real' (mx i)) (hg : ∀ i, Real' (g i)) (hw : ∀ i, Real' (w i)) (a b : Fin 1024) :
    (∑ t, drT (rT x mx w) y g (ix2 t b) * mx (ix2 t a)) = O7 (rK x mx w) y g mx (ix2 a b) := by
  refine Finset.sum_congr rfl fun t _ => ?_
  rw [mul_comm, dr_same y x mx g w hy hx hm hg hw]
  rfl

theorem val8 (u : Fin 1) (d : Fin 1024) : (∑ t, hatT (rT x mx w) (ix2 t d) * y (ix2 t d)) = O8 (rK x mx w) y (ix2 u d) := by
  refine Finset.sum_congr rfl fun t _ => ?_
  rw [mul_comm, hatT_ix, r_same]
  rfl

theorem val8' (u : Fin 1) (d : Fin 1024) :
    shapeCast Cert.Reference2Ideal.S1x1024 (Host.reduceAdd (mulf (hatT (rT x mx w))
        (shapeCast S y Cert.Reference2Ideal.Facts₀.shapeCasts_S4096x1024_S4096x1024)) zeroT
      Cert.Reference2Ideal.Facts₀.reducesTo_S4096x1024_S1024_d0 Cert.Reference2Ideal.Facts₀.h_S_) Cert.Reference2Ideal.Facts₀.shapeCasts_S1024_S1x1024 (ix2 u d)
      = O8 (rK x mx w) y (ix2 u d) := by
  refine (col_ix _ u d).trans ?_
  rw [← val8 y x mx w u d]
  refine Finset.sum_congr rfl fun t _ => ?_
  have e : mulf (hatT (rT x mx w)) (shapeCast S y Cert.Reference2Ideal.Facts₀.shapeCasts_S4096x1024_S4096x1024) (ix2 t d)
      = hatT (rT x mx w) (ix2 t d) * shapeCast S y Cert.Reference2Ideal.Facts₀.shapeCasts_S4096x1024_S4096x1024 (ix2 t d) := rfl
  rw [e, shapeCast_self]

end Cert.Ln.Val

end
-- ==== Proof.MixOut6.lean ====
/-
  What one grid point of the first layer's mixer output leaves in each of its three outputs, as the payloads of its input blocks.
-/
module

public import proofs.«01_k».proof.Proof.Gen.Kernel6Ideal.Value
public import Idealize.ShloMosaic.Lib.Pointwise
public import Idealize.ShloMosaic.Lib.WholeRead
public import Idealize.ShloMosaic.Lib.Pipeline.ValueKit

@[expose] public section

set_option maxRecDepth 16384

noncomputable section

namespace Cert.Mix.Ker6

open Idealize.ShloMosaic Idealize.ShloMosaic.TcCoe Idealize.SL.Sem
open Cert.Kernel6Ideal Cert.Kernel6Ideal.Gen

theorem hz : (![0, 0] : Fin 2 → Nat) = fun _ => 0 := funext fun a => by fin_cases a <;> rfl

theorem outA9 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .f32) (harg12 : arg12.IsWhole)
    (x0 : Vec Ideal S512x1024 .f32) (x1 : Vec Ideal S512x512 .f32) (x2 : Vec Ideal S512x512 .f32) (x3 : Vec Ideal S512x512 .bf16) (x4 : Vec Ideal S512x512 .bf16) (x5 : Vec Ideal S1x128 .f32) (x6 : Vec Ideal S1024x1024 .bf16) (x7 : Vec Ideal S1x1024 .f32) (x8 : Vec Ideal S1x1024 .f32) :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 = k0_pay1 (k0_pay7 x1 (k0_pay2 x3) x5 (k0_pay3 x1 x5) (k0_pay4 x1 x5) (k0_pay5 x1 x5) x2 x4 x0 x6) (k0_pay8 x1 (k0_pay2 x3) x5 (k0_pay3 x1 x5) (k0_pay4 x1 x5) (k0_pay5 x1 x5) x2 x4 x0 x6) x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S512x1024) hz, View.ld_unit_zero (S := S512x512) hz, View.ld_unit_zero (S := S1x128) hz, View.ld_unit_zero (S := S1x1024) hz, View.ld_unit_zero (S := S1024x1024) hz]

theorem outA10 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .f32) (harg12 : arg12.IsWhole)
    (x0 : Vec Ideal S512x1024 .f32) (x1 : Vec Ideal S512x512 .f32) (x2 : Vec Ideal S512x512 .f32) (x3 : Vec Ideal S512x512 .bf16) (x4 : Vec Ideal S512x512 .bf16) (x5 : Vec Ideal S1x128 .f32) (x6 : Vec Ideal S1024x1024 .bf16) (x7 : Vec Ideal S1x1024 .f32) (x8 : Vec Ideal S1x1024 .f32) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 = k0_pay6 x1 (k0_pay2 x3) x5 (k0_pay3 x1 x5) (k0_pay4 x1 x5) (k0_pay5 x1 x5) x2 x4 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S512x1024) hz, View.ld_unit_zero (S := S512x512) hz, View.ld_unit_zero (S := S1x128) hz, View.ld_unit_zero (S := S1x1024) hz, View.ld_unit_zero (S := S1024x1024) hz]

theorem outA11 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .f32) (harg12 : arg12.IsWhole)
    (x0 : Vec Ideal S512x1024 .f32) (x1 : Vec Ideal S512x512 .f32) (x2 : Vec Ideal S512x512 .f32) (x3 : Vec Ideal S512x512 .bf16) (x4 : Vec Ideal S512x512 .bf16) (x5 : Vec Ideal S1x128 .f32) (x6 : Vec Ideal S1024x1024 .bf16) (x7 : Vec Ideal S1x1024 .f32) (x8 : Vec Ideal S1x1024 .f32) :
    out0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 = k0_pay7 x1 (k0_pay2 x3) x5 (k0_pay3 x1 x5) (k0_pay4 x1 x5) (k0_pay5 x1 x5) x2 x4 x0 x6 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S512x1024) hz, View.ld_unit_zero (S := S512x512) hz, View.ld_unit_zero (S := S1x128) hz, View.ld_unit_zero (S := S1x1024) hz, View.ld_unit_zero (S := S1024x1024) hz]

end Cert.Mix.Ker6

end
-- ==== Proof.MixRow.lean ====
/-
  One row of a layer's mixer output: the two halves of the mixer gated, the first after a norm over each of its four heads of 128;
  the layer's output before its norm; and the norm.
-/
module

public import proofs.«01_k».proof.Proof.LnRow
public import Idealize.ShloMosaic.Lib.Pointwise

@[expose] public section

set_option maxRecDepth 16384

noncomputable section

namespace Cert.Mix

open Idealize.ShloMosaic Cert.Ln

abbrev Half : Type := Fin 512 → EReal

/-- A head's length and the guard of its mean square. -/
def hlen : EReal := Ideal.ofBits .f32 0x43000000#32
def heps : EReal := Ideal.ofBits .f32 0x358637BD#32
def one : EReal := Ideal.ofBits .f32 0x3F800000#32

/-- Lane `z` of head `a`. -/
def lane (a : Fin 4) (z : Fin 128) : Fin 512 := ⟨128 * a.val + z.val, by omega⟩

/-- One over the root of a head's mean square. -/
def hrs (o : Half) (a : Fin 4) : EReal := Ideal.rsqrt (Ideal.div (∑ z, o (lane a z) * o (lane a z)) hlen + heps)

/-- The norm over each head. -/
def hnorm (o : Half) (w : Fin 128 → EReal) (a : Fin 4) (z : Fin 128) : EReal := o (lane a z) * hrs o a * w z

/-- The norm at a position of the row. -/
def rms (o : Half) (w : Fin 128 → EReal) (j : Fin 512) : EReal :=
  hnorm o w ⟨j.val / 128, by omega⟩ ⟨j.val % 128, Nat.mod_lt _ (by decide)⟩

/-- The gate. -/
def silu (z : EReal) : EReal := z * Ideal.div 1 (1 + Ideal.exp (-z))

/-- The mixer's output. -/
def mix (a b za zb : Half) (w : Fin 128 → EReal) (k : Fin 1024) : EReal :=
  if h : k.val < 512 then rms a w ⟨k.val, h⟩ * silu (za ⟨k.val, h⟩)
  else b ⟨k.val - 512, by omega⟩ * silu (zb ⟨k.val - 512, by omega⟩)

/-- The layer's output before its norm. -/
def pre (x mx : Row) (w : Fin 1024 → Fin 1024 → EReal) (d : Fin 1024) : EReal := alpha * x d + ∑ k, mx k * w k d

/-- The norm. -/
def ln (r g b : Row) (d : Fin 1024) : EReal := hat r d * g d + b d

/-- The norm, head by head. -/
theorem rms_heads (o : Half) (w : Fin 128 → EReal) (k : Fin 512) : rms o w k
    = if h : k.val < 128 then hnorm o w 0 ⟨k.val, h⟩
      else if h : k.val - 128 < 128 then hnorm o w 1 ⟨k.val - 128, h⟩
      else if h : k.val - 128 - 128 < 128 then hnorm o w 2 ⟨k.val - 128 - 128, h⟩
      else hnorm o w 3 ⟨k.val - 128 - 128 - 128, by omega⟩ := by
  have hh : ∀ (a a' : Fin 4) (z z' : Fin 128), a.val = a'.val → z.val = z'.val → hnorm o w a z = hnorm o w a' z' :=
    fun a a' z z' h1 h2 => by rw [Fin.ext h1, Fin.ext h2]
  unfold rms
  split_ifs with h1 h2 h3
  · refine hh _ _ _ _ ?_ ?_ <;> simp <;> omega
  · refine hh _ _ _ _ ?_ ?_ <;> simp <;> omega
  · refine hh _ _ _ _ ?_ ?_ <;> simp <;> omega
  · refine hh _ _ _ _ ?_ ?_ <;> simp <;> omega

theorem one_eq : one = 1 := by
  simp [one, Ideal.ofBits, Ideal.ieee]
  rw [← EReal.coe_mul]
  norm_num

/-! ## The loss -/

def half' : EReal := Ideal.ofBits .f32 0x3F000000#32
/-- One over a row's length, and half of it. -/
def over : EReal := Ideal.ofBits .f32 0x3A800000#32
def hover : EReal := Ideal.ofBits .f32 0x3A000000#32

theorem half_eq : half' = ((1/2 : ℝ) : EReal) := by
  simp [half', Ideal.ofBits, Ideal.ieee]
  rw [← EReal.coe_mul]
  norm_num

theorem over_eq : over = ((1/1024 : ℝ) : EReal) := by
  simp [over, Ideal.ofBits, Ideal.ieee]
  rw [← EReal.coe_mul]
  norm_num

theorem hover_eq : hover = ((1/2048 : ℝ) : EReal) := by
  simp [hover, Ideal.ofBits, Ideal.ieee]
  rw [← EReal.coe_mul]
  norm_num

theorem div_len (a : EReal) : Ideal.div a len = a * over := by
  have h : ((1024 : ℝ) : EReal) ≠ 0 := by exact_mod_cast (by norm_num : (1024 : ℝ) ≠ 0)
  rw [len_eq, over_eq]
  simp [Ideal.div, h]
  rw [← EReal.coe_inv]

/-- A row's sum of squares. -/
def sq (e : Row) : EReal := ∑ d, e d * e d

theorem sq_nonneg (e : Row) : 0 ≤ sq e := Finset.sum_nonneg fun d _ => by
  rcases le_total 0 (e d) with h | h
  · exact mul_nonneg h h
  · have h' : 0 ≤ -e d := EReal.neg_nonneg.mpr h
    have := mul_nonneg h' h'
    rwa [neg_mul_neg] at this

theorem mul_sum_nonneg {ι : Type} (s : Finset ι) (c : EReal) (f : ι → EReal) (hf : ∀ i, 0 ≤ f i) : c * ∑ i ∈ s, f i = ∑ i ∈ s, c * f i := by
  classical
  induction s using Finset.induction_on with
  | empty => simp
  | insert a s ha ih =>
    rw [Finset.sum_insert ha, Finset.sum_insert ha, EReal.left_distrib_of_nonneg (hf a) (Finset.sum_nonneg fun i _ => hf i), ih]

/-- The loss of all the rows. -/
def loss (e : Fin 4096 → Row) : EReal := ∑ t, hover * sq (e t)

theorem loss_ref (e : Fin 4096 → Row) : half' * ∑ t, Ideal.div (sq (e t)) len = loss e := by
  have h : ∀ t, 0 ≤ Ideal.div (sq (e t)) len := fun t => by
    rw [div_len, over_eq]
    exact mul_nonneg (sq_nonneg _) (by exact_mod_cast (by norm_num : (0 : ℝ) ≤ 1/1024))
  rw [mul_sum_nonneg _ _ _ h]
  refine Finset.sum_congr rfl fun t _ => ?_
  rw [div_len, mul_comm (sq (e t)), ← mul_assoc, half_eq, over_eq, hover_eq, ← EReal.coe_mul]
  norm_num

/-- The loss's derivative, as the kernel and as the chain rule leave it. -/
theorem dloss (x : EReal) : Ideal.div half' len * (two * x) = x * over := by
  rw [div_len, half_eq, over_eq, two_eq, ← mul_assoc, ← EReal.coe_mul, ← EReal.coe_mul, mul_comm]
  norm_num

end Cert.Mix

end
-- ==== Proof.Mix6.lean ====
/-
  The first layer's mixer output, array by array: each of the kernel's three results as a function of the arguments.
-/
module

public import proofs.«01_k».proof.Proof.MixOut6
public import proofs.«01_k».proof.Proof.MixRow
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.Mix.Ker6

open Idealize.ShloMosaic Idealize.ShloMosaic.TcCoe Idealize.SL.Sem
open Cert.Kernel6Ideal Cert.Kernel6Ideal.Gen
open Cert.Ln (Row)

variable (m : (ℓ : Loc nD τ sig) → Buf (Elt Ideal) ℓ)

/-! ## The payloads -/

/-- A row of a block, and the one row of the gains. -/
def hrow (v : S512x512.Idx → EReal) (i : Fin 512) : Half := fun d => v (ix2 i d)
def brow (v : S512x1024.Idx → EReal) (i : Fin 512) : Row := fun d => v (ix2 i d)
def wrow (v : Vec Ideal S1x128 .f32) : Fin 128 → EReal := fun z => v (ix2 0 z)

theorem pay3 (o : Vec Ideal S512x512 .f32) (w : Vec Ideal S1x128 .f32) (i : Fin 512) (z : Fin 128) :
    k0_pay3 o w (ix2 i z) = hnorm (hrow o i) (wrow w) 0 z := by
  have e : ∀ (x : Fin 128) (h : x.val < 512), (⟨x.val, h⟩ : Fin 512) = lane 0 x := fun x _ => Fin.ext (by simp [lane])
  pointwise [k0_pay3]
  simp only [e]
  rfl

theorem pay4 (o : Vec Ideal S512x512 .f32) (w : Vec Ideal S1x128 .f32) (i : Fin 512) (z : Fin 128) :
    k0_pay4 o w (ix2 i z) = hnorm (hrow o i) (wrow w) 1 z := by
  pointwise [k0_pay4]
  rfl

theorem pay5 (o : Vec Ideal S512x512 .f32) (w : Vec Ideal S1x128 .f32) (i : Fin 512) (z : Fin 128) :
    k0_pay5 o w (ix2 i z) = hnorm (hrow o i) (wrow w) 2 z := by
  pointwise [k0_pay5]
  rfl

theorem pay6 (o b : Vec Ideal S512x512 .f32) (za zb : Vec Ideal S512x512 .bf16) (w : Vec Ideal S1x128 .f32) (i : Fin 512) (k : Fin 1024) :
    k0_pay6 o (k0_pay2 za) w (k0_pay3 o w) (k0_pay4 o w) (k0_pay5 o w) b zb (ix2 i k)
      = mix (hrow o i) (hrow b i) (hrow za i) (hrow zb i) (wrow w) k := by
  pointwise [k0_pay6, k0_pay2]
  unfold mix
  simp only [rms_heads, pay3, pay4, pay5]
  rfl

theorem pay7 (o b : Vec Ideal S512x512 .f32) (za zb : Vec Ideal S512x512 .bf16) (nw : Vec Ideal S1x128 .f32) (x : Vec Ideal S512x1024 .f32)
    (w : Vec Ideal S1024x1024 .bf16) (i : Fin 512) (d : Fin 1024) :
    k0_pay7 o (k0_pay2 za) nw (k0_pay3 o nw) (k0_pay4 o nw) (k0_pay5 o nw) b zb x w (ix2 i d)
      = pre (brow x i) (mix (hrow o i) (hrow b i) (hrow za i) (hrow zb i) (wrow nw)) (fun k d => w (ix2 k d)) d := by
  pointwise [k0_pay7]
  simp only [pay6]
  rfl

theorem pay8 (o b : Vec Ideal S512x512 .f32) (z3 : Vec Ideal S512x512 .f32) (zb : Vec Ideal S512x512 .bf16) (nw : Vec Ideal S1x128 .f32)
    (p q r : Vec Ideal S512x128 .f32) (x : Vec Ideal S512x1024 .f32) (w : Vec Ideal S1024x1024 .bf16) (i : Fin 512) (u : Fin 1) :
    k0_pay8 o z3 nw p q r b zb x w (ix2 i u) = Ln.mean (brow (k0_pay7 o z3 nw p q r b zb x w) i) := by
  pointwise [k0_pay8]
  rfl

theorem pay1 (r : Vec Ideal S512x1024 .f32) (mu : Vec Ideal S512x1 .f32) (g b : Vec Ideal S1x1024 .f32) (i : Fin 512) (d : Fin 1024)
    (h : mu (ix2 i 0) = Ln.mean (brow r i)) :
    k0_pay1 r mu g b (ix2 i d) = ln (brow r i) (fun e => g (ix2 0 e)) (fun e => b (ix2 0 e)) d := by
  pointwise [k0_pay1]
  rw [h]
  rfl

/-! ## The blocks -/

/-- The projection's columns in the kernel's order. -/
def hT (h : FVec Ideal S4096x3336 .bf16) : FVec Ideal S4096x3456 .bf16 :=
  concatenate S4096x3456 1 [⟨S4096x3072, (concatenate S4096x3072 1 [⟨S4096x2048, (extractStridedSlice S4096x2048 ![0, 0] h slices_S4096x3336_S4096x2048_0_0)⟩,
      ⟨S4096x512, (extractStridedSlice S4096x512 ![0, 2056] h slices_S4096x3336_S4096x512_0_2056)⟩,
      ⟨S4096x512, (extractStridedSlice S4096x512 ![0, 2824] h slices_S4096x3336_S4096x512_0_2824)⟩] concatenates_S4096x2048_S4096x512_S4096x512_S4096x3072_d1)⟩,
    ⟨S4096x384, (concatenate S4096x384 1 [⟨S4096x128, (extractStridedSlice S4096x128 ![0, 2568] h slices_S4096x3336_S4096x128_0_2568)⟩,
      ⟨S4096x128, (extractStridedSlice S4096x128 ![0, 2696] h slices_S4096x3336_S4096x128_0_2696)⟩,
      ⟨S4096x128, (pad S4096x128 ![0, 0] ![0, 120] ![0, 0] (extractStridedSlice S4096x8 ![0, 2048] h slices_S4096x3336_S4096x8_0_2048)
        (sitofp .bf16 (constantI S_ 32 0#32)) pads_S4096x8_S4096x128_000_01200 h_S_)⟩] concatenates_S4096x128_S4096x128_S4096x128_S4096x384_d1)⟩]
    concatenates_S4096x3072_S4096x384_S4096x3456_d1

theorem h_eq (c : Dev nD) : (V m c main_v9 : FVec Ideal S4096x3456 .bf16) = hT (m ((c : Thread nD τ).loc main_arg3)) := by
  unfold hT
  unfold_abbrev_sides
  simp only [hostOps0, hostOps0_1, hostOps0_2, List.flatten_cons, List.flatten_nil, List.append_nil, List.cons_append, List.nil_append]
  after_results <;> rfl

def wT (w : FVec Ideal S1024x1024 .f32) : FVec Ideal S1024x1024 .bf16 := truncf .bf16 w bitsLt_bf16_f32

theorem w_eq (c : Dev nD) : (V m c main_v10 : FVec Ideal S1024x1024 .bf16) = wT (m ((c : Thread nD τ).loc main_arg5)) := by
  unfold wT
  unfold_abbrev_sides
  simp only [hostOps0, hostOps0_1, hostOps0_2, List.flatten_cons, List.flatten_nil, List.append_nil, List.cons_append, List.nil_append]
  after_results <;> rfl

theorem hT_a (h : FVec Ideal S4096x3336 .bf16) (t : Fin 4096) (z : Fin 512) :
    hT h (ix2 t (⟨1536 + z.val, by omega⟩ : Fin 3456)) = h (ix2 t (⟨1536 + z.val, by omega⟩ : Fin 3336)) := by
  pointwise [hT]
  rw [dif_pos (show 1536 + z.val < 3072 by omega), dif_pos (show 1536 + z.val < 2048 by omega)]

theorem hT_b (h : FVec Ideal S4096x3336 .bf16) (t : Fin 4096) (z : Fin 512) :
    hT h (ix2 t (⟨2560 + z.val, by omega⟩ : Fin 3456)) = h (ix2 t (⟨2824 + z.val, by omega⟩ : Fin 3336)) := by
  pointwise [hT]
  rw [dif_pos (show 2560 + z.val < 3072 by omega), dif_neg (show ¬ 2560 + z.val < 2048 by omega), dif_neg (show ¬ 2560 + z.val - 2048 < 512 by omega)]
  congr 2
  apply Fin.ext
  simp
  omega

theorem ix0' : ∀ t : Fin cfg0.N, win0_0.index t = ![t.val, 0] := (by decide +kernel : ∀ t : Fin grid0.N, _)
theorem ix1' : ∀ t : Fin cfg0.N, win0_1.index t = ![t.val, 0] := (by decide +kernel : ∀ t : Fin grid0.N, _)
theorem ix2' : ∀ t : Fin cfg0.N, win0_2.index t = ![t.val, 0] := (by decide +kernel : ∀ t : Fin grid0.N, _)
theorem ix3' : ∀ t : Fin cfg0.N, win0_3.index t = ![t.val, 3] := (by decide +kernel : ∀ t : Fin grid0.N, _)
theorem ix4' : ∀ t : Fin cfg0.N, win0_4.index t = ![t.val, 5] := (by decide +kernel : ∀ t : Fin grid0.N, _)
theorem ix5' : ∀ t : Fin cfg0.N, win0_5.index t = ![0, 0] := (by decide +kernel : ∀ t : Fin grid0.N, _)
theorem ix6' : ∀ t : Fin cfg0.N, win0_6.index t = ![0, 0] := (by decide +kernel : ∀ t : Fin grid0.N, _)
theorem ix7' : ∀ t : Fin cfg0.N, win0_7.index t = ![0, 0] := (by decide +kernel : ∀ t : Fin grid0.N, _)
theorem ix8' : ∀ t : Fin cfg0.N, win0_8.index t = ![0, 0] := (by decide +kernel : ∀ t : Fin grid0.N, _)
theorem ix9' : ∀ t : Fin cfg0.N, win0_9.index t = ![t.val, 0] := (by decide +kernel : ∀ t : Fin grid0.N, _)
theorem ix10' : ∀ t : Fin cfg0.N, win0_10.index t = ![t.val, 0] := (by decide +kernel : ∀ t : Fin grid0.N, _)
theorem ix11' : ∀ t : Fin cfg0.N, win0_11.index t = ![t.val, 0] := (by decide +kernel : ∀ t : Fin grid0.N, _)

theorem tlt (t : Fin cfg0.N) : t.val < 8 := lt_of_lt_of_eq t.isLt (show cfg0.N = 8 from N_0)

/-- Row `y` of block `t`. -/
def at' (t : ℕ) (y : Fin 512) : Fin 4096 := ⟨(512 * t + y.val) % 4096, Nat.mod_lt _ (by decide)⟩

theorem e0 (c : Dev nD) (t : Fin cfg0.N) (y : Fin 512) (z : Fin 1024) : (iblk m c 0 t : Vec Ideal S512x1024 .f32) (ix2 y z)
    = (m ((c : Thread nD τ).loc main_arg0) : FVec Ideal S4096x1024 .f32) (ix2 (at' t.val y) z) := by
  have hV : V m c main_arg0 = m ((c : Thread nD τ).loc main_arg0) := V_main_arg0 m c
  show V m c main_arg0 ((win0_0.blk t).view.emb (ix2 y z)) = _
  rw [hV]
  unfold at'
  congr 1
  funext a
  have hi := ix0' t
  have ht := tlt t
  fin_cases a <;> apply Fin.ext <;> blk_simp [hi] <;> simp <;> omega

theorem e1 (c : Dev nD) (t : Fin cfg0.N) (y : Fin 512) (z : Fin 512) : (iblk m c 1 t : Vec Ideal S512x512 .f32) (ix2 y z)
    = (m ((c : Thread nD τ).loc main_arg1) : FVec Ideal S4096x512 .f32) (ix2 (at' t.val y) z) := by
  have hV : V m c main_arg1 = m ((c : Thread nD τ).loc main_arg1) := V_main_arg1 m c
  show V m c main_arg1 ((win0_1.blk t).view.emb (ix2 y z)) = _
  rw [hV]
  unfold at'
  congr 1
  funext a
  have hi := ix1' t
  have ht := tlt t
  fin_cases a <;> apply Fin.ext <;> blk_simp [hi] <;> simp <;> omega

theorem e2 (c : Dev nD) (t : Fin cfg0.N) (y : Fin 512) (z : Fin 512) : (iblk m c 2 t : Vec Ideal S512x512 .f32) (ix2 y z)
    = (m ((c : Thread nD τ).loc main_arg2) : FVec Ideal S4096x512 .f32) (ix2 (at' t.val y) z) := by
  have hV : V m c main_arg2 = m ((c : Thread nD τ).loc main_arg2) := V_main_arg2 m c
  show V m c main_arg2 ((win0_2.blk t).view.emb (ix2 y z)) = _
  rw [hV]
  unfold at'
  congr 1
  funext a
  have hi := ix2' t
  have ht := tlt t
  fin_cases a <;> apply Fin.ext <;> blk_simp [hi] <;> simp <;> omega

theorem e3 (c : Dev nD) (t : Fin cfg0.N) (y z : Fin 512) : X0_3 m c t (ix2 y z)
    = (m ((c : Thread nD τ).loc main_arg3) : FVec Ideal S4096x3336 .bf16) (ix2 (at' t.val y) (⟨1536 + z.val, by omega⟩ : Fin 3336)) := by
  refine Eq.trans ?_ (hT_a _ _ _)
  rw [← h_eq]
  unfold X0_3 Pipeline.Window.fill
  rw [dif_pos (moved0_3 t _)]
  show V m c main_v9 ((win0_3.blk t).view.emb _) = _
  unfold at'
  congr 1
  funext a
  have hi := ix3' t
  have ht := tlt t
  fin_cases a <;> apply Fin.ext <;> blk_simp [hi] <;> simp <;> omega

theorem e4 (c : Dev nD) (t : Fin cfg0.N) (y z : Fin 512) : X0_4 m c t (ix2 y z)
    = (m ((c : Thread nD τ).loc main_arg3) : FVec Ideal S4096x3336 .bf16) (ix2 (at' t.val y) (⟨2824 + z.val, by omega⟩ : Fin 3336)) := by
  refine Eq.trans ?_ (hT_b _ _ _)
  rw [← h_eq]
  unfold X0_4 Pipeline.Window.fill
  rw [dif_pos (moved0_4 t _)]
  show V m c main_v9 ((win0_4.blk t).view.emb _) = _
  unfold at'
  congr 1
  funext a
  have hi := ix4' t
  have ht := tlt t
  fin_cases a <;> apply Fin.ext <;> blk_simp [hi] <;> simp <;> omega

theorem e5 (c : Dev nD) (t : Fin cfg0.N) (y : Fin 1) (z : Fin 128) : (iblk m c 5 t : Vec Ideal S1x128 .f32) (ix2 y z)
    = (m ((c : Thread nD τ).loc main_arg4) : FVec Ideal S1x128 .f32) (ix2 y z) := by
  have hV : V m c main_arg4 = m ((c : Thread nD τ).loc main_arg4) := V_main_arg4 m c
  show V m c main_arg4 ((win0_5.blk t).view.emb (ix2 y z)) = _
  rw [hV]
  congr 1
  funext a
  have hi := ix5' t
  fin_cases a <;> apply Fin.ext <;> blk_simp [hi] <;> simp

theorem e6 (c : Dev nD) (t : Fin cfg0.N) (y z : Fin 1024) : (iblk m c 6 t : Vec Ideal S1024x1024 .bf16) (ix2 y z)
    = (m ((c : Thread nD τ).loc main_arg5) : FVec Ideal S1024x1024 .f32) (ix2 y z) := by
  have hw : (m ((c : Thread nD τ).loc main_arg5) : FVec Ideal S1024x1024 .f32) (ix2 y z) = (V m c main_v10 : FVec Ideal S1024x1024 .bf16) (ix2 y z) := by
    rw [w_eq]; rfl
  rw [hw]
  show V m c main_v10 ((win0_6.blk t).view.emb (ix2 y z)) = _
  congr 1
  funext a
  have hi := ix6' t
  fin_cases a <;> apply Fin.ext <;> blk_simp [hi] <;> simp

theorem e7 (c : Dev nD) (t : Fin cfg0.N) (y : Fin 1) (z : Fin 1024) : (iblk m c 7 t : Vec Ideal S1x1024 .f32) (ix2 y z)
    = (m ((c : Thread nD τ).loc main_arg6) : FVec Ideal S1x1024 .f32) (ix2 y z) := by
  have hV : V m c main_arg6 = m ((c : Thread nD τ).loc main_arg6) := V_main_arg6 m c
  show V m c main_arg6 ((win0_7.blk t).view.emb (ix2 y z)) = _
  rw [hV]
  congr 1
  funext a
  have hi := ix7' t
  fin_cases a <;> apply Fin.ext <;> blk_simp [hi] <;> simp

theorem e8 (c : Dev nD) (t : Fin cfg0.N) (y : Fin 1) (z : Fin 1024) : (iblk m c 8 t : Vec Ideal S1x1024 .f32) (ix2 y z)
    = (m ((c : Thread nD τ).loc main_arg7) : FVec Ideal S1x1024 .f32) (ix2 y z) := by
  have hV : V m c main_arg7 = m ((c : Thread nD τ).loc main_arg7) := V_main_arg7 m c
  show V m c main_arg7 ((win0_8.blk t).view.emb (ix2 y z)) = _
  rw [hV]
  congr 1
  funext a
  have hi := ix8' t
  fin_cases a <;> apply Fin.ext <;> blk_simp [hi] <;> simp

/-! ## The results -/

/-- A row of an array. -/
def half (v : S4096x512.Idx → EReal) (t : Fin 4096) : Half := fun d => v (ix2 t d)
def row (v : S4096x1024.Idx → EReal) (t : Fin 4096) : Row := fun d => v (ix2 t d)
/-- The gates of the mixer's two halves. -/
def ga (h : S4096x3336.Idx → EReal) (t : Fin 4096) : Half := fun z => h (ix2 t (⟨1536 + z.val, by omega⟩ : Fin 3336))
def gb (h : S4096x3336.Idx → EReal) (t : Fin 4096) : Half := fun z => h (ix2 t (⟨2824 + z.val, by omega⟩ : Fin 3336))

/-- The mixer's output, the layer's before its norm, and after it, a row at a time. -/
def MX (a b : S4096x512.Idx → EReal) (h : S4096x3336.Idx → EReal) (nw : S1x128.Idx → EReal) (t : Fin 4096) : Row :=
  mix (half a t) (half b t) (ga h t) (gb h t) fun z => nw (ix2 0 z)
def RR (x : S4096x1024.Idx → EReal) (a b : S4096x512.Idx → EReal) (h : S4096x3336.Idx → EReal) (nw : S1x128.Idx → EReal)
    (w : S1024x1024.Idx → EReal) (t : Fin 4096) : Row := pre (row x t) (MX a b h nw t) fun k d => w (ix2 k d)
def XN (x : S4096x1024.Idx → EReal) (a b : S4096x512.Idx → EReal) (h : S4096x3336.Idx → EReal) (nw : S1x128.Idx → EReal)
    (w : S1024x1024.Idx → EReal) (g be : S1x1024.Idx → EReal) (t : Fin 4096) : Row :=
  ln (RR x a b h nw w t) (fun e => g (ix2 0 e)) fun e => be (ix2 0 e)

def O9 (x : S4096x1024.Idx → EReal) (a b : S4096x512.Idx → EReal) (h : S4096x3336.Idx → EReal) (nw : S1x128.Idx → EReal)
    (w : S1024x1024.Idx → EReal) (g be : S1x1024.Idx → EReal) (i : S4096x1024.Idx) : EReal := XN x a b h nw w g be (i 0) (i 1)
def O10 (a b : S4096x512.Idx → EReal) (h : S4096x3336.Idx → EReal) (nw : S1x128.Idx → EReal) (i : S4096x1024.Idx) : EReal :=
  MX a b h nw (i 0) (i 1)
def O11 (x : S4096x1024.Idx → EReal) (a b : S4096x512.Idx → EReal) (h : S4096x3336.Idx → EReal) (nw : S1x128.Idx → EReal)
    (w : S1024x1024.Idx → EReal) (i : S4096x1024.Idx) : EReal := RR x a b h nw w (i 0) (i 1)

abbrev A0 (c : Dev nD) : FVec Ideal S4096x1024 .f32 := m ((c : Thread nD τ).loc main_arg0)
abbrev A1 (c : Dev nD) : FVec Ideal S4096x512 .f32 := m ((c : Thread nD τ).loc main_arg1)
abbrev A2 (c : Dev nD) : FVec Ideal S4096x512 .f32 := m ((c : Thread nD τ).loc main_arg2)
abbrev A3 (c : Dev nD) : FVec Ideal S4096x3336 .bf16 := m ((c : Thread nD τ).loc main_arg3)
abbrev A4 (c : Dev nD) : FVec Ideal S1x128 .f32 := m ((c : Thread nD τ).loc main_arg4)
abbrev A5 (c : Dev nD) : FVec Ideal S1024x1024 .f32 := m ((c : Thread nD τ).loc main_arg5)
abbrev A6 (c : Dev nD) : FVec Ideal S1x1024 .f32 := m ((c : Thread nD τ).loc main_arg6)
abbrev A7 (c : Dev nD) : FVec Ideal S1x1024 .f32 := m ((c : Thread nD τ).loc main_arg7)

theorem mx_eq (c : Dev nD) (t : Fin cfg0.N) (i : Fin 512) :
    mix (hrow (iblk m c 1 t : Vec Ideal S512x512 .f32) i) (hrow (iblk m c 2 t : Vec Ideal S512x512 .f32) i) (hrow (X0_3 m c t) i)
      (hrow (X0_4 m c t) i) (wrow (iblk m c 5 t : Vec Ideal S1x128 .f32)) = MX (A1 m c) (A2 m c) (A3 m c) (A4 m c) (at' t.val i) := by
  have h1 : hrow (iblk m c 1 t : Vec Ideal S512x512 .f32) i = half (A1 m c) (at' t.val i) := funext fun d => e1 m c t i d
  have h2 : hrow (iblk m c 2 t : Vec Ideal S512x512 .f32) i = half (A2 m c) (at' t.val i) := funext fun d => e2 m c t i d
  have h3 : hrow (X0_3 m c t) i = ga (A3 m c) (at' t.val i) := funext fun d => e3 m c t i d
  have h4 : hrow (X0_4 m c t) i = gb (A3 m c) (at' t.val i) := funext fun d => e4 m c t i d
  have h5 : wrow (iblk m c 5 t : Vec Ideal S1x128 .f32) = fun z => A4 m c (ix2 0 z) := funext fun d => e5 m c t 0 d
  rw [h1, h2, h3, h4, h5]
  rfl

/-- The payload of the layer's output before its norm. -/
abbrev P7 (c : Dev nD) (t : Fin cfg0.N) : FVec Ideal S512x1024 .f32 :=
  k0_pay7 (iblk m c 1 t) (k0_pay2 (X0_3 m c t)) (iblk m c 5 t) (k0_pay3 (iblk m c 1 t) (iblk m c 5 t)) (k0_pay4 (iblk m c 1 t) (iblk m c 5 t))
    (k0_pay5 (iblk m c 1 t) (iblk m c 5 t)) (iblk m c 2 t) (X0_4 m c t) (iblk m c 0 t) (iblk m c 6 t)

theorem r_eq (c : Dev nD) (t : Fin cfg0.N) (i : Fin 512) :
    brow (P7 m c t) i = RR (A0 m c) (A1 m c) (A2 m c) (A3 m c) (A4 m c) (A5 m c) (at' t.val i) := by
  funext d
  refine (pay7 _ _ _ _ _ _ _ i d).trans ?_
  have h0 : brow (iblk m c 0 t : Vec Ideal S512x1024 .f32) i = row (A0 m c) (at' t.val i) := funext fun d => e0 m c t i d
  have h6 : (fun k d => (iblk m c 6 t : Vec Ideal S1024x1024 .bf16) (ix2 k d)) = fun k d => A5 m c (ix2 k d) :=
    funext fun k => funext fun d => e6 m c t k d
  rw [mx_eq, h0, h6]
  rfl

theorem block10 (c : Dev nD) (t : Fin cfg0.N) (i : Fin 512) (k : Fin 1024) :
    (outsAt0 m c t).2.1 (ix2 i k) = MX (A1 m c) (A2 m c) (A3 m c) (A4 m c) (at' t.val i) k := by
  unfold outsAt0
  dsimp only
  rw [outA10]
  refine (pay6 _ _ _ _ _ i k).trans ?_
  rw [mx_eq]

theorem block11 (c : Dev nD) (t : Fin cfg0.N) (i : Fin 512) (d : Fin 1024) :
    (outsAt0 m c t).2.2 (ix2 i d) = RR (A0 m c) (A1 m c) (A2 m c) (A3 m c) (A4 m c) (A5 m c) (at' t.val i) d := by
  unfold outsAt0
  dsimp only
  rw [outA11]
  exact congrFun (r_eq m c t i) d

theorem block9 (c : Dev nD) (t : Fin cfg0.N) (i : Fin 512) (d : Fin 1024) :
    (outsAt0 m c t).1 (ix2 i d) = XN (A0 m c) (A1 m c) (A2 m c) (A3 m c) (A4 m c) (A5 m c) (A6 m c) (A7 m c) (at' t.val i) d := by
  unfold outsAt0
  dsimp only
  rw [outA9]
  refine (pay1 _ _ _ _ i d (pay8 _ _ _ _ _ _ _ _ _ _ i 0)).trans ?_
  have h7 : (fun e => (iblk m c 7 t : Vec Ideal S1x1024 .f32) (ix2 0 e)) = fun e => A6 m c (ix2 0 e) := funext fun e => e7 m c t 0 e
  have h8 : (fun e => (iblk m c 8 t : Vec Ideal S1x1024 .f32) (ix2 0 e)) = fun e => A7 m c (ix2 0 e) := funext fun e => e8 m c t 0 e
  rw [r_eq, h7, h8]
  rfl

/-! ## The arrays -/

theorem row_congr (f : Fin 4096 → Row) {t t' : Fin 4096} {d d' : Fin 1024} (h0 : t.val = t'.val) (h1 : d.val = d'.val) : f t d = f t' d' := by
  rw [Fin.ext h0, Fin.ext h1]

theorem array9 (c : Dev nD) : (dats m 0 c).arrAt 9 cfg0.N = (O9 (A0 m c) (A1 m c) (A2 m c) (A3 m c) (A4 m c) (A5 m c) (A6 m c) (A7 m c) : FVec Ideal S4096x1024 .f32) := by
  refine (dats m 0 c).arrAt_eq_of_covers 9 _ (by decide +kernel) fun t hf y => ?_
  blk_simp
  rw [after0_9]
  have ht := tlt t
  have hi := ix9' t
  have h0 : (y 0).val < 512 := (y 0).isLt
  have h1 : (y 1).val < 1024 := (y 1).isLt
  have hy : y = ix2 (⟨(y 0).val, h0⟩ : Fin 512) (⟨(y 1).val, h1⟩ : Fin 1024) := by funext k; fin_cases k <;> rfl
  rw [hy]
  refine (block9 m c t _ _).trans ?_
  unfold O9 at'
  refine row_congr (XN (A0 m c) (A1 m c) (A2 m c) (A3 m c) (A4 m c) (A5 m c) (A6 m c) (A7 m c)) ?_ ?_ <;> blk_simp [hi] <;> simp <;> omega

theorem array10 (c : Dev nD) : (dats m 0 c).arrAt 10 cfg0.N = (O10 (A1 m c) (A2 m c) (A3 m c) (A4 m c) : FVec Ideal S4096x1024 .bf16) := by
  refine (dats m 0 c).arrAt_eq_of_covers 10 _ (by decide +kernel) fun t hf y => ?_
  blk_simp
  rw [after0_10]
  have ht := tlt t
  have hi := ix10' t
  have h0 : (y 0).val < 512 := (y 0).isLt
  have h1 : (y 1).val < 1024 := (y 1).isLt
  have hy : y = ix2 (⟨(y 0).val, h0⟩ : Fin 512) (⟨(y 1).val, h1⟩ : Fin 1024) := by funext k; fin_cases k <;> rfl
  rw [hy]
  refine (block10 m c t _ _).trans ?_
  unfold O10 at'
  refine row_congr (MX (A1 m c) (A2 m c) (A3 m c) (A4 m c)) ?_ ?_ <;> blk_simp [hi] <;> simp <;> omega

theorem array11 (c : Dev nD) : (dats m 0 c).arrAt 11 cfg0.N = (O11 (A0 m c) (A1 m c) (A2 m c) (A3 m c) (A4 m c) (A5 m c) : FVec Ideal S4096x1024 .f32) := by
  refine (dats m 0 c).arrAt_eq_of_covers 11 _ (by decide +kernel) fun t hf y => ?_
  blk_simp
  rw [after0_11]
  have ht := tlt t
  have hi := ix11' t
  have h0 : (y 0).val < 512 := (y 0).isLt
  have h1 : (y 1).val < 1024 := (y 1).isLt
  have hy : y = ix2 (⟨(y 0).val, h0⟩ : Fin 512) (⟨(y 1).val, h1⟩ : Fin 1024) := by funext k; fin_cases k <;> rfl
  rw [hy]
  refine (block11 m c t _ _).trans ?_
  unfold O11 at'
  refine row_congr (RR (A0 m c) (A1 m c) (A2 m c) (A3 m c) (A4 m c) (A5 m c)) ?_ ?_ <;> blk_simp [hi] <;> simp <;> omega

end Cert.Mix.Ker6

end
-- ==== Proof.MixRef.lean ====
/-
  The reference for a layer's mixer output, read element by element.
-/
module

public import proofs.«01_k».proof.Proof.Gen.Reference6Ideal.Run
public import proofs.«01_k».proof.Proof.MixRow
public import Idealize.ShloMosaic.Lib.Pointwise

@[expose] public section

set_option maxRecDepth 16384

noncomputable section

namespace Cert.Mix.Ref

open Idealize.ShloMosaic Idealize.ShloMosaic.TcCoe
open Cert.Reference6Ideal Cert.Reference6Ideal.Gen Cert.Ln Cert.Mix

abbrev A : Type := FVec Ideal S4096x1024 .f32
abbrev C : Type := FVec Ideal S4096x1 .f32
abbrev M : Type := FVec Ideal S4096x512 .f32

def zeroT : FVec Ideal S_ .f32 := constant S_ .f32 0x00000000#32

/-- The heads of the mixer's first half, and one over the root of each one's mean square. -/
def headT (o : M) : FVec Ideal S4096x4x128 .f32 := shapeCast _ o shapeCasts_S4096x512_S4096x4x128
def hrsT (o : M) : FVec Ideal S4096x4x1 .f32 :=
  Host.rsqrt (addf (Host.divf (broadcastInDim S4096x4x1 ![0, 1] bcast_S4096x4_S4096x4x1_0_1
      (Host.reduceAdd (mulf (headT o) (headT o)) zeroT reducesTo_S4096x4x128_S4096x4_d2 h_S_))
    (broadcastInDim S4096x4x1 ![] bcast_S_S4096x4x1 (constant (F := Ideal) S_ .f32 0x43000000#32)))
    (broadcastInDim S4096x4x1 ![] bcast_S_S4096x4x1 (constant (F := Ideal) S_ .f32 0x358637BD#32)))
def hnormT (o : M) (w : FVec Ideal S1x128 .f32) : FVec Ideal S4096x4x128 .f32 :=
  mulf (mulf (headT o) (broadcastInDim S4096x4x128 ![0, 1, 2] bcast_S4096x4x1_S4096x4x128_0_1_2 (hrsT o)))
    (broadcastInDim S4096x4x128 ![0, 1, 2] bcast_S1x1x128_S4096x4x128_0_1_2 (broadcastInDim S1x1x128 ![1, 2] bcast_S1x128_S1x1x128_1_2 w))

/-- The gate. -/
def siluT (z : M) : M :=
  mulf z (Host.divf (broadcastInDim S4096x512 ![] bcast_S_S4096x512 (constant (F := Ideal) S_ .f32 0x3F800000#32))
    (addf (broadcastInDim S4096x512 ![] bcast_S_S4096x512 (constant (F := Ideal) S_ .f32 0x3F800000#32)) (Host.exp (Host.negf z))))
def zaT (h : FVec Ideal S4096x3336 .bf16) : M := extf .f32 (extractStridedSlice S4096x512 ![0, 1536] h slices_S4096x3336_S4096x512_0_1536) bitsLt_bf16_f32
def zbT (h : FVec Ideal S4096x3336 .bf16) : M := extf .f32 (extractStridedSlice S4096x512 ![0, 2824] h slices_S4096x3336_S4096x512_0_2824) bitsLt_bf16_f32

/-- The mixer's output, the layer's before its norm, and after it. -/
def mixT (a b : M) (h : FVec Ideal S4096x3336 .bf16) (w : FVec Ideal S1x128 .f32) : A :=
  concatenate S4096x1024 1 [⟨S4096x512, (mulf (shapeCast _ (hnormT a w) shapeCasts_S4096x4x128_S4096x512) (siluT (zaT h)) : M)⟩,
    ⟨S4096x512, (mulf b (siluT (zbT h)) : M)⟩] concatenates_S4096x512_S4096x512_S4096x1024_d1
def preT (x mx : A) (w : FVec Ideal S1024x1024 .f32) : A :=
  addf (mulf (broadcastInDim S4096x1024 ![] bcast_S_S4096x1024 (constant (F := Ideal) S_ .f32 0x3FB504F3#32)) x)
    (Host.dotGeneral dot_S4096x1024_S1024x1024_S4096x1024_1_0_0_1_n_n none mx w)

def lenT : C := broadcastInDim S4096x1 ![] bcast_S_S4096x1 (constant (F := Ideal) S_ .f32 0x44800000#32)
def wide (a : C) : A := broadcastInDim S4096x1024 ![0, 1] bcast_S4096x1_S4096x1024_0_1 a
def muT (r : A) : C :=
  Host.divf (broadcastInDim S4096x1 ![0] bcast_S4096_S4096x1_0 (Host.reduceAdd r zeroT reducesTo_S4096x1024_S4096_d1 h_S_)) lenT
def cenT (r : A) : A := subf r (wide (muT r))
def veT (r : A) : C := addf (muT (mulf (cenT r) (cenT r))) (broadcastInDim S4096x1 ![] bcast_S_S4096x1 (constant (F := Ideal) S_ .f32 0x3727C5AC#32))
def lnT (r : A) (g b : FVec Ideal S1x1024 .f32) : A :=
  addf (mulf (mulf (cenT r) (wide (Host.rsqrt (veT r)))) (broadcastInDim S4096x1024 ![0, 1] bcast_S1x1024_S4096x1024_0_1 g))
    (broadcastInDim S4096x1024 ![0, 1] bcast_S1x1024_S4096x1024_0_1 b)

/-! ## Their elements -/

theorem hnormT_ix (o : M) (w : FVec Ideal S1x128 .f32) (t : Fin 4096) (a : Fin 4) (z : Fin 128) :
    hnormT o w (ix3 t a z) = hnorm (fun d => o (ix2 t d)) (fun z => w (ix2 0 z)) a z := by
  have hh : ∀ z, headT o (ix3 t a z) = o (ix2 t (lane a z)) := fun z => by
    pointwise [headT]
    exact congrArg (fun j => o (ix2 t j)) (Fin.ext (by show a.val * 128 + z.val = 128 * a.val + z.val; omega))
  have hr : ∀ u : Fin 1, hrsT o (ix3 t a u) = hrs (fun d => o (ix2 t d)) a := fun u => by
    pointwise [hrsT, zeroT]
    simp only [hh]
    rfl
  pointwise [hnormT]
  rw [hh, hr]
  rfl

theorem siluT_ix (z : M) (t : Fin 4096) (d : Fin 512) : siluT z (ix2 t d) = silu (z (ix2 t d)) := by
  pointwise [siluT]
  rfl

theorem mixT_ix (a b : M) (h : FVec Ideal S4096x3336 .bf16) (w : FVec Ideal S1x128 .f32) (t : Fin 4096) (k : Fin 1024) :
    mixT a b h w (ix2 t k) = mix (fun d => a (ix2 t d)) (fun d => b (ix2 t d)) (fun z => h (ix2 t (⟨1536 + z.val, by omega⟩ : Fin 3336)))
      (fun z => h (ix2 t (⟨2824 + z.val, by omega⟩ : Fin 3336))) (fun z => w (ix2 0 z)) k := by
  pointwise [mixT]
  simp only [hnormT_ix, siluT_ix]
  have ea : ∀ j : Fin 512, zaT h (ix2 t j) = h (ix2 t (⟨1536 + j.val, by omega⟩ : Fin 3336)) := fun j => by pointwise [zaT]
  have eb : ∀ j : Fin 512, zbT h (ix2 t j) = h (ix2 t (⟨2824 + j.val, by omega⟩ : Fin 3336)) := fun j => by pointwise [zbT]
  simp only [ea, eb]
  rfl

theorem preT_ix (x mx : A) (w : FVec Ideal S1024x1024 .f32) (t : Fin 4096) (d : Fin 1024) :
    preT x mx w (ix2 t d) = pre (fun d => x (ix2 t d)) (fun d => mx (ix2 t d)) (fun k d => w (ix2 k d)) d := by
  pointwise [preT]
  rfl

theorem muT_ix (r : A) (t : Fin 4096) (u : Fin 1) : muT r (ix2 t u) = mean fun d => r (ix2 t d) := by
  pointwise [muT, lenT, zeroT]
  rfl

theorem wide_ix (a : C) (t : Fin 4096) (d : Fin 1024) : wide a (ix2 t d) = a (ix2 t 0) := by
  pointwise [wide]

theorem cenT_ix (r : A) (t : Fin 4096) (d : Fin 1024) : cenT r (ix2 t d) = cen (fun d => r (ix2 t d)) d := by
  have h : cenT r (ix2 t d) = r (ix2 t d) - wide (muT r) (ix2 t d) := rfl
  rw [h, wide_ix, muT_ix]
  rfl

theorem veT_ix (r : A) (t : Fin 4096) (u : Fin 1) : veT r (ix2 t u) = ve fun d => r (ix2 t d) := by
  have h : veT r (ix2 t u) = muT (mulf (cenT r) (cenT r)) (ix2 t u) + eps := rfl
  rw [h, muT_ix]
  have e : ∀ d, mulf (cenT r) (cenT r) (ix2 t d) = cen (fun d => r (ix2 t d)) d * cen (fun d => r (ix2 t d)) d := fun d => by
    rw [← cenT_ix]; rfl
  simp only [e]
  rfl

theorem lnT_ix (r : A) (g b : FVec Ideal S1x1024 .f32) (t : Fin 4096) (d : Fin 1024) :
    lnT r g b (ix2 t d) = ln (fun d => r (ix2 t d)) (fun e => g (ix2 0 e)) (fun e => b (ix2 0 e)) d := by
  have h : ∀ a : C, wide (Host.rsqrt a) (ix2 t d) = Ideal.rsqrt (a (ix2 t 0)) := fun a => by rw [wide_ix]; rfl
  pointwise [lnT]
  rw [h, veT_ix, cenT_ix]
  rfl

/-! ## The run's results -/

variable (m : (ℓ : Loc nD τ sig) → Buf (Elt Ideal) ℓ)

theorem v49 (c : Dev nD) : Cert.Reference6Ideal.Value.res_main_v49 m c
    = lnT (preT (m ((c : Thread nD τ).loc main_arg0)) (mixT (m ((c : Thread nD τ).loc main_arg1)) (m ((c : Thread nD τ).loc main_arg2))
        (m ((c : Thread nD τ).loc main_arg3)) (m ((c : Thread nD τ).loc main_arg4))) (m ((c : Thread nD τ).loc main_arg5)))
      (m ((c : Thread nD τ).loc main_arg6)) (m ((c : Thread nD τ).loc main_arg7)) := by
  rfl

end Cert.Mix.Ref

end
-- ==== Proof.Mix6Val.lean ====
/-
  The first layer's mixer output: the kernel's three results are the reference's.
-/
module

public import proofs.«01_k».proof.Proof.Mix6
public import proofs.«01_k».proof.Proof.MixRef

@[expose] public section

set_option maxRecDepth 16384

noncomputable section

namespace Cert.Mix.Val6

open Idealize.ShloMosaic Cert.Mix Cert.Mix.Ref Cert.Mix.Ker6

abbrev S : Shape := Cert.Reference6Ideal.S4096x1024

variable (x : A) (a b : M) (h : FVec Ideal Cert.Reference6Ideal.S4096x3336 .bf16) (nw : FVec Ideal Cert.Reference6Ideal.S1x128 .f32)
  (w : FVec Ideal Cert.Reference6Ideal.S1024x1024 .f32) (g be : FVec Ideal Cert.Reference6Ideal.S1x1024 .f32)

theorem mx_row (t : Fin 4096) : (fun k => mixT a b h nw (ix2 t k)) = MX a b h nw t := funext fun k => mixT_ix a b h nw t k

theorem r_row (t : Fin 4096) : (fun d => preT x (mixT a b h nw) w (ix2 t d)) = RR x a b h nw w t := funext fun d => by
  rw [preT_ix, mx_row]
  rfl

theorem val9 : lnT (preT x (mixT a b h nw) w) g be = O9 x a b h nw w g be := by
  funext (i : S.Idx)
  obtain ⟨t, d, rfl⟩ : ∃ (t : Fin 4096) (d : Fin 1024), i = ix2 t d := ⟨i 0, i 1, by funext k; fin_cases k <;> rfl⟩
  rw [lnT_ix, r_row]
  rfl

theorem val10 : mixT a b h nw = O10 a b h nw := by
  funext (i : S.Idx)
  obtain ⟨t, d, rfl⟩ : ∃ (t : Fin 4096) (d : Fin 1024), i = ix2 t d := ⟨i 0, i 1, by funext k; fin_cases k <;> rfl⟩
  exact mixT_ix a b h nw t d

theorem val11 : preT x (mixT a b h nw) w = O11 x a b h nw w := by
  funext (i : S.Idx)
  obtain ⟨t, d, rfl⟩ : ∃ (t : Fin 4096) (d : Fin 1024), i = ix2 t d := ⟨i 0, i 1, by funext k; fin_cases k <;> rfl⟩
  exact congrFun (r_row x a b h nw w t) d

end Cert.Mix.Val6

end
-- ==== Proof.MixOut7.lean ====
/-
  What one grid point of the last layer's mixer output leaves in each of its four outputs, as the payloads of its input blocks and, for the loss, of what the point before left.
-/
module

public import proofs.«01_k».proof.Proof.Gen.Kernel7Ideal.Value
public import Idealize.ShloMosaic.Lib.Pointwise
public import Idealize.ShloMosaic.Lib.WholeRead
public import Idealize.ShloMosaic.Lib.Pipeline.ValueKit

@[expose] public section

set_option maxRecDepth 16384

noncomputable section

namespace Cert.Mix.Ker7

open Idealize.ShloMosaic Idealize.ShloMosaic.TcCoe Idealize.SL.Sem
open Cert.Kernel7Ideal Cert.Kernel7Ideal.Gen

theorem hz : (![0, 0] : Fin 2 → Nat) = fun _ => 0 := funext fun a => by fin_cases a <;> rfl

theorem outA10 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S8x128 .f32) (harg14 : arg14.IsWhole) (hc0 : cond0_0 i)
    (x0 : Vec Ideal S512x1024 .f32) (x1 : Vec Ideal S512x512 .f32) (x2 : Vec Ideal S512x512 .f32) (x3 : Vec Ideal S512x512 .bf16) (x4 : Vec Ideal S512x512 .bf16) (x5 : Vec Ideal S1x128 .f32) (x6 : Vec Ideal S1024x1024 .bf16) (x7 : Vec Ideal S1x1024 .f32) (x8 : Vec Ideal S1x1024 .f32) (x9 : Vec Ideal S512x1024 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay10 (k0_pay6 x1 (k0_pay1 x3) x5 (k0_pay2 x1 x5) (k0_pay3 x1 x5) (k0_pay4 x1 x5) x2 x4 x0 x6) (k0_pay7 x1 (k0_pay1 x3) x5 (k0_pay2 x1 x5) (k0_pay3 x1 x5) (k0_pay4 x1 x5) x2 x4 x0 x6) x7 x8 x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg14.read_unread, View.ld_unit_zero (S := S512x1024) hz, View.ld_unit_zero (S := S512x512) hz, View.ld_unit_zero (S := S1x128) hz, View.ld_unit_zero (S := S1x1024) hz, View.ld_unit_zero (S := S1024x1024) hz, View.ld_unit_zero (S := S8x128) hz]

theorem outA11 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S8x128 .f32) (harg14 : arg14.IsWhole) (hc0 : cond0_0 i)
    (x0 : Vec Ideal S512x1024 .f32) (x1 : Vec Ideal S512x512 .f32) (x2 : Vec Ideal S512x512 .f32) (x3 : Vec Ideal S512x512 .bf16) (x4 : Vec Ideal S512x512 .bf16) (x5 : Vec Ideal S1x128 .f32) (x6 : Vec Ideal S1024x1024 .bf16) (x7 : Vec Ideal S1x1024 .f32) (x8 : Vec Ideal S1x1024 .f32) (x9 : Vec Ideal S512x1024 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay5 x1 (k0_pay1 x3) x5 (k0_pay2 x1 x5) (k0_pay3 x1 x5) (k0_pay4 x1 x5) x2 x4 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg14.read_unread, View.ld_unit_zero (S := S512x1024) hz, View.ld_unit_zero (S := S512x512) hz, View.ld_unit_zero (S := S1x128) hz, View.ld_unit_zero (S := S1x1024) hz, View.ld_unit_zero (S := S1024x1024) hz, View.ld_unit_zero (S := S8x128) hz]

theorem outA12 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S8x128 .f32) (harg14 : arg14.IsWhole) (hc0 : cond0_0 i)
    (x0 : Vec Ideal S512x1024 .f32) (x1 : Vec Ideal S512x512 .f32) (x2 : Vec Ideal S512x512 .f32) (x3 : Vec Ideal S512x512 .bf16) (x4 : Vec Ideal S512x512 .bf16) (x5 : Vec Ideal S1x128 .f32) (x6 : Vec Ideal S1024x1024 .bf16) (x7 : Vec Ideal S1x1024 .f32) (x8 : Vec Ideal S1x1024 .f32) (x9 : Vec Ideal S512x1024 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay6 x1 (k0_pay1 x3) x5 (k0_pay2 x1 x5) (k0_pay3 x1 x5) (k0_pay4 x1 x5) x2 x4 x0 x6 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg14.read_unread, View.ld_unit_zero (S := S512x1024) hz, View.ld_unit_zero (S := S512x512) hz, View.ld_unit_zero (S := S1x128) hz, View.ld_unit_zero (S := S1x1024) hz, View.ld_unit_zero (S := S1024x1024) hz, View.ld_unit_zero (S := S8x128) hz]

theorem outB10 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S8x128 .f32) (harg14 : arg14.IsWhole) (hc0 : ¬cond0_0 i)
    (x0 : Vec Ideal S512x1024 .f32) (x1 : Vec Ideal S512x512 .f32) (x2 : Vec Ideal S512x512 .f32) (x3 : Vec Ideal S512x512 .bf16) (x4 : Vec Ideal S512x512 .bf16) (x5 : Vec Ideal S1x128 .f32) (x6 : Vec Ideal S1024x1024 .bf16) (x7 : Vec Ideal S1x1024 .f32) (x8 : Vec Ideal S1x1024 .f32) (x9 : Vec Ideal S512x1024 .f32) (xo13 : Vec Ideal S8x128 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 = k0_pay10 (k0_pay6 x1 (k0_pay1 x3) x5 (k0_pay2 x1 x5) (k0_pay3 x1 x5) (k0_pay4 x1 x5) x2 x4 x0 x6) (k0_pay7 x1 (k0_pay1 x3) x5 (k0_pay2 x1 x5) (k0_pay3 x1 x5) (k0_pay4 x1 x5) x2 x4 x0 x6) x7 x8 x9 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13)]
  unfold kernelRun0_B
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg14.read_unread, View.ld_unit_zero (S := S512x1024) hz, View.ld_unit_zero (S := S512x512) hz, View.ld_unit_zero (S := S1x128) hz, View.ld_unit_zero (S := S1x1024) hz, View.ld_unit_zero (S := S1024x1024) hz, View.ld_unit_zero (S := S8x128) hz]

theorem outB11 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S8x128 .f32) (harg14 : arg14.IsWhole) (hc0 : ¬cond0_0 i)
    (x0 : Vec Ideal S512x1024 .f32) (x1 : Vec Ideal S512x512 .f32) (x2 : Vec Ideal S512x512 .f32) (x3 : Vec Ideal S512x512 .bf16) (x4 : Vec Ideal S512x512 .bf16) (x5 : Vec Ideal S1x128 .f32) (x6 : Vec Ideal S1024x1024 .bf16) (x7 : Vec Ideal S1x1024 .f32) (x8 : Vec Ideal S1x1024 .f32) (x9 : Vec Ideal S512x1024 .f32) (xo13 : Vec Ideal S8x128 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 = k0_pay5 x1 (k0_pay1 x3) x5 (k0_pay2 x1 x5) (k0_pay3 x1 x5) (k0_pay4 x1 x5) x2 x4 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13)]
  unfold kernelRun0_B
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg14.read_unread, View.ld_unit_zero (S := S512x1024) hz, View.ld_unit_zero (S := S512x512) hz, View.ld_unit_zero (S := S1x128) hz, View.ld_unit_zero (S := S1x1024) hz, View.ld_unit_zero (S := S1024x1024) hz, View.ld_unit_zero (S := S8x128) hz]

theorem outB12 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S8x128 .f32) (harg14 : arg14.IsWhole) (hc0 : ¬cond0_0 i)
    (x0 : Vec Ideal S512x1024 .f32) (x1 : Vec Ideal S512x512 .f32) (x2 : Vec Ideal S512x512 .f32) (x3 : Vec Ideal S512x512 .bf16) (x4 : Vec Ideal S512x512 .bf16) (x5 : Vec Ideal S1x128 .f32) (x6 : Vec Ideal S1024x1024 .bf16) (x7 : Vec Ideal S1x1024 .f32) (x8 : Vec Ideal S1x1024 .f32) (x9 : Vec Ideal S512x1024 .f32) (xo13 : Vec Ideal S8x128 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 = k0_pay6 x1 (k0_pay1 x3) x5 (k0_pay2 x1 x5) (k0_pay3 x1 x5) (k0_pay4 x1 x5) x2 x4 x0 x6 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13)]
  unfold kernelRun0_B
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg14.read_unread, View.ld_unit_zero (S := S512x1024) hz, View.ld_unit_zero (S := S512x512) hz, View.ld_unit_zero (S := S1x128) hz, View.ld_unit_zero (S := S1x1024) hz, View.ld_unit_zero (S := S1024x1024) hz, View.ld_unit_zero (S := S8x128) hz]

theorem outA13 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S8x128 .f32) (harg14 : arg14.IsWhole) (hc0 : cond0_0 i)
    (x0 : Vec Ideal S512x1024 .f32) (x1 : Vec Ideal S512x512 .f32) (x2 : Vec Ideal S512x512 .f32) (x3 : Vec Ideal S512x512 .bf16) (x4 : Vec Ideal S512x512 .bf16) (x5 : Vec Ideal S1x128 .f32) (x6 : Vec Ideal S1024x1024 .bf16) (x7 : Vec Ideal S1x1024 .f32) (x8 : Vec Ideal S1x1024 .f32) (x9 : Vec Ideal S512x1024 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay11 (k0_pay6 x1 (k0_pay1 x3) x5 (k0_pay2 x1 x5) (k0_pay3 x1 x5) (k0_pay4 x1 x5) x2 x4 x0 x6) (k0_pay7 x1 (k0_pay1 x3) x5 (k0_pay2 x1 x5) (k0_pay3 x1 x5) (k0_pay4 x1 x5) x2 x4 x0 x6) x7 x8 x9 (k0_pay8 (F := Ideal)) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  try sl_unfold_words
  rw [View.canon_cons_unit_zero (S := S8x128) hz]
  simp only [View.readCov_unit_zero (S := S8x128) _ hz]
  simp only [View.readAt_eq_ld, harg1.read_unread, harg2.read_unread, harg3.read_unread, harg4.read_unread, harg5.read_unread, harg6.read_unread, harg7.read_unread, harg8.read_unread, harg9.read_unread, harg10.read_unread, harg14.read_unread, View.ld_unit_zero (S := S512x1024) hz, View.ld_unit_zero (S := S512x512) hz, View.ld_unit_zero (S := S1x128) hz, View.ld_unit_zero (S := S1x1024) hz, View.ld_unit_zero (S := S1024x1024) hz, View.ld_unit_zero (S := S8x128) hz]

theorem outB13 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S8x128 .f32) (harg14 : arg14.IsWhole) (hc0 : ¬cond0_0 i)
    (x0 : Vec Ideal S512x1024 .f32) (x1 : Vec Ideal S512x512 .f32) (x2 : Vec Ideal S512x512 .f32) (x3 : Vec Ideal S512x512 .bf16) (x4 : Vec Ideal S512x512 .bf16) (x5 : Vec Ideal S1x128 .f32) (x6 : Vec Ideal S1024x1024 .bf16) (x7 : Vec Ideal S1x1024 .f32) (x8 : Vec Ideal S1x1024 .f32) (x9 : Vec Ideal S512x1024 .f32) (xo13 : Vec Ideal S8x128 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13 = k0_pay11 (k0_pay6 x1 (k0_pay1 x3) x5 (k0_pay2 x1 x5) (k0_pay3 x1 x5) (k0_pay4 x1 x5) x2 x4 x0 x6) (k0_pay7 x1 (k0_pay1 x3) x5 (k0_pay2 x1 x5) (k0_pay3 x1 x5) (k0_pay4 x1 x5) x2 x4 x0 x6) x7 x8 x9 xo13 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo13)]
  unfold kernelRun0_B
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg14.read_unread, View.ld_unit_zero (S := S512x1024) hz, View.ld_unit_zero (S := S512x512) hz, View.ld_unit_zero (S := S1x128) hz, View.ld_unit_zero (S := S1x1024) hz, View.ld_unit_zero (S := S1024x1024) hz, View.ld_unit_zero (S := S8x128) hz]

end Cert.Mix.Ker7

end
-- ==== Proof.Mix7.lean ====
/-
  The last layer's mixer output, array by array: each of the kernel's four results as a function of the arguments.
-/
module

public import proofs.«01_k».proof.Proof.MixOut7
public import proofs.«01_k».proof.Proof.DwProj
public import proofs.«01_k».proof.Proof.MixRow
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.Mix.Ker7

open Idealize.ShloMosaic Idealize.ShloMosaic.TcCoe Idealize.SL.Sem
open Cert.Kernel7Ideal Cert.Kernel7Ideal.Gen
open Cert.Ln (Row)

variable (m : (ℓ : Loc nD τ sig) → Buf (Elt Ideal) ℓ)

/-! ## The payloads -/

/-- A row of a block, and the one row of the gains. -/
def hrow (v : S512x512.Idx → EReal) (i : Fin 512) : Half := fun d => v (ix2 i d)
def brow (v : S512x1024.Idx → EReal) (i : Fin 512) : Row := fun d => v (ix2 i d)
def wrow (v : Vec Ideal S1x128 .f32) : Fin 128 → EReal := fun z => v (ix2 0 z)

theorem pay2 (o : Vec Ideal S512x512 .f32) (w : Vec Ideal S1x128 .f32) (i : Fin 512) (z : Fin 128) :
    k0_pay2 o w (ix2 i z) = hnorm (hrow o i) (wrow w) 0 z := by
  have e : ∀ (x : Fin 128) (h : x.val < 512), (⟨x.val, h⟩ : Fin 512) = lane 0 x := fun x _ => Fin.ext (by simp [lane])
  pointwise [k0_pay2]
  simp only [e]
  rfl

theorem pay3 (o : Vec Ideal S512x512 .f32) (w : Vec Ideal S1x128 .f32) (i : Fin 512) (z : Fin 128) :
    k0_pay3 o w (ix2 i z) = hnorm (hrow o i) (wrow w) 1 z := by
  pointwise [k0_pay3]
  rfl

theorem pay4 (o : Vec Ideal S512x512 .f32) (w : Vec Ideal S1x128 .f32) (i : Fin 512) (z : Fin 128) :
    k0_pay4 o w (ix2 i z) = hnorm (hrow o i) (wrow w) 2 z := by
  pointwise [k0_pay4]
  rfl

theorem pay5 (o b : Vec Ideal S512x512 .f32) (za zb : Vec Ideal S512x512 .bf16) (w : Vec Ideal S1x128 .f32) (i : Fin 512) (k : Fin 1024) :
    k0_pay5 o (k0_pay1 za) w (k0_pay2 o w) (k0_pay3 o w) (k0_pay4 o w) b zb (ix2 i k)
      = mix (hrow o i) (hrow b i) (hrow za i) (hrow zb i) (wrow w) k := by
  pointwise [k0_pay5, k0_pay1]
  unfold mix
  simp only [rms_heads, pay2, pay3, pay4]
  rfl

theorem pay6 (o b : Vec Ideal S512x512 .f32) (za zb : Vec Ideal S512x512 .bf16) (nw : Vec Ideal S1x128 .f32) (x : Vec Ideal S512x1024 .f32)
    (w : Vec Ideal S1024x1024 .bf16) (i : Fin 512) (d : Fin 1024) :
    k0_pay6 o (k0_pay1 za) nw (k0_pay2 o nw) (k0_pay3 o nw) (k0_pay4 o nw) b zb x w (ix2 i d)
      = pre (brow x i) (mix (hrow o i) (hrow b i) (hrow za i) (hrow zb i) (wrow nw)) (fun k d => w (ix2 k d)) d := by
  pointwise [k0_pay6]
  simp only [pay5]
  rfl

theorem pay7 (o b : Vec Ideal S512x512 .f32) (z3 : Vec Ideal S512x512 .f32) (zb : Vec Ideal S512x512 .bf16) (nw : Vec Ideal S1x128 .f32)
    (p q r : Vec Ideal S512x128 .f32) (x : Vec Ideal S512x1024 .f32) (w : Vec Ideal S1024x1024 .bf16) (i : Fin 512) (u : Fin 1) :
    k0_pay7 o z3 nw p q r b zb x w (ix2 i u) = Ln.mean (brow (k0_pay6 o z3 nw p q r b zb x w) i) := by
  pointwise [k0_pay7]
  rfl

theorem pay9 (r : Vec Ideal S512x1024 .f32) (mu : Vec Ideal S512x1 .f32) (g b : Vec Ideal S1x1024 .f32) (y : Vec Ideal S512x1024 .f32) (i : Fin 512) (d : Fin 1024)
    (h : mu (ix2 i 0) = Ln.mean (brow r i)) :
    k0_pay9 r mu g b y (ix2 i d) = ln (brow r i) (fun e => g (ix2 0 e)) (fun e => b (ix2 0 e)) d - y (ix2 i d) := by
  pointwise [k0_pay9]
  rw [h]
  rfl

theorem pay10 (r : Vec Ideal S512x1024 .f32) (mu : Vec Ideal S512x1 .f32) (g b : Vec Ideal S1x1024 .f32) (y : Vec Ideal S512x1024 .f32) (i : Fin 512) (d : Fin 1024) :
    k0_pay10 r mu g b y (ix2 i d) = k0_pay9 r mu g b y (ix2 i d) * over := by
  pointwise [k0_pay10]
  rfl

theorem pay11 (r : Vec Ideal S512x1024 .f32) (mu : Vec Ideal S512x1 .f32) (g b : Vec Ideal S1x1024 .f32) (y : Vec Ideal S512x1024 .f32) (acc : Vec Ideal S8x128 .f32)
    (p : Fin 8) (q : Fin 128) :
    k0_pay11 r mu g b y acc (ix2 p q) = acc (ix2 p q) + hover * ∑ i : Fin 512, ∑ d, k0_pay9 r mu g b y (ix2 i d) * k0_pay9 r mu g b y (ix2 i d) := by
  pointwise [k0_pay11]
  rfl

theorem pay8 (p : Fin 8) (q : Fin 128) : k0_pay8 (F := Ideal) (ix2 p q) = (0 : EReal) := by
  pointwise [k0_pay8]

/-! ## The blocks -/

/-- The projection's columns in the kernel's order. -/
def hT (h : FVec Ideal S4096x3336 .bf16) : FVec Ideal S4096x3456 .bf16 :=
  concatenate S4096x3456 1 [⟨S4096x3072, (concatenate S4096x3072 1 [⟨S4096x2048, (extractStridedSlice S4096x2048 ![0, 0] h slices_S4096x3336_S4096x2048_0_0)⟩,
      ⟨S4096x512, (extractStridedSlice S4096x512 ![0, 2056] h slices_S4096x3336_S4096x512_0_2056)⟩,
      ⟨S4096x512, (extractStridedSlice S4096x512 ![0, 2824] h slices_S4096x3336_S4096x512_0_2824)⟩] concatenates_S4096x2048_S4096x512_S4096x512_S4096x3072_d1)⟩,
    ⟨S4096x384, (concatenate S4096x384 1 [⟨S4096x128, (extractStridedSlice S4096x128 ![0, 2568] h slices_S4096x3336_S4096x128_0_2568)⟩,
      ⟨S4096x128, (extractStridedSlice S4096x128 ![0, 2696] h slices_S4096x3336_S4096x128_0_2696)⟩,
      ⟨S4096x128, (pad S4096x128 ![0, 0] ![0, 120] ![0, 0] (extractStridedSlice S4096x8 ![0, 2048] h slices_S4096x3336_S4096x8_0_2048)
        (sitofp .bf16 (constantI S_ 32 0#32)) pads_S4096x8_S4096x128_000_01200 h_S_)⟩] concatenates_S4096x128_S4096x128_S4096x128_S4096x384_d1)⟩]
    concatenates_S4096x3072_S4096x384_S4096x3456_d1

theorem h_eq (c : Dev nD) : (V m c main_v9 : FVec Ideal S4096x3456 .bf16) = hT (m ((c : Thread nD τ).loc main_arg3)) := by
  unfold hT
  unfold_abbrev_sides
  simp only [hostOps0, hostOps0_1, hostOps0_2, List.flatten_cons, List.flatten_nil, List.append_nil, List.cons_append, List.nil_append]
  after_results <;> rfl

def wT (w : FVec Ideal S1024x1024 .f32) : FVec Ideal S1024x1024 .bf16 := truncf .bf16 w bitsLt_bf16_f32

theorem w_eq (c : Dev nD) : (V m c main_v10 : FVec Ideal S1024x1024 .bf16) = wT (m ((c : Thread nD τ).loc main_arg5)) := by
  unfold wT
  unfold_abbrev_sides
  simp only [hostOps0, hostOps0_1, hostOps0_2, List.flatten_cons, List.flatten_nil, List.append_nil, List.cons_append, List.nil_append]
  after_results <;> rfl

theorem hT_a (h : FVec Ideal S4096x3336 .bf16) (t : Fin 4096) (z : Fin 512) :
    hT h (ix2 t (⟨1536 + z.val, by omega⟩ : Fin 3456)) = h (ix2 t (⟨1536 + z.val, by omega⟩ : Fin 3336)) := by
  pointwise [hT]
  rw [dif_pos (show 1536 + z.val < 3072 by omega), dif_pos (show 1536 + z.val < 2048 by omega)]

theorem hT_b (h : FVec Ideal S4096x3336 .bf16) (t : Fin 4096) (z : Fin 512) :
    hT h (ix2 t (⟨2560 + z.val, by omega⟩ : Fin 3456)) = h (ix2 t (⟨2824 + z.val, by omega⟩ : Fin 3336)) := by
  pointwise [hT]
  rw [dif_pos (show 2560 + z.val < 3072 by omega), dif_neg (show ¬ 2560 + z.val < 2048 by omega), dif_neg (show ¬ 2560 + z.val - 2048 < 512 by omega)]
  congr 2
  apply Fin.ext
  simp
  omega

theorem ix0' : ∀ t : Fin cfg0.N, win0_0.index t = ![t.val, 0] := (by decide +kernel : ∀ t : Fin grid0.N, _)
theorem ix1' : ∀ t : Fin cfg0.N, win0_1.index t = ![t.val, 0] := (by decide +kernel : ∀ t : Fin grid0.N, _)
theorem ix2' : ∀ t : Fin cfg0.N, win0_2.index t = ![t.val, 0] := (by decide +kernel : ∀ t : Fin grid0.N, _)
theorem ix3' : ∀ t : Fin cfg0.N, win0_3.index t = ![t.val, 3] := (by decide +kernel : ∀ t : Fin grid0.N, _)
theorem ix4' : ∀ t : Fin cfg0.N, win0_4.index t = ![t.val, 5] := (by decide +kernel : ∀ t : Fin grid0.N, _)
theorem ix5' : ∀ t : Fin cfg0.N, win0_5.index t = ![0, 0] := (by decide +kernel : ∀ t : Fin grid0.N, _)
theorem ix6' : ∀ t : Fin cfg0.N, win0_6.index t = ![0, 0] := (by decide +kernel : ∀ t : Fin grid0.N, _)
theorem ix7' : ∀ t : Fin cfg0.N, win0_7.index t = ![0, 0] := (by decide +kernel : ∀ t : Fin grid0.N, _)
theorem ix8' : ∀ t : Fin cfg0.N, win0_8.index t = ![0, 0] := (by decide +kernel : ∀ t : Fin grid0.N, _)
theorem ix9' : ∀ t : Fin cfg0.N, win0_9.index t = ![t.val, 0] := (by decide +kernel : ∀ t : Fin grid0.N, _)
theorem ix10' : ∀ t : Fin cfg0.N, win0_10.index t = ![t.val, 0] := (by decide +kernel : ∀ t : Fin grid0.N, _)
theorem ix11' : ∀ t : Fin cfg0.N, win0_11.index t = ![t.val, 0] := (by decide +kernel : ∀ t : Fin grid0.N, _)
theorem ix12' : ∀ t : Fin cfg0.N, win0_12.index t = ![t.val, 0] := (by decide +kernel : ∀ t : Fin grid0.N, _)
theorem ix13' : ∀ t : Fin cfg0.N, win0_13.index t = ![0, 0] := (by decide +kernel : ∀ t : Fin grid0.N, _)

theorem tlt (t : Fin cfg0.N) : t.val < 8 := lt_of_lt_of_eq t.isLt (show cfg0.N = 8 from N_0)

/-- Row `y` of block `t`. -/
def at' (t : ℕ) (y : Fin 512) : Fin 4096 := ⟨(512 * t + y.val) % 4096, Nat.mod_lt _ (by decide)⟩

theorem e0 (c : Dev nD) (t : Fin cfg0.N) (y : Fin 512) (z : Fin 1024) : (iblk m c 0 t : Vec Ideal S512x1024 .f32) (ix2 y z)
    = (m ((c : Thread nD τ).loc main_arg0) : FVec Ideal S4096x1024 .f32) (ix2 (at' t.val y) z) := by
  have hV : V m c main_arg0 = m ((c : Thread nD τ).loc main_arg0) := V_main_arg0 m c
  show V m c main_arg0 ((win0_0.blk t).view.emb (ix2 y z)) = _
  rw [hV]
  unfold at'
  congr 1
  funext a
  have hi := ix0' t
  have ht := tlt t
  fin_cases a <;> apply Fin.ext <;> blk_simp [hi] <;> simp <;> omega

theorem e1 (c : Dev nD) (t : Fin cfg0.N) (y : Fin 512) (z : Fin 512) : (iblk m c 1 t : Vec Ideal S512x512 .f32) (ix2 y z)
    = (m ((c : Thread nD τ).loc main_arg1) : FVec Ideal S4096x512 .f32) (ix2 (at' t.val y) z) := by
  have hV : V m c main_arg1 = m ((c : Thread nD τ).loc main_arg1) := V_main_arg1 m c
  show V m c main_arg1 ((win0_1.blk t).view.emb (ix2 y z)) = _
  rw [hV]
  unfold at'
  congr 1
  funext a
  have hi := ix1' t
  have ht := tlt t
  fin_cases a <;> apply Fin.ext <;> blk_simp [hi] <;> simp <;> omega

theorem e2 (c : Dev nD) (t : Fin cfg0.N) (y : Fin 512) (z : Fin 512) : (iblk m c 2 t : Vec Ideal S512x512 .f32) (ix2 y z)
    = (m ((c : Thread nD τ).loc main_arg2) : FVec Ideal S4096x512 .f32) (ix2 (at' t.val y) z) := by
  have hV : V m c main_arg2 = m ((c : Thread nD τ).loc main_arg2) := V_main_arg2 m c
  show V m c main_arg2 ((win0_2.blk t).view.emb (ix2 y z)) = _
  rw [hV]
  unfold at'
  congr 1
  funext a
  have hi := ix2' t
  have ht := tlt t
  fin_cases a <;> apply Fin.ext <;> blk_simp [hi] <;> simp <;> omega

theorem e3 (c : Dev nD) (t : Fin cfg0.N) (y z : Fin 512) : X0_3 m c t (ix2 y z)
    = (m ((c : Thread nD τ).loc main_arg3) : FVec Ideal S4096x3336 .bf16) (ix2 (at' t.val y) (⟨1536 + z.val, by omega⟩ : Fin 3336)) := by
  refine Eq.trans ?_ (hT_a _ _ _)
  rw [← h_eq]
  unfold X0_3 Pipeline.Window.fill
  rw [dif_pos (moved0_3 t _)]
  show V m c main_v9 ((win0_3.blk t).view.emb _) = _
  unfold at'
  congr 1
  funext a
  have hi := ix3' t
  have ht := tlt t
  fin_cases a <;> apply Fin.ext <;> blk_simp [hi] <;> simp <;> omega

theorem e4 (c : Dev nD) (t : Fin cfg0.N) (y z : Fin 512) : X0_4 m c t (ix2 y z)
    = (m ((c : Thread nD τ).loc main_arg3) : FVec Ideal S4096x3336 .bf16) (ix2 (at' t.val y) (⟨2824 + z.val, by omega⟩ : Fin 3336)) := by
  refine Eq.trans ?_ (hT_b _ _ _)
  rw [← h_eq]
  unfold X0_4 Pipeline.Window.fill
  rw [dif_pos (moved0_4 t _)]
  show V m c main_v9 ((win0_4.blk t).view.emb _) = _
  unfold at'
  congr 1
  funext a
  have hi := ix4' t
  have ht := tlt t
  fin_cases a <;> apply Fin.ext <;> blk_simp [hi] <;> simp <;> omega

theorem e5 (c : Dev nD) (t : Fin cfg0.N) (y : Fin 1) (z : Fin 128) : (iblk m c 5 t : Vec Ideal S1x128 .f32) (ix2 y z)
    = (m ((c : Thread nD τ).loc main_arg4) : FVec Ideal S1x128 .f32) (ix2 y z) := by
  have hV : V m c main_arg4 = m ((c : Thread nD τ).loc main_arg4) := V_main_arg4 m c
  show V m c main_arg4 ((win0_5.blk t).view.emb (ix2 y z)) = _
  rw [hV]
  congr 1
  funext a
  have hi := ix5' t
  fin_cases a <;> apply Fin.ext <;> blk_simp [hi] <;> simp

theorem e6 (c : Dev nD) (t : Fin cfg0.N) (y z : Fin 1024) : (iblk m c 6 t : Vec Ideal S1024x1024 .bf16) (ix2 y z)
    = (m ((c : Thread nD τ).loc main_arg5) : FVec Ideal S1024x1024 .f32) (ix2 y z) := by
  have hw : (m ((c : Thread nD τ).loc main_arg5) : FVec Ideal S1024x1024 .f32) (ix2 y z) = (V m c main_v10 : FVec Ideal S1024x1024 .bf16) (ix2 y z) := by
    rw [w_eq]; rfl
  rw [hw]
  show V m c main_v10 ((win0_6.blk t).view.emb (ix2 y z)) = _
  congr 1
  funext a
  have hi := ix6' t
  fin_cases a <;> apply Fin.ext <;> blk_simp [hi] <;> simp

theorem e7 (c : Dev nD) (t : Fin cfg0.N) (y : Fin 1) (z : Fin 1024) : (iblk m c 7 t : Vec Ideal S1x1024 .f32) (ix2 y z)
    = (m ((c : Thread nD τ).loc main_arg6) : FVec Ideal S1x1024 .f32) (ix2 y z) := by
  have hV : V m c main_arg6 = m ((c : Thread nD τ).loc main_arg6) := V_main_arg6 m c
  show V m c main_arg6 ((win0_7.blk t).view.emb (ix2 y z)) = _
  rw [hV]
  congr 1
  funext a
  have hi := ix7' t
  fin_cases a <;> apply Fin.ext <;> blk_simp [hi] <;> simp

theorem e8 (c : Dev nD) (t : Fin cfg0.N) (y : Fin 1) (z : Fin 1024) : (iblk m c 8 t : Vec Ideal S1x1024 .f32) (ix2 y z)
    = (m ((c : Thread nD τ).loc main_arg7) : FVec Ideal S1x1024 .f32) (ix2 y z) := by
  have hV : V m c main_arg7 = m ((c : Thread nD τ).loc main_arg7) := V_main_arg7 m c
  show V m c main_arg7 ((win0_8.blk t).view.emb (ix2 y z)) = _
  rw [hV]
  congr 1
  funext a
  have hi := ix8' t
  fin_cases a <;> apply Fin.ext <;> blk_simp [hi] <;> simp

theorem e9 (c : Dev nD) (t : Fin cfg0.N) (y : Fin 512) (z : Fin 1024) : (iblk m c 9 t : Vec Ideal S512x1024 .f32) (ix2 y z)
    = (m ((c : Thread nD τ).loc main_arg8) : FVec Ideal S4096x1024 .f32) (ix2 (at' t.val y) z) := by
  have hV : V m c main_arg8 = m ((c : Thread nD τ).loc main_arg8) := V_main_arg8 m c
  show V m c main_arg8 ((win0_9.blk t).view.emb (ix2 y z)) = _
  rw [hV]
  unfold at'
  congr 1
  funext a
  have hi := ix9' t
  have ht := tlt t
  fin_cases a <;> apply Fin.ext <;> blk_simp [hi] <;> simp <;> omega

/-! ## The results -/

/-- A row of an array. -/
def half (v : S4096x512.Idx → EReal) (t : Fin 4096) : Half := fun d => v (ix2 t d)
def row (v : S4096x1024.Idx → EReal) (t : Fin 4096) : Row := fun d => v (ix2 t d)
/-- The gates of the mixer's two halves. -/
def ga (h : S4096x3336.Idx → EReal) (t : Fin 4096) : Half := fun z => h (ix2 t (⟨1536 + z.val, by omega⟩ : Fin 3336))
def gb (h : S4096x3336.Idx → EReal) (t : Fin 4096) : Half := fun z => h (ix2 t (⟨2824 + z.val, by omega⟩ : Fin 3336))

/-- The mixer's output, the layer's before its norm, and after it, a row at a time. -/
def MX (a b : S4096x512.Idx → EReal) (h : S4096x3336.Idx → EReal) (nw : S1x128.Idx → EReal) (t : Fin 4096) : Row :=
  mix (half a t) (half b t) (ga h t) (gb h t) fun z => nw (ix2 0 z)
def RR (x : S4096x1024.Idx → EReal) (a b : S4096x512.Idx → EReal) (h : S4096x3336.Idx → EReal) (nw : S1x128.Idx → EReal)
    (w : S1024x1024.Idx → EReal) (t : Fin 4096) : Row := pre (row x t) (MX a b h nw t) fun k d => w (ix2 k d)
def XN (x : S4096x1024.Idx → EReal) (a b : S4096x512.Idx → EReal) (h : S4096x3336.Idx → EReal) (nw : S1x128.Idx → EReal)
    (w : S1024x1024.Idx → EReal) (g be : S1x1024.Idx → EReal) (t : Fin 4096) : Row :=
  ln (RR x a b h nw w t) (fun e => g (ix2 0 e)) fun e => be (ix2 0 e)

/-- Its difference from the target. -/
def E (x : S4096x1024.Idx → EReal) (a b : S4096x512.Idx → EReal) (h : S4096x3336.Idx → EReal) (nw : S1x128.Idx → EReal)
    (w : S1024x1024.Idx → EReal) (g be : S1x1024.Idx → EReal) (y : S4096x1024.Idx → EReal) (t : Fin 4096) : Row :=
  fun d => XN x a b h nw w g be t d - y (ix2 t d)

def O10 (x : S4096x1024.Idx → EReal) (a b : S4096x512.Idx → EReal) (h : S4096x3336.Idx → EReal) (nw : S1x128.Idx → EReal)
    (w : S1024x1024.Idx → EReal) (g be : S1x1024.Idx → EReal) (y : S4096x1024.Idx → EReal)
    (i : S4096x1024.Idx) : EReal := E x a b h nw w g be y (i 0) (i 1) * over
def O11 (a b : S4096x512.Idx → EReal) (h : S4096x3336.Idx → EReal) (nw : S1x128.Idx → EReal) (i : S4096x1024.Idx) : EReal :=
  MX a b h nw (i 0) (i 1)
def O12 (x : S4096x1024.Idx → EReal) (a b : S4096x512.Idx → EReal) (h : S4096x3336.Idx → EReal) (nw : S1x128.Idx → EReal)
    (w : S1024x1024.Idx → EReal) (i : S4096x1024.Idx) : EReal := RR x a b h nw w (i 0) (i 1)
def O13 (x : S4096x1024.Idx → EReal) (a b : S4096x512.Idx → EReal) (h : S4096x3336.Idx → EReal) (nw : S1x128.Idx → EReal)
    (w : S1024x1024.Idx → EReal) (g be : S1x1024.Idx → EReal) (y : S4096x1024.Idx → EReal)
    (_ : S8x128.Idx) : EReal := loss (E x a b h nw w g be y)

abbrev A0 (c : Dev nD) : FVec Ideal S4096x1024 .f32 := m ((c : Thread nD τ).loc main_arg0)
abbrev A1 (c : Dev nD) : FVec Ideal S4096x512 .f32 := m ((c : Thread nD τ).loc main_arg1)
abbrev A2 (c : Dev nD) : FVec Ideal S4096x512 .f32 := m ((c : Thread nD τ).loc main_arg2)
abbrev A3 (c : Dev nD) : FVec Ideal S4096x3336 .bf16 := m ((c : Thread nD τ).loc main_arg3)
abbrev A4 (c : Dev nD) : FVec Ideal S1x128 .f32 := m ((c : Thread nD τ).loc main_arg4)
abbrev A5 (c : Dev nD) : FVec Ideal S1024x1024 .f32 := m ((c : Thread nD τ).loc main_arg5)
abbrev A6 (c : Dev nD) : FVec Ideal S1x1024 .f32 := m ((c : Thread nD τ).loc main_arg6)
abbrev A7 (c : Dev nD) : FVec Ideal S1x1024 .f32 := m ((c : Thread nD τ).loc main_arg7)
abbrev A8 (c : Dev nD) : FVec Ideal S4096x1024 .f32 := m ((c : Thread nD τ).loc main_arg8)
abbrev EE (c : Dev nD) : Fin 4096 → Row := E (A0 m c) (A1 m c) (A2 m c) (A3 m c) (A4 m c) (A5 m c) (A6 m c) (A7 m c) (A8 m c)

theorem mx_eq (c : Dev nD) (t : Fin cfg0.N) (i : Fin 512) :
    mix (hrow (iblk m c 1 t : Vec Ideal S512x512 .f32) i) (hrow (iblk m c 2 t : Vec Ideal S512x512 .f32) i) (hrow (X0_3 m c t) i)
      (hrow (X0_4 m c t) i) (wrow (iblk m c 5 t : Vec Ideal S1x128 .f32)) = MX (A1 m c) (A2 m c) (A3 m c) (A4 m c) (at' t.val i) := by
  have h1 : hrow (iblk m c 1 t : Vec Ideal S512x512 .f32) i = half (A1 m c) (at' t.val i) := funext fun d => e1 m c t i d
  have h2 : hrow (iblk m c 2 t : Vec Ideal S512x512 .f32) i = half (A2 m c) (at' t.val i) := funext fun d => e2 m c t i d
  have h3 : hrow (X0_3 m c t) i = ga (A3 m c) (at' t.val i) := funext fun d => e3 m c t i d
  have h4 : hrow (X0_4 m c t) i = gb (A3 m c) (at' t.val i) := funext fun d => e4 m c t i d
  have h5 : wrow (iblk m c 5 t : Vec Ideal S1x128 .f32) = fun z => A4 m c (ix2 0 z) := funext fun d => e5 m c t 0 d
  rw [h1, h2, h3, h4, h5]
  rfl

/-- The payload of the layer's output before its norm. -/
abbrev P6 (c : Dev nD) (t : Fin cfg0.N) : FVec Ideal S512x1024 .f32 :=
  k0_pay6 (iblk m c 1 t) (k0_pay1 (X0_3 m c t)) (iblk m c 5 t) (k0_pay2 (iblk m c 1 t) (iblk m c 5 t)) (k0_pay3 (iblk m c 1 t) (iblk m c 5 t))
    (k0_pay4 (iblk m c 1 t) (iblk m c 5 t)) (iblk m c 2 t) (X0_4 m c t) (iblk m c 0 t) (iblk m c 6 t)

theorem r_eq (c : Dev nD) (t : Fin cfg0.N) (i : Fin 512) :
    brow (P6 m c t) i = RR (A0 m c) (A1 m c) (A2 m c) (A3 m c) (A4 m c) (A5 m c) (at' t.val i) := by
  funext d
  refine (pay6 _ _ _ _ _ _ _ i d).trans ?_
  have h0 : brow (iblk m c 0 t : Vec Ideal S512x1024 .f32) i = row (A0 m c) (at' t.val i) := funext fun d => e0 m c t i d
  have h6 : (fun k d => (iblk m c 6 t : Vec Ideal S1024x1024 .bf16) (ix2 k d)) = fun k d => A5 m c (ix2 k d) :=
    funext fun k => funext fun d => e6 m c t k d
  rw [mx_eq, h0, h6]
  rfl

/-- The payload of its row means. -/
abbrev P7 (c : Dev nD) (t : Fin cfg0.N) : FVec Ideal S512x1 .f32 :=
  k0_pay7 (iblk m c 1 t) (k0_pay1 (X0_3 m c t)) (iblk m c 5 t) (k0_pay2 (iblk m c 1 t) (iblk m c 5 t)) (k0_pay3 (iblk m c 1 t) (iblk m c 5 t))
    (k0_pay4 (iblk m c 1 t) (iblk m c 5 t)) (iblk m c 2 t) (X0_4 m c t) (iblk m c 0 t) (iblk m c 6 t)

theorem e_eq (c : Dev nD) (t : Fin cfg0.N) (i : Fin 512) (d : Fin 1024) :
    k0_pay9 (P6 m c t) (P7 m c t) (iblk m c 7 t) (iblk m c 8 t) (iblk m c 9 t) (ix2 i d) = EE m c (at' t.val i) d := by
  refine (pay9 _ _ _ _ _ i d (pay7 _ _ _ _ _ _ _ _ _ _ i 0)).trans ?_
  have h7 : (fun e => (iblk m c 7 t : Vec Ideal S1x1024 .f32) (ix2 0 e)) = fun e => A6 m c (ix2 0 e) := funext fun e => e7 m c t 0 e
  have h8 : (fun e => (iblk m c 8 t : Vec Ideal S1x1024 .f32) (ix2 0 e)) = fun e => A7 m c (ix2 0 e) := funext fun e => e8 m c t 0 e
  rw [r_eq, h7, h8, e9]
  rfl

theorem mxp_eq (c : Dev nD) (t : Fin cfg0.N) (i : Fin 512) (k : Fin 1024) :
    k0_pay5 (iblk m c 1 t) (k0_pay1 (X0_3 m c t)) (iblk m c 5 t) (k0_pay2 (iblk m c 1 t) (iblk m c 5 t)) (k0_pay3 (iblk m c 1 t) (iblk m c 5 t))
    (k0_pay4 (iblk m c 1 t) (iblk m c 5 t)) (iblk m c 2 t) (X0_4 m c t) (ix2 i k) = MX (A1 m c) (A2 m c) (A3 m c) (A4 m c) (at' t.val i) k := by
  refine (pay5 _ _ _ _ _ i k).trans ?_
  rw [mx_eq]

theorem de_eq (c : Dev nD) (t : Fin cfg0.N) (i : Fin 512) (d : Fin 1024) :
    k0_pay10 (P6 m c t) (P7 m c t) (iblk m c 7 t) (iblk m c 8 t) (iblk m c 9 t) (ix2 i d) = EE m c (at' t.val i) d * over := by
  refine (pay10 _ _ _ _ _ i d).trans ?_
  rw [e_eq]

theorem block10 (c : Dev nD) (t : Fin cfg0.N) (i : Fin 512) (d : Fin 1024) :
    (outsAt0 m c t.val t.isLt).1 (ix2 i d) = EE m c (at' t.val i) d * over := by
  by_cases h0 : t.val % 8 = 0
  · rw [outsAt0_A m c t h0]
    dsimp only
    rw [outA10]
    exact de_eq m c t i d
  · rw [outsAt0_B m c t h0]
    dsimp only
    rw [outB10]
    exact de_eq m c t i d

theorem block11 (c : Dev nD) (t : Fin cfg0.N) (i : Fin 512) (d : Fin 1024) :
    (outsAt0 m c t.val t.isLt).2.1 (ix2 i d) = MX (A1 m c) (A2 m c) (A3 m c) (A4 m c) (at' t.val i) d := by
  by_cases h0 : t.val % 8 = 0
  · rw [outsAt0_A m c t h0]
    dsimp only
    rw [outA11]
    exact mxp_eq m c t i d
  · rw [outsAt0_B m c t h0]
    dsimp only
    rw [outB11]
    exact mxp_eq m c t i d

theorem block12 (c : Dev nD) (t : Fin cfg0.N) (i : Fin 512) (d : Fin 1024) :
    (outsAt0 m c t.val t.isLt).2.2.1 (ix2 i d) = RR (A0 m c) (A1 m c) (A2 m c) (A3 m c) (A4 m c) (A5 m c) (at' t.val i) d := by
  by_cases h0 : t.val % 8 = 0
  · rw [outsAt0_A m c t h0]
    dsimp only
    rw [outA12]
    exact congrFun (r_eq m c t i) d
  · rw [outsAt0_B m c t h0]
    dsimp only
    rw [outB12]
    exact congrFun (r_eq m c t i) d

theorem acc13 (c : Dev nD) (p : Fin 8) (q' : Fin 128) : ∀ (n : ℕ) (h : n < cfg0.N),
    (outsAt0 m c n h).2.2.2 (ix2 p q') = ∑ j ∈ Finset.range (n + 1), hover * ∑ y : Fin 512, sq (EE m c (at' j y))
  | 0, h => by
    refine (congrArg (fun q => q.2.2.2 (ix2 p q')) (outsAt0_A m c ⟨0, h⟩ (Nat.zero_mod 8))).trans ?_
    dsimp only
    rw [outA13]
    refine (pay11 _ _ _ _ _ _ _ _).trans ?_
    rw [pay8, zero_add, Finset.sum_range_one]
    simp only [e_eq]
    rfl
  | n + 1, h => by
    have h8 : n + 1 < 8 := tlt ⟨n + 1, h⟩
    refine (congrArg (fun q => q.2.2.2 (ix2 p q')) (outsAt0_B m c ⟨n + 1, h⟩ (by show ¬ (n + 1) % 8 = 0; omega))).trans ?_
    dsimp only
    rw [outB13]
    refine (pay11 _ _ _ _ _ _ _ _).trans ?_
    rw [Finset.sum_range_succ _ (n + 1)]
    refine congrArg₂ (· + ·) (acc13 c p q' n (Nat.lt_of_succ_lt h)) ?_
    simp only [e_eq]
    rfl

theorem acc_eq (c : Dev nD) : (∑ j ∈ Finset.range (7 + 1), hover * ∑ y : Fin 512, sq (EE m c (at' j y))) = loss (EE m c) := by
  refine Eq.trans (Finset.sum_congr rfl fun j _ => mul_sum_nonneg _ _ _ fun y => sq_nonneg _) ?_
  exact Cert.DwProj.rows_eq fun t => hover * sq (EE m c t)

/-! ## The arrays -/

theorem row_congr (f : Fin 4096 → Row) {t t' : Fin 4096} {d d' : Fin 1024} (h0 : t.val = t'.val) (h1 : d.val = d'.val) : f t d = f t' d' := by
  rw [Fin.ext h0, Fin.ext h1]

theorem array10 (c : Dev nD) : (dats m 0 c).arrAt 10 cfg0.N = (O10 (A0 m c) (A1 m c) (A2 m c) (A3 m c) (A4 m c) (A5 m c) (A6 m c) (A7 m c) (A8 m c) : FVec Ideal S4096x1024 .f32) := by
  refine (dats m 0 c).arrAt_eq_of_covers 10 _ (by decide +kernel) fun t hf y => ?_
  blk_simp
  rw [after0_10]
  have ht := tlt t
  have hi := ix10' t
  have h0 : (y 0).val < 512 := (y 0).isLt
  have h1 : (y 1).val < 1024 := (y 1).isLt
  have hy : y = ix2 (⟨(y 0).val, h0⟩ : Fin 512) (⟨(y 1).val, h1⟩ : Fin 1024) := by funext k; fin_cases k <;> rfl
  rw [hy]
  refine (block10 m c t _ _).trans ?_
  unfold O10 at'
  refine row_congr (fun t d => EE m c t d * over) ?_ ?_ <;> blk_simp [hi] <;> simp <;> omega

theorem array11 (c : Dev nD) : (dats m 0 c).arrAt 11 cfg0.N = (O11 (A1 m c) (A2 m c) (A3 m c) (A4 m c) : FVec Ideal S4096x1024 .bf16) := by
  refine (dats m 0 c).arrAt_eq_of_covers 11 _ (by decide +kernel) fun t hf y => ?_
  blk_simp
  rw [after0_11]
  have ht := tlt t
  have hi := ix11' t
  have h0 : (y 0).val < 512 := (y 0).isLt
  have h1 : (y 1).val < 1024 := (y 1).isLt
  have hy : y = ix2 (⟨(y 0).val, h0⟩ : Fin 512) (⟨(y 1).val, h1⟩ : Fin 1024) := by funext k; fin_cases k <;> rfl
  rw [hy]
  refine (block11 m c t _ _).trans ?_
  unfold O11 at'
  refine row_congr (MX (A1 m c) (A2 m c) (A3 m c) (A4 m c)) ?_ ?_ <;> blk_simp [hi] <;> simp <;> omega

theorem array12 (c : Dev nD) : (dats m 0 c).arrAt 12 cfg0.N = (O12 (A0 m c) (A1 m c) (A2 m c) (A3 m c) (A4 m c) (A5 m c) : FVec Ideal S4096x1024 .f32) := by
  refine (dats m 0 c).arrAt_eq_of_covers 12 _ (by decide +kernel) fun t hf y => ?_
  blk_simp
  rw [after0_12]
  have ht := tlt t
  have hi := ix12' t
  have h0 : (y 0).val < 512 := (y 0).isLt
  have h1 : (y 1).val < 1024 := (y 1).isLt
  have hy : y = ix2 (⟨(y 0).val, h0⟩ : Fin 512) (⟨(y 1).val, h1⟩ : Fin 1024) := by funext k; fin_cases k <;> rfl
  rw [hy]
  refine (block12 m c t _ _).trans ?_
  unfold O12 at'
  refine row_congr (RR (A0 m c) (A1 m c) (A2 m c) (A3 m c) (A4 m c) (A5 m c)) ?_ ?_ <;> blk_simp [hi] <;> simp <;> omega

theorem array13 (c : Dev nD) : (dats m 0 c).arrAt 13 cfg0.N = (O13 (A0 m c) (A1 m c) (A2 m c) (A3 m c) (A4 m c) (A5 m c) (A6 m c) (A7 m c) (A8 m c) : FVec Ideal S8x128 .f32) := by
  refine (dats m 0 c).arrAt_eq_of_covers 13 _ (by decide +kernel) fun t hf y => ?_
  have ht := tlt t
  have h7 : t.val = 7 := by have := (flush0_13 t).1 hf; omega
  blk_simp
  rw [after0_13]
  have h0 : (y 0).val < 8 := (y 0).isLt
  have h1 : (y 1).val < 128 := (y 1).isLt
  have hy : y = ix2 (⟨(y 0).val, h0⟩ : Fin 8) (⟨(y 1).val, h1⟩ : Fin 128) := by funext k; fin_cases k <;> rfl
  refine (congrArg (outsAt0 m c t.val t.isLt).2.2.2 hy).trans ?_
  refine (acc13 m c _ _ _ _).trans ?_
  rw [h7]
  exact acc_eq m c

end Cert.Mix.Ker7

end
-- ==== Proof.Mix7Val.lean ====
/-
  The last layer's mixer output and the loss: the kernel's four results are the reference's.
-/
module

public import proofs.«01_k».proof.Proof.Mix7
public import proofs.«01_k».proof.Proof.MixRef
public import proofs.«01_k».proof.Proof.Gen.Reference7Ideal.Run
public import Idealize.ShloMosaic.Lib.Pointwise

@[expose] public section

set_option maxRecDepth 16384

noncomputable section

namespace Cert.Mix.Val7

open Idealize.ShloMosaic Idealize.ShloMosaic.TcCoe Cert.Mix Cert.Mix.Ref Cert.Mix.Ker7

/-! ## The reference -/

section Terms
open Cert.Reference7Ideal Cert.Reference7Ideal.Gen

abbrev L : Type := FVec Ideal S4096 .f32

def len1 : L := broadcastInDim S4096 ![] bcast_S_S4096 (constant (F := Ideal) S_ .f32 0x44800000#32)
def halfT : FVec Ideal S_ .f32 := constant S_ .f32 0x3F000000#32
/-- The difference from the target, the loss of it, and the loss's derivative. -/
def errT (xn y : A) : A := (subf xn y : FVec Ideal S4096x1024 .f32)
def sqT (e : A) : L := Host.reduceAdd (mulf e e) (constant S_ .f32 0x00000000#32) reducesTo_S4096x1024_S4096_d1 h_S_
def lossT (e : A) : FVec Ideal S8x128 .f32 :=
  broadcastInDim S8x128 ![] bcast_S_S8x128 (mulf halfT (Host.reduceAdd (Host.divf (sqT e) len1) (constant S_ .f32 0x00000000#32) reducesTo_S4096_S_d0 h_S_))
def dlossT (e : A) : A :=
  mulf (broadcastInDim S4096x1024 ![0] bcast_S4096_S4096x1024_0
      (Host.divf (broadcastInDim S4096 ![] bcast_S_S4096 (mulf halfT (constant S_ .f32 0x3F800000#32))) len1))
    (mulf (broadcastInDim S4096x1024 ![] bcast_S_S4096x1024 (constant S_ .f32 0x40000000#32)) e)

theorem sqT_ix (e : A) (t : Fin 4096) : sqT e (ix1 t) = sq fun d => e (ix2 t d) := by
  pointwise [sqT]
  rfl

theorem lossT_ix (e : A) (p : Fin 8) (q : Fin 128) : lossT e (ix2 p q) = loss fun t d => e (ix2 t d) := by
  pointwise [lossT, len1, halfT]
  simp only [sqT_ix]
  exact loss_ref _

theorem dlossT_ix (e : A) (t : Fin 4096) (d : Fin 1024) : dlossT e (ix2 t d) = e (ix2 t d) * over := by
  pointwise [dlossT, len1, halfT]
  exact dloss _

variable (m : (ℓ : Loc nD τ sig) → Buf (Elt Ideal) ℓ)

abbrev eT (x : A) (a b : M) (h : FVec Ideal S4096x3336 .bf16) (nw : FVec Ideal S1x128 .f32)
  (w : FVec Ideal S1024x1024 .f32) (g be : FVec Ideal S1x1024 .f32) (y : A) : A := errT (lnT (preT x (mixT a b h nw) w) g be) y

theorem v64 (c : Dev nD) : Cert.Reference7Ideal.Value.res_main_v64 m c
    = dlossT (eT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))) := by
  rfl

theorem v66 (c : Dev nD) : Cert.Reference7Ideal.Value.res_main_v66 m c
    = lossT (eT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))) := by
  rfl

end Terms

/-! ## The results -/

abbrev S : Shape := Cert.Reference6Ideal.S4096x1024

variable (x : A) (a b : M) (h : FVec Ideal Cert.Reference6Ideal.S4096x3336 .bf16) (nw : FVec Ideal Cert.Reference6Ideal.S1x128 .f32)
  (w : FVec Ideal Cert.Reference6Ideal.S1024x1024 .f32) (g be : FVec Ideal Cert.Reference6Ideal.S1x1024 .f32) (y : A)

theorem mx_row (t : Fin 4096) : (fun k => mixT a b h nw (ix2 t k)) = MX a b h nw t := funext fun k => mixT_ix a b h nw t k

theorem r_row (t : Fin 4096) : (fun d => preT x (mixT a b h nw) w (ix2 t d)) = RR x a b h nw w t := funext fun d => by
  rw [preT_ix, mx_row]
  rfl

theorem eT_ix (t : Fin 4096) (d : Fin 1024) : eT x a b h nw w g be y (ix2 t d) = E x a b h nw w g be y t d := by
  have e : eT x a b h nw w g be y (ix2 t d) = lnT (preT x (mixT a b h nw) w) g be (ix2 t d) - y (ix2 t d) := rfl
  rw [e, lnT_ix, r_row]
  rfl

theorem val10 : dlossT (eT x a b h nw w g be y) = O10 x a b h nw w g be y := by
  funext (i : S.Idx)
  obtain ⟨t, d, rfl⟩ : ∃ (t : Fin 4096) (d : Fin 1024), i = ix2 t d := ⟨i 0, i 1, by funext k; fin_cases k <;> rfl⟩
  rw [dlossT_ix, eT_ix]
  rfl

theorem val11 : mixT a b h nw = O11 a b h nw := by
  funext (i : S.Idx)
  obtain ⟨t, d, rfl⟩ : ∃ (t : Fin 4096) (d : Fin 1024), i = ix2 t d := ⟨i 0, i 1, by funext k; fin_cases k <;> rfl⟩
  exact mixT_ix a b h nw t d

theorem val12 : preT x (mixT a b h nw) w = O12 x a b h nw w := by
  funext (i : S.Idx)
  obtain ⟨t, d, rfl⟩ : ∃ (t : Fin 4096) (d : Fin 1024), i = ix2 t d := ⟨i 0, i 1, by funext k; fin_cases k <;> rfl⟩
  exact congrFun (r_row x a b h nw w t) d

theorem val13 : lossT (eT x a b h nw w g be y) = O13 x a b h nw w g be y := by
  funext (i : Cert.Reference7Ideal.S8x128.Idx)
  obtain ⟨p, q, rfl⟩ : ∃ (p : Fin 8) (q : Fin 128), i = ix2 p q := ⟨i 0, i 1, by funext k; fin_cases k <;> rfl⟩
  rw [lossT_ix]
  simp only [eT_ix]
  rfl

end Cert.Mix.Val7

end
-- ==== Proof.PostRow.lean ====
/-
  One head of one row of the output norm's backward: the gradient of the scan's output and of the gain, as the kernel's closed form and as
  the chain rule leave them.
-/
module

public import proofs.«01_k».proof.Proof.MixRow

@[expose] public section

set_option maxRecDepth 16384

noncomputable section

namespace Cert.Post

open Idealize.ShloMosaic Cert.Ln Cert.Mix

abbrev Lanes : Type := Fin 128 → EReal

/-- A head of a row. -/
def head (o : Half) (a : Fin 4) : Lanes := fun z => o (lane a z)

/-- A head's mean square with its guard, and one over its root. -/
def mv (o : Lanes) : EReal := Ideal.div (∑ z, o z * o z) hlen + heps
def rs (o : Lanes) : EReal := Ideal.rsqrt (mv o)

/-- The gradient of the norm's output. -/
def dn (dy za : Lanes) (z : Fin 128) : EReal := dy z * silu (za z)

/-- The gradient of the norm's input: the kernel's closed form, and the chain rule's. -/
def kdo (o dy za w : Lanes) (z : Fin 128) : EReal :=
  rs o * (dn dy za z * w z) - o z * (rs o * rs o * rs o) * Ideal.div (∑ z, (dn dy za z * w z) * o z) hlen
def rdo (o dy za w : Lanes) (z : Fin 128) : EReal :=
  dn dy za z * w z * rs o + Ideal.div ((∑ z, o z * (dn dy za z * w z)) * (mhalf * Ideal.div (rs o) (mv o))) hlen * (two * o z)

/-- A row's part of the gain's gradient. -/
def dw (o dy za : Lanes) (z : Fin 128) : EReal := dn dy za z * (o z * rs o)

theorem hlen_eq : hlen = ((128 : ℝ) : EReal) := by
  simp [hlen, Ideal.ofBits, Ideal.ieee]
  rw [← EReal.coe_mul]
  norm_num

theorem heps_eq : ∃ e : ℝ, 0 < e ∧ heps = (e : EReal) := by
  refine ⟨_, ?_, by simp only [heps, Ideal.ofBits, Ideal.ieee]; simp; rfl⟩
  norm_num

theorem div_hlen (a : EReal) : Ideal.div a hlen = a * ((1/128 : ℝ) : EReal) := by
  have h : ((128 : ℝ) : EReal) ≠ 0 := by exact_mod_cast (by norm_num : (128 : ℝ) ≠ 0)
  rw [hlen_eq]
  simp [Ideal.div, h]
  rw [← EReal.coe_inv]

theorem sq_nonneg' (x : EReal) : 0 ≤ x * x := by
  rcases le_total 0 x with h | h
  · exact mul_nonneg h h
  · have h' : 0 ≤ -x := EReal.neg_nonneg.mpr h
    have := mul_nonneg h' h'
    rwa [neg_mul_neg] at this

theorem mv_pos (o : Lanes) : 0 < mv o := by
  obtain ⟨e, he, hE⟩ := heps_eq
  have h : 0 ≤ Ideal.div (∑ z, o z * o z) hlen := by
    rw [div_hlen]
    exact mul_nonneg (Finset.sum_nonneg fun z _ => sq_nonneg' _) (by exact_mod_cast (by norm_num : (0 : ℝ) ≤ 1/128))
  unfold mv
  rw [hE]
  exact lt_of_lt_of_le (by exact_mod_cast he : (0 : EReal) < (e : EReal)) (le_add_of_nonneg_left h)

/-- The cube of one over the root is the derivative's quotient, at every positive number and at infinity. -/
theorem cube (v : EReal) (hv : 0 < v) : Ideal.rsqrt v * Ideal.rsqrt v * Ideal.rsqrt v = Ideal.div (Ideal.rsqrt v) v := by
  induction v with
  | bot => exact absurd hv (by simp)
  | top =>
    have h : Ideal.rsqrt (⊤ : EReal) = 0 := rfl
    rw [h]
    simp [Ideal.div]
  | coe r =>
    have hr : 0 < r := by exact_mod_cast hv
    have hs : Real.sqrt r ≠ 0 := (Real.sqrt_pos.mpr hr).ne'
    rw [Ideal.rsqrt_coe, if_neg (not_lt.mpr hr.le), if_neg hr.ne', div_coe _ hr.ne', ← EReal.coe_mul, ← EReal.coe_mul]
    congr 1
    have h2 : Real.sqrt r * Real.sqrt r = r := Real.mul_self_sqrt hr.le
    rw [div_eq_mul_inv, mul_assoc, ← mul_inv, h2]

theorem rdo_eq (o dy za w : Lanes) (z : Fin 128) : rdo o dy za w z = kdo o dy za w z := by
  have hc : rs o * rs o * rs o = Ideal.div (rs o) (mv o) := cube _ (mv_pos o)
  have h1 : mhalf * two = -1 := by
    rw [mhalf_eq, two_eq, ← EReal.coe_mul]
    norm_num
  have hs : ∑ z, o z * (dn dy za z * w z) = ∑ z, (dn dy za z * w z) * o z := Finset.sum_congr rfl fun z _ => mul_comm _ _
  unfold rdo kdo
  rw [hc, hs, div_hlen, div_hlen, sub_eq_add_neg, mul_comm (rs o)]
  congr 1
  generalize Ideal.div (rs o) (mv o) = R
  generalize (∑ z, (dn dy za z * w z) * o z) = S
  generalize o z = x
  generalize ((1/128 : ℝ) : EReal) = k
  have e : S * (mhalf * R) * k * (two * x) = (mhalf * two) * (x * R * (S * k)) := by ac_rfl
  rw [e, h1, neg_mul, one_mul]

end Cert.Post

end
-- ==== Proof.PostOut.lean ====
/-
  What one grid point of the output norm's backward leaves in the block of the scan's gradient and in the gain's gradient.
-/
module

public import proofs.«01_k».proof.Proof.Gen.Kernel8Ideal.Value
public import proofs.«01_k».proof.Proof.PostRow
public import Idealize.ShloMosaic.Lib.Pointwise
public import Idealize.ShloMosaic.Lib.WholeRead
public import Idealize.ShloMosaic.Lib.Pipeline.ValueKit
import all proofs.«01_k».proof.Proof.Gen.Kernel8Ideal.Frame.RunA
import all proofs.«01_k».proof.Proof.Gen.Kernel8Ideal.Frame.RunB

@[expose] public section

set_option maxRecDepth 16384

noncomputable section

namespace Cert.Post.Ker

open Idealize.ShloMosaic Idealize.ShloMosaic.TcCoe Idealize.SL.Sem
open Cert.Kernel8Ideal Cert.Kernel8Ideal.Gen Cert.Mix Cert.Post

theorem hz : (![0, 0] : Fin 2 → Nat) = fun _ => 0 := funext fun a => by fin_cases a <;> rfl

/-! ## The payloads of one head -/

/-- A row of a block, of a head's block, and the one row of the gains. -/
def hrow (v : S512x512.Idx → EReal) (i : Fin 512) : Half := fun d => v (ix2 i d)
def lrow (v : S512x128.Idx → EReal) (i : Fin 512) : Lanes := fun z => v (ix2 i z)
def wrow (v : S1x128.Idx → EReal) : Lanes := fun z => v (ix2 0 z)

theorem pay5 (o : Vec Ideal S512x128 .f32) (i : Fin 512) (u : Fin 1) : k0_pay5 o (ix2 i u) = rs (lrow o i) := by
  pointwise [k0_pay5]
  rfl

theorem pay9 (za : Vec Ideal S512x128 .bf16) (dy : Vec Ideal S512x128 .f32) (i : Fin 512) (z : Fin 128) :
    k0_pay9 za dy (ix2 i z) = dn (lrow dy i) (lrow za i) z := by
  pointwise [k0_pay9, k0_pay7, k0_pay4]
  rfl

theorem pay12 (w : Vec Ideal S1x128 .f32) (o dy : Vec Ideal S512x128 .f32) (za : Vec Ideal S512x128 .bf16) (i : Fin 512) (z : Fin 128) :
    k0_pay12 w o (k0_pay5 o) (k0_pay9 za dy) (ix2 i z) = kdo (lrow o i) (lrow dy i) (lrow za i) (wrow w) z := by
  pointwise [k0_pay12]
  simp only [pay5, pay9]
  rfl

theorem pay10 (o dy : Vec Ideal S512x128 .f32) (za : Vec Ideal S512x128 .bf16) (u : Fin 1) (z : Fin 128) :
    k0_pay10 o za dy (ix2 u z) = ∑ i : Fin 512, dw (lrow o i) (lrow dy i) (lrow za i) z := by
  pointwise [k0_pay10, k0_pay6]
  simp only [pay5, pay9]
  rfl

/-! ## The other heads' payloads are the first's -/

section
variable (w : Vec Ideal S1x128 .f32) (o dy : Vec Ideal S512x128 .f32) (za : Vec Ideal S512x128 .bf16) (a : FVec Ideal S1x128 .f32)

theorem do1 : k0_pay24 w o dy (k0_pay14 o) (k0_pay17 za) = k0_pay12 w o (k0_pay5 o) (k0_pay9 za dy) := rfl
theorem do2 : k0_pay32 w o (k0_pay25 za) dy (k0_pay26 o) = k0_pay12 w o (k0_pay5 o) (k0_pay9 za dy) := rfl
theorem do3 : k0_pay41 w o (k0_pay33 za) dy (k0_pay34 o) = k0_pay12 w o (k0_pay5 o) (k0_pay9 za dy) := rfl
theorem dw1 : k0_pay23 a dy (k0_pay15 o) (k0_pay17 za) = k0_pay11 a (k0_pay10 o za dy) := rfl
theorem dw2 : k0_pay31 a (k0_pay25 za) dy (k0_pay27 o) = k0_pay11 a (k0_pay10 o za dy) := rfl
theorem dw3 : k0_pay40 a o (k0_pay33 za) dy (k0_pay34 o) = k0_pay11 a (k0_pay10 o za dy) := rfl
end

/-! ## The heads of a block -/

section
variable (x : S512x512.Idx → EReal)

theorem lrow_ld (a : Fin 4) (off : ℕ) (ho : off = 128 * a.val) (inb : ∀ b, (![0, off] : Fin 2 → ℕ) b + S512x128.size b ≤ S512x512.size b) (i : Fin 512) :
    lrow (View.ld (Val := fun _ => EReal) (e' := .f32) x (Rect.unit (s := S512x512) ![0, off] S512x128.size inb)) i = head (hrow x i) a := by
  funext z
  refine View.ld_unit_apply_of (Val := fun _ => EReal) (e := .f32) x _ _ inb (ix2 i z) (ix2 i (lane a z)) fun b => ?_
  fin_cases b
  · exact (Nat.zero_add _).symm
  · exact congrArg (· + z.val) ho.symm
end

/-- The block of the scan's gradient. -/
def GR (x0 x1 x2 : S512x512.Idx → EReal) (x3 : S1x128.Idx → EReal) (i d : Fin 512) : EReal :=
  kdo (head (hrow x1 i) ⟨d.val / 128, by omega⟩) (head (hrow x0 i) ⟨d.val / 128, by omega⟩)
    (head (hrow x2 i) ⟨d.val / 128, by omega⟩) (wrow x3) ⟨d.val % 128, Nat.mod_lt _ (by decide)⟩
def G4 (x0 x1 x2 : S512x512.Idx → EReal) (x3 : S1x128.Idx → EReal) (y : S512x512.Idx) : EReal := GR x0 x1 x2 x3 (y 0) (y 1)

/-- The block's part of the gain's gradient. -/
def GW (x0 x1 x2 : S512x512.Idx → EReal) (z : Fin 128) : EReal :=
  ∑ a : Fin 4, ∑ i : Fin 512, dw (head (hrow x1 i) a) (head (hrow x0 i) a) (head (hrow x2 i) a) z

theorem gr_lane (x0 x1 x2 : S512x512.Idx → EReal) (x3 : S1x128.Idx → EReal) (i : Fin 512) (a : Fin 4) (z : Fin 128) {d : Fin 512}
    (h : d = lane a z) :
    GR x0 x1 x2 x3 i d = kdo (head (hrow x1 i) a) (head (hrow x0 i) a) (head (hrow x2 i) a) (wrow x3) z := by
  subst h
  have h1 : (⟨(lane a z).val / 128, by omega⟩ : Fin 4) = a := Fin.ext (by simp only [lane]; omega)
  have h2 : (⟨(lane a z).val % 128, Nat.mod_lt _ (by decide)⟩ : Fin 128) = z := Fin.ext (by simp only [lane]; omega)
  unfold GR
  rw [h1, h2]

theorem kdo_congr {o o' dy dy' za za' w : Lanes} {z : Fin 128} (h1 : o = o') (h2 : dy = dy') (h3 : za = za') :
    kdo o dy za w z = kdo o' dy' za' w z := by rw [h1, h2, h3]
theorem dw_congr {o o' dy dy' za za' : Lanes} {z : Fin 128} (h1 : o = o') (h2 : dy = dy') (h3 : za = za') :
    dw o dy za z = dw o' dy' za' z := by rw [h1, h2, h3]

theorem piece (x0 x1 : Vec Ideal S512x512 .f32) (x2 : Vec Ideal S512x512 .bf16) (x3 : Vec Ideal S1x128 .f32) (a : Fin 4) (off : ℕ)
    (ho : off = 128 * a.val) (inb : ∀ b, (![0, off] : Fin 2 → ℕ) b + S512x128.size b ≤ S512x512.size b) (x : S512x128.Idx) :
    k0_pay12 x3 (View.ld (Val := Elt Ideal) (e' := .f32) x1 (Rect.unit (s := S512x512) ![0, off] S512x128.size inb))
        (k0_pay5 (View.ld (Val := Elt Ideal) (e' := .f32) x1 (Rect.unit (s := S512x512) ![0, off] S512x128.size inb)))
        (k0_pay9 (View.ld (Val := Elt Ideal) (e' := .bf16) x2 (Rect.unit (s := S512x512) ![0, off] S512x128.size inb))
          (View.ld (Val := Elt Ideal) (e' := .f32) x0 (Rect.unit (s := S512x512) ![0, off] S512x128.size inb))) x
      = G4 x0 x1 x2 x3 ((Rect.unit (s := S512x512) ![0, off] S512x128.size inb).emb x) := by
  obtain ⟨i, z, rfl⟩ : ∃ (i : Fin 512) (z : Fin 128), x = ix2 i z := ⟨x 0, x 1, by funext k; fin_cases k <;> rfl⟩
  refine (pay12 _ _ _ _ i z).trans ?_
  unfold G4
  have e0 : ((Rect.unit (s := S512x512) ![0, off] S512x128.size inb).emb (ix2 i z)) 0 = i := Fin.ext (by simp [Rect.emb_apply])
  have e1 : ((Rect.unit (s := S512x512) ![0, off] S512x128.size inb).emb (ix2 i z)) 1 = lane a z := Fin.ext (by simp [Rect.emb_apply, ho, lane])
  rw [e0, gr_lane x0 x1 x2 x3 i a z e1]
  have h0 := lrow_ld x0 a off ho inb i
  have h1 := lrow_ld x1 a off ho inb i
  have h2 := lrow_ld x2 a off ho inb i
  exact kdo_congr h1 h0 h2

theorem part (x0 x1 : Vec Ideal S512x512 .f32) (x2 : Vec Ideal S512x512 .bf16) (a : Fin 4) (off : ℕ)
    (ho : off = 128 * a.val) (inb : ∀ b, (![0, off] : Fin 2 → ℕ) b + S512x128.size b ≤ S512x512.size b) (u : Fin 1) (z : Fin 128) :
    k0_pay10 (View.ld (Val := Elt Ideal) (e' := .f32) x1 (Rect.unit (s := S512x512) ![0, off] S512x128.size inb))
        (View.ld (Val := Elt Ideal) (e' := .bf16) x2 (Rect.unit (s := S512x512) ![0, off] S512x128.size inb))
        (View.ld (Val := Elt Ideal) (e' := .f32) x0 (Rect.unit (s := S512x512) ![0, off] S512x128.size inb)) (ix2 u z)
      = ∑ i : Fin 512, dw (head (hrow x1 i) a) (head (hrow x0 i) a) (head (hrow x2 i) a) z := by
  refine (pay10 _ _ _ u z).trans (Finset.sum_congr rfl fun i _ => ?_)
  have h0 := lrow_ld x0 a off ho inb i
  have h1 := lrow_ld x1 a off ho inb i
  have h2 := lrow_ld x2 a off ho inb i
  exact dw_congr h1 h0 h2

/-! ## The outputs -/

section
variable {c : Dev nD} {i : grid0.Coords} {arg1 : Memref sig .tc .vmem S512x512 .f32} {harg1 : arg1.IsWhole} {arg2 : Memref sig .tc .vmem S512x512 .f32} {harg2 : arg2.IsWhole} {arg3 : Memref sig .tc .vmem S512x512 .bf16} {harg3 : arg3.IsWhole} {arg4 : Memref sig .tc .vmem S1x128 .f32} {harg4 : arg4.IsWhole} {arg5 : Memref sig .tc .vmem S512x512 .bf16} {harg5 : arg5.IsWhole} {arg6 : Memref sig .tc .vmem S512x512 .bf16} {harg6 : arg6.IsWhole} {arg7 : Memref sig .tc .vmem S1x128 .f32} {harg7 : arg7.IsWhole}
  (x0 x1 : Vec Ideal S512x512 .f32) (x2 : Vec Ideal S512x512 .bf16) (x3 : Vec Ideal S1x128 .f32)

theorem inbH (a : Fin 4) (b : Fin 2) : (![0, 128 * a.val] : Fin 2 → ℕ) b + S512x128.size b ≤ S512x512.size b := by
  fin_cases b
  · show 0 + 512 ≤ 512; omega
  · show 128 * a.val + 128 ≤ 512; omega

/-- The sum of the four heads' parts of the gain's gradient, as the body adds them. -/
def sumK (f : Fin 4 → FVec Ideal S1x128 .f32) : FVec Ideal S1x128 .f32 :=
  k0_pay11 (k0_pay11 (k0_pay11 (k0_pay11 k0_pay3 (f 0)) (f 1)) (f 2)) (f 3)

theorem sumK_ix (f : Fin 4 → FVec Ideal S1x128 .f32) (u : Fin 1) (z : Fin 128) : sumK f (ix2 u z) = ∑ a, f a (ix2 u z) := by
  have h : sumK f (ix2 u z) = Ideal.ofBits .f32 0x00000000#32 + f 0 (ix2 u z) + f 1 (ix2 u z) + f 2 (ix2 u z) + f 3 (ix2 u z) := rfl
  have h0 : Ideal.ofBits .f32 0x00000000#32 = 0 := by simp [Ideal.ofBits, Ideal.ieee]
  rw [h, h0, zero_add, Fin.sum_univ_four]

theorem pay1 (a : FVec Ideal S1x128 .f32) (r : Vec Ideal S1x128 .f32) (u : Fin 1) (z : Fin 128) :
    k0_pay1 a r (ix2 u z) = r (ix2 u z) + a (ix2 u z) := by
  pointwise [k0_pay1]

theorem pay2 (u : Fin 1) (z : Fin 128) : (k0_pay2 : FVec Ideal S1x128 .f32) (ix2 u z) = 0 := by
  pointwise [k0_pay2]

theorem out4_A (hc0 : cond0_0 i) (y : S512x512.Idx) :
    out0_A_4 c i arg1 harg1 arg2 harg2 arg3 harg3 arg4 harg4 arg5 harg5 arg6 harg6 arg7 harg7 hc0 x0 x1 x2 x3 y = G4 x0 x1 x2 x3 y := by
  unfold out0_A_4
  rw [View.read_writes_junk_eq_canon]
  refine View.canon_apply_of_pieces (G4 x0 x1 x2 x3) _ ?_ y (cover0_A_4 c i arg1 harg1 arg2 harg2 arg3 harg3 arg4 harg4 arg5 harg5 arg6 harg6 arg7 harg7 hc0 x0 x1 x2 x3 y)
  unfold kernelRun0_A
  dsimp only
  sl_unfold_words
  simp only [View.readAt_eq_ld, harg1.read_unread, harg2.read_unread, harg3.read_unread, harg4.read_unread, View.ld_unit_zero (S := S1x128) hz, do1, do2, do3]
  refine List.forall_mem_cons.mpr ⟨fun x => piece x0 x1 x2 x3 3 384 rfl _ x, ?_⟩
  refine List.forall_mem_cons.mpr ⟨fun x => piece x0 x1 x2 x3 2 256 rfl _ x, ?_⟩
  refine List.forall_mem_cons.mpr ⟨fun x => piece x0 x1 x2 x3 1 128 rfl _ x, ?_⟩
  refine List.forall_mem_cons.mpr ⟨fun x => piece x0 x1 x2 x3 0 0 rfl _ x, ?_⟩
  exact fun _ h => absurd h List.not_mem_nil

theorem out6_A (hc0 : cond0_0 i) (u : Fin 1) (z : Fin 128) :
    out0_A_6 c i arg1 harg1 arg2 harg2 arg3 harg3 arg4 harg4 arg5 harg5 arg6 harg6 arg7 harg7 hc0 x0 x1 x2 x3 (ix2 u z) = GW x0 x1 x2 z := by
  unfold out0_A_6
  rw [View.read_writes_junk_eq_canon]
  unfold kernelRun0_A
  dsimp only
  sl_unfold_words
  rw [View.canon_cons_unit_zero (S := S1x128) hz]
  simp only [View.readCov_unit_zero (S := S1x128) _ hz]
  simp only [View.readAt_eq_ld, harg1.read_unread, harg2.read_unread, harg3.read_unread, harg4.read_unread, View.ld_unit_zero (S := S1x128) hz, dw1, dw2, dw3]
  refine (pay1 _ _ u z).trans ?_
  rw [pay2, zero_add]
  refine (sumK_ix (fun a => k0_pay10 (View.ld (Val := Elt Ideal) (e' := .f32) x1 (Rect.unit (s := S512x512) ![0, 128 * a.val] S512x128.size (inbH a)))
    (View.ld (Val := Elt Ideal) (e' := .bf16) x2 (Rect.unit (s := S512x512) ![0, 128 * a.val] S512x128.size (inbH a)))
    (View.ld (Val := Elt Ideal) (e' := .f32) x0 (Rect.unit (s := S512x512) ![0, 128 * a.val] S512x128.size (inbH a)))) u z).trans ?_
  exact Finset.sum_congr rfl fun a _ => part x0 x1 x2 a _ rfl _ u z

theorem out4_B (hc0 : ¬cond0_0 i) (xo6 : Vec Ideal S1x128 .f32) (y : S512x512.Idx) :
    out0_B_4 c i arg1 harg1 arg2 harg2 arg3 harg3 arg4 harg4 arg5 harg5 arg6 harg6 arg7 harg7 hc0 x0 x1 x2 x3 xo6 y = G4 x0 x1 x2 x3 y := by
  unfold out0_B_4
  rw [View.read_writes_junk_eq_canon]
  refine View.canon_apply_of_pieces (G4 x0 x1 x2 x3) _ ?_ y (cover0_B_4 c i arg1 harg1 arg2 harg2 arg3 harg3 arg4 harg4 arg5 harg5 arg6 harg6 arg7 harg7 hc0 x0 x1 x2 x3 xo6 y)
  unfold kernelRun0_B
  dsimp only
  sl_unfold_words
  simp only [View.readAt_eq_ld, harg1.read_unread, harg2.read_unread, harg3.read_unread, harg4.read_unread, harg7.read_unread, View.ld_unit_zero (S := S1x128) hz, do1, do2, do3]
  refine List.forall_mem_cons.mpr ⟨fun x => piece x0 x1 x2 x3 3 384 rfl _ x, ?_⟩
  refine List.forall_mem_cons.mpr ⟨fun x => piece x0 x1 x2 x3 2 256 rfl _ x, ?_⟩
  refine List.forall_mem_cons.mpr ⟨fun x => piece x0 x1 x2 x3 1 128 rfl _ x, ?_⟩
  refine List.forall_mem_cons.mpr ⟨fun x => piece x0 x1 x2 x3 0 0 rfl _ x, ?_⟩
  exact fun _ h => absurd h List.not_mem_nil

theorem out6_B (hc0 : ¬cond0_0 i) (xo6 : Vec Ideal S1x128 .f32) (u : Fin 1) (z : Fin 128) :
    out0_B_6 c i arg1 harg1 arg2 harg2 arg3 harg3 arg4 harg4 arg5 harg5 arg6 harg6 arg7 harg7 hc0 x0 x1 x2 x3 xo6 (ix2 u z) = xo6 (ix2 u z) + GW x0 x1 x2 z := by
  unfold out0_B_6
  rw [View.read_writes_junk_eq_canon]
  unfold kernelRun0_B
  dsimp only
  sl_unfold_words
  rw [View.canon_unit_zero hz]
  skip
  simp only [View.readAt_eq_ld, harg1.read_unread, harg2.read_unread, harg3.read_unread, harg4.read_unread, harg7.read_unread, View.ld_unit_zero (S := S1x128) hz, dw1, dw2, dw3]
  refine (pay1 _ _ u z).trans ?_
  congr 1
  refine (sumK_ix (fun a => k0_pay10 (View.ld (Val := Elt Ideal) (e' := .f32) x1 (Rect.unit (s := S512x512) ![0, 128 * a.val] S512x128.size (inbH a)))
    (View.ld (Val := Elt Ideal) (e' := .bf16) x2 (Rect.unit (s := S512x512) ![0, 128 * a.val] S512x128.size (inbH a)))
    (View.ld (Val := Elt Ideal) (e' := .f32) x0 (Rect.unit (s := S512x512) ![0, 128 * a.val] S512x128.size (inbH a)))) u z).trans ?_
  exact Finset.sum_congr rfl fun a _ => part x0 x1 x2 a _ rfl _ u z
end

end Cert.Post.Ker

end
-- ==== Proof.Post8.lean ====
/-
  The output norm's backward, array by array: the gradients of the scan's output and of the gain as functions of the arguments.
-/
module

public import proofs.«01_k».proof.Proof.PostOut
public import proofs.«01_k».proof.Proof.DwProj
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.Post.Ker

open Idealize.ShloMosaic Idealize.ShloMosaic.TcCoe Idealize.SL.Sem
open Cert.Kernel8Ideal Cert.Kernel8Ideal.Gen Cert.Mix Cert.Post

variable (m : (ℓ : Loc nD τ sig) → Buf (Elt Ideal) ℓ)

/-! ## The blocks -/

/-- The projection's columns in the kernel's order. -/
def hT (h : FVec Ideal S4096x3336 .bf16) : FVec Ideal S4096x3456 .bf16 :=
  concatenate S4096x3456 1 [⟨S4096x3072, (concatenate S4096x3072 1 [⟨S4096x2048, (extractStridedSlice S4096x2048 ![0, 0] h slices_S4096x3336_S4096x2048_0_0)⟩,
      ⟨S4096x512, (extractStridedSlice S4096x512 ![0, 2056] h slices_S4096x3336_S4096x512_0_2056)⟩,
      ⟨S4096x512, (extractStridedSlice S4096x512 ![0, 2824] h slices_S4096x3336_S4096x512_0_2824)⟩] concatenates_S4096x2048_S4096x512_S4096x512_S4096x3072_d1)⟩,
    ⟨S4096x384, (concatenate S4096x384 1 [⟨S4096x128, (extractStridedSlice S4096x128 ![0, 2568] h slices_S4096x3336_S4096x128_0_2568)⟩,
      ⟨S4096x128, (extractStridedSlice S4096x128 ![0, 2696] h slices_S4096x3336_S4096x128_0_2696)⟩,
      ⟨S4096x128, (pad S4096x128 ![0, 0] ![0, 120] ![0, 0] (extractStridedSlice S4096x8 ![0, 2048] h slices_S4096x3336_S4096x8_0_2048)
        (sitofp .bf16 (constantI S_ 32 0#32)) pads_S4096x8_S4096x128_000_01200 h_S_)⟩] concatenates_S4096x128_S4096x128_S4096x128_S4096x384_d1)⟩]
    concatenates_S4096x3072_S4096x384_S4096x3456_d1

theorem h_eq (c : Dev nD) : (V m c main_v9 : FVec Ideal S4096x3456 .bf16) = hT (m ((c : Thread nD τ).loc main_arg2)) := by
  unfold hT
  unfold_abbrev_sides
  simp only [hostOps0, hostOps0_1, hostOps0_2, List.flatten_cons, List.flatten_nil, List.append_nil, List.cons_append, List.nil_append]
  after_results <;> rfl

theorem hT_a (h : FVec Ideal S4096x3336 .bf16) (t : Fin 4096) (z : Fin 512) :
    hT h (ix2 t (⟨1536 + z.val, by omega⟩ : Fin 3456)) = h (ix2 t (⟨1536 + z.val, by omega⟩ : Fin 3336)) := by
  pointwise [hT]
  rw [dif_pos (show 1536 + z.val < 3072 by omega), dif_pos (show 1536 + z.val < 2048 by omega)]

theorem ix0' : ∀ t : Fin cfg0.N, win0_0.index t = ![t.val, 0] := (by decide +kernel : ∀ t : Fin grid0.N, _)
theorem ix1' : ∀ t : Fin cfg0.N, win0_1.index t = ![t.val, 0] := (by decide +kernel : ∀ t : Fin grid0.N, _)
theorem ix2' : ∀ t : Fin cfg0.N, win0_2.index t = ![t.val, 3] := (by decide +kernel : ∀ t : Fin grid0.N, _)
theorem ix3' : ∀ t : Fin cfg0.N, win0_3.index t = ![0, 0] := (by decide +kernel : ∀ t : Fin grid0.N, _)
theorem ix4' : ∀ t : Fin cfg0.N, win0_4.index t = ![t.val, 0] := (by decide +kernel : ∀ t : Fin grid0.N, _)
theorem ix6' : ∀ t : Fin cfg0.N, win0_6.index t = ![0, 0] := (by decide +kernel : ∀ t : Fin grid0.N, _)

theorem tlt (t : Fin cfg0.N) : t.val < 8 := lt_of_lt_of_eq t.isLt (show cfg0.N = 8 from N_0)

/-- Row `y` of block `t`. -/
def at' (t : ℕ) (y : Fin 512) : Fin 4096 := ⟨(512 * t + y.val) % 4096, Nat.mod_lt _ (by decide)⟩

theorem e0 (c : Dev nD) (t : Fin cfg0.N) (y : Fin 512) (z : Fin 512) : (iblk m c 0 t : Vec Ideal S512x512 .f32) (ix2 y z)
    = (m ((c : Thread nD τ).loc main_arg0) : FVec Ideal S4096x1024 .f32) (ix2 (at' t.val y) (⟨z.val, by omega⟩ : Fin 1024)) := by
  have hV : V m c main_arg0 = m ((c : Thread nD τ).loc main_arg0) := V_main_arg0 m c
  show V m c main_arg0 ((win0_0.blk t).view.emb (ix2 y z)) = _
  rw [hV]
  try unfold at'
  congr 1
  funext a
  have hi := ix0' t
  have ht := tlt t
  fin_cases a <;> apply Fin.ext <;> blk_simp [hi] <;> simp <;> omega

theorem e1 (c : Dev nD) (t : Fin cfg0.N) (y : Fin 512) (z : Fin 512) : (iblk m c 1 t : Vec Ideal S512x512 .f32) (ix2 y z)
    = (m ((c : Thread nD τ).loc main_arg1) : FVec Ideal S4096x512 .f32) (ix2 (at' t.val y) z) := by
  have hV : V m c main_arg1 = m ((c : Thread nD τ).loc main_arg1) := V_main_arg1 m c
  show V m c main_arg1 ((win0_1.blk t).view.emb (ix2 y z)) = _
  rw [hV]
  try unfold at'
  congr 1
  funext a
  have hi := ix1' t
  have ht := tlt t
  fin_cases a <;> apply Fin.ext <;> blk_simp [hi] <;> simp <;> omega

theorem e2 (c : Dev nD) (t : Fin cfg0.N) (y z : Fin 512) : X0_2 m c t (ix2 y z)
    = (m ((c : Thread nD τ).loc main_arg2) : FVec Ideal S4096x3336 .bf16) (ix2 (at' t.val y) (⟨1536 + z.val, by omega⟩ : Fin 3336)) := by
  refine Eq.trans ?_ (hT_a _ _ _)
  rw [← h_eq]
  unfold X0_2 Pipeline.Window.fill
  rw [dif_pos (moved0_2 t _)]
  show V m c main_v9 ((win0_2.blk t).view.emb _) = _
  unfold at'
  congr 1
  funext a
  have hi := ix2' t
  have ht := tlt t
  fin_cases a <;> apply Fin.ext <;> blk_simp [hi] <;> simp <;> omega

theorem e3 (c : Dev nD) (t : Fin cfg0.N) (y : Fin 1) (z : Fin 128) : (iblk m c 3 t : Vec Ideal S1x128 .f32) (ix2 y z)
    = (m ((c : Thread nD τ).loc main_arg3) : FVec Ideal S1x128 .f32) (ix2 y z) := by
  have hV : V m c main_arg3 = m ((c : Thread nD τ).loc main_arg3) := V_main_arg3 m c
  show V m c main_arg3 ((win0_3.blk t).view.emb (ix2 y z)) = _
  rw [hV]
  try unfold at'
  congr 1
  funext a
  have hi := ix3' t
  have ht := tlt t
  fin_cases a <;> apply Fin.ext <;> blk_simp [hi] <;> simp

/-! ## The results -/

/-- A row of the gradient of the mixer's first half, of the scan's output, and of the gate. -/
def dmr (v : S4096x1024.Idx → EReal) (t : Fin 4096) : Half := fun z => v (ix2 t (⟨z.val, by omega⟩ : Fin 1024))
def oar (v : S4096x512.Idx → EReal) (t : Fin 4096) : Half := fun z => v (ix2 t z)
def gar (h : S4096x3336.Idx → EReal) (t : Fin 4096) : Half := fun z => h (ix2 t (⟨1536 + z.val, by omega⟩ : Fin 3336))

/-- The gradient of the scan's output, and of the gain. -/
def DO (dm : S4096x1024.Idx → EReal) (oa : S4096x512.Idx → EReal) (h : S4096x3336.Idx → EReal) (nw : S1x128.Idx → EReal) (t : Fin 4096) : Half :=
  fun d => kdo (head (oar oa t) ⟨d.val / 128, by omega⟩) (head (dmr dm t) ⟨d.val / 128, by omega⟩) (head (gar h t) ⟨d.val / 128, by omega⟩)
    (fun z => nw (ix2 0 z)) ⟨d.val % 128, Nat.mod_lt _ (by decide)⟩
def DW (dm : S4096x1024.Idx → EReal) (oa : S4096x512.Idx → EReal) (h : S4096x3336.Idx → EReal) (z : Fin 128) : EReal :=
  ∑ t : Fin 4096, ∑ a : Fin 4, dw (head (oar oa t) a) (head (dmr dm t) a) (head (gar h t) a) z

def O4 (dm : S4096x1024.Idx → EReal) (oa : S4096x512.Idx → EReal) (h : S4096x3336.Idx → EReal) (nw : S1x128.Idx → EReal) (i : S4096x512.Idx) : EReal :=
  DO dm oa h nw (i 0) (i 1)
def O6 (dm : S4096x1024.Idx → EReal) (oa : S4096x512.Idx → EReal) (h : S4096x3336.Idx → EReal) (i : S1x128.Idx) : EReal := DW dm oa h (i 1)

abbrev A0 (c : Dev nD) : FVec Ideal S4096x1024 .f32 := m ((c : Thread nD τ).loc main_arg0)
abbrev A1 (c : Dev nD) : FVec Ideal S4096x512 .f32 := m ((c : Thread nD τ).loc main_arg1)
abbrev A2 (c : Dev nD) : FVec Ideal S4096x3336 .bf16 := m ((c : Thread nD τ).loc main_arg2)
abbrev A3 (c : Dev nD) : FVec Ideal S1x128 .f32 := m ((c : Thread nD τ).loc main_arg3)

theorem r0 (c : Dev nD) (t : Fin cfg0.N) (i : Fin 512) : hrow (iblk m c 0 t : Vec Ideal S512x512 .f32) i = dmr (A0 m c) (at' t.val i) :=
  funext fun d => e0 m c t i d
theorem r1 (c : Dev nD) (t : Fin cfg0.N) (i : Fin 512) : hrow (iblk m c 1 t : Vec Ideal S512x512 .f32) i = oar (A1 m c) (at' t.val i) :=
  funext fun d => e1 m c t i d
theorem r2 (c : Dev nD) (t : Fin cfg0.N) (i : Fin 512) : hrow (X0_2 m c t) i = gar (A2 m c) (at' t.val i) :=
  funext fun d => e2 m c t i d
theorem r3 (c : Dev nD) (t : Fin cfg0.N) : wrow (iblk m c 3 t : Vec Ideal S1x128 .f32) = fun z => A3 m c (ix2 0 z) :=
  funext fun d => e3 m c t 0 d

theorem g_eq (c : Dev nD) (t : Fin cfg0.N) (i d : Fin 512) :
    G4 (iblk m c 0 t : Vec Ideal S512x512 .f32) (iblk m c 1 t : Vec Ideal S512x512 .f32) (X0_2 m c t) (iblk m c 3 t : Vec Ideal S1x128 .f32) (ix2 i d)
      = DO (A0 m c) (A1 m c) (A2 m c) (A3 m c) (at' t.val i) d := by
  show GR _ _ _ _ i d = _
  unfold GR
  rw [r0, r1, r2, r3]
  rfl

theorem block4 (c : Dev nD) (t : Fin cfg0.N) (i d : Fin 512) :
    (outsAt0 m c t.val t.isLt).1 (ix2 i d) = DO (A0 m c) (A1 m c) (A2 m c) (A3 m c) (at' t.val i) d := by
  refine Eq.trans ?_ (g_eq m c t i d)
  by_cases h : t.val % 8 = 0
  · refine (congrArg (fun q => q.1 (ix2 i d)) (outsAt0_A m c t h)).trans ?_
    dsimp only
    rw [out4_A]
  · refine (congrArg (fun q => q.1 (ix2 i d)) (outsAt0_B m c t h)).trans ?_
    dsimp only
    rw [out4_B]

/-- A block's part of the gain's gradient. -/
theorem w_eq (c : Dev nD) (t : Fin cfg0.N) (z : Fin 128) :
    GW (iblk m c 0 t : Vec Ideal S512x512 .f32) (iblk m c 1 t : Vec Ideal S512x512 .f32) (X0_2 m c t) z
      = ∑ y : Fin 512, ∑ a : Fin 4, dw (head (oar (A1 m c) (at' t.val y)) a) (head (dmr (A0 m c) (at' t.val y)) a)
          (head (gar (A2 m c) (at' t.val y)) a) z := by
  unfold GW
  rw [Finset.sum_comm]
  simp only [r0, r1, r2]

theorem acc6 (c : Dev nD) (u : Fin 1) (z : Fin 128) : ∀ (n : ℕ) (h : n < cfg0.N),
    (outsAt0 m c n h).2.2 (ix2 u z) = ∑ j ∈ Finset.range (n + 1), ∑ y : Fin 512, ∑ a : Fin 4,
      dw (head (oar (A1 m c) (at' j y)) a) (head (dmr (A0 m c) (at' j y)) a) (head (gar (A2 m c) (at' j y)) a) z
  | 0, h => by
    refine (congrArg (fun q => q.2.2 (ix2 u z)) (outsAt0_A m c ⟨0, h⟩ (Nat.zero_mod 8))).trans ?_
    dsimp only
    rw [out6_A, w_eq, Finset.sum_range_one]
  | n + 1, h => by
    have h8 : n + 1 < 8 := tlt ⟨n + 1, h⟩
    refine (congrArg (fun q => q.2.2 (ix2 u z)) (outsAt0_B m c ⟨n + 1, h⟩ (by show ¬ (n + 1) % 8 = 0; omega))).trans ?_
    dsimp only
    rw [out6_B, w_eq, Finset.sum_range_succ _ (n + 1)]
    exact congrArg₂ (· + ·) (acc6 c u z n (Nat.lt_of_succ_lt h)) rfl

/-! ## The arrays -/

theorem half_congr (f : Fin 4096 → Half) {t t' : Fin 4096} {d d' : Fin 512} (h0 : t.val = t'.val) (h1 : d.val = d'.val) : f t d = f t' d' := by
  rw [Fin.ext h0, Fin.ext h1]

theorem array4 (c : Dev nD) : (dats m 0 c).arrAt 4 cfg0.N = (O4 (A0 m c) (A1 m c) (A2 m c) (A3 m c) : FVec Ideal S4096x512 .bf16) := by
  refine (dats m 0 c).arrAt_eq_of_covers 4 _ (by decide +kernel) fun t hf y => ?_
  blk_simp
  rw [after0_4]
  have ht := tlt t
  have hi := ix4' t
  have h0 : (y 0).val < 512 := (y 0).isLt
  have h1 : (y 1).val < 512 := (y 1).isLt
  have hy : y = ix2 (⟨(y 0).val, h0⟩ : Fin 512) (⟨(y 1).val, h1⟩ : Fin 512) := by funext k; fin_cases k <;> rfl
  rw [hy]
  refine (block4 m c t _ _).trans ?_
  unfold O4 at'
  refine half_congr (DO (A0 m c) (A1 m c) (A2 m c) (A3 m c)) ?_ ?_ <;> blk_simp [hi] <;> simp <;> omega

theorem array6 (c : Dev nD) : (dats m 0 c).arrAt 6 cfg0.N = (O6 (A0 m c) (A1 m c) (A2 m c) : FVec Ideal S1x128 .f32) := by
  refine (dats m 0 c).arrAt_eq_of_covers 6 _ (by decide +kernel) fun t hf y => ?_
  have ht := tlt t
  have h7 : t.val = 7 := by have := (flush0_6 t).1 hf; omega
  have hi := ix6' t
  blk_simp
  rw [after0_6]
  have h0 : (y 0).val < 1 := (y 0).isLt
  have h1 : (y 1).val < 128 := (y 1).isLt
  have hy : y = ix2 (⟨(y 0).val, h0⟩ : Fin 1) (⟨(y 1).val, h1⟩ : Fin 128) := by funext k; fin_cases k <;> rfl
  refine (congrArg (outsAt0 m c t.val t.isLt).2.2 hy).trans ?_
  refine (acc6 m c _ _ _ _).trans ?_
  rw [h7]
  refine (Cert.DwProj.rows_eq fun t => ∑ a : Fin 4, dw (head (oar (A1 m c) t) a) (head (dmr (A0 m c) t) a) (head (gar (A2 m c) t) a)
    ⟨(y 1).val, h1⟩).trans ?_
  unfold O6
  refine congrArg (DW (A0 m c) (A1 m c) (A2 m c)) (Fin.ext ?_)
  blk_simp [hi]

end Cert.Post.Ker

end
-- ==== Proof.Post8Val.lean ====
/-
  The output norm's backward: the kernel's gradients of the scan's output and of the gain are the reference's.
-/
module

public import proofs.«01_k».proof.Proof.Gen.Reference8Ideal.Run
public import proofs.«01_k».proof.Proof.MixRef
public import proofs.«01_k».proof.Proof.Post8

@[expose] public section

set_option maxRecDepth 16384

noncomputable section

namespace Cert.Post.Val

open Idealize.ShloMosaic Idealize.ShloMosaic.TcCoe
open Cert.Reference8Ideal Cert.Reference8Ideal.Gen Cert.Ln Cert.Mix Cert.Post
open Cert.Mix.Ref (M headT hrsT siluT zaT siluT_ix zeroT)

abbrev D : Type := FVec Ideal S4096x4x128 .f32
abbrev E : Type := FVec Ideal S4096x4x1 .f32

/-- A head's mean square with its guard. -/
def hvT (o : M) : E :=
  addf (Host.divf (broadcastInDim S4096x4x1 ![0, 1] bcast_S4096x4_S4096x4x1_0_1
      (Host.reduceAdd (mulf (headT o) (headT o)) zeroT reducesTo_S4096x4x128_S4096x4_d2 h_S_))
    (broadcastInDim S4096x4x1 ![] bcast_S_S4096x4x1 (constant (F := Ideal) S_ .f32 0x43000000#32)))
    (broadcastInDim S4096x4x1 ![] bcast_S_S4096x4x1 (constant (F := Ideal) S_ .f32 0x358637BD#32))

def wideT (e : E) : D := broadcastInDim S4096x4x128 ![0, 1, 2] bcast_S4096x4x1_S4096x4x128_0_1_2 e
def gainT (w : FVec Ideal S1x128 .f32) : D :=
  broadcastInDim S4096x4x128 ![0, 1, 2] bcast_S1x1x128_S4096x4x128_0_1_2 (broadcastInDim S1x1x128 ![1, 2] bcast_S1x128_S1x1x128_1_2 w)

/-- The gradient of the norm's output. -/
def dnT (dm : FVec Ideal S4096x1024 .f32) (h : FVec Ideal S4096x3336 .bf16) : D :=
  headT (mulf (extractStridedSlice S4096x512 ![0, 0] dm slices_S4096x1024_S4096x512_0_0 : M) (siluT (zaT h)))

/-- The gradient of the head's mean square. -/
def dvT (o : M) (g : D) : E :=
  Host.divf (mulf (shapeCast _ (Host.reduceAdd (mulf (headT o) g) zeroT reducesTo_S4096x4x128_S4096x4_d2 h_S_) shapeCasts_S4096x4_S4096x4x1)
      (mulf (broadcastInDim S4096x4x1 ![] bcast_S_S4096x4x1 (constant (F := Ideal) S_ .f32 0xBF000000#32)) (Host.divf (hrsT o) (hvT o))))
    (broadcastInDim S4096x4x1 ![] bcast_S_S4096x4x1 (constant (F := Ideal) S_ .f32 0x43000000#32))

def ddT (o : M) (g : D) : D :=
  addf (mulf g (wideT (hrsT o)))
    (mulf (broadcastInDim S4096x4x128 ![0, 1] bcast_S4096x4_S4096x4x128_0_1 (Host.reduceAdd (dvT o g) zeroT reducesTo_S4096x4x1_S4096x4_d2 h_S_))
      (mulf (broadcastInDim S4096x4x128 ![] bcast_S_S4096x4x128 (constant (F := Ideal) S_ .f32 0x40000000#32)) (headT o)))

def doT (dm : FVec Ideal S4096x1024 .f32) (o : M) (h : FVec Ideal S4096x3336 .bf16) (w : FVec Ideal S1x128 .f32) : FVec Ideal S4096x512 .bf16 :=
  truncf .bf16 (shapeCast _ (ddT o (mulf (dnT dm h) (gainT w))) shapeCasts_S4096x4x128_S4096x512) bitsLt_bf16_f32

def dwT (dm : FVec Ideal S4096x1024 .f32) (o : M) (h : FVec Ideal S4096x3336 .bf16) : FVec Ideal S1x128 .f32 :=
  broadcastInDim S1x128 ![1] bcast_S128_S1x128_1 (Host.reduceAdd (shapeCast _ (Host.reduceAdd (mulf (mulf (headT o) (wideT (hrsT o))) (dnT dm h))
    zeroT reducesTo_S4096x4x128_S128_d0_1 h_S_) shapeCasts_S128_S1x1x128) zeroT reducesTo_S1x1x128_S128_d0_1 h_S_)

/-! ## Their elements -/

theorem headT_ix (o : M) (t : Fin 4096) (a : Fin 4) (z : Fin 128) : headT o (ix3 t a z) = o (ix2 t (lane a z)) := by
  pointwise [headT]
  exact congrArg (fun j => o (ix2 t j)) (Fin.ext (by show a.val * 128 + z.val = 128 * a.val + z.val; omega))

theorem hvT_ix (o : M) (t : Fin 4096) (a : Fin 4) (u : Fin 1) : hvT o (ix3 t a u) = mv (head (fun d => o (ix2 t d)) a) := by
  pointwise [hvT, zeroT]
  simp only [headT_ix]
  rfl

theorem hrsT_ix (o : M) (t : Fin 4096) (a : Fin 4) (u : Fin 1) : hrsT o (ix3 t a u) = rs (head (fun d => o (ix2 t d)) a) := by
  have h : hrsT o (ix3 t a u) = Ideal.rsqrt (hvT o (ix3 t a u)) := rfl
  rw [h, hvT_ix]
  rfl

theorem wideT_ix (e : E) (t : Fin 4096) (a : Fin 4) (z : Fin 128) : wideT e (ix3 t a z) = e (ix3 t a 0) := by
  pointwise [wideT]

theorem gainT_ix (w : FVec Ideal S1x128 .f32) (t : Fin 4096) (a : Fin 4) (z : Fin 128) : gainT w (ix3 t a z) = w (ix2 0 z) := by
  pointwise [gainT]

theorem dnT_ix (dm : FVec Ideal S4096x1024 .f32) (h : FVec Ideal S4096x3336 .bf16) (t : Fin 4096) (a : Fin 4) (z : Fin 128) :
    dnT dm h (ix3 t a z) = dn (head (Ker.dmr dm t) a) (head (Ker.gar h t) a) z := by
  unfold dnT
  rw [headT_ix]
  have e : ∀ j : Fin 512, zaT h (ix2 t j) = h (ix2 t (⟨1536 + j.val, by omega⟩ : Fin 3336)) := fun j => by pointwise [zaT]
  have s : ∀ (x y : M) (i : S4096x512.Idx), mulf x y i = x i * y i := fun _ _ _ => rfl
  rw [s, siluT_ix, e]
  have d : ∀ j : Fin 512, (extractStridedSlice S4096x512 ![0, 0] dm slices_S4096x1024_S4096x512_0_0 : M) (ix2 t j)
      = dm (ix2 t (⟨j.val, by omega⟩ : Fin 1024)) := fun j => by pointwise []
  rw [d]
  rfl

theorem dvT_ix (o : M) (g : D) (t : Fin 4096) (a : Fin 4) (u : Fin 1) :
    dvT o g (ix3 t a u) = Ideal.div ((∑ z, o (ix2 t (lane a z)) * g (ix3 t a z))
      * (mhalf * Ideal.div (rs (head (fun d => o (ix2 t d)) a)) (mv (head (fun d => o (ix2 t d)) a)))) hlen := by
  pointwise [dvT, zeroT]
  simp only [headT_ix, hrsT_ix, hvT_ix]
  rfl

theorem ddT_ix (o : M) (g : D) (t : Fin 4096) (a : Fin 4) (z : Fin 128) :
    ddT o g (ix3 t a z) = g (ix3 t a z) * rs (head (fun d => o (ix2 t d)) a) + dvT o g (ix3 t a 0) * (two * o (ix2 t (lane a z))) := by
  pointwise [ddT, zeroT]
  simp only [wideT_ix, headT_ix, hrsT_ix, Fin.sum_univ_one]
  rfl

theorem val4 (dm : FVec Ideal S4096x1024 .f32) (o : M) (h : FVec Ideal S4096x3336 .bf16) (w : FVec Ideal S1x128 .f32) :
    doT dm o h w = Ker.O4 dm o h w := by
  funext (i : S4096x512.Idx)
  obtain ⟨t, d, rfl⟩ : ∃ (t : Fin 4096) (d : Fin 512), i = ix2 t d := ⟨i 0, i 1, by funext k; fin_cases k <;> rfl⟩
  have e : doT dm o h w (ix2 t d) = ddT o (mulf (dnT dm h) (gainT w)) (ix3 t (⟨d.val / 128, by omega⟩ : Fin 4) (⟨d.val % 128, Nat.mod_lt _ (by decide)⟩ : Fin 128)) := by
    pointwise [doT]
  have s : ∀ (x y : D) (i : S4096x4x128.Idx), mulf x y i = x i * y i := fun _ _ _ => rfl
  rw [e, ddT_ix, dvT_ix]
  simp only [s, dnT_ix, gainT_ix]
  exact rdo_eq (head (Ker.oar o t) ⟨d.val / 128, by omega⟩) (head (Ker.dmr dm t) ⟨d.val / 128, by omega⟩) (head (Ker.gar h t) ⟨d.val / 128, by omega⟩)
    (fun z => w (ix2 0 z)) ⟨d.val % 128, Nat.mod_lt _ (by decide)⟩

/-- A sum over the first two of three axes. -/
theorem sum01 {n0 n1 n2 : ℕ} (h : (⟨3, ![n0, n1, n2]⟩ : Shape).ReducesTo [0, 1] ⟨1, ![n2]⟩) (v : (⟨3, ![n0, n1, n2]⟩ : Shape).Idx → EReal)
    (init : EReal) (z : Fin n2) : Ideal.hostReduceAdd h v init (ix1 z) = init + ∑ a : Fin n0, ∑ b : Fin n1, v (ix3 a b z) := by
  unfold Ideal.hostReduceAdd
  rw [← Fintype.sum_prod_type' (f := fun (a : Fin n0) (b : Fin n1) => v (ix3 a b z))]
  have e : ∀ i : (⟨3, ![n0, n1, n2]⟩ : Shape).Idx, h.drop i = ix1 z → i = ix3 (i 0) (i 1) z := fun i hi => by
    funext a
    apply Fin.ext
    match a with
    | ⟨0, _⟩ => rfl
    | ⟨1, _⟩ => rfl
    | ⟨2, _⟩ => exact congrArg Fin.val (congrFun hi 0)
  congr 1
  refine Finset.sum_bij' (fun i _ => (i 0, i 1)) (fun p _ => ix3 p.1 p.2 z) (fun _ _ => Finset.mem_univ _) (fun p _ => ?_)
    (fun i hi => (e i (Finset.mem_filter.mp hi).2).symm) (fun p _ => rfl) (fun i hi => congrArg v (e i (Finset.mem_filter.mp hi).2))
  refine Finset.mem_filter.mpr ⟨Finset.mem_univ _, ?_⟩
  funext b
  apply Fin.ext
  match b with
  | ⟨0, _⟩ => rfl

theorem val6 (dm : FVec Ideal S4096x1024 .f32) (o : M) (h : FVec Ideal S4096x3336 .bf16) : dwT dm o h = Ker.O6 dm o h := by
  funext (i : S1x128.Idx)
  obtain ⟨u, z, rfl⟩ : ∃ (u : Fin 1) (z : Fin 128), i = ix2 u z := ⟨i 0, i 1, by funext k; fin_cases k <;> rfl⟩
  have s : ∀ (x y : D) (i : S4096x4x128.Idx), mulf x y i = x i * y i := fun _ _ _ => rfl
  pointwise [dwT, zeroT]
  rw [sum01, zero_add, Fin.sum_univ_one, Fin.sum_univ_one]
  pointwise []
  rw [sum01, zero_add]
  simp only [s, dnT_ix, wideT_ix, headT_ix, hrsT_ix]
  refine Finset.sum_congr rfl fun t _ => Finset.sum_congr rfl fun a _ => mul_comm _ _

/-! ## The run's results -/

variable (m : (ℓ : Loc nD τ sig) → Buf (Elt Ideal) ℓ)

theorem v47 (c : Dev nD) : Cert.Reference8Ideal.Value.res_main_v47 m c
    = doT (m ((c : Thread nD τ).loc main_arg0)) (m ((c : Thread nD τ).loc main_arg1)) (m ((c : Thread nD τ).loc main_arg2))
      (m ((c : Thread nD τ).loc main_arg3)) := by
  rfl

end Cert.Post.Val

end
-- ==== Proof.ConvOut.lean ====
/-
  What one grid point of the short convolution's backward leaves in the block of the input's gradient and in the filter's gradient.
-/
module

public import proofs.«01_k».proof.Proof.Gen.Kernel9Ideal.Value
public import Idealize.ShloMosaic.Lib.Pointwise
public import Idealize.ShloMosaic.Lib.WholeRead
public import Idealize.ShloMosaic.Lib.WritesUnit
public import Idealize.ShloMosaic.Lib.KernelVsHost
public import Idealize.ShloMosaic.Lib.Pipeline.ValueKit
public import Idealize.ShloMosaic.Lib.Pipeline.ReadBack
import all proofs.«01_k».proof.Proof.Gen.Kernel9Ideal.Frame.RunA
import all proofs.«01_k».proof.Proof.Gen.Kernel9Ideal.Frame.RunB

@[expose] public section

set_option maxRecDepth 16384

noncomputable section

namespace Cert.Conv.Ker

open Idealize.ShloMosaic Idealize.ShloMosaic.TcCoe Idealize.SL.Sem
open Cert.Kernel9Ideal Cert.Kernel9Ideal.Gen

theorem hz : (![0, 0] : Fin 2 → Nat) = fun _ => 0 := funext fun a => by fin_cases a <;> rfl

/-! ## A block's rows moved up, the next block's first rows after them -/

/-- The moved rows as the body writes them: the rows rotated by `n`, the last eight of them taken from the next rows
    rotated by `k` where the row number is at least `k`. -/
def shT (n k : BitVec 32) (v : Vec Ideal S512x1536 .f32) (a : Vec Ideal S8x1536 .f32) : FVec Ideal S512x1536 .f32 :=
  concatenate S512x1536 0 [⟨S504x1536, extractStridedSlice S504x1536 ![0, 0] (dynamicRotate 0 n none v rotates_S512x1536_d0) slices_S512x1536_o0_0_S504x1536⟩,
    ⟨S8x1536, select (cmpi .sge (iota .tc S8x1536 32 [0] iota_S8x1536_d0_w32) (broadcast S8x1536 k)) (dynamicRotate 0 k none a rotates_S8x1536_d0)
      (extractStridedSlice S8x1536 ![504, 0] (dynamicRotate 0 n none v rotates_S512x1536_d0) slices_S512x1536_o504_0_S8x1536)⟩]
    concatenates_S504x1536_S8x1536_S512x1536_d0

theorem sh1 (i : grid0.Coords) (v : Vec Ideal S512x1536 .f32) (a : Vec Ideal S8x1536 .f32) : k0_pay7 i v a = shT 511#32 7#32 v (k0_pay4 i a) := rfl
theorem sh2 (v : Vec Ideal S512x1536 .f32) (a : Vec Ideal S8x1536 .f32) : k0_pay10 v a = shT 510#32 6#32 v a := rfl
theorem sh3 (v : Vec Ideal S512x1536 .f32) (a : Vec Ideal S8x1536 .f32) : k0_pay12 v a = shT 509#32 5#32 v a := rfl

/-- Row `y + s` of the block, or of the rows that follow it. -/
def nx (s : ℕ) (v : S512x1536.Idx → EReal) (a : S8x1536.Idx → EReal) (y : Fin 512) (z : Fin 1536) : EReal :=
  if h : y.val + s < 512 then v (ix2 ⟨y.val + s, h⟩ z) else a (ix2 ⟨(y.val + s) % 8, Nat.mod_lt _ (by decide)⟩ z)

theorem shT_ix (n k : BitVec 32) (s : ℕ) (hn : n.toNat = 512 - s) (hk : k.toNat = 8 - s) (hs : 0 < s) (hs' : s < 8)
    (v : Vec Ideal S512x1536 .f32) (a : Vec Ideal S8x1536 .f32) (y : Fin 512) (z : Fin 1536) : shT n k v a (ix2 y z) = nx s v a y z := by
  have hy := y.isLt
  pointwise [shT]
  unfold nx
  by_cases h : y.val < 504
  · rw [dif_pos h, dif_pos (show y.val + s < 512 by omega)]
    exact congrArg (fun j => v (ix2 j z)) (Fin.ext (by show (y.val + 512 - n.toNat % 512) % 512 = y.val + s; rw [hn]; omega))
  · have hi : ((BitVec.ofNat 32 (y.val - 504)).toInt : ℤ) = ((y.val - 504 : ℕ) : ℤ) := by
      rw [BitVec.toInt_eq_toNat_of_lt] <;> rw [BitVec.toNat_ofNat] <;> omega
    have hk' : (k.toInt : ℤ) = ((8 - s : ℕ) : ℤ) := by
      rw [BitVec.toInt_eq_toNat_of_lt] <;> rw [hk]; omega
    rw [dif_neg h]
    by_cases h' : y.val + s < 512
    · rw [dif_pos h']
      have e : IntOp.cmpi CmpIPredicate.sge (BitVec.ofNat 32 (y.val - 504)) k = 0#1 := by
        simp [IntOp.cmpi, BitVec.sle, hi, hk']; rw [decide_eq_false (by omega)]; rfl
      rw [e]
      exact congrArg (fun j => v (ix2 j z)) (Fin.ext (by show (504 + (y.val - 504) + 512 - n.toNat % 512) % 512 = y.val + s; rw [hn]; omega))
    · rw [dif_neg h']
      have e : IntOp.cmpi CmpIPredicate.sge (BitVec.ofNat 32 (y.val - 504)) k = 1#1 := by
        simp [IntOp.cmpi, BitVec.sle, hi, hk']; rw [decide_eq_true (by omega)]; rfl
      rw [e]
      exact congrArg (fun j => a (ix2 j z)) (Fin.ext (by show (y.val - 504 + 8 - k.toNat % 8) % 8 = (y.val + s) % 8; rw [hk]; omega))

theorem pay4 (i : grid0.Coords) (a : Vec Ideal S8x1536 .f32) (y : Fin 8) (z : Fin 1536) :
    k0_pay4 i a (ix2 y z) = if (i 0).val < 7 then a (ix2 y z) else 0 := by
  have h : (i 0).val < 8 := (i 0).isLt
  pointwise [k0_pay4]
  have e : ∀ j : Fin 8, Scalar.cmpi CmpIPredicate.slt (BitVec.ofNat 32 j.val) 7#32 = if j.val < 7 then 1#1 else 0#1 := by decide
  rw [show (i 0).val = (⟨(i 0).val, h⟩ : Fin 8).val from rfl, e]
  split <;> rfl

theorem pay6 (v : Vec Ideal S512x1536 .f32) (p : Vec Ideal S512x1536 .bf16) (r : Vec Ideal S1x1536 .f32) (u : Fin 1) (z : Fin 1536) :
    k0_pay6 v p r (ix2 u z) = r (ix2 u z) + ∑ y : Fin 512, v (ix2 y z) * p (ix2 y z) := by
  pointwise [k0_pay6, k0_pay5]

theorem pay9 (q v : FVec Ideal S512x1536 .f32) (r : Vec Ideal S1x1536 .f32) (u : Fin 1) (z : Fin 1536) :
    k0_pay9 q v r (ix2 u z) = r (ix2 u z) + ∑ y : Fin 512, v (ix2 y z) * q (ix2 y z) := by
  pointwise [k0_pay9]

theorem pay11 (q v : FVec Ideal S512x1536 .f32) (a : Vec Ideal S8x1536 .f32) (r : Vec Ideal S1x1536 .f32) (u : Fin 1) (z : Fin 1536) :
    k0_pay11 v a q r (ix2 u z) = r (ix2 u z) + ∑ y : Fin 512, k0_pay10 v a (ix2 y z) * q (ix2 y z) := by
  pointwise [k0_pay11]

theorem pay1 (q v : FVec Ideal S512x1536 .f32) (r : Vec Ideal S1x1536 .f32) (u : Fin 1) (z : Fin 1536) :
    k0_pay1 q v (k0_pay14 r) (ix2 u z) = r (ix2 u z) + ∑ y : Fin 512, v (ix2 y z) * q (ix2 y z) := by
  pointwise [k0_pay1, k0_pay14]

theorem pay5 (p : Vec Ideal S512x1536 .bf16) (y : Fin 512) (z : Fin 1536) : k0_pay5 p (ix2 y z) = p (ix2 y z) := by
  pointwise [k0_pay5]

/-- The block of the input's gradient, and the block's part of row `r` of the filter's. -/
def GD (x0 : S512x1536.Idx → EReal) (a : S8x1536.Idx → EReal) (x3 : S4x1536.Idx → EReal) (y : Fin 512) (z : Fin 1536) : EReal :=
  nx 0 x0 a y z * x3 (ix2 3 z) + nx 1 x0 a y z * x3 (ix2 2 z) + nx 2 x0 a y z * x3 (ix2 1 z) + nx 3 x0 a y z * x3 (ix2 0 z)
def GC (x0 : S512x1536.Idx → EReal) (a : S8x1536.Idx → EReal) (x2 : S512x1536.Idx → EReal) (r : Fin 8) (z : Fin 1536) : EReal :=
  if r.val < 4 then ∑ y : Fin 512, nx (3 - r.val) x0 a y z * x2 (ix2 y z) else 0

theorem nx0 (x0 : S512x1536.Idx → EReal) (a : S8x1536.Idx → EReal) (y : Fin 512) (z : Fin 1536) : nx 0 x0 a y z = x0 (ix2 y z) :=
  dif_pos y.isLt

section
variable (x0 : Vec Ideal S512x1536 .f32) (a : Vec Ideal S8x1536 .f32) (y : Fin 512) (z : Fin 1536)
theorem nx1 (i : grid0.Coords) : k0_pay7 i x0 a (ix2 y z) = nx 1 x0 (k0_pay4 i a) y z :=
  shT_ix 511#32 7#32 1 rfl rfl (by decide) (by decide) _ _ y z
theorem nx2 : k0_pay10 x0 a (ix2 y z) = nx 2 x0 a y z := shT_ix 510#32 6#32 2 rfl rfl (by decide) (by decide) _ _ y z
theorem nx3 : k0_pay12 x0 a (ix2 y z) = nx 3 x0 a y z := shT_ix 509#32 5#32 3 rfl rfl (by decide) (by decide) _ _ y z
end

/-! ## The four rows' stores -/

theorem inbR (r : ℕ) (h : r < 8) (b : Fin 2) : (![r, 0] : Fin 2 → ℕ) b + S1x1536.size b ≤ S8x1536.size b := by
  fin_cases b
  · show r + 1 ≤ 8; omega
  · show 0 + 1536 ≤ 1536; omega

/-- Row `o`'s store. -/
abbrev row (o : ℕ) (h : o < 8) (w : Vec Ideal S1x1536 .f32) : View.Piece (Elt Ideal) S8x1536 .f32 :=
  ⟨Rect.unit (s := S8x1536) ![o, 0] S1x1536.size (inbR o h), w⟩

theorem row_mem {κ : Kind} {sp : Space} {V : View sig κ sp S8x1536 .f32} (f : V.ty.Contents (Elt Ideal)) (L : List (View.Piece (Elt Ideal) S8x1536 .f32))
    (o : ℕ) (h : o < 8) (w : Vec Ideal S1x1536 .f32) (z : Fin 1536) :
    V.read (Elt Ideal) (V.writes (Elt Ideal) f (row o h w :: L)) (ix2 (⟨o, h⟩ : Fin 8) z) = w (ix2 0 z) :=
  View.read_writes_cons_rows_of_mem V f (inbR o h) w L (ix2 (⟨o, h⟩ : Fin 8) z) (ix2 0 z) rfl rfl rfl

theorem row_not_mem {κ : Kind} {sp : Space} {V : View sig κ sp S8x1536 .f32} (f : V.ty.Contents (Elt Ideal)) (L : List (View.Piece (Elt Ideal) S8x1536 .f32))
    (o : ℕ) (h : o < 8) (w : Vec Ideal S1x1536 .f32) (r : Fin 8) (hr : r.val ≠ o) (z : Fin 1536) :
    V.read (Elt Ideal) (V.writes (Elt Ideal) f (row o h w :: L)) (ix2 r z)
      = V.read (Elt Ideal) (V.writes (Elt Ideal) f L) (ix2 r z) :=
  View.read_writes_cons_rows_of_not_mem (W := 1) V f (inbR o h) w L (ix2 r z) rfl rfl (by show r.val < o ∨ o + 1 ≤ r.val; omega)

/-- Four stores, each of a row of `P` with that row's part added, leave `P` with the parts added. -/
theorem rows {κ : Kind} {sp : Space} {V : View sig κ sp S8x1536 .f32} (f : V.ty.Contents (Elt Ideal)) (L : List (View.Piece (Elt Ideal) S8x1536 .f32))
    (P : S8x1536.Idx → EReal) (hP : V.read (Elt Ideal) (V.writes (Elt Ideal) f L) = P) (g : Fin 8 → Fin 1536 → EReal)
    (hg : ∀ r z, 4 ≤ r.val → g r z = 0) (w0 w1 w2 w3 : Vec Ideal S1x1536 .f32)
    (h0 : ∀ z, w0 (ix2 0 z) = P (ix2 0 z) + g 0 z) (h1 : ∀ z, w1 (ix2 0 z) = P (ix2 1 z) + g 1 z)
    (h2 : ∀ z, w2 (ix2 0 z) = P (ix2 2 z) + g 2 z) (h3 : ∀ z, w3 (ix2 0 z) = P (ix2 3 z) + g 3 z) (r : Fin 8) (z : Fin 1536) :
    V.read (Elt Ideal) (V.writes (Elt Ideal) f (row 0 (by decide) w0 :: row 1 (by decide) w1 :: row 2 (by decide) w2 :: row 3 (by decide) w3 :: L)) (ix2 r z)
      = P (ix2 r z) + g r z := by
  by_cases r0 : r.val = 0
  · obtain rfl : r = 0 := Fin.ext r0
    exact (row_mem _ _ 0 _ _ z).trans (h0 z)
  rw [row_not_mem _ _ 0 _ _ r r0]
  by_cases r1 : r.val = 1
  · obtain rfl : r = 1 := Fin.ext r1
    exact (row_mem _ _ 1 _ _ z).trans (h1 z)
  rw [row_not_mem _ _ 1 _ _ r r1]
  by_cases r2 : r.val = 2
  · obtain rfl : r = 2 := Fin.ext r2
    exact (row_mem _ _ 2 _ _ z).trans (h2 z)
  rw [row_not_mem _ _ 2 _ _ r r2]
  by_cases r3 : r.val = 3
  · obtain rfl : r = 3 := Fin.ext r3
    exact (row_mem _ _ 3 _ _ z).trans (h3 z)
  rw [row_not_mem _ _ 3 _ _ r r3, hP, hg r z (by omega), add_zero]

theorem ld_row (P : Vec Ideal S8x1536 .f32) (o : ℕ) (h : o < 8) (inb : ∀ b, (![o, 0] : Fin 2 → ℕ) b + S1x1536.size b ≤ S8x1536.size b) (z : Fin 1536) :
    (View.ld (Val := Elt Ideal) (e' := .f32) P (Rect.unit (s := S8x1536) ![o, 0] S1x1536.size inb)) (ix2 0 z) = P (ix2 ⟨o, h⟩ z) := by
  refine View.ld_unit_apply_of (Val := Elt Ideal) (e := .f32) P _ _ inb (ix2 0 z) (ix2 ⟨o, h⟩ z) fun b => ?_
  fin_cases b
  · rfl
  · exact (Nat.zero_add _).symm

theorem rows' {κ : Kind} {sp : Space} {V : View sig κ sp S8x1536 .f32} (f : V.ty.Contents (Elt Ideal)) (L : List (View.Piece (Elt Ideal) S8x1536 .f32))
    (P : Vec Ideal S8x1536 .f32) (hP : V.read (Elt Ideal) (V.writes (Elt Ideal) f L) = P) (i : grid0.Coords)
    (x0 : Vec Ideal S512x1536 .f32) (x1 : Vec Ideal S8x1536 .f32) (x2 : Vec Ideal S512x1536 .bf16) (r : Fin 8) (z : Fin 1536) :
    V.read (Elt Ideal) (V.writes (Elt Ideal) f
      (row 0 (by decide) (k0_pay1 (k0_pay5 x2) (k0_pay12 x0 (k0_pay4 i x1)) (k0_pay14 (View.ld (Val := Elt Ideal) (e' := .f32) P (Rect.unit (s := S8x1536) ![0, 0] S1x1536.size (inbR 0 (by decide))))))
      :: row 1 (by decide) (k0_pay11 x0 (k0_pay4 i x1) (k0_pay5 x2) (View.ld (Val := Elt Ideal) (e' := .f32) P (Rect.unit (s := S8x1536) ![1, 0] S1x1536.size (inbR 1 (by decide)))))
      :: row 2 (by decide) (k0_pay9 (k0_pay5 x2) (k0_pay7 i x0 x1) (View.ld (Val := Elt Ideal) (e' := .f32) P (Rect.unit (s := S8x1536) ![2, 0] S1x1536.size (inbR 2 (by decide)))))
      :: row 3 (by decide) (k0_pay6 x0 x2 (View.ld (Val := Elt Ideal) (e' := .f32) P (Rect.unit (s := S8x1536) ![3, 0] S1x1536.size (inbR 3 (by decide)))))
      :: L)) (ix2 r z) = P (ix2 r z) + GC x0 (k0_pay4 i x1) x2 r z := by
  refine rows f L P hP (GC x0 (k0_pay4 i x1) x2) (fun r z h => if_neg (Nat.not_lt.mpr h)) _ _ _ _ (fun z => ?_) (fun z => ?_) (fun z => ?_) (fun z => ?_) r z
  · rw [pay1, ld_row _ 0 (by decide)]
    simp only [nx3, pay5]
    rfl
  · rw [pay11, ld_row _ 1 (by decide)]
    simp only [nx2, pay5]
    rfl
  · rw [pay9, ld_row _ 2 (by decide)]
    simp only [nx1, pay5]
    rfl
  · rw [pay6, ld_row _ 3 (by decide)]
    simp only [← nx0 x0 (k0_pay4 i x1)]
    rfl

/-! ## The outputs -/

section
variable {c : Dev nD} {i : grid0.Coords} {arg1 : Memref sig .tc .vmem S512x1536 .f32} {harg1 : arg1.IsWhole} {arg2 : Memref sig .tc .vmem S8x1536 .f32} {harg2 : arg2.IsWhole} {arg3 : Memref sig .tc .vmem S512x1536 .bf16} {harg3 : arg3.IsWhole} {arg4 : Memref sig .tc .vmem S4x1536 .f32} {harg4 : arg4.IsWhole} {arg6 : Memref sig .tc .vmem S512x1536 .bf16} {harg6 : arg6.IsWhole} {arg7 : Memref sig .tc .vmem S8x1536 .f32} {harg7 : arg7.IsWhole}
  (x0 : Vec Ideal S512x1536 .f32) (x1 : Vec Ideal S8x1536 .f32) (x2 : Vec Ideal S512x1536 .bf16) (x3 : Vec Ideal S4x1536 .f32)

theorem out5_B (hc0 : ¬cond0_0 i) (xo : Vec Ideal S8x1536 .f32) (r : Fin 8) (z : Fin 1536) :
    out0_B_5 c i arg1 harg1 arg2 harg2 arg3 harg3 arg4 harg4 arg6 harg6 arg7 harg7 hc0 x0 x1 x2 x3 xo (ix2 r z)
      = xo (ix2 r z) + GC x0 (k0_pay4 i x1) x2 r z := by
  unfold out0_B_5
  unfold kernelRun0_B
  dsimp only
  sl_unfold_words
  simp only [View.readAt_eq_ld, harg1.read_unread, harg2.read_unread, harg3.read_unread, harg4.read_unread, harg7.read_unread, View.ld_unit_zero (S := S512x1536) hz,
    View.ld_unit_zero (S := S8x1536) hz, View.ld_unit_zero (S := S4x1536) hz]
  exact rows' (harg7.unread xo) [] xo (harg7.read_unread xo) i x0 x1 x2 r z

theorem out5_A (hc0 : cond0_0 i) (r : Fin 8) (z : Fin 1536) :
    out0_A_5 c i arg1 harg1 arg2 harg2 arg3 harg3 arg4 harg4 arg6 harg6 arg7 harg7 hc0 x0 x1 x2 x3 (ix2 r z) = GC x0 (k0_pay4 i x1) x2 r z := by
  unfold out0_A_5
  unfold kernelRun0_A
  dsimp only
  sl_unfold_words
  simp only [View.readAt_eq_ld, harg1.read_unread, harg2.read_unread, harg3.read_unread, harg4.read_unread, View.ld_unit_zero (S := S512x1536) hz,
    View.ld_unit_zero (S := S8x1536) hz, View.ld_unit_zero (S := S4x1536) hz]
  simp (disch := first | rfl | decide | (intro a; fin_cases a <;> rfl)) only [↓View.readCov_skip, View.readCov_fill]
  refine (rows' (V := VO0_5) (VO0_5.junk (Val := Elt Ideal)) [⟨Rect.unit (s := S8x1536) ![0, 0] S8x1536.size inb_S8x1536_S8x1536_0_0, k0_pay3 (F := Ideal)⟩] (k0_pay3 (F := Ideal)) ?_ i x0 x1 x2 r z).trans ?_
  · rw [View.read_writes_junk_eq_canon]
    exact View.canon_unit_zero (S := S8x1536) hz _ _
  · rw [show (k0_pay3 : FVec Ideal S8x1536 .f32) (ix2 r z) = 0 by pointwise [k0_pay3], zero_add]

theorem dpre (y : Fin 512) (z : Fin 1536) :
    k0_pay2 (k0_pay13 x0 (k0_pay4 i x1) x3 (k0_pay8 i x0 x1 x3)) (ix2 y z) = GD x0 (k0_pay4 i x1) x3 y z := by
  pointwise [k0_pay2, k0_pay13, k0_pay8]
  unfold GD
  rw [nx0, nx1, nx2, nx3]

theorem out4_A (hc0 : cond0_0 i) (y : Fin 512) (z : Fin 1536) :
    out0_A_4 c i arg1 harg1 arg2 harg2 arg3 harg3 arg4 harg4 arg6 harg6 arg7 harg7 hc0 x0 x1 x2 x3 (ix2 y z) = GD x0 (k0_pay4 i x1) x3 y z := by
  unfold out0_A_4
  rw [View.read_writes_junk_eq_canon]
  unfold kernelRun0_A
  dsimp only
  sl_unfold_words
  rw [View.canon_unit_zero hz]
  simp only [View.readAt_eq_ld, harg1.read_unread, harg2.read_unread, harg3.read_unread, harg4.read_unread, View.ld_unit_zero (S := S512x1536) hz,
    View.ld_unit_zero (S := S8x1536) hz, View.ld_unit_zero (S := S4x1536) hz]
  exact dpre x0 x1 x3 y z

theorem out4_B (hc0 : ¬cond0_0 i) (xo : Vec Ideal S8x1536 .f32) (y : Fin 512) (z : Fin 1536) :
    out0_B_4 c i arg1 harg1 arg2 harg2 arg3 harg3 arg4 harg4 arg6 harg6 arg7 harg7 hc0 x0 x1 x2 x3 xo (ix2 y z) = GD x0 (k0_pay4 i x1) x3 y z := by
  unfold out0_B_4
  rw [View.read_writes_junk_eq_canon]
  unfold kernelRun0_B
  dsimp only
  sl_unfold_words
  rw [View.canon_unit_zero hz]
  simp only [View.readAt_eq_ld, harg1.read_unread, harg2.read_unread, harg3.read_unread, harg4.read_unread, View.ld_unit_zero (S := S512x1536) hz,
    View.ld_unit_zero (S := S8x1536) hz, View.ld_unit_zero (S := S4x1536) hz]
  exact dpre x0 x1 x3 y z
end

end Cert.Conv.Ker

end
-- ==== Proof.Conv9.lean ====
/-
  The short convolution's backward, array by array: the gradients of its input and of its filter as functions of the arguments.
-/
module

public import proofs.«01_k».proof.Proof.ConvOut
public import proofs.«01_k».proof.Proof.DwProj
public import Idealize.ShloMosaic.Lib.Pipeline.ValueKit
public import Idealize.ShloMosaic.Lib.Pipeline.ValueKit.Partial
public import Idealize.ShloMosaic.Lib.Pointwise
public import Idealize.ShloMosaic.Lib.StableHlo.ReadAt
public import Idealize.ShloMosaic.Lib.Claim

@[expose] public section

set_option maxRecDepth 16384

noncomputable section

namespace Cert.Conv.Ker

open Idealize.ShloMosaic Idealize.ShloMosaic.TcCoe Idealize.SL.Sem
open Cert.Kernel9Ideal Cert.Kernel9Ideal.Gen

variable (m : (ℓ : Loc nD τ sig) → Buf (Elt Ideal) ℓ)

/-! ## The blocks -/

/-- The projection's columns in the kernel's order. -/
def hT (h : FVec Ideal S4096x3336 .bf16) : FVec Ideal S4096x3456 .bf16 :=
  concatenate S4096x3456 1 [⟨S4096x3072, (concatenate S4096x3072 1 [⟨S4096x2048, (extractStridedSlice S4096x2048 ![0, 0] h slices_S4096x3336_S4096x2048_0_0)⟩,
      ⟨S4096x512, (extractStridedSlice S4096x512 ![0, 2056] h slices_S4096x3336_S4096x512_0_2056)⟩,
      ⟨S4096x512, (extractStridedSlice S4096x512 ![0, 2824] h slices_S4096x3336_S4096x512_0_2824)⟩] concatenates_S4096x2048_S4096x512_S4096x512_S4096x3072_d1)⟩,
    ⟨S4096x384, (concatenate S4096x384 1 [⟨S4096x128, (extractStridedSlice S4096x128 ![0, 2568] h slices_S4096x3336_S4096x128_0_2568)⟩,
      ⟨S4096x128, (extractStridedSlice S4096x128 ![0, 2696] h slices_S4096x3336_S4096x128_0_2696)⟩,
      ⟨S4096x128, (pad S4096x128 ![0, 0] ![0, 120] ![0, 0] (extractStridedSlice S4096x8 ![0, 2048] h slices_S4096x3336_S4096x8_0_2048)
        (sitofp .bf16 (constantI S_ 32 0#32)) pads_S4096x8_S4096x128_000_01200 h_S_)⟩] concatenates_S4096x128_S4096x128_S4096x128_S4096x384_d1)⟩]
    concatenates_S4096x3072_S4096x384_S4096x3456_d1

theorem h_eq (c : Dev nD) : (V m c main_v9 : FVec Ideal S4096x3456 .bf16) = hT (m ((c : Thread nD τ).loc main_arg1)) := by
  unfold hT
  unfold_abbrev_sides
  simp only [hostOps0, hostOps0_1, hostOps0_2, List.flatten_cons, List.flatten_nil, List.append_nil, List.cons_append, List.nil_append]
  after_results <;> rfl

theorem d_eq (c : Dev nD) : (V m c main_v10_0 : FVec Ideal S4096x3072 .bf16) = m ((c : Thread nD τ).loc main_arg3) := by
  unfold_abbrev_sides
  simp only [hostOps0, hostOps0_1, hostOps0_2, List.flatten_cons, List.flatten_nil, List.append_nil, List.cons_append, List.nil_append]
  after_results <;> rfl

theorem hT_q (h : FVec Ideal S4096x3336 .bf16) (t : Fin 4096) (z : Fin 1536) :
    hT h (ix2 t (⟨z.val, by omega⟩ : Fin 3456)) = h (ix2 t (⟨z.val, by omega⟩ : Fin 3336)) := by
  pointwise [hT]
  rw [dif_pos (show z.val < 3072 by omega), dif_pos (show z.val < 2048 by omega)]

theorem ix0' : ∀ t : Fin cfg0.N, win0_0.index t = ![t.val, 0] := (by decide +kernel : ∀ t : Fin grid0.N, _)
theorem ix1' : ∀ t : Fin cfg0.N, win0_1.index t = ![min ((t.val + 1) * 64) 511, 0] := (by decide +kernel : ∀ t : Fin grid0.N, _)
theorem ix2' : ∀ t : Fin cfg0.N, win0_2.index t = ![t.val, 0] := (by decide +kernel : ∀ t : Fin grid0.N, _)
theorem ix3' : ∀ t : Fin cfg0.N, win0_3.index t = ![0, 0] := (by decide +kernel : ∀ t : Fin grid0.N, _)
theorem ix4' : ∀ t : Fin cfg0.N, win0_4.index t = ![t.val, 0] := (by decide +kernel : ∀ t : Fin grid0.N, _)
theorem ix5' : ∀ t : Fin cfg0.N, win0_5.index t = ![0, 0] := (by decide +kernel : ∀ t : Fin grid0.N, _)
theorem coord' : ∀ t : Fin cfg0.N, ((grid0.coords t) 0).val = t.val := (by decide +kernel : ∀ t : Fin grid0.N, _)

theorem tlt (t : Fin cfg0.N) : t.val < 8 := lt_of_lt_of_eq t.isLt (show cfg0.N = 8 from N_0)

/-- Row `y` of block `t`. -/
def at' (t : ℕ) (y : Fin 512) : Fin 4096 := ⟨(512 * t + y.val) % 4096, Nat.mod_lt _ (by decide)⟩

theorem e0 (c : Dev nD) (t : Fin cfg0.N) (y : Fin 512) (z : Fin 1536) : (iblk m c 0 t : Vec Ideal S512x1536 .f32) (ix2 y z)
    = (m ((c : Thread nD τ).loc main_arg0) : FVec Ideal S4096x1536 .f32) (ix2 (at' t.val y) z) := by
  have hV : V m c main_arg0 = m ((c : Thread nD τ).loc main_arg0) := V_main_arg0 m c
  show V m c main_arg0 ((win0_0.blk t).view.emb (ix2 y z)) = _
  rw [hV]
  try unfold at'
  congr 1
  funext a
  have hi := ix0' t
  have ht := tlt t
  fin_cases a <;> apply Fin.ext <;> blk_simp [hi] <;> simp <;> omega

theorem e1 (c : Dev nD) (t : Fin cfg0.N) (y : Fin 8) (z : Fin 1536) (h : t.val < 7) : (iblk m c 1 t : Vec Ideal S8x1536 .f32) (ix2 y z)
    = (m ((c : Thread nD τ).loc main_arg0) : FVec Ideal S4096x1536 .f32) (ix2 (⟨(512 * (t.val + 1) + y.val) % 4096, Nat.mod_lt _ (by decide)⟩ : Fin 4096) z) := by
  have hV : V m c main_arg0 = m ((c : Thread nD τ).loc main_arg0) := V_main_arg0 m c
  show V m c main_arg0 ((win0_1.blk t).view.emb (ix2 y z)) = _
  rw [hV]
  congr 1
  funext a
  have hi := ix1' t
  fin_cases a <;> apply Fin.ext <;> blk_simp [hi] <;> simp <;> omega

theorem e2 (c : Dev nD) (t : Fin cfg0.N) (y : Fin 512) (z : Fin 1536) : X0_2 m c t (ix2 y z)
    = (m ((c : Thread nD τ).loc main_arg1) : FVec Ideal S4096x3336 .bf16) (ix2 (at' t.val y) (⟨z.val, by omega⟩ : Fin 3336)) := by
  refine Eq.trans ?_ (hT_q _ _ _)
  rw [← h_eq]
  unfold X0_2 Pipeline.Window.fill
  rw [dif_pos (moved0_2 t _)]
  show V m c main_v9 ((win0_2.blk t).view.emb _) = _
  unfold at'
  congr 1
  funext a
  have hi := ix2' t
  have ht := tlt t
  fin_cases a <;> apply Fin.ext <;> blk_simp [hi] <;> simp <;> omega

theorem e3 (c : Dev nD) (t : Fin cfg0.N) (y : Fin 4) (z : Fin 1536) : (iblk m c 3 t : Vec Ideal S4x1536 .f32) (ix2 y z)
    = (m ((c : Thread nD τ).loc main_arg2) : FVec Ideal S4x1536 .f32) (ix2 y z) := by
  have hV : V m c main_arg2 = m ((c : Thread nD τ).loc main_arg2) := V_main_arg2 m c
  show V m c main_arg2 ((win0_3.blk t).view.emb (ix2 y z)) = _
  rw [hV]
  try unfold at'
  congr 1
  funext a
  have hi := ix3' t
  fin_cases a <;> apply Fin.ext <;> blk_simp [hi] <;> simp

/-! ## The results -/

/-- The result's gradient `s` rows on, nothing after the last row. -/
def up (s : ℕ) (dc : S4096x1536.Idx → EReal) (t : Fin 4096) (z : Fin 1536) : EReal :=
  if h : t.val + s < 4096 then dc (ix2 ⟨t.val + s, h⟩ z) else 0

/-- The gradient of the convolution's input, and of its filter's row `r`. -/
def DP (dc : S4096x1536.Idx → EReal) (w : S4x1536.Idx → EReal) (t : Fin 4096) (z : Fin 1536) : EReal :=
  up 0 dc t z * w (ix2 3 z) + up 1 dc t z * w (ix2 2 z) + up 2 dc t z * w (ix2 1 z) + up 3 dc t z * w (ix2 0 z)
def CW (dc : S4096x1536.Idx → EReal) (h : S4096x3336.Idx → EReal) (r : Fin 8) (z : Fin 1536) : EReal :=
  if r.val < 4 then ∑ t : Fin 4096, up (3 - r.val) dc t z * h (ix2 t (⟨z.val, by omega⟩ : Fin 3336)) else 0

def O4 (dc : S4096x1536.Idx → EReal) (w : S4x1536.Idx → EReal) (dh : S4096x3072.Idx → EReal) (i : S4096x3072.Idx) : EReal :=
  if h : (i 1).val < 1536 then DP dc w (i 0) ⟨(i 1).val, h⟩ else dh i
def O5 (dc : S4096x1536.Idx → EReal) (h : S4096x3336.Idx → EReal) (i : S8x1536.Idx) : EReal := CW dc h (i 0) (i 1)

abbrev A0 (c : Dev nD) : FVec Ideal S4096x1536 .f32 := m ((c : Thread nD τ).loc main_arg0)
abbrev A1 (c : Dev nD) : FVec Ideal S4096x3336 .bf16 := m ((c : Thread nD τ).loc main_arg1)
abbrev A2 (c : Dev nD) : FVec Ideal S4x1536 .f32 := m ((c : Thread nD τ).loc main_arg2)
abbrev A3 (c : Dev nD) : FVec Ideal S4096x3072 .bf16 := m ((c : Thread nD τ).loc main_arg3)

theorem nx_eq (c : Dev nD) (t : Fin cfg0.N) (s : ℕ) (hs : s < 4) (y : Fin 512) (z : Fin 1536) :
    nx s (iblk m c 0 t : Vec Ideal S512x1536 .f32) (k0_pay4 (grid0.coords t) (iblk m c 1 t : Vec Ideal S8x1536 .f32)) y z = up s (A0 m c) (at' t.val y) z := by
  have ht := tlt t
  have hy := y.isLt
  unfold nx up at'
  by_cases h : y.val + s < 512
  · rw [dif_pos h, dif_pos (show (512 * t.val + y.val) % 4096 + s < 4096 by omega), e0]
    refine congrArg (fun j => A0 m c (ix2 j z)) (Fin.ext ?_)
    show (512 * t.val + (y.val + s)) % 4096 = (512 * t.val + y.val) % 4096 + s
    omega
  · rw [dif_neg h, pay4, coord']
    by_cases h7 : t.val < 7
    · rw [if_pos h7, dif_pos (show (512 * t.val + y.val) % 4096 + s < 4096 by omega), e1 _ _ _ _ _ h7]
      refine congrArg (fun j => A0 m c (ix2 j z)) (Fin.ext ?_)
      show (512 * (t.val + 1) + (y.val + s) % 8) % 4096 = (512 * t.val + y.val) % 4096 + s
      omega
    · rw [if_neg h7, dif_neg (show ¬ (512 * t.val + y.val) % 4096 + s < 4096 by omega)]

theorem block4 (c : Dev nD) (t : Fin cfg0.N) (y : Fin 512) (z : Fin 1536) :
    (outsAt0 m c t.val t.isLt).1 (ix2 y z) = DP (A0 m c) (A2 m c) (at' t.val y) z := by
  have e : GD (iblk m c 0 t : Vec Ideal S512x1536 .f32) (k0_pay4 (grid0.coords t) (iblk m c 1 t : Vec Ideal S8x1536 .f32)) (iblk m c 3 t : Vec Ideal S4x1536 .f32) y z
      = DP (A0 m c) (A2 m c) (at' t.val y) z := by
    unfold GD DP
    rw [nx_eq m c t 0 (by decide), nx_eq m c t 1 (by decide), nx_eq m c t 2 (by decide), nx_eq m c t 3 (by decide), e3, e3, e3, e3]
  refine Eq.trans ?_ e
  by_cases h : t.val % 8 = 0
  · refine (congrArg (fun q => q.1 (ix2 y z)) (outsAt0_A m c t h)).trans ?_
    dsimp only
    rw [out4_A]
  · refine (congrArg (fun q => q.1 (ix2 y z)) (outsAt0_B m c t h)).trans ?_
    dsimp only
    rw [out4_B]

/-- A block's part of the filter's gradient. -/
def part (dc : S4096x1536.Idx → EReal) (h : S4096x3336.Idx → EReal) (t : ℕ) (r : Fin 8) (z : Fin 1536) : EReal :=
  if r.val < 4 then ∑ y : Fin 512, up (3 - r.val) dc (at' t y) z * h (ix2 (at' t y) (⟨z.val, by omega⟩ : Fin 3336)) else 0

theorem c_eq (c : Dev nD) (t : Fin cfg0.N) (r : Fin 8) (z : Fin 1536) :
    GC (iblk m c 0 t : Vec Ideal S512x1536 .f32) (k0_pay4 (grid0.coords t) (iblk m c 1 t : Vec Ideal S8x1536 .f32)) (X0_2 m c t) r z
      = part (A0 m c) (A1 m c) t.val r z := by
  unfold GC part
  split
  · exact Finset.sum_congr rfl fun y _ => by rw [nx_eq m c t _ (by omega), e2]
  · rfl

theorem acc5 (c : Dev nD) (r : Fin 8) (z : Fin 1536) : ∀ (n : ℕ) (h : n < cfg0.N),
    (outsAt0 m c n h).2 (ix2 r z) = ∑ j ∈ Finset.range (n + 1), part (A0 m c) (A1 m c) j r z
  | 0, h => by
    refine (congrArg (fun q => q.2 (ix2 r z)) (outsAt0_A m c ⟨0, h⟩ (Nat.zero_mod 8))).trans ?_
    dsimp only
    rw [out5_A, c_eq, Finset.sum_range_one]
  | n + 1, h => by
    have h8 : n + 1 < 8 := tlt ⟨n + 1, h⟩
    refine (congrArg (fun q => q.2 (ix2 r z)) (outsAt0_B m c ⟨n + 1, h⟩ (by show ¬ (n + 1) % 8 = 0; omega))).trans ?_
    dsimp only
    rw [out5_B, c_eq, Finset.sum_range_succ _ (n + 1)]
    exact congrArg₂ (· + ·) (acc5 c r z n (Nat.lt_of_succ_lt h)) rfl

theorem parts (dc : S4096x1536.Idx → EReal) (h : S4096x3336.Idx → EReal) (r : Fin 8) (z : Fin 1536) :
    ∑ j ∈ Finset.range 8, part dc h j r z = CW dc h r z := by
  unfold part CW
  by_cases hr : r.val < 4
  · simp only [if_pos hr]
    exact Cert.DwProj.rows_eq fun t => up (3 - r.val) dc t z * h (ix2 t (⟨z.val, by omega⟩ : Fin 3336))
  · simp only [if_neg hr, Finset.sum_const_zero]

/-! ## The arrays -/

theorem array4 (c : Dev nD) : (dats m 0 c).arrAt 4 cfg0.N = (O4 (A0 m c) (A2 m c) (A3 m c) : FVec Ideal S4096x3072 .bf16) := by
  refine (dats m 0 c).arrAt_eq_of_coversWhere_of_agree 4 _ (fun β => β (1 : Fin 2) < 1) (by decide +kernel) (fun t hf y => ?_) (fun j hj => ?_)
  · blk_simp
    rw [after0_4]
    have ht := tlt t
    have hi := ix4' t
    have h0 : (y 0).val < 512 := (y 0).isLt
    have h1 : (y 1).val < 1536 := (y 1).isLt
    have hy : y = ix2 (⟨(y 0).val, h0⟩ : Fin 512) (⟨(y 1).val, h1⟩ : Fin 1536) := by funext k; fin_cases k <;> rfl
    rw [hy]
    have b0 : ((win0_4.blk t).view.emb (ix2 (⟨(y 0).val, h0⟩ : Fin 512) (⟨(y 1).val, h1⟩ : Fin 1536)) 0).val = (512 * t.val + (y 0).val) % 4096 := by
      blk_simp [hi]
      simp <;> omega
    have b1 : ((win0_4.blk t).view.emb (ix2 (⟨(y 0).val, h0⟩ : Fin 512) (⟨(y 1).val, h1⟩ : Fin 1536)) 1).val = (y 1).val := by
      blk_simp [hi]
    refine (block4 m c t _ _).trans ?_
    unfold O4 at'
    rw [dif_pos (b1.trans_lt h1)]
    exact congrArg₂ (DP (A0 m c) (A2 m c)) (Fin.ext b0.symm) (Fin.ext b1.symm)
  · blk_simp [Pipeline.Window.cell_apply] at hj
    rw [A_eq m c 4]
    show V m c main_v10_0 j = _
    rw [d_eq]
    show _ = O4 (A0 m c) (A2 m c) (A3 m c) j
    unfold O4
    rw [dif_neg (show ¬ (j 1).val < 1536 by omega)]

theorem array5 (c : Dev nD) : (dats m 0 c).arrAt 5 cfg0.N = (O5 (A0 m c) (A1 m c) : FVec Ideal S8x1536 .f32) := by
  refine (dats m 0 c).arrAt_eq_of_covers 5 _ (by decide +kernel) fun t hf y => ?_
  have ht := tlt t
  have h7 : t.val = 7 := by have := (flush0_5 t).1 hf; omega
  have hi := ix5' t
  blk_simp
  rw [after0_5]
  have h0 : (y 0).val < 8 := (y 0).isLt
  have h1 : (y 1).val < 1536 := (y 1).isLt
  have hy : y = ix2 (⟨(y 0).val, h0⟩ : Fin 8) (⟨(y 1).val, h1⟩ : Fin 1536) := by funext k; fin_cases k <;> rfl
  refine (congrArg (outsAt0 m c t.val t.isLt).2 hy).trans ?_
  refine (acc5 m c _ _ _ _).trans ?_
  rw [h7]
  refine (parts _ _ _ _).trans ?_
  unfold O5
  refine congrArg₂ (CW (A0 m c) (A1 m c)) (Fin.ext ?_) (Fin.ext ?_) <;> blk_simp [hi]

end Cert.Conv.Ker

end
-- ==== Proof.Conv9Val.lean ====
/-
  The short convolution's backward: the kernel's gradients of the convolution's input and of its filter are the reference's.
-/
module

public import proofs.«01_k».proof.Proof.Gen.Reference9Ideal.Run
public import proofs.«01_k».proof.Proof.Conv9

@[expose] public section

set_option maxRecDepth 16384

noncomputable section

namespace Cert.Conv.Val

open Idealize.ShloMosaic Idealize.ShloMosaic.TcCoe
open Cert.Reference9Ideal Cert.Reference9Ideal.Gen Cert.Conv
open Cert.Conv.Ker (up DP CW O4 O5)

abbrev zeroT : FVec Ideal S_ .f32 := constant S_ .f32 0x00000000#32

/-- A term of the sum of the convolution is its input, `j` rows down, times row `j` of the filter; this is its gradient over the padded rows. -/
def tapT (j : ℕ) (hp : S4096x1536.Pads ![j, 0] ![3 - j, 0] ![0, 0] S4099x1536) (hj : S4x1536.Slices ![j, 0] S1x1536)
    (dc : FVec Ideal S4096x1536 .f32) (w : FVec Ideal S4x1536 .f32) : FVec Ideal S4099x1536 .f32 :=
  pad S4099x1536 ![j, 0] ![3 - j, 0] ![0, 0] (mulf (shapeCast _ dc shapeCasts_S4096x1536_S4096x1536) (broadcastInDim S4096x1536 ![0, 1] bcast_S1x1536_S4096x1536_0_1
    (broadcastInDim S1x1536 ![1] bcast_S1536_S1x1536_1 (shapeCast _ (extractStridedSlice S1x1536 ![j, 0] w hj) shapeCasts_S1x1536_S1536)))) zeroT hp h_S_

def inT (dc : FVec Ideal S4096x1536 .f32) (w : FVec Ideal S4x1536 .f32) (dh : FVec Ideal S4096x3072 .bf16) : FVec Ideal S4096x3072 .bf16 :=
  concatenate S4096x3072 1 [⟨S4096x1536, (truncf .bf16 (extractStridedSlice S4096x1536 ![3, 0]
    (addf (addf (addf (tapT 3 pads_S4096x1536_S4099x1536_300_000 slices_S4x1536_S1x1536_3_0 dc w)
      (tapT 2 pads_S4096x1536_S4099x1536_210_000 slices_S4x1536_S1x1536_2_0 dc w))
      (tapT 1 pads_S4096x1536_S4099x1536_120_000 slices_S4x1536_S1x1536_1_0 dc w))
      (tapT 0 pads_S4096x1536_S4099x1536_030_000 slices_S4x1536_S1x1536_0_0 dc w)) slices_S4099x1536_S4096x1536_3_0) bitsLt_bf16_f32)⟩,
    ⟨S4096x1536, (extractStridedSlice S4096x1536 ![0, 1536] dh slices_S4096x3072_S4096x1536_0_1536)⟩] concatenates_S4096x1536_S4096x1536_S4096x3072_d1

/-- The input with three rows of zeros before it. -/
def padT (h : FVec Ideal S4096x3336 .bf16) : FVec Ideal S4099x1536 .f32 :=
  concatenate S4099x1536 0 [⟨S3x1536, (broadcastInDim S3x1536 ![] bcast_S_S3x1536 zeroT)⟩, ⟨S4096x1536, (extf .f32
    (extractStridedSlice S4096x1536 ![0, 0] h slices_S4096x3336_S4096x1536_0_0) bitsLt_bf16_f32)⟩] concatenates_S3x1536_S4096x1536_S4099x1536_d0

/-- The gradient of row `j` of the filter. -/
def rowT (j : ℕ) (hj : S4099x1536.Slices ![j, 0] S4096x1536) (dc : FVec Ideal S4096x1536 .f32) (h : FVec Ideal S4096x3336 .bf16) : FVec Ideal S1x1536 .f32 :=
  broadcastInDim S1x1536 ![1] bcast_S1536_S1x1536_1 (Host.reduceAdd (shapeCast _ (Host.reduceAdd (mulf (extractStridedSlice S4096x1536 ![j, 0] (padT h) hj)
    (shapeCast _ dc shapeCasts_S4096x1536_S4096x1536)) zeroT reducesTo_S4096x1536_S1536_d0 h_S_) shapeCasts_S1536_S1x1536) zeroT reducesTo_S1x1536_S1536_d0 h_S_)

def filT (dc : FVec Ideal S4096x1536 .f32) (h : FVec Ideal S4096x3336 .bf16) : FVec Ideal S8x1536 .f32 :=
  concatenate S8x1536 0 [⟨S4x1536, (addf (addf (addf
    (pad S4x1536 ![3, 0] ![0, 0] ![0, 0] (rowT 3 slices_S4099x1536_S4096x1536_3_0 dc h) zeroT pads_S1x1536_S4x1536_300_000 h_S_)
    (pad S4x1536 ![2, 0] ![1, 0] ![0, 0] (rowT 2 slices_S4099x1536_S4096x1536_2_0 dc h) zeroT pads_S1x1536_S4x1536_210_000 h_S_))
    (pad S4x1536 ![1, 0] ![2, 0] ![0, 0] (rowT 1 slices_S4099x1536_S4096x1536_1_0 dc h) zeroT pads_S1x1536_S4x1536_120_000 h_S_))
    (pad S4x1536 ![0, 0] ![3, 0] ![0, 0] (rowT 0 slices_S4099x1536_S4096x1536_0_0 dc h) zeroT pads_S1x1536_S4x1536_030_000 h_S_))⟩,
    ⟨S4x1536, (broadcastInDim S4x1536 ![] bcast_S_S4x1536 zeroT)⟩] concatenates_S4x1536_S4x1536_S8x1536_d0

/-! ## Their elements -/

/-- Row `3 + t` of the padded gradient of tap `j`. -/
theorem tapT_ix (j : ℕ) (hp : S4096x1536.Pads ![j, 0] ![3 - j, 0] ![0, 0] S4099x1536) (hs : S4x1536.Slices ![j, 0] S1x1536) (hj : j < 4)
    (dc : FVec Ideal S4096x1536 .f32) (w : FVec Ideal S4x1536 .f32) (t : Fin 4096) (z : Fin 1536) :
    tapT j hp hs dc w (ix2 (⟨3 + t.val, by omega⟩ : Fin 4099) z) = up (3 - j) dc t z * w (ix2 ⟨j, hj⟩ z) := by
  pointwise [tapT, zeroT]
  unfold up
  by_cases h : t.val + (3 - j) < 4096
  · rw [dif_pos (show j ≤ 3 + t.val ∧ 3 + t.val - j < 4096 by omega), dif_pos h]
    exact congrArg (fun k => dc (ix2 k z) * w (ix2 ⟨j, hj⟩ z)) (Fin.ext (by show 3 + t.val - j = t.val + (3 - j); omega))
  · rw [dif_neg (show ¬ (j ≤ 3 + t.val ∧ 3 + t.val - j < 4096) by omega), dif_neg h, zero_mul]

theorem padT_ix (h : FVec Ideal S4096x3336 .bf16) (t : Fin 4099) (z : Fin 1536) :
    padT h (ix2 t z) = if hh : t.val < 3 then 0 else h (ix2 (⟨t.val - 3, by omega⟩ : Fin 4096) (⟨z.val, by omega⟩ : Fin 3336)) := by
  pointwise [padT, zeroT]

/-- A sum of products of `f`, moved down `s` rows, with `g` is the sum of products of `g`, moved up, with `f`. -/
theorem sum_shift (s : ℕ) (f g : Fin 4096 → EReal) :
    (∑ t : Fin 4096, (if h : s ≤ t.val then f ⟨t.val - s, by omega⟩ else 0) * g t)
      = ∑ t : Fin 4096, (if h : t.val + s < 4096 then g ⟨t.val + s, h⟩ else 0) * f t := by
  have L : ∀ t : Fin 4096, (if h : s ≤ t.val then f ⟨t.val - s, by omega⟩ else 0) * g t ≠ 0 → s ≤ t.val := fun t h => by
    by_contra hn
    rw [dif_neg hn, zero_mul] at h
    exact h rfl
  have R : ∀ t : Fin 4096, (if h : t.val + s < 4096 then g ⟨t.val + s, h⟩ else 0) * f t ≠ 0 → t.val + s < 4096 := fun t h => by
    by_contra hn
    rw [dif_neg hn, zero_mul] at h
    exact h rfl
  have E : ∀ t : Fin 4096, ∀ h : s ≤ t.val, (if h : s ≤ t.val then f ⟨t.val - s, by omega⟩ else 0) * g t
      = (if h : (⟨t.val - s, by omega⟩ : Fin 4096).val + s < 4096 then g ⟨(⟨t.val - s, by omega⟩ : Fin 4096).val + s, h⟩ else 0) * f ⟨t.val - s, by omega⟩ :=
    fun t h => by
      rw [dif_pos h, dif_pos (show t.val - s + s < 4096 by omega), mul_comm]
      exact congrArg (fun k => g k * f ⟨t.val - s, by omega⟩) (Fin.ext (by show t.val = t.val - s + s; omega))
  refine Finset.sum_bij_ne_zero (fun t _ _ => (⟨t.val - s, by omega⟩ : Fin 4096)) (fun _ _ _ => Finset.mem_univ _) (fun a _ ha b _ hb e => ?_)
    (fun b _ hb => ?_) (fun a _ ha => E a (L a ha))
  · have h1 := L a ha
    have h2 := L b hb
    have h3 : a.val - s = b.val - s := congrArg Fin.val e
    exact Fin.ext (by omega)
  · have h1 := R b hb
    have e : (⟨(⟨b.val + s, h1⟩ : Fin 4096).val - s, by omega⟩ : Fin 4096) = b := Fin.ext (by show b.val + s - s = b.val; omega)
    refine ⟨⟨b.val + s, h1⟩, Finset.mem_univ _, ?_, e⟩
    rw [E ⟨b.val + s, h1⟩ (Nat.le_add_left _ _), e]
    exact hb

theorem rowT_ix (j : ℕ) (hj : S4099x1536.Slices ![j, 0] S4096x1536) (hj' : j < 4) (dc : FVec Ideal S4096x1536 .f32) (h : FVec Ideal S4096x3336 .bf16)
    (u : Fin 1) (z : Fin 1536) :
    rowT j hj dc h (ix2 u z) = ∑ t : Fin 4096, up (3 - j) dc t z * h (ix2 t (⟨z.val, by omega⟩ : Fin 3336)) := by
  pointwise [rowT, zeroT]
  rw [Fin.sum_univ_one]
  refine Eq.trans (Finset.sum_congr rfl fun t _ => ?_)
    (sum_shift (3 - j) (fun t => h (ix2 t (⟨z.val, by omega⟩ : Fin 3336))) (fun t => dc (ix2 t z)))
  refine congrArg (· * dc (ix2 t z)) ?_
  rw [padT_ix]
  by_cases hh : 3 - j ≤ t.val
  · rw [dif_neg (show ¬ j + t.val < 3 by omega), dif_pos hh]
    exact congrArg (fun k => h (ix2 k (⟨z.val, by omega⟩ : Fin 3336))) (Fin.ext (by show j + t.val - 3 = t.val - (3 - j); omega))
  · rw [dif_pos (show j + t.val < 3 by omega), dif_neg hh]

theorem cw_row (dc : FVec Ideal S4096x1536 .f32) (h : FVec Ideal S4096x3336 .bf16) (r : Fin 8) (z : Fin 1536) (hr : r.val < 4)
    (hj : S4099x1536.Slices ![r.val, 0] S4096x1536) (u : Fin 1) : rowT r.val hj dc h (ix2 u z) = CW dc h r z := by
  rw [rowT_ix _ _ hr]
  exact (if_pos hr).symm

theorem val5 (dc : FVec Ideal S4096x1536 .f32) (h : FVec Ideal S4096x3336 .bf16) : filT dc h = O5 dc h := by
  funext (i : S8x1536.Idx)
  obtain ⟨r, z, rfl⟩ : ∃ (r : Fin 8) (z : Fin 1536), i = ix2 r z := ⟨i 0, i 1, by funext k; fin_cases k <;> rfl⟩
  pointwise [filT, zeroT]
  show _ = CW dc h r z
  by_cases hr : r.val < 4
  · rw [dif_pos hr]
    have e : r = 0 ∨ r = 1 ∨ r = 2 ∨ r = 3 := by omega
    rcases e with rfl | rfl | rfl | rfl
    · refine Eq.trans ?_ (cw_row dc h 0 z (by decide) slices_S4099x1536_S4096x1536_0_0 0)
      simp
    · refine Eq.trans ?_ (cw_row dc h 1 z (by decide) slices_S4099x1536_S4096x1536_1_0 0)
      simp
    · refine Eq.trans ?_ (cw_row dc h 2 z (by decide) slices_S4099x1536_S4096x1536_2_0 0)
      simp
    · refine Eq.trans ?_ (cw_row dc h 3 z (by decide) slices_S4099x1536_S4096x1536_3_0 0)
      simp
  · rw [dif_neg hr]
    exact (if_neg hr).symm

theorem val4 (dc : FVec Ideal S4096x1536 .f32) (w : FVec Ideal S4x1536 .f32) (dh : FVec Ideal S4096x3072 .bf16) : inT dc w dh = O4 dc w dh := by
  funext (i : S4096x3072.Idx)
  obtain ⟨t, z, rfl⟩ : ∃ (t : Fin 4096) (z : Fin 3072), i = ix2 t z := ⟨i 0, i 1, by funext k; fin_cases k <;> rfl⟩
  pointwise [inT]
  by_cases hz : z.val < 1536
  · rw [dif_pos hz, tapT_ix 3 _ _ (by decide), tapT_ix 2 _ _ (by decide), tapT_ix 1 _ _ (by decide), tapT_ix 0 _ _ (by decide)]
    have e : O4 dc w dh (ix2 t z) = DP dc w t ⟨z.val, hz⟩ := dif_pos hz
    rw [e]
    rfl
  · rw [dif_neg hz]
    refine Eq.trans ?_ (dif_neg hz).symm
    exact congrArg (fun k => dh (ix2 t k)) (Fin.ext (by show 1536 + (z.val - 1536) = z.val; omega))

end Cert.Conv.Val

end
-- ==== Proof.PreRow.lean ====
/-
  The short convolution and what follows it, row by row: the gate of the convolution, and the queries and the keys over the root of
  their heads' sums of squares.
-/
module

public import proofs.«01_k».proof.Proof.MixRow

@[expose] public section

noncomputable section

namespace Cert.Pre

open Idealize.ShloMosaic Cert.Mix

/-- A row of the convolution's gated result: the queries, the keys and the values. -/
abbrev Qkv : Type := Fin 1536 → EReal

/-- Lane `z` of head `a` of part `b`. -/
def col (b : Fin 3) (a : Fin 4) (z : Fin 128) : Fin 1536 := ⟨512 * b.val + 128 * a.val + z.val, by omega⟩

/-- One over the root of a head's sum of squares. -/
def nrm (s : Qkv) (b : Fin 3) (a : Fin 4) : EReal := Ideal.rsqrt ((∑ z, s (col b a z) * s (col b a z)) + heps)

/-- The queries' factor. -/
def scale : EReal := Ideal.ofBits .f32 0x3DB504F3#32

def qh (s : Qkv) (a : Fin 4) (z : Fin 128) : EReal := s (col 0 a z) * (nrm s 0 a * scale)
def kh (s : Qkv) (a : Fin 4) (z : Fin 128) : EReal := s (col 1 a z) * nrm s 1 a

/-- A function of a head and a lane at a position of the row. -/
def heads (f : Fin 4 → Fin 128 → EReal) (j : Fin 512) : EReal := f ⟨j.val / 128, by omega⟩ ⟨j.val % 128, Nat.mod_lt _ (by decide)⟩

theorem heads_lane (f : Fin 4 → Fin 128 → EReal) (a : Fin 4) (z : Fin 128) {j : Fin 512} (h : j = lane a z) : heads f j = f a z := by
  subst h
  unfold heads
  congr 1
  · refine Fin.ext ?_; simp only [lane]; omega
  · refine Fin.ext ?_; simp only [lane]; omega

def vals (s : Qkv) (j : Fin 512) : EReal := s ⟨1024 + j.val, by omega⟩

end Cert.Pre

end
-- ==== Proof.PreOut.lean ====
/-
  What one grid point of the short convolution's forward leaves in the blocks of its results.
-/
module

public import proofs.«01_k».proof.Proof.Gen.Kernel11Ideal.Value
public import proofs.«01_k».proof.Proof.PreRow
public import Idealize.ShloMosaic.Lib.Pointwise
public import Idealize.ShloMosaic.Lib.WholeRead
public import Idealize.ShloMosaic.Lib.Pipeline.ValueKit
import all proofs.«01_k».proof.Proof.Gen.Kernel11Ideal.Frame.RunA

@[expose] public section

set_option maxRecDepth 16384

noncomputable section

namespace Cert.Pre.Ker

open Idealize.ShloMosaic Idealize.ShloMosaic.TcCoe Idealize.SL.Sem
open Cert.Kernel11Ideal Cert.Kernel11Ideal.Gen Cert.Mix Cert.Pre

theorem hz : (![0, 0] : Fin 2 → Nat) = fun _ => 0 := funext fun a => by fin_cases a <;> rfl

abbrev B : Type := FVec Ideal S512x1536 .f32

/-! ## A block's rows moved down, the last rows of the block before ahead of them -/

/-- The moved rows as the body writes them: the rows rotated by `k`, the first eight of them taken from the rows before, rotated
    by `k`, where the row number is below `k`. -/
def shT (k : BitVec 32) (v : B) (a : FVec Ideal S8x1536 .f32) : B :=
  concatenate S512x1536 0 [⟨S8x1536, select (cmpi .slt (iota .tc S8x1536 32 [0] iota_S8x1536_d0_w32) (broadcast S8x1536 k)) (dynamicRotate 0 k none a rotates_S8x1536_d0)
      (extractStridedSlice S8x1536 ![0, 0] (dynamicRotate 0 k none v rotates_S512x1536_d0) slices_S512x1536_o0_0_S8x1536)⟩,
    ⟨S504x1536, extractStridedSlice S504x1536 ![8, 0] (dynamicRotate 0 k none v rotates_S512x1536_d0) slices_S512x1536_o8_0_S504x1536⟩]
    concatenates_S8x1536_S504x1536_S512x1536_d0

/-- Row `y - s` of the block, or of the rows before it. -/
def pv (s : ℕ) (v : S512x1536.Idx → EReal) (a : S8x1536.Idx → EReal) (y : Fin 512) (z : Fin 1536) : EReal :=
  if s ≤ y.val then v (ix2 ⟨y.val - s, by omega⟩ z) else a (ix2 ⟨(y.val + 8 - s) % 8, Nat.mod_lt _ (by decide)⟩ z)

theorem shT_ix (k : BitVec 32) (s : ℕ) (hk : k.toNat = s) (hs' : s < 8)
    (v : B) (a : FVec Ideal S8x1536 .f32) (y : Fin 512) (z : Fin 1536) : shT k v a (ix2 y z) = pv s v a y z := by
  have hy := y.isLt
  pointwise [shT]
  unfold pv
  by_cases h : y.val < 8
  · have hi : ((BitVec.ofNat 32 y.val).toInt : ℤ) = ((y.val : ℕ) : ℤ) := by
      rw [BitVec.toInt_eq_toNat_of_lt] <;> rw [BitVec.toNat_ofNat] <;> omega
    have hk' : (k.toInt : ℤ) = (s : ℤ) := by
      rw [BitVec.toInt_eq_toNat_of_lt] <;> rw [hk]; omega
    rw [dif_pos h]
    by_cases h' : s ≤ y.val
    · rw [if_pos h']
      have e : IntOp.cmpi CmpIPredicate.slt (BitVec.ofNat 32 y.val) k = 0#1 := by
        simp [IntOp.cmpi, BitVec.slt, hi, hk']; rw [decide_eq_false (by omega)]; rfl
      rw [e]
      exact congrArg (fun j => v (ix2 j z)) (Fin.ext (by show (y.val + 512 - k.toNat % 512) % 512 = y.val - s; rw [hk]; omega))
    · rw [if_neg h']
      have e : IntOp.cmpi CmpIPredicate.slt (BitVec.ofNat 32 y.val) k = 1#1 := by
        simp [IntOp.cmpi, BitVec.slt, hi, hk']; rw [decide_eq_true (by omega)]; rfl
      rw [e]
      exact congrArg (fun j => a (ix2 j z)) (Fin.ext (by show (y.val + 8 - k.toNat % 8) % 8 = (y.val + 8 - s) % 8; rw [hk]; omega))
  · rw [dif_neg h, if_pos (show s ≤ y.val by omega)]
    exact congrArg (fun j => v (ix2 j z)) (Fin.ext (by show (8 + (y.val - 8) + 512 - k.toNat % 512) % 512 = y.val - s; rw [hk]; omega))

theorem pay4 (i : grid0.Coords) (a : Vec Ideal S16x1536 .bf16) (y : Fin 8) (z : Fin 1536) :
    k0_pay4 i a (ix2 y z) = if 0 < (i 0).val then a (ix2 (⟨8 + y.val, by omega⟩ : Fin 16) z) else 0 := by
  have h : (i 0).val < 8 := (i 0).isLt
  pointwise [k0_pay4]
  have e : ∀ j : Fin 8, Scalar.cmpi CmpIPredicate.sgt (BitVec.ofNat 32 j.val) 0#32 = if 0 < j.val then 1#1 else 0#1 := by decide
  rw [show (i 0).val = (⟨(i 0).val, h⟩ : Fin 8).val from rfl, e]
  split <;> rfl

/-! ## The convolution and its gate -/

/-- Row `r` of the filter at each row of the block. -/
def wT (r : ℕ) (h : S4x1536.Slices ![r, 0] S1x1536) (w : Vec Ideal S4x1536 .f32) : B :=
  broadcastTo S512x1536 (extractStridedSlice S1x1536 ![r, 0] w h) broadcasts_S1x1536_S512x1536

def cT (v : B) (a : FVec Ideal S8x1536 .f32) (w : Vec Ideal S4x1536 .f32) : B :=
  addf (addf (addf (mulf v (wT 3 slices_S4x1536_o3_0_S1x1536 w)) (mulf (shT 1#32 v a) (wT 2 slices_S4x1536_o2_0_S1x1536 w)))
    (mulf (shT 2#32 v a) (wT 1 slices_S4x1536_o1_0_S1x1536 w))) (mulf (shT 3#32 v a) (wT 0 slices_S4x1536_o0_0_S1x1536 w))

def sT (v : B) (a : FVec Ideal S8x1536 .f32) (w : Vec Ideal S4x1536 .f32) : B := mulf (cT v a w) (logistic (cT v a w))

section
variable (i : grid0.Coords) (x0 : Vec Ideal S512x1536 .bf16) (x1 : Vec Ideal S16x1536 .bf16) (x3 : Vec Ideal S4x1536 .f32)

theorem pay8 : k0_pay8 x3 (k0_pay5 i x0 x1 x3) (k0_pay6 x0) (k0_pay7 i x1) (iota .tc S8x1536 32 [0] iota_S8x1536_d0_w32)
    = cT (k0_pay3 x0) (k0_pay4 i x1) x3 := rfl
theorem pay9 : k0_pay9 x3 (k0_pay5 i x0 x1 x3) (k0_pay6 x0) (k0_pay7 i x1) (iota .tc S8x1536 32 [0] iota_S8x1536_d0_w32)
    = sT (k0_pay3 x0) (k0_pay4 i x1) x3 := rfl
end

/-- The block of the convolution's result. -/
def GC (v : S512x1536.Idx → EReal) (a : S8x1536.Idx → EReal) (w : S4x1536.Idx → EReal) (y : Fin 512) (z : Fin 1536) : EReal :=
  pv 0 v a y z * w (ix2 3 z) + pv 1 v a y z * w (ix2 2 z) + pv 2 v a y z * w (ix2 1 z) + pv 3 v a y z * w (ix2 0 z)
def GS (v : S512x1536.Idx → EReal) (a : S8x1536.Idx → EReal) (w : S4x1536.Idx → EReal) (y : Fin 512) : Qkv := fun z => silu (GC v a w y z)

theorem wT_ix (r : ℕ) (h : S4x1536.Slices ![r, 0] S1x1536) (hr : r < 4) (w : Vec Ideal S4x1536 .f32) (y : Fin 512) (z : Fin 1536) :
    wT r h w (ix2 y z) = w (ix2 (⟨r, hr⟩ : Fin 4) z) := by
  pointwise [wT]

theorem cT_ix (v : B) (a : FVec Ideal S8x1536 .f32) (w : Vec Ideal S4x1536 .f32) (y : Fin 512) (z : Fin 1536) :
    cT v a w (ix2 y z) = GC v a w y z := by
  have h : cT v a w (ix2 y z) = v (ix2 y z) * wT 3 slices_S4x1536_o3_0_S1x1536 w (ix2 y z) + shT 1#32 v a (ix2 y z) * wT 2 slices_S4x1536_o2_0_S1x1536 w (ix2 y z)
    + shT 2#32 v a (ix2 y z) * wT 1 slices_S4x1536_o1_0_S1x1536 w (ix2 y z) + shT 3#32 v a (ix2 y z) * wT 0 slices_S4x1536_o0_0_S1x1536 w (ix2 y z) := rfl
  rw [h, shT_ix 1#32 1 rfl (by decide), shT_ix 2#32 2 rfl (by decide), shT_ix 3#32 3 rfl (by decide), wT_ix 3 _ (by decide), wT_ix 2 _ (by decide),
    wT_ix 1 _ (by decide), wT_ix 0 _ (by decide)]
  rfl

theorem sT_ix (v : B) (a : FVec Ideal S8x1536 .f32) (w : Vec Ideal S4x1536 .f32) (y : Fin 512) (z : Fin 1536) :
    sT v a w (ix2 y z) = GS v a w y z := by
  pointwise [sT]
  rw [cT_ix]
  rfl

theorem pay9_ix (i : grid0.Coords) (x0 : Vec Ideal S512x1536 .bf16) (x1 : Vec Ideal S16x1536 .bf16) (x3 : Vec Ideal S4x1536 .f32) (y : Fin 512) (z : Fin 1536) :
    k0_pay9 x3 (k0_pay5 i x0 x1 x3) (k0_pay6 x0) (k0_pay7 i x1) (iota .tc S8x1536 32 [0] iota_S8x1536_d0_w32) (ix2 y z)
      = GS (k0_pay3 x0) (k0_pay4 i x1) x3 y z := (congrFun (pay9 i x0 x1 x3) _).trans (sT_ix _ _ _ y z)

/-! ## The heads -/

/-- A head of the gated result, and one over the root of its sum of squares, as the body computes them. -/
def hT (o : ℕ) (h : S512x1536.Slices ![0, o] S512x128) (s : B) : FVec Ideal S512x128 .f32 := extractStridedSlice S512x128 ![0, o] s h
def rT (t : FVec Ideal S512x128 .f32) : FVec Ideal S512x1 .f32 :=
  rsqrt (addf (shapeCast S512x1 (multiReduction .add [1] S512 (mulf t t) 0x00000000#32 reduces_S512x128_S512 (.inl rfl) rfl) shapeCasts_S512_S512x1)
    (broadcast S512x1 (Scalar.ofBits (F := Ideal) .f32 0x358637BD#32)))
def kT (t : FVec Ideal S512x128 .f32) : FVec Ideal S512x128 .f32 := mulf t (broadcastTo S512x128 (rT t) broadcasts_S512x1_S512x128)
def qT (t : FVec Ideal S512x128 .f32) : FVec Ideal S512x128 .f32 :=
  mulf t (broadcastTo S512x128 (mulf (rT t) (broadcast S512x1 (Scalar.ofBits (F := Ideal) .f32 0x3DB504F3#32))) broadcasts_S512x1_S512x128)

section
variable (w : Vec Ideal S4x1536 .f32) (p q : B) (r : FVec Ideal S8x1536 .f32) (n : IVec S8x1536 32) (s : B)

theorem q0 : k0_pay10 w p q r n = qT (hT 0 slices_S512x1536_o0_0_S512x128 (k0_pay9 w p q r n)) := rfl
theorem q1 : k0_pay14 (k0_pay12 w p q r n) (k0_pay13 w p q r n) (Scalar.ofBits (F := Ideal) .f32 0x3DB504F3#32)
    = qT (hT 128 slices_S512x1536_o0_128_S512x128 (k0_pay9 w p q r n)) := rfl
theorem q2 : k0_pay16 s = qT (hT 256 slices_S512x1536_o0_256_S512x128 s) := rfl
theorem q3 : k0_pay20 (k0_pay18 s) (k0_pay19 s) = qT (hT 384 slices_S512x1536_o0_384_S512x128 s) := rfl
theorem k0 : k0_pay11 w p q r n = kT (hT 512 slices_S512x1536_o0_512_S512x128 (k0_pay9 w p q r n)) := rfl
theorem k1 : k0_pay15 s = kT (hT 640 slices_S512x1536_o0_640_S512x128 s) := rfl
theorem k2 : k0_pay17 s = kT (hT 768 slices_S512x1536_o0_768_S512x128 s) := rfl
theorem k3 : k0_pay21 s = kT (hT 896 slices_S512x1536_o0_896_S512x128 s) := rfl
end

theorem hT_ix (o : ℕ) (h : S512x1536.Slices ![0, o] S512x128) (b : Fin 3) (a : Fin 4) (ho : o = 512 * b.val + 128 * a.val) (s : B)
    (y : Fin 512) (z : Fin 128) : hT o h s (ix2 y z) = s (ix2 y (col b a z)) := by
  subst ho
  pointwise [hT]
  rfl

theorem rT_ix (t : FVec Ideal S512x128 .f32) (y : Fin 512) (u : Fin 1) :
    rT t (ix2 y u) = Ideal.rsqrt ((∑ z : Fin 128, t (ix2 y z) * t (ix2 y z)) + heps) := by
  pointwise [rT]
  rfl

theorem kT_ix (t : FVec Ideal S512x128 .f32) (y : Fin 512) (z : Fin 128) : kT t (ix2 y z) = t (ix2 y z) * rT t (ix2 y 0) := by
  pointwise [kT]

theorem qT_ix (t : FVec Ideal S512x128 .f32) (y : Fin 512) (z : Fin 128) : qT t (ix2 y z) = t (ix2 y z) * (rT t (ix2 y 0) * scale) := by
  pointwise [qT]
  rfl

/-- The blocks of the queries, the keys and the values, of the gated result's rows. -/
def GQ (s : Fin 512 → Qkv) (y : S512x512.Idx) : EReal := heads (qh (s (y 0))) (y 1)
def GK (s : Fin 512 → Qkv) (y : S512x512.Idx) : EReal := heads (kh (s (y 0))) (y 1)

section
variable (s : B) (r : Fin 512 → Qkv) (hr : ∀ y z, s (ix2 y z) = r y z) (a : Fin 4) (o : ℕ)
  (inb : ∀ b, (![0, o] : Fin 2 → ℕ) b + S512x128.size b ≤ S512x512.size b) (x : S512x128.Idx)
include hr

theorem qpiece (ho : o = 128 * a.val) (h : S512x1536.Slices ![0, o] S512x128) :
    qT (hT o h s) x = GQ r ((Rect.unit (s := S512x512) ![0, o] S512x128.size inb).emb x) := by
  obtain ⟨i, z, rfl⟩ : ∃ (i : Fin 512) (z : Fin 128), x = ix2 i z := ⟨x 0, x 1, by funext k; fin_cases k <;> rfl⟩
  have e0 : ((Rect.unit (s := S512x512) ![0, o] S512x128.size inb).emb (ix2 i z)) 0 = i := Fin.ext (by simp [Rect.emb_apply])
  have e1 : ((Rect.unit (s := S512x512) ![0, o] S512x128.size inb).emb (ix2 i z)) 1 = lane a z := Fin.ext (by simp [Rect.emb_apply, ho, lane])
  unfold GQ
  rw [e0, heads_lane _ a z e1, qT_ix, rT_ix]
  simp only [hT_ix o h 0 a (by rw [ho]; simp), hr]
  rfl

theorem kpiece (ho : o = 128 * a.val) (o' : ℕ) (ho' : o' = 512 + 128 * a.val) (h : S512x1536.Slices ![0, o'] S512x128) :
    kT (hT o' h s) x = GK r ((Rect.unit (s := S512x512) ![0, o] S512x128.size inb).emb x) := by
  obtain ⟨i, z, rfl⟩ : ∃ (i : Fin 512) (z : Fin 128), x = ix2 i z := ⟨x 0, x 1, by funext k; fin_cases k <;> rfl⟩
  have e0 : ((Rect.unit (s := S512x512) ![0, o] S512x128.size inb).emb (ix2 i z)) 0 = i := Fin.ext (by simp [Rect.emb_apply])
  have e1 : ((Rect.unit (s := S512x512) ![0, o] S512x128.size inb).emb (ix2 i z)) 1 = lane a z := Fin.ext (by simp [Rect.emb_apply, ho, lane])
  unfold GK
  rw [e0, heads_lane _ a z e1, kT_ix, rT_ix]
  simp only [hT_ix o' h 1 a (by rw [ho']; simp), hr]
  rfl
end

theorem pay22 (s : B) (y j : Fin 512) : k0_pay22 s (ix2 y j) = s (ix2 y (⟨1024 + j.val, by omega⟩ : Fin 1536)) := by
  pointwise [k0_pay22]

/-! ## The outputs -/

section
variable {c : Dev nD} {i : grid0.Coords} {arg1 : Memref sig .tc .vmem S512x1536 .bf16} {harg1 : arg1.IsWhole} {arg2 : Memref sig .tc .vmem S16x1536 .bf16} {harg2 : arg2.IsWhole} {arg3 : Memref sig .tc .vmem S512x128 .bf16} {harg3 : arg3.IsWhole} {arg4 : Memref sig .tc .vmem S4x1536 .f32} {harg4 : arg4.IsWhole} {arg5 : Memref sig .tc .vmem S8x128 .f32} {harg5 : arg5.IsWhole} {arg6 : Memref sig .tc .vmem S512x512 .f32} {harg6 : arg6.IsWhole} {arg7 : Memref sig .tc .vmem S512x512 .f32} {harg7 : arg7.IsWhole} {arg8 : Memref sig .tc .vmem S512x512 .f32} {harg8 : arg8.IsWhole} {arg9 : Memref sig .tc .vmem S512x128 .f32} {harg9 : arg9.IsWhole} {arg10 : Memref sig .tc .vmem S8x512 .f32} {harg10 : arg10.IsWhole} {arg11 : Memref sig .tc .vmem S512x1536 .f32} {harg11 : arg11.IsWhole}
  (x0 : Vec Ideal S512x1536 .bf16) (x1 : Vec Ideal S16x1536 .bf16) (x2 : Vec Ideal S512x128 .bf16) (x3 : Vec Ideal S4x1536 .f32) (x4 : Vec Ideal S8x128 .f32)

theorem out5 (y : S512x512.Idx) :
    out0_A_5 c i arg1 harg1 arg2 harg2 arg3 harg3 arg4 harg4 arg5 harg5 arg6 harg6 arg7 harg7 arg8 harg8 arg9 harg9 arg10 harg10 arg11 harg11 x0 x1 x2 x3 x4 y
      = GQ (GS (k0_pay3 x0) (k0_pay4 i x1) x3) y := by
  have hs := pay9_ix i x0 x1 x3
  unfold out0_A_5
  rw [View.read_writes_junk_eq_canon]
  refine View.canon_apply_of_pieces (Val := Elt Ideal) (GQ (GS (k0_pay3 x0) (k0_pay4 i x1) x3)) _ ?_ y (cover0_A_5 c i arg1 harg1 arg2 harg2 arg3 harg3 arg4 harg4 arg5 harg5 arg6 harg6 arg7 harg7 arg8 harg8 arg9 harg9 arg10 harg10 arg11 harg11 x0 x1 x2 x3 x4 y)
  unfold kernelRun0_A
  dsimp only
  sl_unfold_words
  simp only [View.readAt_eq_ld, harg1.read_unread, harg2.read_unread, harg4.read_unread, View.ld_unit_zero (S := S512x1536) hz,
    View.ld_unit_zero (S := S16x1536) hz, View.ld_unit_zero (S := S4x1536) hz, q0, q1, q2, q3]
  refine List.forall_mem_cons.mpr ⟨fun x => qpiece _ _ hs 3 384 inb_S512x512_S512x128_0_384 x rfl _, ?_⟩
  refine List.forall_mem_cons.mpr ⟨fun x => qpiece _ _ hs 2 256 inb_S512x512_S512x128_0_256 x rfl _, ?_⟩
  refine List.forall_mem_cons.mpr ⟨fun x => qpiece _ _ hs 1 128 inb_S512x512_S512x128_0_128 x rfl _, ?_⟩
  refine List.forall_mem_cons.mpr ⟨fun x => qpiece _ _ hs 0 0 inb_S512x512_S512x128_0_0 x rfl _, ?_⟩
  exact fun _ h => absurd h List.not_mem_nil

theorem out6 (y : S512x512.Idx) :
    out0_A_6 c i arg1 harg1 arg2 harg2 arg3 harg3 arg4 harg4 arg5 harg5 arg6 harg6 arg7 harg7 arg8 harg8 arg9 harg9 arg10 harg10 arg11 harg11 x0 x1 x2 x3 x4 y
      = GK (GS (k0_pay3 x0) (k0_pay4 i x1) x3) y := by
  have hs := pay9_ix i x0 x1 x3
  unfold out0_A_6
  rw [View.read_writes_junk_eq_canon]
  refine View.canon_apply_of_pieces (Val := Elt Ideal) (GK (GS (k0_pay3 x0) (k0_pay4 i x1) x3)) _ ?_ y (cover0_A_6 c i arg1 harg1 arg2 harg2 arg3 harg3 arg4 harg4 arg5 harg5 arg6 harg6 arg7 harg7 arg8 harg8 arg9 harg9 arg10 harg10 arg11 harg11 x0 x1 x2 x3 x4 y)
  unfold kernelRun0_A
  dsimp only
  sl_unfold_words
  simp only [View.readAt_eq_ld, harg1.read_unread, harg2.read_unread, harg4.read_unread, View.ld_unit_zero (S := S512x1536) hz,
    View.ld_unit_zero (S := S16x1536) hz, View.ld_unit_zero (S := S4x1536) hz, k0, k1, k2, k3]
  refine List.forall_mem_cons.mpr ⟨fun x => kpiece _ _ hs 3 384 inb_S512x512_S512x128_0_384 x rfl 896 rfl _, ?_⟩
  refine List.forall_mem_cons.mpr ⟨fun x => kpiece _ _ hs 2 256 inb_S512x512_S512x128_0_256 x rfl 768 rfl _, ?_⟩
  refine List.forall_mem_cons.mpr ⟨fun x => kpiece _ _ hs 1 128 inb_S512x512_S512x128_0_128 x rfl 640 rfl _, ?_⟩
  refine List.forall_mem_cons.mpr ⟨fun x => kpiece _ _ hs 0 0 inb_S512x512_S512x128_0_0 x rfl 512 rfl _, ?_⟩
  exact fun _ h => absurd h List.not_mem_nil

theorem out7 (y j : Fin 512) :
    out0_A_7 c i arg1 harg1 arg2 harg2 arg3 harg3 arg4 harg4 arg5 harg5 arg6 harg6 arg7 harg7 arg8 harg8 arg9 harg9 arg10 harg10 arg11 harg11 x0 x1 x2 x3 x4 (ix2 y j)
      = vals (GS (k0_pay3 x0) (k0_pay4 i x1) x3 y) j := by
  unfold out0_A_7
  rw [View.read_writes_junk_eq_canon]
  unfold kernelRun0_A
  dsimp only
  sl_unfold_words
  rw [View.canon_unit_zero hz]
  simp only [View.readAt_eq_ld, harg1.read_unread, harg2.read_unread, harg4.read_unread, View.ld_unit_zero (S := S512x1536) hz,
    View.ld_unit_zero (S := S16x1536) hz, View.ld_unit_zero (S := S4x1536) hz]
  rw [pay22, pay9_ix]
  rfl

theorem out10 (y : Fin 512) (z : Fin 1536) :
    out0_A_10 c i arg1 harg1 arg2 harg2 arg3 harg3 arg4 harg4 arg5 harg5 arg6 harg6 arg7 harg7 arg8 harg8 arg9 harg9 arg10 harg10 arg11 harg11 x0 x1 x2 x3 x4 (ix2 y z)
      = GC (k0_pay3 x0) (k0_pay4 i x1) x3 y z := by
  unfold out0_A_10
  rw [View.read_writes_junk_eq_canon]
  unfold kernelRun0_A
  dsimp only
  sl_unfold_words
  rw [View.canon_unit_zero hz]
  simp only [View.readAt_eq_ld, harg1.read_unread, harg2.read_unread, harg4.read_unread, View.ld_unit_zero (S := S512x1536) hz,
    View.ld_unit_zero (S := S16x1536) hz, View.ld_unit_zero (S := S4x1536) hz]
  exact (congrFun (pay8 i x0 x1 x3) _).trans (cT_ix _ _ _ y z)
end

end Cert.Pre.Ker

end
-- ==== Proof.Pre11.lean ====
/-
  The short convolution's forward, array by array: its result, the queries, the keys and the values as functions of the arguments.
-/
module

public import proofs.«01_k».proof.Proof.PreOut
public import Idealize.ShloMosaic.Lib.Pipeline.ValueKit
public import Idealize.ShloMosaic.Lib.Pipeline.ValueKit.Partial
public import Idealize.ShloMosaic.Lib.Pointwise
public import Idealize.ShloMosaic.Lib.StableHlo.ReadAt
public import Idealize.ShloMosaic.Lib.Claim

@[expose] public section

set_option maxRecDepth 16384

noncomputable section

namespace Cert.Pre.Ker

open Idealize.ShloMosaic Idealize.ShloMosaic.TcCoe Idealize.SL.Sem
open Cert.Kernel11Ideal Cert.Kernel11Ideal.Gen Cert.Mix Cert.Pre

variable (m : (ℓ : Loc nD τ sig) → Buf (Elt Ideal) ℓ)

/-! ## The blocks -/

/-- The projection's columns in the kernel's order. -/
def oT (h : FVec Ideal S4096x3336 .bf16) : FVec Ideal S4096x3456 .bf16 :=
  concatenate S4096x3456 1 [⟨S4096x3072, (concatenate S4096x3072 1 [⟨S4096x2048, (extractStridedSlice S4096x2048 ![0, 0] h slices_S4096x3336_S4096x2048_0_0)⟩,
      ⟨S4096x512, (extractStridedSlice S4096x512 ![0, 2056] h slices_S4096x3336_S4096x512_0_2056)⟩,
      ⟨S4096x512, (extractStridedSlice S4096x512 ![0, 2824] h slices_S4096x3336_S4096x512_0_2824)⟩] concatenates_S4096x2048_S4096x512_S4096x512_S4096x3072_d1)⟩,
    ⟨S4096x384, (concatenate S4096x384 1 [⟨S4096x128, (extractStridedSlice S4096x128 ![0, 2568] h slices_S4096x3336_S4096x128_0_2568)⟩,
      ⟨S4096x128, (extractStridedSlice S4096x128 ![0, 2696] h slices_S4096x3336_S4096x128_0_2696)⟩,
      ⟨S4096x128, (pad S4096x128 ![0, 0] ![0, 120] ![0, 0] (extractStridedSlice S4096x8 ![0, 2048] h slices_S4096x3336_S4096x8_0_2048)
        (sitofp .bf16 (constantI S_ 32 0#32)) pads_S4096x8_S4096x128_000_01200 h_S_)⟩] concatenates_S4096x128_S4096x128_S4096x128_S4096x384_d1)⟩]
    concatenates_S4096x3072_S4096x384_S4096x3456_d1

theorem o_eq (c : Dev nD) : (V m c main_v9 : FVec Ideal S4096x3456 .bf16) = oT (m ((c : Thread nD τ).loc main_arg0)) := by
  unfold oT
  unfold_abbrev_sides
  simp only [hostOps0, hostOps0_1, hostOps0_2, List.flatten_cons, List.flatten_nil, List.append_nil, List.cons_append, List.nil_append]
  after_results <;> rfl

theorem oT_q (h : FVec Ideal S4096x3336 .bf16) (t : Fin 4096) (z : Fin 1536) :
    oT h (ix2 t (⟨z.val, by omega⟩ : Fin 3456)) = h (ix2 t (⟨z.val, by omega⟩ : Fin 3336)) := by
  pointwise [oT]
  rw [dif_pos (show z.val < 3072 by omega), dif_pos (show z.val < 2048 by omega)]

theorem ix0' : ∀ t : Fin cfg0.N, win0_0.index t = ![t.val, 0] := (by decide +kernel : ∀ t : Fin grid0.N, _)
theorem ix1' : ∀ t : Fin cfg0.N, win0_1.index t = ![t.val * 32 - 1, 0] := (by decide +kernel : ∀ t : Fin grid0.N, _)
theorem ix3' : ∀ t : Fin cfg0.N, win0_3.index t = ![0, 0] := (by decide +kernel : ∀ t : Fin grid0.N, _)
theorem ix5' : ∀ t : Fin cfg0.N, win0_5.index t = ![t.val, 0] := (by decide +kernel : ∀ t : Fin grid0.N, _)
theorem ix6' : ∀ t : Fin cfg0.N, win0_6.index t = ![t.val, 0] := (by decide +kernel : ∀ t : Fin grid0.N, _)
theorem ix7' : ∀ t : Fin cfg0.N, win0_7.index t = ![t.val, 0] := (by decide +kernel : ∀ t : Fin grid0.N, _)
theorem ix10' : ∀ t : Fin cfg0.N, win0_10.index t = ![t.val, 0] := (by decide +kernel : ∀ t : Fin grid0.N, _)
theorem coord' : ∀ t : Fin cfg0.N, ((grid0.coords t) 0).val = t.val := (by decide +kernel : ∀ t : Fin grid0.N, _)

theorem tlt (t : Fin cfg0.N) : t.val < 8 := lt_of_lt_of_eq t.isLt (show cfg0.N = 8 from N_0)

/-- Row `y` of block `t`. -/
def at' (t : ℕ) (y : Fin 512) : Fin 4096 := ⟨(512 * t + y.val) % 4096, Nat.mod_lt _ (by decide)⟩

abbrev A0 (c : Dev nD) : FVec Ideal S4096x3336 .bf16 := m ((c : Thread nD τ).loc main_arg0)
abbrev A1 (c : Dev nD) : FVec Ideal S4x1536 .f32 := m ((c : Thread nD τ).loc main_arg1)

theorem e0 (c : Dev nD) (t : Fin cfg0.N) (y : Fin 512) (z : Fin 1536) : X0_0 m c t (ix2 y z) = A0 m c (ix2 (at' t.val y) (⟨z.val, by omega⟩ : Fin 3336)) := by
  refine Eq.trans ?_ (oT_q _ _ _)
  rw [← o_eq]
  unfold X0_0 Pipeline.Window.fill
  rw [dif_pos (moved0_0 t _)]
  show V m c main_v9 ((win0_0.blk t).view.emb _) = _
  unfold at'
  congr 1
  funext a
  have hi := ix0' t
  have ht := tlt t
  fin_cases a <;> apply Fin.ext <;> blk_simp [hi] <;> simp <;> omega

theorem e1 (c : Dev nD) (t : Fin cfg0.N) (h : 0 < t.val) (y : Fin 16) (z : Fin 1536) : X0_1 m c t (ix2 y z)
    = A0 m c (ix2 (⟨(512 * t.val + y.val - 16) % 4096, Nat.mod_lt _ (by decide)⟩ : Fin 4096) (⟨z.val, by omega⟩ : Fin 3336)) := by
  refine Eq.trans ?_ (oT_q _ _ _)
  rw [← o_eq]
  unfold X0_1 Pipeline.Window.fill
  rw [dif_pos (moved0_1 t _)]
  show V m c main_v9 ((win0_1.blk t).view.emb _) = _
  congr 1
  funext a
  have hi := ix1' t
  have ht := tlt t
  fin_cases a <;> apply Fin.ext <;> blk_simp [hi] <;> simp <;> omega

theorem e3 (c : Dev nD) (t : Fin cfg0.N) (y : Fin 4) (z : Fin 1536) : (iblk m c 3 t : Vec Ideal S4x1536 .f32) (ix2 y z) = A1 m c (ix2 y z) := by
  have hV : V m c main_arg1 = m ((c : Thread nD τ).loc main_arg1) := V_main_arg1 m c
  show V m c main_arg1 ((win0_3.blk t).view.emb (ix2 y z)) = _
  rw [hV]
  congr 1
  funext a
  have hi := ix3' t
  fin_cases a <;> apply Fin.ext <;> blk_simp [hi] <;> simp

/-! ## The results -/

/-- The projection `s` rows before, nothing before the first row. -/
def dn (s : ℕ) (h : S4096x3336.Idx → EReal) (t : Fin 4096) (z : Fin 1536) : EReal :=
  if s ≤ t.val then h (ix2 ⟨t.val - s, by omega⟩ (⟨z.val, by omega⟩ : Fin 3336)) else 0

/-- The convolution, and its gate. -/
def C (h : S4096x3336.Idx → EReal) (w : S4x1536.Idx → EReal) (t : Fin 4096) (z : Fin 1536) : EReal :=
  dn 0 h t z * w (ix2 3 z) + dn 1 h t z * w (ix2 2 z) + dn 2 h t z * w (ix2 1 z) + dn 3 h t z * w (ix2 0 z)
def S (h : S4096x3336.Idx → EReal) (w : S4x1536.Idx → EReal) (t : Fin 4096) : Qkv := fun z => silu (C h w t z)

def OQ (h : S4096x3336.Idx → EReal) (w : S4x1536.Idx → EReal) (i : S4096x512.Idx) : EReal := heads (qh (S h w (i 0))) (i 1)
def OK (h : S4096x3336.Idx → EReal) (w : S4x1536.Idx → EReal) (i : S4096x512.Idx) : EReal := heads (kh (S h w (i 0))) (i 1)
def OV (h : S4096x3336.Idx → EReal) (w : S4x1536.Idx → EReal) (i : S4096x512.Idx) : EReal := vals (S h w (i 0)) (i 1)
def OC (h : S4096x3336.Idx → EReal) (w : S4x1536.Idx → EReal) (i : S4096x1536.Idx) : EReal := C h w (i 0) (i 1)

theorem pv_eq (c : Dev nD) (t : Fin cfg0.N) (s : ℕ) (hs : s < 4) (y : Fin 512) (z : Fin 1536) :
    pv s (k0_pay3 (X0_0 m c t)) (k0_pay4 (grid0.coords t) (X0_1 m c t)) y z = dn s (A0 m c) (at' t.val y) z := by
  have ht := tlt t
  have hy := y.isLt
  have h3 : ∀ y z, k0_pay3 (X0_0 m c t) (ix2 y z) = X0_0 m c t (ix2 y z) := fun y z => by pointwise [k0_pay3]
  unfold pv dn at'
  by_cases h : s ≤ y.val
  · rw [if_pos h, if_pos (show s ≤ (512 * t.val + y.val) % 4096 by omega), h3, e0]
    refine congrArg (fun j => A0 m c (ix2 j (⟨z.val, by omega⟩ : Fin 3336))) (Fin.ext ?_)
    show (512 * t.val + (y.val - s)) % 4096 = (512 * t.val + y.val) % 4096 - s
    omega
  · rw [if_neg h, pay4, coord']
    by_cases h0 : 0 < t.val
    · rw [if_pos h0, if_pos (show s ≤ (512 * t.val + y.val) % 4096 by omega), e1 _ _ _ h0]
      refine congrArg (fun j => A0 m c (ix2 j (⟨z.val, by omega⟩ : Fin 3336))) (Fin.ext ?_)
      show (512 * t.val + (8 + (y.val + 8 - s) % 8) - 16) % 4096 = (512 * t.val + y.val) % 4096 - s
      omega
    · rw [if_neg h0, if_neg (show ¬ s ≤ (512 * t.val + y.val) % 4096 by omega)]

theorem c_eq (c : Dev nD) (t : Fin cfg0.N) (y : Fin 512) (z : Fin 1536) :
    GC (k0_pay3 (X0_0 m c t)) (k0_pay4 (grid0.coords t) (X0_1 m c t)) (iblk m c 3 t : Vec Ideal S4x1536 .f32) y z = C (A0 m c) (A1 m c) (at' t.val y) z := by
  unfold GC C
  rw [pv_eq m c t 0 (by decide), pv_eq m c t 1 (by decide), pv_eq m c t 2 (by decide), pv_eq m c t 3 (by decide), e3, e3, e3, e3]

theorem s_eq (c : Dev nD) (t : Fin cfg0.N) (y : Fin 512) :
    GS (k0_pay3 (X0_0 m c t)) (k0_pay4 (grid0.coords t) (X0_1 m c t)) (iblk m c 3 t : Vec Ideal S4x1536 .f32) y = S (A0 m c) (A1 m c) (at' t.val y) :=
  funext fun z => congrArg silu (c_eq m c t y z)

theorem block5 (c : Dev nD) (t : Fin cfg0.N) (y : S512x512.Idx) :
    (outsAt0 m c t).1 y = heads (qh (S (A0 m c) (A1 m c) (at' t.val (y 0)))) (y 1) := by
  unfold outsAt0
  dsimp only
  rw [out5]
  exact congrArg (fun s => heads (qh s) (y 1)) (s_eq m c t (y 0))

theorem block6 (c : Dev nD) (t : Fin cfg0.N) (y : S512x512.Idx) :
    (outsAt0 m c t).2.1 y = heads (kh (S (A0 m c) (A1 m c) (at' t.val (y 0)))) (y 1) := by
  unfold outsAt0
  dsimp only
  rw [out6]
  exact congrArg (fun s => heads (kh s) (y 1)) (s_eq m c t (y 0))

theorem block7 (c : Dev nD) (t : Fin cfg0.N) (y j : Fin 512) :
    (outsAt0 m c t).2.2.1 (ix2 y j) = vals (S (A0 m c) (A1 m c) (at' t.val y)) j := by
  unfold outsAt0
  dsimp only
  rw [out7, s_eq]

theorem block10 (c : Dev nD) (t : Fin cfg0.N) (y : Fin 512) (z : Fin 1536) :
    (outsAt0 m c t).2.2.2.2.2 (ix2 y z) = C (A0 m c) (A1 m c) (at' t.val y) z := by
  unfold outsAt0
  dsimp only
  rw [out10, c_eq]

/-! ## The arrays -/

theorem array5 (c : Dev nD) : (dats m 0 c).arrAt 5 cfg0.N = (OQ (A0 m c) (A1 m c) : FVec Ideal S4096x512 .f32) := by
  refine (dats m 0 c).arrAt_eq_of_covers 5 _ (by decide +kernel) fun t hf y => ?_
  have hi := ix5' t
  have ht := tlt t
  blk_simp
  rw [after0_5]
  have h0 : (y 0).val < 512 := (y 0).isLt
  refine (block5 m c t y).trans ?_
  unfold OQ
  refine congrArg₂ (fun r => heads (qh (S (A0 m c) (A1 m c) r))) (Fin.ext ?_) (Fin.ext ?_)
  · show (512 * t.val + (y 0).val) % 4096 = _
    blk_simp [hi]
    simp <;> omega
  · blk_simp [hi]

theorem array6 (c : Dev nD) : (dats m 0 c).arrAt 6 cfg0.N = (OK (A0 m c) (A1 m c) : FVec Ideal S4096x512 .f32) := by
  refine (dats m 0 c).arrAt_eq_of_covers 6 _ (by decide +kernel) fun t hf y => ?_
  have hi := ix6' t
  have ht := tlt t
  blk_simp
  rw [after0_6]
  have h0 : (y 0).val < 512 := (y 0).isLt
  refine (block6 m c t y).trans ?_
  unfold OK
  refine congrArg₂ (fun r => heads (kh (S (A0 m c) (A1 m c) r))) (Fin.ext ?_) (Fin.ext ?_)
  · show (512 * t.val + (y 0).val) % 4096 = _
    blk_simp [hi]
    simp <;> omega
  · blk_simp [hi]

theorem array7 (c : Dev nD) : (dats m 0 c).arrAt 7 cfg0.N = (OV (A0 m c) (A1 m c) : FVec Ideal S4096x512 .f32) := by
  refine (dats m 0 c).arrAt_eq_of_covers 7 _ (by decide +kernel) fun t hf y => ?_
  have hi := ix7' t
  have ht := tlt t
  blk_simp
  rw [after0_7]
  have h0 : (y 0).val < 512 := (y 0).isLt
  have h1 : (y 1).val < 512 := (y 1).isLt
  have hy : y = ix2 (⟨(y 0).val, h0⟩ : Fin 512) (⟨(y 1).val, h1⟩ : Fin 512) := by funext k; fin_cases k <;> rfl
  refine (congrArg (outsAt0 m c t).2.2.1 hy).trans ?_
  refine (block7 m c t _ _).trans ?_
  unfold OV
  refine congrArg₂ (fun r => vals (S (A0 m c) (A1 m c) r)) (Fin.ext ?_) (Fin.ext ?_)
  · show (512 * t.val + (y 0).val) % 4096 = _
    blk_simp [hi]
    simp <;> omega
  · blk_simp [hi]

theorem array10 (c : Dev nD) : (dats m 0 c).arrAt 10 cfg0.N = (OC (A0 m c) (A1 m c) : FVec Ideal S4096x1536 .f32) := by
  refine (dats m 0 c).arrAt_eq_of_covers 10 _ (by decide +kernel) fun t hf y => ?_
  have hi := ix10' t
  have ht := tlt t
  blk_simp
  rw [after0_10]
  have h0 : (y 0).val < 512 := (y 0).isLt
  have h1 : (y 1).val < 1536 := (y 1).isLt
  have hy : y = ix2 (⟨(y 0).val, h0⟩ : Fin 512) (⟨(y 1).val, h1⟩ : Fin 1536) := by funext k; fin_cases k <;> rfl
  refine (congrArg (outsAt0 m c t).2.2.2.2.2 hy).trans ?_
  refine (block10 m c t _ _).trans ?_
  unfold OC
  refine congrArg₂ (C (A0 m c) (A1 m c)) (Fin.ext ?_) (Fin.ext ?_)
  · show (512 * t.val + (y 0).val) % 4096 = _
    blk_simp [hi]
    simp <;> omega
  · blk_simp [hi]

end Cert.Pre.Ker

end
-- ==== Proof.Pre11Val.lean ====
/-
  The short convolution's forward: the kernel's results are the reference's.
-/
module

public import proofs.«01_k».proof.Proof.Gen.Reference11Ideal.Run
public import proofs.«01_k».proof.Proof.MixRef
public import proofs.«01_k».proof.Proof.Pre11

@[expose] public section

set_option maxRecDepth 16384

noncomputable section

namespace Cert.Pre.Val

open Idealize.ShloMosaic Idealize.ShloMosaic.TcCoe
open Cert.Reference11Ideal Cert.Reference11Ideal.Gen Cert.Mix Cert.Pre
open Cert.Mix.Ref (M headT zeroT)
open Cert.Pre.Ker (dn C S OQ OK OV OC)

abbrev W : Type := FVec Ideal S4096x1536 .f32
abbrev H : Type := FVec Ideal S4096x4x128 .f32

/-- The input with three rows of zeros before it. -/
def padT (h : FVec Ideal S4096x3336 .bf16) : FVec Ideal S4099x1536 .f32 :=
  concatenate S4099x1536 0 [⟨S3x1536, (broadcastInDim S3x1536 ![] bcast_S_S3x1536 (constant (F := Ideal) S_ .f32 0x00000000#32))⟩, ⟨S4096x1536, (extf .f32
    (extractStridedSlice S4096x1536 ![0, 0] h slices_S4096x3336_S4096x1536_0_0) bitsLt_bf16_f32)⟩] concatenates_S3x1536_S4096x1536_S4099x1536_d0

/-- A term of the convolution: the padded rows from `j` on, times row `j` of the filter. -/
def tapT (j : ℕ) (hs : S4099x1536.Slices ![j, 0] S4096x1536) (hj : S4x1536.Slices ![j, 0] S1x1536) (h : FVec Ideal S4096x3336 .bf16)
    (w : FVec Ideal S4x1536 .f32) : W :=
  mulf (extractStridedSlice S4096x1536 ![j, 0] (padT h) hs) (broadcastInDim S4096x1536 ![0, 1] bcast_S1x1536_S4096x1536_0_1
    (broadcastInDim S1x1536 ![1] bcast_S1536_S1x1536_1 (shapeCast _ (extractStridedSlice S1x1536 ![j, 0] w hj) shapeCasts_S1x1536_S1536)))

def convT (h : FVec Ideal S4096x3336 .bf16) (w : FVec Ideal S4x1536 .f32) : W :=
  addf (addf (addf (addf (broadcastInDim S4096x1536 ![] bcast_S_S4096x1536 (constant (F := Ideal) S_ .f32 0x00000000#32))
    (tapT 0 slices_S4099x1536_S4096x1536_0_0 slices_S4x1536_S1x1536_0_0 h w)) (tapT 1 slices_S4099x1536_S4096x1536_1_0 slices_S4x1536_S1x1536_1_0 h w))
    (tapT 2 slices_S4099x1536_S4096x1536_2_0 slices_S4x1536_S1x1536_2_0 h w)) (tapT 3 slices_S4099x1536_S4096x1536_3_0 slices_S4x1536_S1x1536_3_0 h w)

/-- The gate. -/
def gateT (z : W) : W :=
  mulf z (Host.divf (broadcastInDim S4096x1536 ![] bcast_S_S4096x1536 (constant (F := Ideal) S_ .f32 0x3F800000#32))
    (addf (broadcastInDim S4096x1536 ![] bcast_S_S4096x1536 (constant (F := Ideal) S_ .f32 0x3F800000#32)) (Host.exp (Host.negf z))))

/-- One over the root of each head's sum of squares, and the head over it. -/
def nrmT (o : M) : FVec Ideal S4096x4x1 .f32 :=
  Host.rsqrt (addf (broadcastInDim S4096x4x1 ![0, 1] bcast_S4096x4_S4096x4x1_0_1
      (Host.reduceAdd (mulf (headT o) (headT o)) zeroT reducesTo_S4096x4x128_S4096x4_d2 h_S_))
    (broadcastInDim S4096x4x1 ![] bcast_S_S4096x4x1 (constant (F := Ideal) S_ .f32 0x358637BD#32)))
def l2T (o : M) : H := mulf (headT o) (broadcastInDim S4096x4x128 ![0, 1, 2] bcast_S4096x4x1_S4096x4x128_0_1_2 (nrmT o))

def qryT (s : W) : M :=
  shapeCast _ (mulf (l2T (extractStridedSlice S4096x512 ![0, 0] s slices_S4096x1536_S4096x512_0_0))
    (broadcastInDim S4096x4x128 ![] bcast_S_S4096x4x128 (constant (F := Ideal) S_ .f32 0x3DB504F3#32))) shapeCasts_S4096x4x128_S4096x512
def keyT (s : W) : M :=
  shapeCast _ (l2T (extractStridedSlice S4096x512 ![0, 512] s slices_S4096x1536_S4096x512_0_512)) shapeCasts_S4096x4x128_S4096x512
def valT (s : W) : M := extractStridedSlice S4096x512 ![0, 1024] s slices_S4096x1536_S4096x512_0_1024

/-! ## Their elements -/

theorem padT_ix (h : FVec Ideal S4096x3336 .bf16) (t : Fin 4099) (z : Fin 1536) :
    padT h (ix2 t z) = if hh : t.val < 3 then 0 else h (ix2 (⟨t.val - 3, by omega⟩ : Fin 4096) (⟨z.val, by omega⟩ : Fin 3336)) := by
  pointwise [padT]

theorem tapT_ix (j : ℕ) (hs : S4099x1536.Slices ![j, 0] S4096x1536) (hj : S4x1536.Slices ![j, 0] S1x1536) (h4 : j < 4)
    (h : FVec Ideal S4096x3336 .bf16) (w : FVec Ideal S4x1536 .f32) (t : Fin 4096) (z : Fin 1536) :
    tapT j hs hj h w (ix2 t z) = dn (3 - j) h t z * w (ix2 (⟨j, h4⟩ : Fin 4) z) := by
  pointwise [tapT]
  rw [padT_ix]
  unfold dn
  by_cases hh : 3 - j ≤ t.val
  · rw [dif_neg (show ¬ j + t.val < 3 by omega), if_pos hh]
    exact congrArg (fun k => h (ix2 k (⟨z.val, by omega⟩ : Fin 3336)) * w (ix2 (⟨j, h4⟩ : Fin 4) z)) (Fin.ext (by show j + t.val - 3 = t.val - (3 - j); omega))
  · rw [dif_pos (show j + t.val < 3 by omega), if_neg hh]

theorem convT_ix (h : FVec Ideal S4096x3336 .bf16) (w : FVec Ideal S4x1536 .f32) (t : Fin 4096) (z : Fin 1536) : convT h w (ix2 t z) = C h w t z := by
  pointwise [convT]
  rw [tapT_ix 0 _ _ (by decide), tapT_ix 1 _ _ (by decide), tapT_ix 2 _ _ (by decide), tapT_ix 3 _ _ (by decide)]
  show dn 3 h t z * w (ix2 0 z) + dn 2 h t z * w (ix2 1 z) + dn 1 h t z * w (ix2 2 z) + dn 0 h t z * w (ix2 3 z) = _
  unfold C
  ac_rfl

theorem gateT_ix (h : FVec Ideal S4096x3336 .bf16) (w : FVec Ideal S4x1536 .f32) (t : Fin 4096) (z : Fin 1536) :
    gateT (convT h w) (ix2 t z) = S h w t z := by
  pointwise [gateT]
  rw [convT_ix]
  rfl

theorem headT_ix (o : M) (t : Fin 4096) (a : Fin 4) (z : Fin 128) : headT o (ix3 t a z) = o (ix2 t (lane a z)) := by
  pointwise [headT]
  exact congrArg (fun j => o (ix2 t j)) (Fin.ext (by show a.val * 128 + z.val = 128 * a.val + z.val; omega))

theorem l2T_ix (o : M) (t : Fin 4096) (a : Fin 4) (z : Fin 128) :
    l2T o (ix3 t a z) = o (ix2 t (lane a z)) * Ideal.rsqrt ((∑ z, o (ix2 t (lane a z)) * o (ix2 t (lane a z))) + heps) := by
  have hr : ∀ u : Fin 1, nrmT o (ix3 t a u) = Ideal.rsqrt ((∑ z, o (ix2 t (lane a z)) * o (ix2 t (lane a z))) + heps) := fun u => by
    pointwise [nrmT, zeroT]
    simp only [headT_ix]
    rfl
  pointwise [l2T]
  rw [headT_ix, hr]

/-- A part of the gated result, at a head's lane. -/
theorem part_ix (s : W) (b : Fin 3) (o : ℕ) (ho : o = 512 * b.val) (hs : S4096x1536.Slices ![0, o] S4096x512) (t : Fin 4096) (a : Fin 4) (z : Fin 128) :
    (extractStridedSlice S4096x512 ![0, o] s hs : M) (ix2 t (lane a z)) = s (ix2 t (col b a z)) := by
  subst ho
  pointwise []
  exact congrArg (fun j => s (ix2 t j)) (Fin.ext (by simp only [lane, col]; omega))

section
variable (h : FVec Ideal S4096x3336 .bf16) (w : FVec Ideal S4x1536 .f32)

theorem valC : convT h w = OC h w := by
  funext (i : S4096x1536.Idx)
  obtain ⟨t, z, rfl⟩ : ∃ (t : Fin 4096) (z : Fin 1536), i = ix2 t z := ⟨i 0, i 1, by funext k; fin_cases k <;> rfl⟩
  exact convT_ix h w t z

theorem valV : valT (gateT (convT h w)) = OV h w := by
  funext (i : S4096x512.Idx)
  obtain ⟨t, d, rfl⟩ : ∃ (t : Fin 4096) (d : Fin 512), i = ix2 t d := ⟨i 0, i 1, by funext k; fin_cases k <;> rfl⟩
  pointwise [valT]
  rw [gateT_ix]
  rfl

theorem valK : keyT (gateT (convT h w)) = OK h w := by
  funext (i : S4096x512.Idx)
  obtain ⟨t, d, rfl⟩ : ∃ (t : Fin 4096) (d : Fin 512), i = ix2 t d := ⟨i 0, i 1, by funext k; fin_cases k <;> rfl⟩
  pointwise [keyT]
  rw [l2T_ix]
  simp only [part_ix _ 1 512 rfl, gateT_ix]
  rfl

theorem valQ : qryT (gateT (convT h w)) = OQ h w := by
  funext (i : S4096x512.Idx)
  obtain ⟨t, d, rfl⟩ : ∃ (t : Fin 4096) (d : Fin 512), i = ix2 t d := ⟨i 0, i 1, by funext k; fin_cases k <;> rfl⟩
  pointwise [qryT]
  rw [l2T_ix]
  simp only [part_ix _ 0 0 rfl, gateT_ix]
  exact mul_assoc _ _ _
end

/-! ## The run's results -/

variable (m : (ℓ : Loc nD τ sig) → Buf (Elt Ideal) ℓ)

theorem run0 (c : Dev nD) : Cert.Reference11Ideal.Value.res_out0 m c
    = qryT (gateT (convT (m ((c : Thread nD τ).loc main_arg0)) (m ((c : Thread nD τ).loc main_arg1)))) := by
  rfl

theorem run1 (c : Dev nD) : Cert.Reference11Ideal.Value.res_out1 m c
    = keyT (gateT (convT (m ((c : Thread nD τ).loc main_arg0)) (m ((c : Thread nD τ).loc main_arg1)))) := by
  rfl

theorem run2 (c : Dev nD) : Cert.Reference11Ideal.Value.res_out2 m c
    = valT (gateT (convT (m ((c : Thread nD τ).loc main_arg0)) (m ((c : Thread nD τ).loc main_arg1)))) := by
  rfl

end Cert.Pre.Val

end
-- ==== Proof.PreGate.lean ====
/-
  What one grid point of the short convolution's forward leaves in the blocks of the gates.
-/
module

public import proofs.«01_k».proof.Proof.PreOut

@[expose] public section

set_option maxRecDepth 16384

noncomputable section

namespace Cert.Pre

open Idealize.ShloMosaic

/-- Softplus. -/
def sp (x : EReal) : EReal := max x 0 + Ideal.log (1 + Ideal.exp (-(max x (-x))))

/-- The sum over a chunk of 64 of the rows up to the given one. -/
def gsum (n : ℕ) (u : Fin (64 * n) → EReal) (t : Fin (64 * n)) : EReal :=
  ∑ c : Fin 64, if c.val ≤ t.val % 64 then u ⟨64 * (t.val / 64) + c.val, by omega⟩ else 0

end Cert.Pre

namespace Cert.Pre.Ker

open Idealize.ShloMosaic Idealize.ShloMosaic.TcCoe Idealize.SL.Sem
open Cert.Kernel11Ideal Cert.Kernel11Ideal.Gen Cert.Mix Cert.Pre

abbrev G : Type := FVec Ideal S512x128 .f32

/-- The mask of the rows of the same chunk up to the given one. -/
def triT : FVec Ideal S512x512 .f32 :=
  sitofp .f32 (extui 32 (andi (cmpi .eq (shrsi (iota .tc S512x512 32 [0] iota_S512x512_d0_w32) (broadcast S512x512 6#32))
    (shrsi (iota .tc S512x512 32 [1] iota_S512x512_d1_w32) (broadcast S512x512 6#32)))
    (cmpi .sle (iota .tc S512x512 32 [1] iota_S512x512_d1_w32) (iota .tc S512x512 32 [0] iota_S512x512_d0_w32))) natLt_1_32)

theorem shr6 : ∀ r : Fin 512, IntOp.shrsi .vector (BitVec.ofNat 32 r.val) 6#32 = BitVec.ofNat 32 (r.val / 64) := by decide +kernel
theorem eq8 : ∀ a b : Fin 8, IntOp.cmpi CmpIPredicate.eq (BitVec.ofNat 32 a.val) (BitVec.ofNat 32 b.val) = if a.val = b.val then 1#1 else 0#1 := by
  decide +kernel
theorem slt4 : ∀ z : Fin 128, IntOp.cmpi CmpIPredicate.slt (BitVec.ofNat 32 z.val) 4#32 = if z.val < 4 then 1#1 else 0#1 := by decide +kernel
theorem lane48 : ∀ z : Fin 128, IntOp.andi (IntOp.cmpi CmpIPredicate.sge (BitVec.ofNat 32 z.val) 4#32) (IntOp.cmpi CmpIPredicate.slt (BitVec.ofNat 32 z.val) 8#32)
    = if 4 ≤ z.val ∧ z.val < 8 then 1#1 else 0#1 := by decide +kernel

theorem sle512 (k r : Fin 512) : IntOp.cmpi CmpIPredicate.sle (BitVec.ofNat 32 k.val) (BitVec.ofNat 32 r.val) = if k.val ≤ r.val then 1#1 else 0#1 := by
  have hi : ∀ y : Fin 512, ((BitVec.ofNat 32 y.val).toInt : ℤ) = ((y.val : ℕ) : ℤ) := fun y => by
    rw [BitVec.toInt_eq_toNat_of_lt] <;> rw [BitVec.toNat_ofNat] <;> omega
  have e : IntOp.cmpi CmpIPredicate.sle (BitVec.ofNat 32 k.val) (BitVec.ofNat 32 r.val) = BitVec.ofBool (decide (((k.val : ℕ) : ℤ) ≤ ((r.val : ℕ) : ℤ))) := by
    rw [← hi k, ← hi r]
    rfl
  rw [e]
  by_cases h : k.val ≤ r.val
  · rw [if_pos h, decide_eq_true (by omega)]; rfl
  · rw [if_neg h, decide_eq_false (by omega)]; rfl

theorem triT_ix (r k : Fin 512) : triT (ix2 r k) = if r.val / 64 = k.val / 64 ∧ k.val ≤ r.val then 1 else 0 := by
  pointwise [triT]
  have h8 := eq8 ⟨r.val / 64, by omega⟩ ⟨k.val / 64, by omega⟩
  dsimp only at h8
  rw [shr6, shr6, sle512, h8]
  have h1 : (FloatOps.sitofp (F := Ideal) FTy.f32 (BitVec.setWidth 32 (1#1)) : EReal) = 1 := by
    show (((BitVec.setWidth 32 (1#1)).toInt : ℝ) : EReal) = 1
    simp
  have h0 : (FloatOps.sitofp (F := Ideal) FTy.f32 (BitVec.setWidth 32 (0#1)) : EReal) = 0 := by
    show (((BitVec.setWidth 32 (0#1)).toInt : ℝ) : EReal) = 0
    simp
  by_cases e : r.val / 64 = k.val / 64 <;> by_cases f : k.val ≤ r.val
  · rw [if_pos e, if_pos f, if_pos ⟨e, f⟩]; exact h1
  · rw [if_pos e, if_neg f, if_neg (fun h => f h.2)]; exact h0
  · rw [if_neg e, if_pos f, if_neg (fun h => e h.1)]; exact h0
  · rw [if_neg e, if_neg f, if_neg (fun h => f h.2)]; exact h0

/-- The decay of a row before its sum, where the lane is one of the scan's. -/
def decT (x : G) (e : FVec Ideal S1x128 .f32) : G :=
  select k0_pay24 (mulf (broadcastTo S512x128 e broadcasts_S1x128_S512x128)
    (addf (maximumf x (broadcast S512x128 (Scalar.ofBits (F := Ideal) .f32 0x00000000#32)))
      (log (addf (broadcast S512x128 (Scalar.ofBits (F := Ideal) .f32 0x3F800000#32))
        (exp (subf (broadcast S512x128 (Scalar.ofBits (F := Ideal) .f32 0x00000000#32)) (absf x)))))))
    (broadcast S512x128 (Scalar.ofBits (F := Ideal) .f32 0x00000000#32))

theorem decT_ix (x : G) (e : FVec Ideal S1x128 .f32) (y : Fin 512) (z : Fin 128) :
    decT x e (ix2 y z) = if 4 ≤ z.val ∧ z.val < 8 then e (ix2 0 z) * sp (x (ix2 y z)) else 0 := by
  pointwise [decT, k0_pay24]
  rw [lane48]
  split
  · unfold sp
    rw [← zero_sub]
    rfl
  · rfl

theorem pay1 (v : G) (x : G) (e : FVec Ideal S1x128 .f32) :
    k0_pay1 v (iota .tc S512x128 32 [1] iota_S512x128_d1_w32) k0_pay24 e x (Scalar.ofBits (F := Ideal) .f32 0x00000000#32)
    = select (cmpi .slt (iota .tc S512x128 32 [1] iota_S512x128_d1_w32) (broadcast S512x128 4#32)) (logistic v)
      (matmul dot_S512x512_S512x128_S512x128_1_0_0_1_n_n (some .fp32) triT (decT x e) (constant S512x128 .f32 0x00000000#32)) := rfl

theorem pay1_ix (v : G) (x : G) (e : FVec Ideal S1x128 .f32) (y : Fin 512) (z : Fin 128) :
    k0_pay1 v (iota .tc S512x128 32 [1] iota_S512x128_d1_w32) k0_pay24 e x (Scalar.ofBits (F := Ideal) .f32 0x00000000#32) (ix2 y z)
    = if z.val < 4 then Ideal.logistic (v (ix2 y z)) else ∑ k : Fin 512, triT (ix2 y k) * decT x e (ix2 k z) := by
  rw [pay1]
  pointwise []
  rw [slt4]
  split <;> rfl

/-- The masked product is the sum over the row's chunk. -/
theorem tri_sum (d : Fin 512 → EReal) (y : Fin 512) : (∑ k : Fin 512, triT (ix2 y k) * d k) = gsum 8 d y := by
  have hy := y.isLt
  have h : ∀ k : Fin 512, triT (ix2 y k) * d k = if y.val / 64 = k.val / 64 ∧ k.val ≤ y.val then d k else 0 := fun k => by
    rw [triT_ix]
    split
    · exact one_mul _
    · exact zero_mul _
  rw [Finset.sum_congr rfl fun k _ => h k]
  have e := Equiv.sum_comp (finProdFinEquiv (m := 8) (n := 64)) fun k : Fin 512 => if y.val / 64 = k.val / 64 ∧ k.val ≤ y.val then d k else 0
  rw [← e, Fintype.sum_prod_type]
  rw [Finset.sum_eq_single (⟨y.val / 64, by omega⟩ : Fin 8)]
  · unfold gsum
    refine Finset.sum_congr rfl fun c _ => ?_
    have hc := c.isLt
    have hv : (finProdFinEquiv ((⟨y.val / 64, by omega⟩ : Fin 8), c)).val = c.val + 64 * (y.val / 64) := rfl
    by_cases hh : c.val ≤ y.val % 64
    · rw [if_pos hh, if_pos ⟨by rw [hv]; omega, by rw [hv]; omega⟩]
      exact congrArg d (Fin.ext (by rw [hv]; show _ = 64 * (y.val / 64) + c.val; omega))
    · rw [if_neg hh, if_neg fun h => hh (by have := h.2; rw [hv] at this; omega)]
  · intro a _ ha
    refine Finset.sum_eq_zero fun c _ => if_neg fun h => ha (Fin.ext ?_)
    have hc := c.isLt
    have hv : (finProdFinEquiv (a, c)).val = c.val + 64 * a.val := rfl
    have := h.1
    rw [hv] at this
    show a.val = y.val / 64
    omega
  · exact fun h => absurd (Finset.mem_univ _) h

/-! ## The outputs -/

/-- The block of the gates. -/
def GB (x2 : S512x128.Idx → EReal) (x4 : S8x128.Idx → EReal) (y : Fin 512) (z : Fin 128) : EReal :=
  if z.val < 4 then Ideal.logistic (x2 (ix2 y z))
  else if z.val < 8 then gsum 8 (fun r => -(Ideal.exp (x4 (ix2 0 z))) * sp (x2 (ix2 r z) + x4 (ix2 1 z))) y else 0

theorem pay25_ix (v : Vec Ideal S1x128 .f32) (u : Fin 1) (z : Fin 128) : k0_pay25 v (ix2 u z) = -(Ideal.exp (v (ix2 u z))) := by
  pointwise [k0_pay25]
  rw [sub_eq_add_neg, zero_add]

theorem pay26_ix (x2 : Vec Ideal S512x128 .bf16) (v : Vec Ideal S1x128 .f32) (y : Fin 512) (z : Fin 128) :
    k0_pay26 x2 v (ix2 y z) = x2 (ix2 y z) + v (ix2 0 z) := by
  pointwise [k0_pay26, k0_pay23]

/-- The transposed payload. -/
theorem pay2_ix (v : G) (n : IVec S512x128 32) (b : IVec S512x128 1) (e : FVec Ideal S1x128 .f32) (x : G) (u : Ideal .f32) (l : Fin 8) (y : Fin 512) :
    k0_pay2 v n b e x u (ix2 l y) = k0_pay1 v n b e x u (ix2 y (⟨l.val, by omega⟩ : Fin 128)) := by
  pointwise [k0_pay2]

/-- A row of the parameters, loaded. -/
theorem par_ix (x4 : Vec Ideal S8x128 .f32) (o : ℕ) (h : o < 8) (inb : ∀ b, (![o, 0] : Fin 2 → ℕ) b + S1x128.size b ≤ S8x128.size b) (z : Fin 128) :
    View.ld (Val := Elt Ideal) (e' := .f32) x4 (Rect.unit (s := S8x128) ![o, 0] S1x128.size inb) (ix2 0 z) = x4 (ix2 (⟨o, h⟩ : Fin 8) z) := by
  refine View.ld_unit_apply_of (Val := Elt Ideal) (e := .f32) x4 _ _ inb (ix2 0 z) (ix2 (⟨o, h⟩ : Fin 8) z) fun b => ?_
  fin_cases b
  · rfl
  · exact (Nat.zero_add _).symm

/-- The gates' payload, of the block and the two rows of the parameters. -/
theorem gates_ix (x2 : Vec Ideal S512x128 .bf16) (x4 : Vec Ideal S8x128 .f32) (a b : Vec Ideal S1x128 .f32)
    (ha : ∀ z, a (ix2 0 z) = x4 (ix2 0 z)) (hb : ∀ z, b (ix2 0 z) = x4 (ix2 1 z)) (y : Fin 512) (z : Fin 128) :
    k0_pay1 (k0_pay23 x2) (iota .tc S512x128 32 [1] iota_S512x128_d1_w32) k0_pay24 (k0_pay25 a) (k0_pay26 x2 b)
      (Scalar.ofBits (F := Ideal) .f32 0x00000000#32) (ix2 y z) = GB x2 x4 y z := by
  rw [pay1_ix]
  unfold GB
  by_cases h : z.val < 4
  · rw [if_pos h, if_pos h]
    pointwise [k0_pay23]
  · rw [if_neg h, if_neg h]
    rw [tri_sum (fun k => decT (k0_pay26 x2 b) (k0_pay25 a) (ix2 k z)) y]
    by_cases h8 : z.val < 8
    · rw [if_pos h8]
      refine congrArg (fun d => gsum 8 d y) (funext fun r => ?_)
      rw [decT_ix, if_pos ⟨by omega, h8⟩, pay25_ix, pay26_ix, ha, hb]
    · rw [if_neg h8]
      refine Finset.sum_eq_zero fun c _ => ?_
      split
      · exact (decT_ix _ _ _ _).trans (if_neg fun h => h8 h.2)
      · rfl

section
variable {c : Dev nD} {i : grid0.Coords} {arg1 : Memref sig .tc .vmem S512x1536 .bf16} {harg1 : arg1.IsWhole} {arg2 : Memref sig .tc .vmem S16x1536 .bf16} {harg2 : arg2.IsWhole} {arg3 : Memref sig .tc .vmem S512x128 .bf16} {harg3 : arg3.IsWhole} {arg4 : Memref sig .tc .vmem S4x1536 .f32} {harg4 : arg4.IsWhole} {arg5 : Memref sig .tc .vmem S8x128 .f32} {harg5 : arg5.IsWhole} {arg6 : Memref sig .tc .vmem S512x512 .f32} {harg6 : arg6.IsWhole} {arg7 : Memref sig .tc .vmem S512x512 .f32} {harg7 : arg7.IsWhole} {arg8 : Memref sig .tc .vmem S512x512 .f32} {harg8 : arg8.IsWhole} {arg9 : Memref sig .tc .vmem S512x128 .f32} {harg9 : arg9.IsWhole} {arg10 : Memref sig .tc .vmem S8x512 .f32} {harg10 : arg10.IsWhole} {arg11 : Memref sig .tc .vmem S512x1536 .f32} {harg11 : arg11.IsWhole}
  (x0 : Vec Ideal S512x1536 .bf16) (x1 : Vec Ideal S16x1536 .bf16) (x2 : Vec Ideal S512x128 .bf16) (x3 : Vec Ideal S4x1536 .f32) (x4 : Vec Ideal S8x128 .f32)

theorem out8 (y : Fin 512) (z : Fin 128) :
    out0_A_8 c i arg1 harg1 arg2 harg2 arg3 harg3 arg4 harg4 arg5 harg5 arg6 harg6 arg7 harg7 arg8 harg8 arg9 harg9 arg10 harg10 arg11 harg11 x0 x1 x2 x3 x4 (ix2 y z)
      = GB x2 x4 y z := by
  unfold out0_A_8
  rw [View.read_writes_junk_eq_canon]
  unfold kernelRun0_A
  dsimp only
  sl_unfold_words
  rw [View.canon_unit_zero hz]
  simp only [View.readAt_eq_ld, harg3.read_unread, harg5.read_unread, View.ld_unit_zero (S := S512x128) hz]
  refine gates_ix x2 x4 _ _ (fun z => ?_) (fun z => ?_) y z
  · exact par_ix x4 0 (by decide) _ z
  · exact par_ix x4 1 (by decide) _ z

theorem out9 (l : Fin 8) (y : Fin 512) :
    out0_A_9 c i arg1 harg1 arg2 harg2 arg3 harg3 arg4 harg4 arg5 harg5 arg6 harg6 arg7 harg7 arg8 harg8 arg9 harg9 arg10 harg10 arg11 harg11 x0 x1 x2 x3 x4 (ix2 l y)
      = GB x2 x4 y (⟨l.val, by omega⟩ : Fin 128) := by
  unfold out0_A_9
  rw [View.read_writes_junk_eq_canon]
  unfold kernelRun0_A
  dsimp only
  sl_unfold_words
  rw [View.canon_unit_zero hz]
  simp only [View.readAt_eq_ld, harg3.read_unread, harg5.read_unread, View.ld_unit_zero (S := S512x128) hz]
  rw [pay2_ix]
  refine gates_ix x2 x4 _ _ (fun z => ?_) (fun z => ?_) y _
  · exact par_ix x4 0 (by decide) _ z
  · exact par_ix x4 1 (by decide) _ z
end

end Cert.Pre.Ker

end
-- ==== Proof.PreGateArr.lean ====
/-
  The short convolution's forward, array by array: the gates of the scan and their transpose as functions of the arguments.
-/
module

public import proofs.«01_k».proof.Proof.PreGate
public import proofs.«01_k».proof.Proof.Pre11

@[expose] public section

set_option maxRecDepth 16384

noncomputable section

namespace Cert.Pre.Ker

open Idealize.ShloMosaic Idealize.ShloMosaic.TcCoe Idealize.SL.Sem
open Cert.Kernel11Ideal Cert.Kernel11Ideal.Gen Cert.Mix Cert.Pre

variable (m : (ℓ : Loc nD τ sig) → Buf (Elt Ideal) ℓ)

/-- The gates' columns, in the projection's order and in the kernel's. -/
def hg (l : Fin 8) : Fin 3336 := ⟨2048 + l.val, by omega⟩

theorem oT_g (h : FVec Ideal S4096x3336 .bf16) (t : Fin 4096) (l : Fin 8) :
    oT h (ix2 t (⟨3328 + l.val, by omega⟩ : Fin 3456)) = h (ix2 t (hg l)) := by
  have hl := l.isLt
  pointwise [oT]
  rw [dif_neg (show ¬ 3328 + l.val < 3072 by omega), dif_neg (show ¬ 3328 + l.val - 3072 < 128 by omega),
    dif_neg (show ¬ 3328 + l.val - 3072 - 128 < 128 by omega), dif_pos (show 3328 + l.val - 3072 - 128 - 128 < 8 by omega)]
  exact congrArg (fun j => h (ix2 t j)) (Fin.ext (by show 2048 + (3328 + l.val - 3072 - 128 - 128) = 2048 + l.val; omega))

theorem ix2' : ∀ t : Fin cfg0.N, win0_2.index t = ![t.val, 26] := (by decide +kernel : ∀ t : Fin grid0.N, _)
theorem ix4' : ∀ t : Fin cfg0.N, win0_4.index t = ![0, 0] := (by decide +kernel : ∀ t : Fin grid0.N, _)
theorem ix8' : ∀ t : Fin cfg0.N, win0_8.index t = ![t.val, 0] := (by decide +kernel : ∀ t : Fin grid0.N, _)
theorem ix9' : ∀ t : Fin cfg0.N, win0_9.index t = ![0, t.val] := (by decide +kernel : ∀ t : Fin grid0.N, _)

abbrev A2 (c : Dev nD) : FVec Ideal S8x128 .f32 := m ((c : Thread nD τ).loc main_arg2)

theorem e2 (c : Dev nD) (t : Fin cfg0.N) (y : Fin 512) (l : Fin 8) :
    (iblk m c 2 t : Vec Ideal S512x128 .bf16) (ix2 y (⟨l.val, by omega⟩ : Fin 128)) = A0 m c (ix2 (at' t.val y) (hg l)) := by
  refine Eq.trans ?_ (oT_g _ _ _)
  rw [← o_eq]
  show V m c main_v9 ((win0_2.blk t).view.emb _) = _
  unfold at'
  congr 1
  funext a
  have hi := ix2' t
  have ht := tlt t
  fin_cases a <;> apply Fin.ext <;> blk_simp [hi] <;> simp <;> omega

theorem e4 (c : Dev nD) (t : Fin cfg0.N) (y : Fin 8) (z : Fin 128) : (iblk m c 4 t : Vec Ideal S8x128 .f32) (ix2 y z) = A2 m c (ix2 y z) := by
  have hV : V m c main_arg2 = m ((c : Thread nD τ).loc main_arg2) := V_main_arg2 m c
  show V m c main_arg2 ((win0_4.blk t).view.emb (ix2 y z)) = _
  rw [hV]
  congr 1
  funext a
  have hi := ix4' t
  fin_cases a <;> apply Fin.ext <;> blk_simp [hi] <;> simp

/-! ## The results -/

/-- A gate's decay before its sum. -/
def D (h : S4096x3336.Idx → EReal) (p : S8x128.Idx → EReal) (l : Fin 8) (t : Fin 4096) : EReal :=
  -(Ideal.exp (p (ix2 0 (⟨l.val, by omega⟩ : Fin 128)))) * sp (h (ix2 t (hg l)) + p (ix2 1 (⟨l.val, by omega⟩ : Fin 128)))

/-- The gates: the first four lanes the rate, the other four the decay, summed over its chunk. -/
def GT (h : S4096x3336.Idx → EReal) (p : S8x128.Idx → EReal) (t : Fin 4096) (l : Fin 8) : EReal :=
  if l.val < 4 then Ideal.logistic (h (ix2 t (hg l))) else gsum 64 (D h p l) t

def OB (h : S4096x3336.Idx → EReal) (p : S8x128.Idx → EReal) (i : S4096x128.Idx) : EReal :=
  if hl : (i 1).val < 8 then GT h p (i 0) ⟨(i 1).val, hl⟩ else 0
def OT (h : S4096x3336.Idx → EReal) (p : S8x128.Idx → EReal) (i : S8x4096.Idx) : EReal := GT h p (i 1) (i 0)

theorem gb_eq (c : Dev nD) (t : Fin cfg0.N) (y : Fin 512) (l : Fin 8) :
    GB (iblk m c 2 t : Vec Ideal S512x128 .bf16) (iblk m c 4 t : Vec Ideal S8x128 .f32) y (⟨l.val, by omega⟩ : Fin 128)
      = GT (A0 m c) (A2 m c) (at' t.val y) l := by
  have hl := l.isLt
  have hy := y.isLt
  have ht := tlt t
  unfold GB GT
  rw [e2]
  refine if_congr Iff.rfl rfl ?_
  rw [if_pos hl]
  unfold gsum
  refine Finset.sum_congr rfl fun k _ => ?_
  have hk := k.isLt
  refine if_congr (by unfold at'; dsimp only; omega) ?_ rfl
  dsimp only
  rw [e2, e4, e4]
  unfold D
  refine congrArg (fun r => -(Ideal.exp (A2 m c (ix2 0 (⟨l.val, by omega⟩ : Fin 128)))) * sp (A0 m c (ix2 r (hg l)) + A2 m c (ix2 1 (⟨l.val, by omega⟩ : Fin 128)))) (Fin.ext ?_)
  unfold at'
  dsimp only
  omega

theorem block8 (c : Dev nD) (t : Fin cfg0.N) (y : Fin 512) (z : Fin 128) :
    (outsAt0 m c t).2.2.2.1 (ix2 y z) = OB (A0 m c) (A2 m c) (ix2 (at' t.val y) z) := by
  unfold outsAt0
  dsimp only
  rw [out8]
  show _ = if hl : z.val < 8 then GT (A0 m c) (A2 m c) (at' t.val y) ⟨z.val, hl⟩ else 0
  by_cases h : z.val < 8
  · rw [dif_pos h]
    exact gb_eq m c t y ⟨z.val, h⟩
  · rw [dif_neg h]
    unfold GB
    rw [if_neg (by omega), if_neg h]

theorem block9 (c : Dev nD) (t : Fin cfg0.N) (l : Fin 8) (y : Fin 512) :
    (outsAt0 m c t).2.2.2.2.1 (ix2 l y) = GT (A0 m c) (A2 m c) (at' t.val y) l := by
  unfold outsAt0
  dsimp only
  rw [out9]
  exact gb_eq m c t y l

/-! ## The arrays -/

theorem array8 (c : Dev nD) : (dats m 0 c).arrAt 8 cfg0.N = (OB (A0 m c) (A2 m c) : FVec Ideal S4096x128 .f32) := by
  refine (dats m 0 c).arrAt_eq_of_covers 8 _ (by decide +kernel) fun t hf y => ?_
  have hi := ix8' t
  have ht := tlt t
  blk_simp
  rw [after0_8]
  have h0 : (y 0).val < 512 := (y 0).isLt
  have h1 : (y 1).val < 128 := (y 1).isLt
  have hy : y = ix2 (⟨(y 0).val, h0⟩ : Fin 512) (⟨(y 1).val, h1⟩ : Fin 128) := by funext k; fin_cases k <;> rfl
  refine (congrArg (outsAt0 m c t).2.2.2.1 hy).trans ?_
  refine (block8 m c t _ _).trans (congrArg (OB (A0 m c) (A2 m c)) ?_)
  funext a
  fin_cases a <;> apply Fin.ext
  · show (512 * t.val + (y 0).val) % 4096 = _
    blk_simp [hi]
    simp <;> omega
  · blk_simp [hi]
    simp

theorem array9 (c : Dev nD) : (dats m 0 c).arrAt 9 cfg0.N = (OT (A0 m c) (A2 m c) : FVec Ideal S8x4096 .f32) := by
  refine (dats m 0 c).arrAt_eq_of_covers 9 _ (by decide +kernel) fun t hf y => ?_
  have hi := ix9' t
  have ht := tlt t
  blk_simp
  rw [after0_9]
  have h0 : (y 0).val < 8 := (y 0).isLt
  have h1 : (y 1).val < 512 := (y 1).isLt
  have hy : y = ix2 (⟨(y 0).val, h0⟩ : Fin 8) (⟨(y 1).val, h1⟩ : Fin 512) := by funext k; fin_cases k <;> rfl
  refine (congrArg (outsAt0 m c t).2.2.2.2.1 hy).trans ?_
  refine (block9 m c t _ _).trans ?_
  unfold OT
  refine congrArg₂ (GT (A0 m c) (A2 m c)) (Fin.ext ?_) (Fin.ext ?_)
  · show (512 * t.val + (y 1).val) % 4096 = _
    blk_simp [hi]
    simp <;> omega
  · blk_simp [hi]

end Cert.Pre.Ker

end
-- ==== Proof.PreGateVal.lean ====
/-
  The short convolution's forward: the kernel's gates are the reference's.
-/
module

public import proofs.«01_k».proof.Proof.Pre11Val
public import proofs.«01_k».proof.Proof.PreGateArr

@[expose] public section

set_option maxRecDepth 16384

noncomputable section

namespace Cert.Pre.Val

open Idealize.ShloMosaic Idealize.ShloMosaic.TcCoe
open Cert.Reference11Ideal Cert.Reference11Ideal.Gen Cert.Mix Cert.Pre
open Cert.Pre.Ker (hg D GT OB OT)

abbrev P : Type := FVec Ideal S4096x4 .f32

/-- The rates. -/
def betaT (h : FVec Ideal S4096x3336 .bf16) : P :=
  Host.divf (broadcastInDim S4096x4 ![] bcast_S_S4096x4 (constant (F := Ideal) S_ .f32 0x3F800000#32)) (addf (broadcastInDim S4096x4 ![] bcast_S_S4096x4 (constant (F := Ideal) S_ .f32 0x3F800000#32))
    (Host.exp (Host.negf (extractStridedSlice S4096x4 ![0, 0] (extf .f32 (extractStridedSlice S4096x8 ![0, 2048] h slices_S4096x3336_S4096x8_0_2048) bitsLt_bf16_f32) slices_S4096x8_S4096x4_0_0))))

/-- The decays' argument, and its softplus. -/
def argT (h : FVec Ideal S4096x3336 .bf16) (p : FVec Ideal S8x128 .f32) : P :=
  addf (extractStridedSlice S4096x4 ![0, 4] (extf .f32 (extractStridedSlice S4096x8 ![0, 2048] h slices_S4096x3336_S4096x8_0_2048) bitsLt_bf16_f32) slices_S4096x8_S4096x4_0_4)
    (broadcastInDim S4096x4 ![0, 1] bcast_S1x4_S4096x4_0_1 (broadcastInDim S1x4 ![1] bcast_S4_S1x4_1 (shapeCast _ (extractStridedSlice S1x4 ![1, 4] p slices_S8x128_S1x4_1_4) shapeCasts_S1x4_S4)))
def zT : P := broadcastInDim S4096x4 ![] bcast_S_S4096x4 (constant (F := Ideal) S_ .f32 0x00000000#32)
def spT (x : P) : P :=
  select (cmpf .une (subf x zT) (subf x zT)) (addf x zT) (addf (maximumf x zT) (Host.log1p (Host.exp (Host.negf (Host.absf (subf x zT))))))

/-- The decays, and their sums over the chunks. -/
def decayT (h : FVec Ideal S4096x3336 .bf16) (p : FVec Ideal S8x128 .f32) : P :=
  mulf (broadcastInDim S4096x4 ![0, 1] bcast_S1x4_S4096x4_0_1 (broadcastInDim S1x4 ![1] bcast_S4_S1x4_1 (Host.negf (Host.exp (shapeCast _ (extractStridedSlice S1x4 ![0, 4] p slices_S8x128_S1x4_0_4) shapeCasts_S1x4_S4)))))
    (spT (argT h p))
def winT (x : FVec Ideal S64x64x4 .f32) : FVec Ideal S64x64x4 .f32 :=
  Host.reduceWindowAdd ![1, 64, 1] ![1, 1, 1] ![0, 63, 0] ![0, 0, 0] x (broadcastInDim S_ ![] bcast_S_S_ (constant (F := Ideal) S_ .f32 0x00000000#32))
    reduceWindows_S64x64x4_S64x64x4_w1s1p0_0_w64s1p63_0_w1s1p0_0 h_S_
def sumT (x : P) : P := shapeCast _ (winT (shapeCast _ x shapeCasts_S4096x4_S64x64x4)) shapeCasts_S64x64x4_S4096x4

def gateBT (h : FVec Ideal S4096x3336 .bf16) (p : FVec Ideal S8x128 .f32) : FVec Ideal S4096x8 .f32 :=
  concatenate S4096x8 1 [⟨S4096x4, betaT h⟩, ⟨S4096x4, sumT (decayT h p)⟩] concatenates_S4096x4_S4096x4_S4096x8_d1
def bgT (h : FVec Ideal S4096x3336 .bf16) (p : FVec Ideal S8x128 .f32) : FVec Ideal S4096x128 .f32 :=
  concatenate S4096x128 1 [⟨S4096x8, gateBT h p⟩, ⟨S4096x120, (broadcastInDim S4096x120 ![] bcast_S_S4096x120 (constant (F := Ideal) S_ .f32 0x00000000#32))⟩] concatenates_S4096x8_S4096x120_S4096x128_d1
def bgtT (h : FVec Ideal S4096x3336 .bf16) (p : FVec Ideal S8x128 .f32) : FVec Ideal S8x4096 .f32 :=
  transpose S8x4096 [1, 0] (gateBT h p) transposes_S4096x8_S8x4096_1_0

/-! ## Their elements -/

theorem foldl_sum {n : ℕ} (f : Fin n → EReal) (v : EReal) : (List.finRange n).foldl (fun r k => r + f k) v = v + ∑ k, f k := by
  have h : ∀ (L : List (Fin n)) (v : EReal), L.foldl (fun r k => r + f k) v = v + (L.map f).sum := by
    intro L
    induction L with
    | nil => intro v; simp
    | cons a L ih => intro v; rw [List.foldl_cons, ih, List.map_cons, List.sum_cons, add_assoc]
  rw [h]
  rw [← List.ofFn_eq_map, List.sum_ofFn]

/-- The positions of the window. -/
def win : Fin 64 ≃ (⟨3, ![1, 64, 1]⟩ : Shape).Idx where
  toFun k := ix3 (0 : Fin 1) k (0 : Fin 1)
  invFun i := i 1
  left_inv _ := rfl
  right_inv i := by
    funext a
    fin_cases a
    · exact (Subsingleton.elim (α := Fin 1) _ _)
    · rfl
    · exact (Subsingleton.elim (α := Fin 1) _ _)

/-- The element the window reads at a position: the operand's, or zero before it. -/
def at3 (x : S64x64x4.Idx → EReal) (v : EReal) (j : S64x64x4.Idx) (i : (⟨3, ![1, 64, 1]⟩ : Shape).Idx) : EReal :=
  if hin : ∀ k, (![0, 63, 0] : Fin 3 → ℕ) k ≤ (j k).val * (![1, 1, 1] : Fin 3 → ℕ) k + (i k).val
      ∧ (j k).val * (![1, 1, 1] : Fin 3 → ℕ) k + (i k).val - (![0, 63, 0] : Fin 3 → ℕ) k < S64x64x4.size k
  then x (fun k => ⟨(j k).val * (![1, 1, 1] : Fin 3 → ℕ) k + (i k).val - (![0, 63, 0] : Fin 3 → ℕ) k, (hin k).2⟩) else v

theorem at3_win (x : S64x64x4.Idx → EReal) (a b : Fin 64) (l : Fin 4) (k : Fin 64) :
    at3 x 0 (ix3 a b l) (win k) = if (k + ⟨(b.val + 1) % 64, Nat.mod_lt _ (by decide)⟩ : Fin 64).val ≤ b.val
      then x (ix3 a (k + ⟨(b.val + 1) % 64, Nat.mod_lt _ (by decide)⟩ : Fin 64) l) else 0 := by
  have ha := a.isLt
  have hb := b.isLt
  have hl := l.isLt
  have hk := k.isLt
  have hv : (k + ⟨(b.val + 1) % 64, Nat.mod_lt _ (by decide)⟩ : Fin 64).val = (k.val + (b.val + 1) % 64) % 64 := rfl
  unfold at3
  by_cases h : 63 ≤ b.val + k.val
  · rw [if_pos (by rw [hv]; omega), dif_pos]
    · refine congrArg x (funext fun r => Fin.ext ?_)
      fin_cases r
      · show a.val * 1 + 0 - 0 = a.val
        omega
      · show b.val * 1 + k.val - 63 = (k.val + (b.val + 1) % 64) % 64
        omega
      · show l.val * 1 + 0 - 0 = l.val
        omega
    · intro r
      fin_cases r
      · show 0 ≤ a.val * 1 + 0 ∧ a.val * 1 + 0 - 0 < 64
        omega
      · show 63 ≤ b.val * 1 + k.val ∧ b.val * 1 + k.val - 63 < 64
        omega
      · show 0 ≤ l.val * 1 + 0 ∧ l.val * 1 + 0 - 0 < 4
        omega
  · rw [if_neg (by rw [hv]; omega), dif_neg]
    intro hin
    have h1 : 63 ≤ b.val * 1 + k.val := (hin 1).1
    omega

/-- The window's sum, as the sum over its positions. -/
theorem window_sum (x : FVec Ideal S64x64x4 .f32) (v : EReal) (j : S64x64x4.Idx) :
    Ideal.hostReduceWindowAdd ![1, 64, 1] ![1, 1, 1] ![0, 63, 0] ![0, 0, 0] reduceWindows_S64x64x4_S64x64x4_w1s1p0_0_w64s1p63_0_w1s1p0_0 x v j
      = v + ∑ n, at3 x v j ((⟨3, ![1, 64, 1]⟩ : Shape).rowMajor.symm n) := by
  rw [← foldl_sum]
  unfold Ideal.hostReduceWindowAdd Host.reduceWindow
  dsimp only
  refine congrArg (fun f => List.foldl f v (List.finRange (⟨3, ![1, 64, 1]⟩ : Shape).numel)) (funext fun r => funext fun n => congrArg (fun q => r + q) ?_)
  unfold at3
  by_cases hin : ∀ k : Fin 3, (![0, 63, 0] : Fin 3 → ℕ) k ≤ (j k).val * (![1, 1, 1] : Fin 3 → ℕ) k + ((⟨3, ![1, 64, 1]⟩ : Shape).rowMajor.symm n k).val
      ∧ (j k).val * (![1, 1, 1] : Fin 3 → ℕ) k + ((⟨3, ![1, 64, 1]⟩ : Shape).rowMajor.symm n k).val - (![0, 63, 0] : Fin 3 → ℕ) k < S64x64x4.size k
  · refine (dif_pos hin).trans ?_
    split
    · rfl
    · exact absurd hin ‹_›
  · refine (dif_neg hin).trans ?_
    split
    · exact absurd ‹_› hin
    · rfl

theorem winT_ix (x : FVec Ideal S64x64x4 .f32) (a b : Fin 64) (l : Fin 4) :
    winT x (ix3 a b l) = ∑ c : Fin 64, if c.val ≤ b.val then x (ix3 a c l) else 0 := by
  have hv : broadcastInDim S_ ![] bcast_S_S_ (constant (F := Ideal) S_ .f32 0x00000000#32) (Shape.Idx.first h_S_) = (0 : EReal) := by
    pointwise []
  unfold winT Host.reduceWindowAdd
  simp only [Ideal.hostReduceWindowAdd_def]
  rw [hv, window_sum, zero_add, Equiv.sum_comp (⟨3, ![1, 64, 1]⟩ : Shape).rowMajor.symm fun i => at3 x 0 (ix3 a b l) i,
    ← Equiv.sum_comp win, Finset.sum_congr rfl fun k _ => at3_win x a b l k]
  exact Equiv.sum_comp (Equiv.addRight (⟨(b.val + 1) % 64, Nat.mod_lt _ (by decide)⟩ : Fin 64)) fun c => if c.val ≤ b.val then x (ix3 a c l) else 0

theorem betaT_ix (h : FVec Ideal S4096x3336 .bf16) (t : Fin 4096) (l : Fin 4) :
    betaT h (ix2 t l) = Ideal.logistic (h (ix2 t (hg ⟨l.val, by omega⟩))) := by
  pointwise [betaT]
  rfl

theorem spT_ix (x : P) (t : Fin 4096) (l : Fin 4) : spT x (ix2 t l) = sp (x (ix2 t l)) := by
  pointwise [spT, zT]
  exact if_neg fun h => h rfl

theorem decayT_ix (h : FVec Ideal S4096x3336 .bf16) (p : FVec Ideal S8x128 .f32) (t : Fin 4096) (l : Fin 4) :
    decayT h p (ix2 t l) = D h p (⟨4 + l.val, by omega⟩ : Fin 8) t := by
  pointwise [decayT]
  rw [spT_ix]
  pointwise [argT]
  unfold D
  exact congrArg (fun j => -(Ideal.exp (p (ix2 0 (⟨4 + l.val, by omega⟩ : Fin 128)))) * sp (h (ix2 t j) + p (ix2 1 (⟨4 + l.val, by omega⟩ : Fin 128)))) (Fin.ext rfl)

theorem sumT_ix (x : P) (t : Fin 4096) (l : Fin 4) : sumT x (ix2 t l) = gsum 64 (fun t => x (ix2 t l)) t := by
  pointwise [sumT]
  rw [winT_ix]
  unfold gsum
  refine Finset.sum_congr rfl fun c _ => if_congr Iff.rfl ?_ rfl
  pointwise []
  exact congrArg (fun r => x (ix2 r l)) (Fin.ext (by show t.val / 64 * 64 + c.val = 64 * (t.val / 64) + c.val; omega))

theorem gateBT_ix (h : FVec Ideal S4096x3336 .bf16) (p : FVec Ideal S8x128 .f32) (t : Fin 4096) (l : Fin 8) :
    gateBT h p (ix2 t l) = GT h p t l := by
  pointwise [gateBT]
  unfold GT
  by_cases hl : l.val < 4
  · rw [dif_pos hl, if_pos hl, betaT_ix]
  · rw [dif_neg hl, if_neg hl, sumT_ix]
    refine congrArg (fun u => gsum 64 u t) (funext fun t => ?_)
    rw [decayT_ix]
    exact congrArg (fun j => D h p j t) (Fin.ext (by show 4 + (l.val - 4) = l.val; omega))

theorem valB (h : FVec Ideal S4096x3336 .bf16) (p : FVec Ideal S8x128 .f32) : bgT h p = OB h p := by
  funext (i : S4096x128.Idx)
  obtain ⟨t, z, rfl⟩ : ∃ (t : Fin 4096) (z : Fin 128), i = ix2 t z := ⟨i 0, i 1, by funext k; fin_cases k <;> rfl⟩
  pointwise [bgT]
  simp only [gateBT_ix]
  rfl

theorem valT' (h : FVec Ideal S4096x3336 .bf16) (p : FVec Ideal S8x128 .f32) : bgtT h p = OT h p := by
  funext (i : S8x4096.Idx)
  obtain ⟨l, t, rfl⟩ : ∃ (l : Fin 8) (t : Fin 4096), i = ix2 l t := ⟨i 0, i 1, by funext k; fin_cases k <;> rfl⟩
  pointwise [bgtT]
  exact gateBT_ix h p t l

end Cert.Pre.Val

end
-- ==== Proof.Scan10.lean ====
/-
  One block of the forward recurrence, as functions of vectors: what a chunk makes of one head's state (`vnK` the new
  values, `oK` the outputs, `nxK` the next state), and the block's states chunk after chunk (`bS`), over the parts of the
  six input blocks that the body loads (`Rd`); and that what the body stores in its three outputs and in the scratch is
  these functions' lists, chunk by chunk and head by head.
-/
module

public import proofs.«01_k».proof.Proof.Gen.Kernel10Ideal.Frame
public import proofs.«01_k».proof.Proof.Block
import all proofs.«01_k».proof.Proof.Gen.Kernel10Ideal.Frame.RunA
import all proofs.«01_k».proof.Proof.Gen.Kernel10Ideal.Frame.RunB

@[expose] public section

set_option maxRecDepth 16384

noncomputable section

namespace Cert.Fwd

open Idealize.ShloMosaic Idealize.ShloMosaic.TcCoe
open Cert.Kernel10Ideal Cert.Kernel10Ideal.Gen
open Cert.Block (each mem_each)

variable {F : FTy → Type} [FloatOps F]

theorem gcol_fits (h : Fin 4) : S64x128.Slices ![0, 4 + h.val] S64x1 :=
  ⟨rfl, by intro a; fin_cases a <;> simp [S64x128, S64x1] <;> omega⟩

/-- The head's gates of the chunk, a column; -/
def gcK (h : Fin 4) (g : Vec F S64x128 .f32) : FVec F S64x1 .f32 := extractStridedSlice S64x1 ![0, 4 + h.val] g (gcol_fits h)
/-- and the last of them. -/
def glK (h : Fin 4) (g : Vec F S64x128 .f32) : FVec F S1x1 .f32 := extractStridedSlice S1x1 ![63, 0] (gcK h g) slices_S64x1_o63_0_S1x1

def vnK (u : Vec F S64x128 .f32) (w : Vec F S64x128 .bf16) (s : FVec F S128x128 .f32) : FVec F S64x128 .f32 :=
  subf u (matmul dot_S64x128_S128x128_S64x128_1_0_0_1_n_n none w (truncf .bf16 s bitsLt_bf16_f32) (constant S64x128 .f32 0x00000000#32))

def oK (h : Fin 4) (g q : Vec F S64x128 .f32) (a : Vec F S64x64 .f32) (s : FVec F S128x128 .f32) (v : FVec F S64x128 .f32) : FVec F S64x128 .f32 :=
  addf (matmul dot_S64x128_S128x128_S64x128_1_0_0_1_n_n none
      (truncf .bf16 (mulf q (broadcastTo S64x128 (exp (gcK h g)) broadcasts_S64x1_S64x128)) bitsLt_bf16_f32)
      (truncf .bf16 s bitsLt_bf16_f32) (constant S64x128 .f32 0x00000000#32))
    (matmul dot_S64x64_S64x128_S64x128_1_0_0_1_n_n none (truncf .bf16 a bitsLt_bf16_f32) (truncf .bf16 v bitsLt_bf16_f32) (constant S64x128 .f32 0x00000000#32))

def nxK (h : Fin 4) (g k : Vec F S64x128 .f32) (s : FVec F S128x128 .f32) (v : FVec F S64x128 .f32) : FVec F S128x128 .f32 :=
  addf (mulf s (broadcastTo S128x128 (exp (glK h g)) broadcasts_S1x1_S128x128))
    (matmul dot_S64x128_S64x128_S128x128_0_0_1_1_n_n none
      (truncf .bf16 (mulf k (broadcastTo S64x128 (exp (subf (broadcastTo S64x1 (glK h g) broadcasts_S1x1_S64x1) (gcK h g))) broadcasts_S64x1_S64x128)) bitsLt_bf16_f32)
      (truncf .bf16 v bitsLt_bf16_f32) (constant S128x128 .f32 0x00000000#32))

/-- The parts of a block's inputs, by chunk and head. -/
structure Rd (F : FTy → Type) [FloatOps F] where
  q : Fin 8 → Fin 4 → Vec F S64x128 .f32
  k : Fin 8 → Fin 4 → Vec F S64x128 .f32
  u : Fin 8 → Fin 4 → Vec F S64x128 .f32
  w : Fin 8 → Fin 4 → Vec F S64x128 .bf16
  a : Fin 8 → Fin 4 → Vec F S64x64 .f32
  g : Fin 8 → Vec F S64x128 .f32

/-- The chunk a block handles `i`-th. -/
def chunkAt (i : ℕ) : Fin 8 := ⟨i % 8, by omega⟩

def Rd.vn (R : Rd F) (c : Fin 8) (h : Fin 4) (s : FVec F S128x128 .f32) : FVec F S64x128 .f32 := vnK (R.u c h) (R.w c h) s
def Rd.ov (R : Rd F) (c : Fin 8) (h : Fin 4) (s : FVec F S128x128 .f32) : FVec F S64x128 .f32 :=
  oK h (R.g c) (R.q c h) (R.a c h) s (R.vn c h s)
def Rd.nx (R : Rd F) (c : Fin 8) (h : Fin 4) (s : FVec F S128x128 .f32) : FVec F S128x128 .f32 :=
  nxK h (R.g c) (R.k c h) s (R.vn c h s)

/-- One head's state after `i` chunks of the block. -/
def bS (R : Rd F) (h : Fin 4) (s : FVec F S128x128 .f32) : ℕ → FVec F S128x128 .f32
  | 0 => s
  | i + 1 => R.nx (chunkAt i) h (bS R h s i)

theorem inbW (c : Fin 8) (h : Fin 4) : ∀ a, (![64 * c.val, 128 * h.val] : Fin 2 → ℕ) a + S64x128.size a ≤ S512x512.size a := by
  intro a; fin_cases a <;> simp [S64x128, S512x512] <;> omega
theorem inbA (c : Fin 8) (h : Fin 4) : ∀ a, (![64 * c.val, 64 * h.val] : Fin 2 → ℕ) a + S64x64.size a ≤ S512x256.size a := by
  intro a; fin_cases a <;> simp [S64x64, S512x256] <;> omega
theorem inbG (c : Fin 8) : ∀ a, (![64 * c.val, 0] : Fin 2 → ℕ) a + S64x128.size a ≤ S512x128.size a := by
  intro a; fin_cases a <;> simp [S64x128, S512x128] <;> omega
theorem inbS (h : Fin 4) : ∀ a, (![h.val, 0, 0] : Fin 3 → ℕ) a + S1x128x128.size a ≤ S4x128x128.size a := by
  intro a; fin_cases a <;> simp [S1x128x128, S4x128x128] <;> omega
theorem inbD (c : Fin 8) (h : Fin 4) : ∀ a, (![c.val, h.val, 0, 0] : Fin 4 → ℕ) a + S1x1x128x128.size a ≤ S8x4x128x128.size a := by
  intro a; fin_cases a <;> simp [S1x1x128x128, S8x4x128x128] <;> omega

/-- A state as the body stores it in the third output. -/
def stK (s : FVec F S128x128 .f32) : FVec F S1x1x128x128 .bf16 :=
  shapeCast S1x1x128x128 (truncf .bf16 s bitsLt_bf16_f32) shapeCasts_S128x128_S1x1x128x128
/-- A state as the body leaves it in the scratch. -/
def scK (s : FVec F S128x128 .f32) : FVec F S1x128x128 .f32 := shapeCast S1x128x128 s shapeCasts_S128x128_S1x128x128

/-- The outputs' pieces, from the states the heads start from. -/
abbrev Rd.lO (R : Rd F) (s : Fin 4 → FVec F S128x128 .f32) : List (View.Piece (Elt F) S512x512 .f32) :=
  each fun c h => ⟨Rect.unit (s := S512x512) ![64 * c.val, 128 * h.val] S64x128.size (inbW c h), R.ov c h (bS R h (s h) c.val)⟩
abbrev Rd.lV (R : Rd F) (s : Fin 4 → FVec F S128x128 .f32) : List (View.Piece (Elt F) S512x512 .f32) :=
  each fun c h => ⟨Rect.unit (s := S512x512) ![64 * c.val, 128 * h.val] S64x128.size (inbW c h), R.vn c h (bS R h (s h) c.val)⟩
abbrev Rd.lS (R : Rd F) (s : Fin 4 → FVec F S128x128 .f32) : List (View.Piece (Elt F) S8x4x128x128 .bf16) :=
  each fun c h => ⟨Rect.unit (s := S8x4x128x128) ![c.val, h.val, 0, 0] S1x1x128x128.size (inbD c h), stK (bS R h (s h) c.val)⟩
/-- The four stores of one head each in the scratch. -/
abbrev four (P : Fin 4 → Vec F S1x128x128 .f32) : List (View.Piece (Elt F) S4x128x128 .f32) :=
  [⟨Rect.unit (s := S4x128x128) ![3, 0, 0] S1x128x128.size (inbS 3), P 3⟩, ⟨Rect.unit (s := S4x128x128) ![2, 0, 0] S1x128x128.size (inbS 2), P 2⟩,
   ⟨Rect.unit (s := S4x128x128) ![1, 0, 0] S1x128x128.size (inbS 1), P 1⟩, ⟨Rect.unit (s := S4x128x128) ![0, 0, 0] S1x128x128.size (inbS 0), P 0⟩]

section
variable (c : Dev nD) (i : grid0.Coords)
  (arg1 : Memref sig .tc .vmem S512x512 .f32) (harg1 : arg1.IsWhole) (arg2 : Memref sig .tc .vmem S512x512 .f32) (harg2 : arg2.IsWhole)
  (arg3 : Memref sig .tc .vmem S512x512 .f32) (harg3 : arg3.IsWhole) (arg4 : Memref sig .tc .vmem S512x512 .bf16) (harg4 : arg4.IsWhole)
  (arg5 : Memref sig .tc .vmem S512x256 .f32) (harg5 : arg5.IsWhole) (arg6 : Memref sig .tc .vmem S512x128 .f32) (harg6 : arg6.IsWhole)
  (arg7 : Memref sig .tc .vmem S512x512 .f32) (harg7 : arg7.IsWhole) (arg8 : Memref sig .tc .vmem S512x512 .f32) (harg8 : arg8.IsWhole)
  (arg9 : Memref sig .tc .vmem S8x4x128x128 .bf16) (harg9 : arg9.IsWhole) (arg10 : Memref sig .tc .vmem S4x128x128 .f32) (harg10 : arg10.IsWhole)
  (x0 x1 x2 : Vec F S512x512 .f32) (x3 : Vec F S512x512 .bf16) (x4 : Vec F S512x256 .f32) (x5 : Vec F S512x128 .f32)
  (xs0 : Vec F S4x128x128 .f32)

/-- What the body loads of the staged blocks. -/
def rd : Rd F where
  q c h := View.readAt (Elt F) arg1.view (Rect.unit (s := S512x512) ![64 * c.val, 128 * h.val] S64x128.size (inbW c h)).toLoadRect (harg1.unread x0)
  k c h := View.readAt (Elt F) arg2.view (Rect.unit (s := S512x512) ![64 * c.val, 128 * h.val] S64x128.size (inbW c h)).toLoadRect (harg2.unread x1)
  u c h := View.readAt (Elt F) arg3.view (Rect.unit (s := S512x512) ![64 * c.val, 128 * h.val] S64x128.size (inbW c h)).toLoadRect (harg3.unread x2)
  w c h := View.readAt (Elt F) arg4.view (Rect.unit (s := S512x512) ![64 * c.val, 128 * h.val] S64x128.size (inbW c h)).toLoadRect (harg4.unread x3)
  a c h := View.readAt (Elt F) arg5.view (Rect.unit (s := S512x256) ![64 * c.val, 64 * h.val] S64x64.size (inbA c h)).toLoadRect (harg5.unread x4)
  g c := View.readAt (Elt F) arg6.view (Rect.unit (s := S512x128) ![64 * c.val, 0] S64x128.size (inbG c)).toLoadRect (harg6.unread x5)

/-- The scratch just after the first block's body has cleared it. -/
abbrev cleared : List (View.Piece (Elt F) S4x128x128 .f32) :=
  [⟨Rect.unit (s := S4x128x128) ![0, 0, 0] S4x128x128.size inb_S4x128x128_S4x128x128_0_0_0, k0_pay5⟩]

/-- The head's state the first block starts from, loaded from the cleared scratch; -/
def sA (h : Fin 4) : FVec F S128x128 .f32 :=
  shapeCast S128x128 (arg10.view.readCov (Val := Elt F) cleared (Rect.unit (s := S4x128x128) ![h.val, 0, 0] S1x128x128.size (inbS h)).toLoadRect) shapeCasts_S1x128x128_S128x128
/-- and the one a later block starts from. -/
def sB (h : Fin 4) : FVec F S128x128 .f32 :=
  shapeCast S128x128 (View.readAt (Elt F) arg10.view (Rect.unit (s := S4x128x128) ![h.val, 0, 0] S1x128x128.size (inbS h)).toLoadRect (harg10.unread xs0)) shapeCasts_S1x128x128_S128x128

theorem runA_o (hc0 : cond0_0 i) : (kernelRun0_A c i arg1 harg1 arg2 harg2 arg3 harg3 arg4 harg4 arg5 harg5 arg6 harg6 arg7 harg7 arg8 harg8 arg9 harg9 arg10 harg10 hc0 x0 x1 x2 x3 x4 x5).1
    = (rd arg1 harg1 arg2 harg2 arg3 harg3 arg4 harg4 arg5 harg5 arg6 harg6 x0 x1 x2 x3 x4 x5).lO (sA arg10) := by
  sl_kernel_rfl
theorem runA_v (hc0 : cond0_0 i) : (kernelRun0_A c i arg1 harg1 arg2 harg2 arg3 harg3 arg4 harg4 arg5 harg5 arg6 harg6 arg7 harg7 arg8 harg8 arg9 harg9 arg10 harg10 hc0 x0 x1 x2 x3 x4 x5).2.1
    = (rd arg1 harg1 arg2 harg2 arg3 harg3 arg4 harg4 arg5 harg5 arg6 harg6 x0 x1 x2 x3 x4 x5).lV (sA arg10) := by
  sl_kernel_rfl
theorem runA_s (hc0 : cond0_0 i) : (kernelRun0_A c i arg1 harg1 arg2 harg2 arg3 harg3 arg4 harg4 arg5 harg5 arg6 harg6 arg7 harg7 arg8 harg8 arg9 harg9 arg10 harg10 hc0 x0 x1 x2 x3 x4 x5).2.2.1
    = (rd arg1 harg1 arg2 harg2 arg3 harg3 arg4 harg4 arg5 harg5 arg6 harg6 x0 x1 x2 x3 x4 x5).lS (sA arg10) := by
  sl_kernel_rfl
theorem runA_x (hc0 : cond0_0 i) : (kernelRun0_A c i arg1 harg1 arg2 harg2 arg3 harg3 arg4 harg4 arg5 harg5 arg6 harg6 arg7 harg7 arg8 harg8 arg9 harg9 arg10 harg10 hc0 x0 x1 x2 x3 x4 x5).2.2.2.1
    = four (fun h => scK (bS (rd arg1 harg1 arg2 harg2 arg3 harg3 arg4 harg4 arg5 harg5 arg6 harg6 x0 x1 x2 x3 x4 x5) h (sA arg10 h) 8)) ++ cleared := by
  sl_kernel_rfl
theorem runB_o (hc0 : ¬cond0_0 i) : (kernelRun0_B c i arg1 harg1 arg2 harg2 arg3 harg3 arg4 harg4 arg5 harg5 arg6 harg6 arg7 harg7 arg8 harg8 arg9 harg9 arg10 harg10 hc0 x0 x1 x2 x3 x4 x5 xs0).1
    = (rd arg1 harg1 arg2 harg2 arg3 harg3 arg4 harg4 arg5 harg5 arg6 harg6 x0 x1 x2 x3 x4 x5).lO (sB arg10 harg10 xs0) := by
  sl_kernel_rfl
theorem runB_v (hc0 : ¬cond0_0 i) : (kernelRun0_B c i arg1 harg1 arg2 harg2 arg3 harg3 arg4 harg4 arg5 harg5 arg6 harg6 arg7 harg7 arg8 harg8 arg9 harg9 arg10 harg10 hc0 x0 x1 x2 x3 x4 x5 xs0).2.1
    = (rd arg1 harg1 arg2 harg2 arg3 harg3 arg4 harg4 arg5 harg5 arg6 harg6 x0 x1 x2 x3 x4 x5).lV (sB arg10 harg10 xs0) := by
  sl_kernel_rfl
theorem runB_s (hc0 : ¬cond0_0 i) : (kernelRun0_B c i arg1 harg1 arg2 harg2 arg3 harg3 arg4 harg4 arg5 harg5 arg6 harg6 arg7 harg7 arg8 harg8 arg9 harg9 arg10 harg10 hc0 x0 x1 x2 x3 x4 x5 xs0).2.2.1
    = (rd arg1 harg1 arg2 harg2 arg3 harg3 arg4 harg4 arg5 harg5 arg6 harg6 x0 x1 x2 x3 x4 x5).lS (sB arg10 harg10 xs0) := by
  sl_kernel_rfl
theorem runB_x (hc0 : ¬cond0_0 i) : (kernelRun0_B c i arg1 harg1 arg2 harg2 arg3 harg3 arg4 harg4 arg5 harg5 arg6 harg6 arg7 harg7 arg8 harg8 arg9 harg9 arg10 harg10 hc0 x0 x1 x2 x3 x4 x5 xs0).2.2.2.1
    = four (fun h => scK (bS (rd arg1 harg1 arg2 harg2 arg3 harg3 arg4 harg4 arg5 harg5 arg6 harg6 x0 x1 x2 x3 x4 x5) h (sB arg10 harg10 xs0 h) 8)) := by
  sl_kernel_rfl
end

end Cert.Fwd

end
-- ==== Proof.ScanVal10.lean ====
/-
  The forward recurrence over the chunks, as plain functions of extended reals (`vn` the new values, `ov` the outputs,
  `fx` the next state, `fs` the states), and the block's functions read at an index: a block that holds the rows of
  chunks `8·t …` of six arrays carries the arrays' recurrence from chunk to chunk.
-/
module

public import proofs.«01_k».proof.Proof.Scan10
public import proofs.«01_k».proof.Proof.BlockVal

@[expose] public section

set_option maxRecDepth 16384

noncomputable section

namespace Cert.Spec

open Idealize.ShloMosaic

variable (A : Arr)

/-- The chunk's new values: the values `A.o` less what the state already answers. -/
def Arr.vn (n : Fin 64) (s : St) (h : Fin 4) (r : Fin 64) (e : Fin 128) : EReal := A.oc n h r e - ∑ d, A.wc n h r d * s h d e
/-- The chunk's outputs. -/
def Arr.ov (n : Fin 64) (s : St) (h : Fin 4) (r : Fin 64) (e : Fin 128) : EReal :=
  (∑ d, A.qd n h r d * s h d e) + ∑ j, A.ac n h r j * A.vn n s h j e
/-- The state after the chunk. -/
def Arr.fx (n : Fin 64) (s : St) : St := fun h d e => s h d e * A.gt n h + ∑ r, A.kd n h r d * A.vn n s h r e

/-- The chunk handled at step `i`. -/
def fwd (i : ℕ) : Fin 64 := ⟨i % 64, by omega⟩

/-- The state before chunk `i`. -/
def Arr.fs (A : Arr) : ℕ → St
  | 0 => fun _ _ _ => 0
  | i + 1 => A.fx (fwd i) (A.fs i)

variable {A}

theorem vn_congr {n n' : Fin 64} {i i' : ℕ} {h h' : Fin 4} {r r' : Fin 64} {e e' : Fin 128} (hn : n.val = n'.val) (hi : i = i')
    (hh : h.val = h'.val) (hr : r.val = r'.val) (he : e.val = e'.val) : A.vn n (A.fs i) h r e = A.vn n' (A.fs i') h' r' e' := by
  rw [Fin.ext hn, hi, Fin.ext hh, Fin.ext hr, Fin.ext he]
theorem ov_congr {n n' : Fin 64} {i i' : ℕ} {h h' : Fin 4} {r r' : Fin 64} {e e' : Fin 128} (hn : n.val = n'.val) (hi : i = i')
    (hh : h.val = h'.val) (hr : r.val = r'.val) (he : e.val = e'.val) : A.ov n (A.fs i) h r e = A.ov n' (A.fs i') h' r' e' := by
  rw [Fin.ext hn, hi, Fin.ext hh, Fin.ext hr, Fin.ext he]
theorem fs_congr {n n' : ℕ} {h h' : Fin 4} {d d' e e' : Fin 128} (hn : n = n') (hh : h.val = h'.val) (hd : d.val = d'.val)
    (he : e.val = e'.val) : A.fs n h d e = A.fs n' h' d' e' := by
  rw [hn, Fin.ext hh, Fin.ext hd, Fin.ext he]

end Cert.Spec

namespace Cert.Fwd

open Idealize.ShloMosaic Idealize.ShloMosaic.TcCoe
open Cert.Kernel10Ideal Cert.Kernel10Ideal.Gen Cert.Spec
open Cert.Block (each mem_each)

theorem vnK_apply (u : Vec Ideal S64x128 .f32) (w : Vec Ideal S64x128 .bf16) (s : FVec Ideal S128x128 .f32) (r : Fin 64) (e : Fin 128) :
    (vnK u w s : FVec Ideal S64x128 .f32) (ix2 r e) = (u (ix2 r e) : EReal) - ∑ d : Fin 128, (w (ix2 r d) : EReal) * s (ix2 d e) := by
  pointwise [vnK]

theorem oK_apply (h : Fin 4) (g q : Vec Ideal S64x128 .f32) (a : Vec Ideal S64x64 .f32) (s : FVec Ideal S128x128 .f32) (v : FVec Ideal S64x128 .f32)
    (r : Fin 64) (e : Fin 128) :
    (oK h g q a s v : FVec Ideal S64x128 .f32) (ix2 r e)
      = (∑ d : Fin 128, ((q (ix2 r d) : EReal) * Ideal.exp (g (ix2 r (gcol h)))) * s (ix2 d e)) + ∑ j : Fin 64, (a (ix2 r j) : EReal) * v (ix2 j e) := by
  pointwise [oK, gcK, glK]
  rfl

theorem nxK_apply (h : Fin 4) (g k : Vec Ideal S64x128 .f32) (s : FVec Ideal S128x128 .f32) (v : FVec Ideal S64x128 .f32) (d e : Fin 128) :
    (nxK h g k s v : FVec Ideal S128x128 .f32) (ix2 d e)
      = s (ix2 d e) * Ideal.exp (g (ix2 (63 : Fin 64) (gcol h)))
        + ∑ r : Fin 64, ((k (ix2 r d) : EReal) * Ideal.exp ((g (ix2 (63 : Fin 64) (gcol h)) : EReal) - g (ix2 r (gcol h)))) * v (ix2 r e) := by
  pointwise [nxK, gcK, glK]
  rfl

theorem stK_apply (s : FVec Ideal S128x128 .f32) (d e : Fin 128) :
    (stK s : FVec Ideal S1x1x128x128 .bf16) (ix4 (0 : Fin 1) (0 : Fin 1) d e) = s (ix2 d e) := by
  pointwise [stK]
theorem scK_apply (s : FVec Ideal S128x128 .f32) (d e : Fin 128) :
    (scK s : FVec Ideal S1x128x128 .f32) (ix3 (0 : Fin 1) d e) = s (ix2 d e) := by
  pointwise [scK]

/-- The `c`-th chunk of block `t`. -/
def blk (t : ℕ) (c : Fin 8) : Fin 64 := fwd (8 * t + c.val)

/-- The block's inputs are the arrays' rows of its chunks. -/
structure Holds (R : Rd Ideal) (A : Arr) (t : ℕ) : Prop where
  q : ∀ c h r d, R.q c h (ix2 r d) = A.q (ix2 (row (blk t c) r) (col h d))
  k : ∀ c h r d, R.k c h (ix2 r d) = A.k (ix2 (row (blk t c) r) (col h d))
  u : ∀ c h r d, R.u c h (ix2 r d) = A.o (ix2 (row (blk t c) r) (col h d))
  w : ∀ c h r d, R.w c h (ix2 r d) = A.w (ix2 (row (blk t c) r) (col h d))
  a : ∀ c h r j, R.a c h (ix2 r j) = A.a (ix2 (row (blk t c) r) (colc h j))
  g : ∀ c r (h : Fin 4), R.g c (ix2 r (gcol h)) = A.g (ix2 (row (blk t c) r) (gcol h))

variable {R : Rd Ideal} {A : Arr} {t : ℕ}

theorem Holds.vn (H : Holds R A t) (c : Fin 8) (h : Fin 4) {s : FVec Ideal S128x128 .f32} {S : St} (hs : ∀ d e, s (ix2 d e) = S h d e)
    (r : Fin 64) (e : Fin 128) : (R.vn c h s : FVec Ideal S64x128 .f32) (ix2 r e) = A.vn (blk t c) S h r e := by
  unfold Rd.vn; rw [vnK_apply]
  unfold Arr.vn
  refine congrArg₂ (· - ·) (H.u _ _ _ _) (Finset.sum_congr rfl fun d _ => ?_)
  rw [H.w, hs]; rfl

theorem Holds.ov (H : Holds R A t) (c : Fin 8) (h : Fin 4) {s : FVec Ideal S128x128 .f32} {S : St} (hs : ∀ d e, s (ix2 d e) = S h d e)
    (r : Fin 64) (e : Fin 128) : (R.ov c h s : FVec Ideal S64x128 .f32) (ix2 r e) = A.ov (blk t c) S h r e := by
  unfold Rd.ov; rw [oK_apply]
  unfold Arr.ov
  refine congrArg₂ (· + ·) (Finset.sum_congr rfl fun d _ => ?_) (Finset.sum_congr rfl fun j _ => ?_)
  · rw [H.q, H.g, hs]; rfl
  · rw [H.a, H.vn c h hs]; rfl

theorem Holds.nx (H : Holds R A t) (c : Fin 8) (h : Fin 4) {s : FVec Ideal S128x128 .f32} {S : St} (hs : ∀ d e, s (ix2 d e) = S h d e)
    (d e : Fin 128) : (R.nx c h s : FVec Ideal S128x128 .f32) (ix2 d e) = A.fx (blk t c) S h d e := by
  unfold Rd.nx; rw [nxK_apply]
  unfold Arr.fx
  refine congrArg₂ (· + ·) ?_ (Finset.sum_congr rfl fun r _ => ?_)
  · rw [H.g, hs]; rfl
  · rw [H.k, H.g, H.g, H.vn c h hs]; rfl

theorem Holds.bS (H : Holds R A t) (h : Fin 4) {s : FVec Ideal S128x128 .f32} (hs : ∀ d e, s (ix2 d e) = A.fs (8 * t) h d e) :
    ∀ i ≤ 8, ∀ d e, (bS R h s i : FVec Ideal S128x128 .f32) (ix2 d e) = A.fs (8 * t + i) h d e
  | 0, _ => hs
  | i + 1, hi => fun d e => by
      show (R.nx (chunkAt i) h (Fwd.bS R h s i) : FVec Ideal S128x128 .f32) (ix2 d e) = A.fx (fwd (8 * t + i)) (A.fs (8 * t + i)) h d e
      rw [H.nx (chunkAt i) h (H.bS h hs i (by omega)), show blk t (chunkAt i) = fwd (8 * t + i) from
        congrArg (fun j => fwd (8 * t + j)) (Nat.mod_eq_of_lt (by omega))]

/-! ## What the outputs' pieces hold -/

/-- The first output's block after point `t`, -/
def G6 (A : Arr) (t : ℕ) (y : S512x512.Idx) : EReal :=
  A.ov (fwd (8 * t + (y 0).val / 64)) (A.fs (8 * t + (y 0).val / 64))
    ⟨(y 1).val / 128, by have : (y 1).val < 512 := (y 1).isLt; omega⟩ ⟨(y 0).val % 64, by omega⟩ ⟨(y 1).val % 128, by omega⟩
/-- the second's, -/
def G7 (A : Arr) (t : ℕ) (y : S512x512.Idx) : EReal :=
  A.vn (fwd (8 * t + (y 0).val / 64)) (A.fs (8 * t + (y 0).val / 64))
    ⟨(y 1).val / 128, by have : (y 1).val < 512 := (y 1).isLt; omega⟩ ⟨(y 0).val % 64, by omega⟩ ⟨(y 1).val % 128, by omega⟩
/-- and the third's. -/
def G8 (A : Arr) (t : ℕ) (y : S8x4x128x128.Idx) : EReal := A.fs (8 * t + (y 0).val) (y 1) (y 2) (y 3)

section
variable (H : Holds R A t) {s : Fin 4 → FVec Ideal S128x128 .f32} (hs : ∀ h d e, s h (ix2 d e) = A.fs (8 * t) h d e)

include H hs in
theorem pieces6 : ∀ p ∈ R.lO s, ∀ x : p.1.shape.Idx, p.2 x = G6 A t (p.1.emb x) := by
  intro p hp
  obtain ⟨c, h, rfl⟩ := mem_each hp
  intro (x : S64x128.Idx)
  have h0 : (x 0).val < 64 := (x 0).isLt
  have h1 : (x 1).val < 128 := (x 1).isLt
  have e : x = ix2 (⟨(x 0).val, h0⟩ : Fin 64) (⟨(x 1).val, h1⟩ : Fin 128) := funext fun a => by fin_cases a <;> rfl
  show (R.ov c h (Fwd.bS R h (s h) c.val) : FVec Ideal S64x128 .f32) x = _
  rw [e, H.ov c h (H.bS h (hs h) c.val (by omega))]
  unfold G6
  refine ov_congr ?_ ?_ ?_ ?_ ?_ <;> simp [Rect.emb_apply, blk, fwd] <;> omega

include H hs in
theorem pieces7 : ∀ p ∈ R.lV s, ∀ x : p.1.shape.Idx, p.2 x = G7 A t (p.1.emb x) := by
  intro p hp
  obtain ⟨c, h, rfl⟩ := mem_each hp
  intro (x : S64x128.Idx)
  have h0 : (x 0).val < 64 := (x 0).isLt
  have h1 : (x 1).val < 128 := (x 1).isLt
  have e : x = ix2 (⟨(x 0).val, h0⟩ : Fin 64) (⟨(x 1).val, h1⟩ : Fin 128) := funext fun a => by fin_cases a <;> rfl
  show (R.vn c h (Fwd.bS R h (s h) c.val) : FVec Ideal S64x128 .f32) x = _
  rw [e, H.vn c h (H.bS h (hs h) c.val (by omega))]
  unfold G7
  refine vn_congr ?_ ?_ ?_ ?_ ?_ <;> simp [Rect.emb_apply, blk, fwd] <;> omega

include H hs in
theorem pieces8 : ∀ p ∈ R.lS s, ∀ x : p.1.shape.Idx, p.2 x = G8 A t (p.1.emb x) := by
  intro p hp
  obtain ⟨c, h, rfl⟩ := mem_each hp
  intro (x : S1x1x128x128.Idx)
  have h0 : (x 0).val < 1 := (x 0).isLt
  have h1 : (x 1).val < 1 := (x 1).isLt
  have h2 : (x 2).val < 128 := (x 2).isLt
  have h3 : (x 3).val < 128 := (x 3).isLt
  have e : x = ix4 (0 : Fin 1) (0 : Fin 1) (⟨(x 2).val, h2⟩ : Fin 128) (⟨(x 3).val, h3⟩ : Fin 128) :=
    funext fun a => by fin_cases a <;> first | rfl | (apply Fin.ext; simp; omega)
  show (stK (Fwd.bS R h (s h) c.val) : FVec Ideal S1x1x128x128 .bf16) x = _
  rw [e, stK_apply, H.bS h (hs h) c.val (by omega)]
  unfold G8
  refine fs_congr ?_ ?_ ?_ ?_ <;> simp [Rect.emb_apply] <;> omega

include H hs in
theorem scratch (L : List (View.Piece (Elt Ideal) S4x128x128 .f32)) (h : Fin 4) (d e : Fin 128) :
    View.canon (four (fun h => scK (Fwd.bS R h (s h) 8)) ++ L) (ix3 h d e) = A.fs (8 * (t + 1)) h d e := by
  refine (Block.four_canon (fun h => scK (Fwd.bS R h (s h) 8)) L h d e).trans ?_
  rw [scK_apply, H.bS h (hs h) 8 le_rfl]; rfl
end

/-! ## The staged blocks -/

section
variable (arg1 : Memref sig .tc .vmem S512x512 .f32) (harg1 : arg1.IsWhole) (arg2 : Memref sig .tc .vmem S512x512 .f32) (harg2 : arg2.IsWhole)
  (arg3 : Memref sig .tc .vmem S512x512 .f32) (harg3 : arg3.IsWhole) (arg4 : Memref sig .tc .vmem S512x512 .bf16) (harg4 : arg4.IsWhole)
  (arg5 : Memref sig .tc .vmem S512x256 .f32) (harg5 : arg5.IsWhole) (arg6 : Memref sig .tc .vmem S512x128 .f32) (harg6 : arg6.IsWhole)
  (arg10 : Memref sig .tc .vmem S4x128x128 .f32) (harg10 : arg10.IsWhole)
  (x0 x1 x2 : Vec Ideal S512x512 .f32) (x3 : Vec Ideal S512x512 .bf16) (x4 : Vec Ideal S512x256 .f32) (x5 : Vec Ideal S512x128 .f32)
  (xs0 : Vec Ideal S4x128x128 .f32)

/-- The block's row in the whole array. -/
def brow (t : ℕ) (y : Fin 512) : Fin 4096 := ⟨(512 * t + y.val) % 4096, by omega⟩

theorem row_eq (c : Fin 8) (r : Fin 64) (hlt : 64 * c.val + r.val < 512) : row (blk t c) r = brow t ⟨64 * c.val + r.val, hlt⟩ :=
  Fin.ext (by show 64 * ((8 * t + c.val) % 64) + r.val = (512 * t + (64 * c.val + r.val)) % 4096; omega)

theorem rd_holds (e0 : ∀ y z, x0 (ix2 y z) = A.q (ix2 (brow t y) z)) (e1 : ∀ y z, x1 (ix2 y z) = A.k (ix2 (brow t y) z))
    (e2 : ∀ y z, x2 (ix2 y z) = A.o (ix2 (brow t y) z)) (e3 : ∀ y z, x3 (ix2 y z) = A.w (ix2 (brow t y) z))
    (e4 : ∀ y z, x4 (ix2 y z) = A.a (ix2 (brow t y) z)) (e5 : ∀ y z, x5 (ix2 y z) = A.g (ix2 (brow t y) z)) :
    Holds (rd arg1 harg1 arg2 harg2 arg3 harg3 arg4 harg4 arg5 harg5 arg6 harg6 x0 x1 x2 x3 x4 x5) A t where
  q c h r d := by
    rw [row_eq c r (by omega), ← e0]
    refine (Memref.IsWhole.readAt_unread harg1 x0 _ _).trans (congrArg x0 ?_)
    funext a; fin_cases a <;> apply Fin.ext <;> simp [Rect.toLoadRect, col]
  k c h r d := by
    rw [row_eq c r (by omega), ← e1]
    refine (Memref.IsWhole.readAt_unread harg2 x1 _ _).trans (congrArg x1 ?_)
    funext a; fin_cases a <;> apply Fin.ext <;> simp [Rect.toLoadRect, col]
  u c h r d := by
    rw [row_eq c r (by omega), ← e2]
    refine (Memref.IsWhole.readAt_unread harg3 x2 _ _).trans (congrArg x2 ?_)
    funext a; fin_cases a <;> apply Fin.ext <;> simp [Rect.toLoadRect, col]
  w c h r d := by
    rw [row_eq c r (by omega), ← e3]
    refine (Memref.IsWhole.readAt_unread harg4 x3 _ _).trans (congrArg x3 ?_)
    funext a; fin_cases a <;> apply Fin.ext <;> simp [Rect.toLoadRect, col]
  a c h r d := by
    rw [row_eq c r (by omega), ← e4]
    refine (Memref.IsWhole.readAt_unread harg5 x4 _ _).trans (congrArg x4 ?_)
    funext a; fin_cases a <;> apply Fin.ext <;> simp [Rect.toLoadRect, colc]
  g c r h := by
    rw [row_eq c r (by omega), ← e5]
    refine (Memref.IsWhole.readAt_unread harg6 x5 _ _).trans (congrArg x5 ?_)
    funext a; fin_cases a <;> apply Fin.ext <;> simp [Rect.toLoadRect, gcol]

theorem cast_apply (v : Vec Ideal S1x128x128 .f32) (d e : Fin 128) :
    (shapeCast S128x128 v shapeCasts_S1x128x128_S128x128 : FVec Ideal S128x128 .f32) (ix2 d e) = v (ix3 (0 : Fin 1) d e) := by
  pointwise

theorem sB_apply (h : Fin 4) (d e : Fin 128) : (sB arg10 harg10 xs0 h : FVec Ideal S128x128 .f32) (ix2 d e) = xs0 (ix3 h d e) := by
  refine (cast_apply _ d e).trans ((Memref.IsWhole.readAt_unread harg10 xs0 _ _).trans (congrArg xs0 ?_))
  funext a; fin_cases a <;> apply Fin.ext <;> simp [Rect.toLoadRect]

/-- The zeros stored first are what the first block starts from. -/
theorem sA_apply (h : Fin 4) (d e : Fin 128) : (sA (F := Ideal) arg10 h : FVec Ideal S128x128 .f32) (ix2 d e) = 0 := by
  refine (cast_apply _ d e).trans ?_
  rw [View.readCov_eq_canon']
  rw [View.canon_cons_unit_zero (by funext a; fin_cases a <;> rfl)]
  unfold k0_pay5
  pointwise
end

end Cert.Fwd

end
-- ==== Proof.KerRun10.lean ====
/-
  The forward recurrence's three result arrays, over the extended reals: point `t` of the grid handles the eight chunks of
  block `t`, the scratch carries the state from block to block, and every row of a result is the recurrence's value.
-/
module

public import proofs.«01_k».proof.Proof.ScanVal10
public import proofs.«01_k».proof.Proof.Gen.Kernel10Ideal.Value
public import Idealize.ShloMosaic.Lib.Pipeline.ValueKit

@[expose] public section

set_option maxRecDepth 16384

noncomputable section

namespace Cert.KerRun10

open Idealize.ShloMosaic Idealize.ShloMosaic.TcCoe Idealize.SL.Sem
open Cert.Kernel10Ideal Cert.Kernel10Ideal.Gen Cert.Fwd Cert.Spec

variable (m : (ℓ : Loc nD τ sig) → Buf (Elt Ideal) ℓ)

/-- The six arguments. -/
def arr (c : Dev nD) : Arr where
  q := m ((c : Thread nD τ).loc main_arg0)
  k := m ((c : Thread nD τ).loc main_arg1)
  o := m ((c : Thread nD τ).loc main_arg2)
  w := m ((c : Thread nD τ).loc main_arg3)
  a := m ((c : Thread nD τ).loc main_arg4)
  g := m ((c : Thread nD τ).loc main_arg5)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![t.val, 0, 0, 0] := (by decide +kernel : ∀ t : Fin grid0.N, _)

variable (c : Dev nD)

theorem tlt (t : Fin cfg0.N) : t.val < 8 := lt_of_lt_of_eq t.isLt (show cfg0.N = 8 from N_0)

/-! ## The input blocks are the arrays' rows -/

theorem e0 (t : Fin cfg0.N) (y : Fin 512) (z : Fin 512) : (iblk m c 0 t : Vec Ideal S512x512 .f32) (ix2 y z) = (arr m c).q (ix2 (brow t.val y) z) := by
  show m ((c : Thread nD τ).loc main_arg0) ((win0_0.blk t).view.emb (ix2 y z)) = m ((c : Thread nD τ).loc main_arg0) (ix2 (brow t.val y) z)
  congr 1
  funext a
  have hi := at0 t
  have ht := tlt t
  fin_cases a <;> apply Fin.ext <;> blk_simp [hi] <;> simp [brow] <;> omega
theorem e1 (t : Fin cfg0.N) (y : Fin 512) (z : Fin 512) : (iblk m c 1 t : Vec Ideal S512x512 .f32) (ix2 y z) = (arr m c).k (ix2 (brow t.val y) z) := by
  show m ((c : Thread nD τ).loc main_arg1) ((win0_1.blk t).view.emb (ix2 y z)) = m ((c : Thread nD τ).loc main_arg1) (ix2 (brow t.val y) z)
  congr 1
  funext a
  have hi := at1 t
  have ht := tlt t
  fin_cases a <;> apply Fin.ext <;> blk_simp [hi] <;> simp [brow] <;> omega
theorem e2 (t : Fin cfg0.N) (y : Fin 512) (z : Fin 512) : (iblk m c 2 t : Vec Ideal S512x512 .f32) (ix2 y z) = (arr m c).o (ix2 (brow t.val y) z) := by
  show m ((c : Thread nD τ).loc main_arg2) ((win0_2.blk t).view.emb (ix2 y z)) = m ((c : Thread nD τ).loc main_arg2) (ix2 (brow t.val y) z)
  congr 1
  funext a
  have hi := at2 t
  have ht := tlt t
  fin_cases a <;> apply Fin.ext <;> blk_simp [hi] <;> simp [brow] <;> omega
theorem e3 (t : Fin cfg0.N) (y : Fin 512) (z : Fin 512) : (iblk m c 3 t : Vec Ideal S512x512 .bf16) (ix2 y z) = (arr m c).w (ix2 (brow t.val y) z) := by
  show m ((c : Thread nD τ).loc main_arg3) ((win0_3.blk t).view.emb (ix2 y z)) = m ((c : Thread nD τ).loc main_arg3) (ix2 (brow t.val y) z)
  congr 1
  funext a
  have hi := at3 t
  have ht := tlt t
  fin_cases a <;> apply Fin.ext <;> blk_simp [hi] <;> simp [brow] <;> omega
theorem e4 (t : Fin cfg0.N) (y : Fin 512) (z : Fin 256) : (iblk m c 4 t : Vec Ideal S512x256 .f32) (ix2 y z) = (arr m c).a (ix2 (brow t.val y) z) := by
  show m ((c : Thread nD τ).loc main_arg4) ((win0_4.blk t).view.emb (ix2 y z)) = m ((c : Thread nD τ).loc main_arg4) (ix2 (brow t.val y) z)
  congr 1
  funext a
  have hi := at4 t
  have ht := tlt t
  fin_cases a <;> apply Fin.ext <;> blk_simp [hi] <;> simp [brow] <;> omega
theorem e5 (t : Fin cfg0.N) (y : Fin 512) (z : Fin 128) : (iblk m c 5 t : Vec Ideal S512x128 .f32) (ix2 y z) = (arr m c).g (ix2 (brow t.val y) z) := by
  show m ((c : Thread nD τ).loc main_arg5) ((win0_5.blk t).view.emb (ix2 y z)) = m ((c : Thread nD τ).loc main_arg5) (ix2 (brow t.val y) z)
  congr 1
  funext a
  have hi := at5 t
  have ht := tlt t
  fin_cases a <;> apply Fin.ext <;> blk_simp [hi] <;> simp [brow] <;> omega

theorem holds (t : Fin cfg0.N) : Holds (rd (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t)
    (iblk m c 3 t) (iblk m c 4 t) (iblk m c 5 t)) (arr m c) t.val :=
  rd_holds _ _ _ _ _ _ _ _ _ _ _ _ _ _ _ _ _ _ (e0 m c t) (e1 m c t) (e2 m c t) (e3 m c t) (e4 m c t) (e5 m c t)

/-! ## The scratch, point after point -/

theorem startA (t : Fin cfg0.N) (h0 : t.val % 8 = 0) (h : Fin 4) (d e : Fin 128) :
    (sA (F := Ideal) scM0_0 h : FVec Ideal S128x128 .f32) (ix2 d e) = (arr m c).fs (8 * t.val) h d e := by
  have ht : t.val = 0 := by have := tlt t; omega
  rw [sA_apply, ht]; rfl

theorem scr : ∀ (n : ℕ) (hn : n < cfg0.N) (h : Fin 4) (d e : Fin 128),
    (outsAt0 m c n hn).2.2.2 (ix3 h d e) = (arr m c).fs (8 * (n + 1)) h d e := by
  intro n
  induction n with
  | zero =>
    intro hn h d e
    rw [outsAt0_A m c ⟨0, hn⟩ rfl]
    dsimp only
    unfold sout0_A_0
    rw [View.read_writes_junk_eq_canon, runA_x]
    exact scratch (holds m c ⟨0, hn⟩) (startA m c ⟨0, hn⟩ rfl) _ h d e
  | succ n ih =>
    intro hn h d e
    have h0 : ¬ (n + 1) % 8 = 0 := by have := tlt ⟨n + 1, hn⟩; simp at this; omega
    rw [outsAt0_B m c ⟨n + 1, hn⟩ h0]
    dsimp only
    unfold sout0_B_0
    rw [View.read_writes_junk_eq_canon, runB_x, ← List.append_nil (four _)]
    exact scratch (holds m c ⟨n + 1, hn⟩) (fun h d e => (sB_apply _ _ _ h d e).trans (ih (by omega) h d e)) _ h d e

theorem startB (t : Fin cfg0.N) (h0 : ¬ t.val % 8 = 0) (h : Fin 4) (d e : Fin 128) :
    (sB scM0_0 (Memref.isWhole_whole _) (outsAt0 m c (t.val - 1) (Nat.lt_of_le_of_lt (Nat.sub_le _ _) t.isLt)).2.2.2 h : FVec Ideal S128x128 .f32) (ix2 d e)
      = (arr m c).fs (8 * t.val) h d e := by
  rw [sB_apply, scr, show t.val - 1 + 1 = t.val by omega]

theorem block6 (t : Fin cfg0.N) (y : S512x512.Idx) : (outsAt0 m c t.val t.isLt).1 y = G6 (arr m c) t.val y := by
  by_cases h0 : t.val % 8 = 0
  · rw [outsAt0_A m c t h0]
    dsimp only
    unfold out0_A_6
    rw [View.read_writes_junk_eq_canon]
    refine View.canon_apply_of_pieces (Val := Elt Ideal) (G6 (arr m c) t.val) _ ?_ y (cover0_A_6 _ _ _ _ _ _ _ _ _ _ _ _ _ _ _ _ _ _ _ _ _ _ _ _ _ _ _ _ _ y)
    rw [runA_o]
    exact pieces6 (holds m c t) (startA m c t h0)
  · rw [outsAt0_B m c t h0]
    dsimp only
    unfold out0_B_6
    rw [View.read_writes_junk_eq_canon]
    refine View.canon_apply_of_pieces (Val := Elt Ideal) (G6 (arr m c) t.val) _ ?_ y (cover0_B_6 _ _ _ _ _ _ _ _ _ _ _ _ _ _ _ _ _ _ _ _ _ _ _ _ _ _ _ _ _ _ y)
    rw [runB_o]
    exact pieces6 (holds m c t) (startB m c t h0)

theorem block7 (t : Fin cfg0.N) (y : S512x512.Idx) : (outsAt0 m c t.val t.isLt).2.1 y = G7 (arr m c) t.val y := by
  by_cases h0 : t.val % 8 = 0
  · rw [outsAt0_A m c t h0]
    dsimp only
    unfold out0_A_7
    rw [View.read_writes_junk_eq_canon]
    refine View.canon_apply_of_pieces (Val := Elt Ideal) (G7 (arr m c) t.val) _ ?_ y (cover0_A_7 _ _ _ _ _ _ _ _ _ _ _ _ _ _ _ _ _ _ _ _ _ _ _ _ _ _ _ _ _ y)
    rw [runA_v]
    exact pieces7 (holds m c t) (startA m c t h0)
  · rw [outsAt0_B m c t h0]
    dsimp only
    unfold out0_B_7
    rw [View.read_writes_junk_eq_canon]
    refine View.canon_apply_of_pieces (Val := Elt Ideal) (G7 (arr m c) t.val) _ ?_ y (cover0_B_7 _ _ _ _ _ _ _ _ _ _ _ _ _ _ _ _ _ _ _ _ _ _ _ _ _ _ _ _ _ _ y)
    rw [runB_v]
    exact pieces7 (holds m c t) (startB m c t h0)

theorem block8 (t : Fin cfg0.N) (y : S8x4x128x128.Idx) : (outsAt0 m c t.val t.isLt).2.2.1 y = G8 (arr m c) t.val y := by
  by_cases h0 : t.val % 8 = 0
  · rw [outsAt0_A m c t h0]
    dsimp only
    unfold out0_A_8
    rw [View.read_writes_junk_eq_canon]
    refine View.canon_apply_of_pieces (Val := Elt Ideal) (G8 (arr m c) t.val) _ ?_ y (cover0_A_8 _ _ _ _ _ _ _ _ _ _ _ _ _ _ _ _ _ _ _ _ _ _ _ _ _ _ _ _ _ y)
    rw [runA_s]
    exact pieces8 (holds m c t) (startA m c t h0)
  · rw [outsAt0_B m c t h0]
    dsimp only
    unfold out0_B_8
    rw [View.read_writes_junk_eq_canon]
    refine View.canon_apply_of_pieces (Val := Elt Ideal) (G8 (arr m c) t.val) _ ?_ y (cover0_B_8 _ _ _ _ _ _ _ _ _ _ _ _ _ _ _ _ _ _ _ _ _ _ _ _ _ _ _ _ _ _ y)
    rw [runB_s]
    exact pieces8 (holds m c t) (startB m c t h0)

/-! ## The whole arrays -/

/-- The first result, -/
def O6 (A : Arr) (x : S4096x512.Idx) : EReal :=
  A.ov ⟨(x 0).val / 64, by have : (x 0).val < 4096 := (x 0).isLt; omega⟩ (A.fs ((x 0).val / 64))
    ⟨(x 1).val / 128, by have : (x 1).val < 512 := (x 1).isLt; omega⟩ ⟨(x 0).val % 64, by omega⟩ ⟨(x 1).val % 128, by omega⟩
/-- the second, -/
def O7 (A : Arr) (x : S4096x512.Idx) : EReal :=
  A.vn ⟨(x 0).val / 64, by have : (x 0).val < 4096 := (x 0).isLt; omega⟩ (A.fs ((x 0).val / 64))
    ⟨(x 1).val / 128, by have : (x 1).val < 512 := (x 1).isLt; omega⟩ ⟨(x 0).val % 64, by omega⟩ ⟨(x 1).val % 128, by omega⟩
/-- and the third. -/
def O8 (A : Arr) (x : S64x4x128x128.Idx) : EReal := A.fs (x 0).val (x 1) (x 2) (x 3)

theorem array6 : (dats m 0 c).arrAt 6 cfg0.N = (O6 (arr m c) : FVec Ideal S4096x512 .f32) := by
  refine (dats m 0 c).arrAt_eq_of_covers 6 _ (by decide +kernel) fun t hf y => ?_
  blk_simp
  rw [after0_6]
  refine (block6 m c t y).trans ?_
  have ht := tlt t
  have h0 : (y 0).val < 512 := (y 0).isLt
  have h1 : (y 1).val < 512 := (y 1).isLt
  have hi := at6 t
  unfold G6 O6
  refine ov_congr ?_ ?_ ?_ ?_ ?_ <;> blk_simp [hi] <;> simp [fwd] <;> omega

theorem array7 : (dats m 0 c).arrAt 7 cfg0.N = (O7 (arr m c) : FVec Ideal S4096x512 .f32) := by
  refine (dats m 0 c).arrAt_eq_of_covers 7 _ (by decide +kernel) fun t hf y => ?_
  blk_simp
  rw [after0_7]
  refine (block7 m c t y).trans ?_
  have ht := tlt t
  have h0 : (y 0).val < 512 := (y 0).isLt
  have h1 : (y 1).val < 512 := (y 1).isLt
  have hi := at7 t
  unfold G7 O7
  refine vn_congr ?_ ?_ ?_ ?_ ?_ <;> blk_simp [hi] <;> simp [fwd] <;> omega

theorem array8 : (dats m 0 c).arrAt 8 cfg0.N = (O8 (arr m c) : FVec Ideal S64x4x128x128 .bf16) := by
  refine (dats m 0 c).arrAt_eq_of_covers 8 _ (by decide +kernel) fun t hf y => ?_
  blk_simp
  rw [after0_8]
  refine (block8 m c t y).trans ?_
  have ht := tlt t
  have h0 : (y 0).val < 8 := (y 0).isLt
  have hi := at8 t
  unfold G8 O8
  refine fs_congr ?_ ?_ ?_ ?_ <;> blk_simp [hi] <;> simp <;> omega

end Cert.KerRun10

end
-- ==== Proof.RefRun10.lean ====
/-
  The reference's loop over the chunks, forwards: what one trip makes of the carried arrays, element by element, and that
  the state after `j` trips is `Arr.fs j`, with the rows of the three stacked results written so far.
-/
module

public import proofs.«01_k».proof.Proof.ScanVal10
public import proofs.«01_k».proof.Proof.RefRun
public import proofs.«01_k».proof.Proof.Gen.Reference10Ideal.Run
public import proofs.«01_k».proof.Proof.Gen.Reference10Ideal.Step

@[expose] public section

set_option maxRecDepth 16384

noncomputable section

namespace Cert.RefRun10

open Idealize.ShloMosaic Idealize.ShloMosaic.TcCoe Idealize.SL.Sem Idealize.ShloMosaic.StableHlo
open Cert.Reference10Ideal Cert.Reference10Ideal.Gen Cert.Reference10Ideal.Value
open Cert.Spec
open Cert.RefRun (cutW cutA cutG putV putS cutW_apply cutA_apply cutG_apply putV_apply putS_apply idx2_eq split4 split4a)

/-! ## One trip, as functions of arrays -/

def vnF (s : FVec Ideal S4x128x128 .f32) (u w : FVec Ideal S4x64x128 .f32) : FVec Ideal S4x64x128 .f32 :=
  subf u (Host.dotGeneral dot_S4x64x128_S4x128x128_S4x64x128_2_1_1_2_0_0 none w s)

def ovF (s : FVec Ideal S4x128x128 .f32) (q v : FVec Ideal S4x64x128 .f32) (a : FVec Ideal S4x64x64 .f32) : FVec Ideal S4x64x128 .f32 :=
  addf (Host.dotGeneral dot_S4x64x128_S4x128x128_S4x64x128_2_1_1_2_0_0 none q s) (Host.dotGeneral dot_S4x64x64_S4x64x128_S4x64x128_2_1_1_2_0_0 none a v)

def fxF (s : FVec Ideal S4x128x128 .f32) (t : FVec Ideal S4x1x1 .f32) (k v : FVec Ideal S4x64x128 .f32) : FVec Ideal S4x128x128 .f32 :=
  addf (mulf s (broadcastInDim S4x128x128 ![0, 1, 2] bcast_S4x1x1_S4x128x128_0_1_2 t))
    (Host.dotGeneral dot_S4x64x128_S4x64x128_S4x128x128_1_1_2_2_0_0 none k v)

theorem vnF_apply (s : FVec Ideal S4x128x128 .f32) (u w : FVec Ideal S4x64x128 .f32) (h : Fin 4) (r : Fin 64) (e : Fin 128) :
    vnF s u w (ix3 h r e) = u (ix3 h r e) - ∑ d : Fin 128, w (ix3 h r d) * s (ix3 h d e) := by
  pointwise [vnF]
theorem ovF_apply (s : FVec Ideal S4x128x128 .f32) (q v : FVec Ideal S4x64x128 .f32) (a : FVec Ideal S4x64x64 .f32)
    (h : Fin 4) (r : Fin 64) (e : Fin 128) :
    ovF s q v a (ix3 h r e) = (∑ d : Fin 128, q (ix3 h r d) * s (ix3 h d e)) + ∑ j : Fin 64, a (ix3 h r j) * v (ix3 h j e) := by
  pointwise [ovF]
theorem fxF_apply (s : FVec Ideal S4x128x128 .f32) (t : FVec Ideal S4x1x1 .f32) (k v : FVec Ideal S4x64x128 .f32) (h : Fin 4) (d e : Fin 128) :
    fxF s t k v (ix3 h d e) = s (ix3 h d e) * t (ix3 h 0 0) + ∑ r : Fin 64, k (ix3 h r d) * v (ix3 h r e) := by
  pointwise [fxF]

/-! ## The trips -/

variable (A : Arr)

/-- What the loop's buffers hold before trip `j`. -/
structure Inv (V0 : Valuation τ sig (Elt Ideal)) (j : ℕ) : Prop where
  s : ∀ h d e, (V0 (Proc.devRef .tc main_v33_7) : FVec Ideal S4x128x128 .f32) (ix3 h d e) = A.fs j h d e
  y : ∀ (n : Fin 64) h r e, n.val < j → (V0 (Proc.devRef .tc main_v33_8) : FVec Ideal S64x4x64x128 .f32) (ix4 n h r e) = A.ov n (A.fs n.val) h r e
  v : ∀ (n : Fin 64) h r e, n.val < j → (V0 (Proc.devRef .tc main_v33_9) : FVec Ideal S64x4x64x128 .f32) (ix4 n h r e) = A.vn n (A.fs n.val) h r e
  t : ∀ (n : Fin 64) h d e, n.val < j → (V0 (Proc.devRef .tc main_v33_10) : FVec Ideal S64x4x128x128 .f32) (ix4 n h d e) = A.fs n.val h d e
  q : ∀ n h r e, (V0 (Proc.devRef .tc main_v33_0) : FVec Ideal S64x4x64x128 .f32) (ix4 n h r e) = A.qd n h r e
  k : ∀ n h r e, (V0 (Proc.devRef .tc main_v33_1) : FVec Ideal S64x4x64x128 .f32) (ix4 n h r e) = A.kd n h r e
  u : ∀ n h r e, (V0 (Proc.devRef .tc main_v33_2) : FVec Ideal S64x4x64x128 .f32) (ix4 n h r e) = A.oc n h r e
  w : ∀ n h r e, (V0 (Proc.devRef .tc main_v33_3) : FVec Ideal S64x4x64x128 .f32) (ix4 n h r e) = A.wc n h r e
  a : ∀ n h j r, (V0 (Proc.devRef .tc main_v33_4) : FVec Ideal S64x4x64x64 .f32) (ix4 n h j r) = A.ac n h j r
  g : ∀ n h, (V0 (Proc.devRef .tc main_v33_5) : FVec Ideal S64x4x1x1 .f32) (ix4 n h 0 0) = A.gt n h
  n : V0 (Proc.devRef .tc main_v33_6) = constantI S_ 32 (BitVec.ofNat 32 j)

/-- The trip's new values. -/
def vnV (V0 : Valuation τ sig (Elt Ideal)) : FVec Ideal S4x64x128 .f32 :=
  vnF (V0 (Proc.devRef .tc main_v33_7)) (cutW (V0 (Proc.devRef .tc main_v33_6)) (V0 (Proc.devRef .tc main_v33_2)))
    (cutW (V0 (Proc.devRef .tc main_v33_6)) (V0 (Proc.devRef .tc main_v33_3)))
/-- The trip's outputs. -/
def ovV (V0 : Valuation τ sig (Elt Ideal)) : FVec Ideal S4x64x128 .f32 :=
  ovF (V0 (Proc.devRef .tc main_v33_7)) (cutW (V0 (Proc.devRef .tc main_v33_6)) (V0 (Proc.devRef .tc main_v33_0))) (vnV V0)
    (cutA (V0 (Proc.devRef .tc main_v33_6)) (V0 (Proc.devRef .tc main_v33_4)))

theorem vnV_eq (V0 : Valuation τ sig (Elt Ideal)) : res_main_while0b_v46 V0 = vnV V0 := rfl

theorem step7 (V0 : Valuation τ sig (Elt Ideal)) : step_main_v33_7 V0 = fxF (V0 (Proc.devRef .tc main_v33_7))
    (cutG (V0 (Proc.devRef .tc main_v33_6)) (V0 (Proc.devRef .tc main_v33_5)))
    (cutW (V0 (Proc.devRef .tc main_v33_6)) (V0 (Proc.devRef .tc main_v33_1))) (vnV V0) := rfl
theorem step8 (V0 : Valuation τ sig (Elt Ideal)) : step_main_v33_8 V0 =
    putV (V0 (Proc.devRef .tc main_v33_6)) (V0 (Proc.devRef .tc main_v33_8)) (ovV V0) := by
  unfold step_main_v33_8 ovV putV RefRun.at4
  rw [id, ← vnV_eq]
  rfl
theorem step9 (V0 : Valuation τ sig (Elt Ideal)) : step_main_v33_9 V0 =
    putV (V0 (Proc.devRef .tc main_v33_6)) (V0 (Proc.devRef .tc main_v33_9)) (vnV V0) := by
  unfold step_main_v33_9 putV RefRun.at4
  rw [id, ← vnV_eq]
  rfl
theorem step10 (V0 : Valuation τ sig (Elt Ideal)) : step_main_v33_10 V0 =
    putS (V0 (Proc.devRef .tc main_v33_6)) (V0 (Proc.devRef .tc main_v33_10)) (V0 (Proc.devRef .tc main_v33_7)) := by
  unfold step_main_v33_10 putS RefRun.at4
  rw [id]
  rfl

variable {A}

theorem fwd_val {j : ℕ} (hj : j < 64) : (fwd j).val = j := Nat.mod_eq_of_lt hj

theorem Inv.word {V0 : Valuation τ sig (Elt Ideal)} {j : ℕ} (I : Inv A V0 j) (hj : j < 64) :
    V0 (Proc.devRef .tc main_v33_6) = constantI S_ 32 (BitVec.ofNat 32 (fwd j).val) := by
  rw [I.n, fwd_val hj]

theorem Inv.vnV {V0 : Valuation τ sig (Elt Ideal)} {j : ℕ} (I : Inv A V0 j) (hj : j < 64) (h : Fin 4) (r : Fin 64) (e : Fin 128) :
    vnV V0 (ix3 h r e) = A.vn (fwd j) (A.fs j) h r e := by
  unfold RefRun10.vnV
  rw [vnF_apply, I.word hj]
  unfold Arr.vn
  refine congrArg₂ (· - ·) ?_ (Finset.sum_congr rfl fun d _ => ?_)
  · rw [cutW_apply]; exact I.u _ _ _ _
  · rw [cutW_apply]; exact congrArg₂ (· * ·) (I.w _ _ _ _) (I.s _ _ _)

theorem Inv.ovV {V0 : Valuation τ sig (Elt Ideal)} {j : ℕ} (I : Inv A V0 j) (hj : j < 64) (h : Fin 4) (r : Fin 64) (e : Fin 128) :
    ovV V0 (ix3 h r e) = A.ov (fwd j) (A.fs j) h r e := by
  unfold RefRun10.ovV
  rw [ovF_apply, I.word hj]
  unfold Arr.ov
  refine congrArg₂ (· + ·) (Finset.sum_congr rfl fun d _ => ?_) (Finset.sum_congr rfl fun d _ => ?_)
  · rw [cutW_apply]; exact congrArg₂ (· * ·) (I.q _ _ _ _) (I.s _ _ _)
  · rw [cutA_apply]; exact congrArg₂ (· * ·) (I.a _ _ _ _) (I.vnV hj _ _ _)

/-- A stack whose rows below `j` are known, after row `j` has been put in. -/
theorem put_row {j : ℕ} (hj : j < 64) (n : Fin 64) (hn : n.val < j + 1) {x y z : EReal} (hx : n.val = j → x = z) (hy : n.val < j → y = z) :
    (if n = fwd j then x else y) = z := by
  split
  · next hc => exact hx (by rw [hc, fwd_val hj])
  · next hc => exact hy (by have : n.val ≠ j := fun c => hc (Fin.ext (c.trans (fwd_val hj).symm)); omega)

theorem Inv.step {V0 : Valuation τ sig (Elt Ideal)} {j : ℕ} (I : Inv A V0 j) (hj : j < 64) : Inv A (STEP V0) (j + 1) where
  s h d e := by
    rw [STEP_main_v33_7, step7, fxF_apply, I.word hj]
    show _ = A.fx (fwd j) (A.fs j) h d e
    unfold Arr.fx
    refine congrArg₂ (· + ·) ?_ (Finset.sum_congr rfl fun r _ => ?_)
    · rw [cutG_apply]; exact congrArg₂ (· * ·) (I.s _ _ _) (I.g _ _)
    · rw [cutW_apply]; exact congrArg₂ (· * ·) (I.k _ _ _ _) (I.vnV hj _ _ _)
  y n h r e hn := by
    rw [STEP_main_v33_8, step8, I.word hj]
    refine (putV_apply _ _ _ n h r e).trans (put_row hj n hn (fun hc => ?_) fun hc => I.y n h r e hc)
    rw [I.ovV hj, hc, show fwd j = n from Fin.ext ((fwd_val hj).trans hc.symm)]
  v n h r e hn := by
    rw [STEP_main_v33_9, step9, I.word hj]
    refine (putV_apply _ _ _ n h r e).trans (put_row hj n hn (fun hc => ?_) fun hc => I.v n h r e hc)
    rw [I.vnV hj, hc, show fwd j = n from Fin.ext ((fwd_val hj).trans hc.symm)]
  t n h d e hn := by
    rw [STEP_main_v33_10, step10, I.word hj]
    refine (putS_apply _ _ _ n h d e).trans (put_row hj n hn (fun hc => ?_) fun hc => I.t n h d e hc)
    rw [hc]; exact I.s h d e
  q n h r e := by rw [STEP_main_v33_0]; exact I.q n h r e
  k n h r e := by rw [STEP_main_v33_1]; exact I.k n h r e
  u n h r e := by rw [STEP_main_v33_2]; exact I.u n h r e
  w n h r e := by rw [STEP_main_v33_3]; exact I.w n h r e
  a n h r e := by rw [STEP_main_v33_4]; exact I.a n h r e
  g n h := by rw [STEP_main_v33_5]; exact I.g n h
  n := by
    rw [STEP_main_v33_6]
    unfold step_main_v33_6
    rw [I.n]
    funext i
    show BitVec.ofNat 32 j + 1#32 = BitVec.ofNat 32 (j + 1)
    rw [BitVec.ofNat_add]

/-! ## Before the loop and after it -/

variable (m : (ℓ : Loc nD τ sig) → Buf (Elt Ideal) ℓ) (c : Dev nD)

/-- The six arrays of the run's memory. -/
def arr : Arr where
  q := m ((c.tc : Thread nD τ).loc main_arg0)
  k := m ((c.tc : Thread nD τ).loc main_arg1)
  o := m ((c.tc : Thread nD τ).loc main_arg2)
  w := m ((c.tc : Thread nD τ).loc main_arg3)
  a := m ((c.tc : Thread nD τ).loc main_arg4)
  g := m ((c.tc : Thread nD τ).loc main_arg5)

section
open Cert.Reference10Ideal.Step

variable (x0 x1 x2 : FVec Ideal S4096x512 .f32) (x3 : FVec Ideal S4096x512 .bf16) (x4 : FVec Ideal S4096x256 .f32) (x5 : FVec Ideal S4096x128 .f32)

theorem v2_apply (n : Fin 64) (h : Fin 4) (r : Fin 64) :
    (A_main_v2 (F := Ideal) x0 x1 x2 x3 x4 x5 : FVec Ideal S64x4x64 .f32) (ix3 n h r) = x5 (ix2 (row n r) (gcol h)) := by
  pointwise [A_main_v2, A_main_v1, A_main_v0]
  exact congrArg x5 (idx2_eq (by show n.val * 64 + r.val = 64 * n.val + r.val; omega) rfl)

theorem v4_apply (n : Fin 64) (h : Fin 4) (r : Fin 64) (e : Fin 128) :
    (A_main_v4 (F := Ideal) x0 x1 x2 x3 x4 x5 : FVec Ideal S64x4x64x128 .f32) (ix4 n h r e) = x0 (ix2 (row n r) (col h e)) :=
  split4 (φ := .f32) _ n h r e
theorem v6_apply (n : Fin 64) (h : Fin 4) (r : Fin 64) (e : Fin 128) :
    (A_main_v6 (F := Ideal) x0 x1 x2 x3 x4 x5 : FVec Ideal S64x4x64x128 .f32) (ix4 n h r e) = x1 (ix2 (row n r) (col h e)) :=
  split4 (φ := .f32) _ n h r e
theorem v8_apply (n : Fin 64) (h : Fin 4) (r : Fin 64) (e : Fin 128) :
    (A_main_v8 (F := Ideal) x0 x1 x2 x3 x4 x5 : FVec Ideal S64x4x64x128 .f32) (ix4 n h r e) = x2 (ix2 (row n r) (col h e)) :=
  split4 (φ := .f32) _ n h r e
theorem v11_apply (n : Fin 64) (h : Fin 4) (r : Fin 64) (e : Fin 128) :
    (A_main_v11 (F := Ideal) x0 x1 x2 x3 x4 x5 : FVec Ideal S64x4x64x128 .f32) (ix4 n h r e) = x3 (ix2 (row n r) (col h e)) :=
  split4 (φ := .f32) _ n h r e
theorem v13_apply (n : Fin 64) (h : Fin 4) (r e : Fin 64) :
    (A_main_v13 (F := Ideal) x0 x1 x2 x3 x4 x5 : FVec Ideal S64x4x64x64 .f32) (ix4 n h r e) = x4 (ix2 (row n r) (colc h e)) :=
  split4a (φ := .f32) _ n h r e
theorem v17_apply (n : Fin 64) (h : Fin 4) (r : Fin 64) (e : Fin 128) :
    (A_main_v17 (F := Ideal) x0 x1 x2 x3 x4 x5 : FVec Ideal S64x4x64x128 .f32) (ix4 n h r e)
      = x0 (ix2 (row n r) (col h e)) * Ideal.exp (x5 (ix2 (row n r) (gcol h))) := by
  rw [← v2_apply x0 x1 x2 x3 x4 x5, ← v4_apply x0 x1 x2 x3 x4 x5]
  unfold A_main_v17 A_main_v16 A_main_v15 A_main_v14
  generalize A_main_v2 (F := Ideal) x0 x1 x2 x3 x4 x5 = g
  generalize A_main_v4 (F := Ideal) x0 x1 x2 x3 x4 x5 = y
  pointwise
theorem v24_apply (n : Fin 64) (h : Fin 4) (r : Fin 64) (e : Fin 128) :
    (A_main_v24 (F := Ideal) x0 x1 x2 x3 x4 x5 : FVec Ideal S64x4x64x128 .f32) (ix4 n h r e)
      = x1 (ix2 (row n r) (col h e)) * Ideal.exp (x5 (ix2 (row n 63) (gcol h)) - x5 (ix2 (row n r) (gcol h))) := by
  rw [← v2_apply x0 x1 x2 x3 x4 x5, ← v2_apply x0 x1 x2 x3 x4 x5, ← v6_apply x0 x1 x2 x3 x4 x5]
  unfold A_main_v24 A_main_v23 A_main_v22 A_main_v21 A_main_v20 A_main_v19 A_main_v18
  generalize A_main_v2 (F := Ideal) x0 x1 x2 x3 x4 x5 = g
  generalize A_main_v6 (F := Ideal) x0 x1 x2 x3 x4 x5 = y
  pointwise
theorem v28_apply (n : Fin 64) (h : Fin 4) :
    (A_main_v28 (F := Ideal) x0 x1 x2 x3 x4 x5 : FVec Ideal S64x4x1x1 .f32) (ix4 n h 0 0) = Ideal.exp (x5 (ix2 (row n 63) (gcol h))) := by
  rw [← v2_apply x0 x1 x2 x3 x4 x5]
  unfold A_main_v28 A_main_v27 A_main_v26 A_main_v25
  generalize A_main_v2 (F := Ideal) x0 x1 x2 x3 x4 x5 = g
  pointwise
end

theorem entry0 : entryContents preI m c (Proc.devRef .tc main_v33_0) = Step.A_main_v17 (arr m c).q (arr m c).k (arr m c).o (arr m c).w (arr m c).a (arr m c).g := by
  simp only [entryContents, afterL_cons, afterL_nil]
  after_reads_simp
  rfl
theorem entry1 : entryContents preI m c (Proc.devRef .tc main_v33_1) = Step.A_main_v24 (arr m c).q (arr m c).k (arr m c).o (arr m c).w (arr m c).a (arr m c).g := by
  simp only [entryContents, afterL_cons, afterL_nil]
  after_reads_simp
  rfl
theorem entry2 : entryContents preI m c (Proc.devRef .tc main_v33_2) = Step.A_main_v8 (arr m c).q (arr m c).k (arr m c).o (arr m c).w (arr m c).a (arr m c).g := by
  simp only [entryContents, afterL_cons, afterL_nil]
  after_reads_simp
  rfl
theorem entry3 : entryContents preI m c (Proc.devRef .tc main_v33_3) = Step.A_main_v11 (arr m c).q (arr m c).k (arr m c).o (arr m c).w (arr m c).a (arr m c).g := by
  simp only [entryContents, afterL_cons, afterL_nil]
  after_reads_simp
  rfl
theorem entry4 : entryContents preI m c (Proc.devRef .tc main_v33_4) = Step.A_main_v13 (arr m c).q (arr m c).k (arr m c).o (arr m c).w (arr m c).a (arr m c).g := by
  simp only [entryContents, afterL_cons, afterL_nil]
  after_reads_simp
  rfl
theorem entry5 : entryContents preI m c (Proc.devRef .tc main_v33_5) = Step.A_main_v28 (arr m c).q (arr m c).k (arr m c).o (arr m c).w (arr m c).a (arr m c).g := by
  simp only [entryContents, afterL_cons, afterL_nil]
  after_reads_simp
  rfl
theorem entry7 : entryContents preI m c (Proc.devRef .tc main_v33_7) = Step.K_main_v29 := by
  simp only [entryContents, afterL_cons, afterL_nil]
  after_reads_simp
  rfl

theorem entry_inv : Inv (arr m c) (entryContents preI m c) 0 where
  s h d e := by
    rw [entry7]
    show (Step.K_main_v29 (F := Ideal) : FVec Ideal S4x128x128 .f32) (ix3 h d e) = 0
    pointwise [Step.K_main_v29, Step.K_main_cst]
  y n h r e hn := absurd hn (by omega)
  v n h r e hn := absurd hn (by omega)
  t n h d e hn := absurd hn (by omega)
  q n h r e := by rw [entry0]; exact v17_apply _ _ _ _ _ _ n h r e
  k n h r e := by rw [entry1]; exact v24_apply _ _ _ _ _ _ n h r e
  u n h r e := by rw [entry2]; exact v8_apply _ _ _ _ _ _ n h r e
  w n h r e := by rw [entry3]; exact v11_apply _ _ _ _ _ _ n h r e
  a n h j r := by rw [entry4]; exact v13_apply _ _ _ _ _ _ n h j r
  g n h := by rw [entry5]; exact v28_apply _ _ _ _ _ _ n h
  n := ctr_entry m c

theorem inv_iter : ∀ j, j ≤ 64 → Inv (arr m c) (STEP^[j] (entryContents preI m c)) j
  | 0, _ => entry_inv m c
  | j + 1, hj => by
    rw [Function.iterate_succ_apply']
    exact (inv_iter j (by omega)).step (by omega)

/-- The outputs, as the result holds them; -/
def outO (A : Arr) (x : Fin 4096) (y : Fin 512) : EReal :=
  A.ov ⟨x.val / 64, by omega⟩ (A.fs (x.val / 64)) ⟨y.val / 128, by omega⟩ ⟨x.val % 64, by omega⟩ ⟨y.val % 128, by omega⟩
/-- and the new values. -/
def outV (A : Arr) (x : Fin 4096) (y : Fin 512) : EReal :=
  A.vn ⟨x.val / 64, by omega⟩ (A.fs (x.val / 64)) ⟨y.val / 128, by omega⟩ ⟨x.val % 64, by omega⟩ ⟨y.val % 128, by omega⟩

theorem out35 (x : Fin 4096) (y : Fin 512) :
    (out_main_v35 (STEP^[64] (entryContents preI m c)) : FVec Ideal S4096x512 .f32) (ix2 x y) = outO (arr m c) x y := by
  refine Eq.trans ?_ ((inv_iter m c 64 le_rfl).y ⟨x.val / 64, by omega⟩ _ _ _ (by show x.val / 64 < 64; omega))
  unfold out_main_v35
  generalize (STEP^[64] (entryContents preI m c)) (Proc.devRef .tc main_v33_8) = z
  change FVec Ideal S64x4x64x128 .f32 at z
  pointwise

theorem out37 (x : Fin 4096) (y : Fin 512) :
    (out_main_v37 (STEP^[64] (entryContents preI m c)) : FVec Ideal S4096x512 .f32) (ix2 x y) = outV (arr m c) x y := by
  refine Eq.trans ?_ ((inv_iter m c 64 le_rfl).v ⟨x.val / 64, by omega⟩ _ _ _ (by show x.val / 64 < 64; omega))
  unfold out_main_v37
  generalize (STEP^[64] (entryContents preI m c)) (Proc.devRef .tc main_v33_9) = z
  change FVec Ideal S64x4x64x128 .f32 at z
  pointwise

theorem out38 (n : Fin 64) (h : Fin 4) (d e : Fin 128) :
    (out_main_v38 (STEP^[64] (entryContents preI m c)) : FVec Ideal S64x4x128x128 .bf16) (ix4 n h d e) = (arr m c).fs n.val h d e :=
  (inv_iter m c 64 le_rfl).t n h d e n.isLt

end Cert.RefRun10

end
-- ==== Proof.lean ====
/-
  The certificate: the frames come from the generated runs, the value claim from the two
  runs' results, both read
  as one function of the arguments.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Step
public import proofs.«01_k».proof.Proof.KerRun
public import proofs.«01_k».proof.Proof.RefRun
public import proofs.«01_k».proof.Proof.Finite
public import proofs.«01_k».proof.Proof.DxProj
public import proofs.«01_k».proof.Proof.DwProj
public import proofs.«01_k».proof.Proof.FwdProj
public import proofs.«01_k».proof.Proof.LnVal
public import proofs.«01_k».proof.Proof.Mix6Val
public import proofs.«01_k».proof.Proof.Mix7Val
public import Idealize.ShloMosaic.Lib.Claim
public import Idealize.ShloMosaic.Lib.Quiescent
public import proofs.«01_k».proof.Proof.Post8Val
public import proofs.«01_k».proof.Proof.Conv9Val
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Pre11Val
public import proofs.«01_k».proof.Proof.PreGateVal
public import proofs.«01_k».proof.Proof.KerRun10
public import proofs.«01_k».proof.Proof.RefRun10

@[expose] public section

noncomputable section

namespace Cert.Proof

open Idealize.ShloMosaic Idealize.SL.Sem

attribute [local instance] Cert.Kernel.Gen.facts Cert.KernelIdeal.Gen.facts Cert.ReferenceIdeal.Gen.facts Cert.Finite.facts
attribute [local instance] Cert.Kernel2.Gen.facts Cert.Kernel2Ideal.Gen.facts Cert.Reference2Ideal.Gen.facts
attribute [local instance] Cert.Kernel3.Gen.facts Cert.Kernel3Ideal.Gen.facts Cert.Reference3Ideal.Gen.facts
attribute [local instance] Cert.Kernel4.Gen.facts Cert.Kernel4Ideal.Gen.facts Cert.Reference4Ideal.Gen.facts
attribute [local instance] Cert.Kernel5.Gen.facts Cert.Kernel5Ideal.Gen.facts Cert.Reference5Ideal.Gen.facts
attribute [local instance] Cert.Kernel6.Gen.facts Cert.Kernel6Ideal.Gen.facts Cert.Reference6Ideal.Gen.facts
attribute [local instance] Cert.Kernel7.Gen.facts Cert.Kernel7Ideal.Gen.facts Cert.Reference7Ideal.Gen.facts
attribute [local instance] Cert.Kernel8.Gen.facts Cert.Kernel8Ideal.Gen.facts Cert.Reference8Ideal.Gen.facts
attribute [local instance] Cert.Kernel9.Gen.facts Cert.Kernel9Ideal.Gen.facts Cert.Reference9Ideal.Gen.facts
attribute [local instance] Cert.Finite2.facts

/-- The reference declares no semaphore. -/
theorem reference_sems : Cert.ReferenceIdeal.sig.nSem + Cert.ReferenceIdeal.sig.nDmaSem = 0 := by decide

theorem reference_frame : quiescent_ReferenceIdeal := fun m g _ =>
  (θ_run _ _ _).mono (fun r h => ⟨fun c => (h c).2.2, sem_eq_zero_of_no_sems reference_sems r.2⟩)
    (Cert.ReferenceIdeal.Value.run (F := Ideal) m g)

theorem value : algebraic_KernelIdeal_ReferenceIdeal_pre_finite := by
  intro m g m' g' hpre hsame
  have hfin : ∀ c, (Cert.KerRun.arr m c).Fin' := fun c =>
    Cert.Finite.of_fn _ _ _ _ _ _ fun j => congrFun (hpre c) j
  have hArr : ∀ c, Cert.RefRun.arr m' c = Cert.KerRun.arr m c := by
    intro c
    obtain ⟨e0, e1, e2, e3, e4, e5⟩ := hsame c
    unfold Cert.RefRun.arr Cert.KerRun.arr
    exact congr (congr (congr (congr (congr (congrArg _ e0) e1) e2) e3) e4) e5
  refine ⟨fun c => Cert.KerRun.O6 (Cert.KerRun.arr m c), fun c => Cert.KerRun.O7 (Cert.KerRun.arr m c), ?_, ?_⟩
  · exact (θ_run _ _ _).mono (fun r h c => ⟨(h c).1.trans (Cert.KerRun.array6 m c), (h c).2.1.trans (Cert.KerRun.array7 m c), (h c).2.2⟩)
      (Cert.KernelIdeal.Value.run_blocks (F := Ideal) m g)
  · refine (θ_run _ _ _).mono (fun r h c => ⟨(h c).1.trans ?_, (h c).2.1.trans ?_, (h c).2.2⟩)
      (Cert.ReferenceIdeal.Value.run (F := Ideal) m' g')
    · funext (x : Cert.ReferenceIdeal.S4096x512.Idx)
      obtain ⟨x0, x1, rfl⟩ : ∃ a b, x = ix2 a b := ⟨x 0, x 1, by funext k; fin_cases k <;> rfl⟩
      refine (Cert.RefRun.out36 m' c ((hArr c).symm ▸ hfin c) x0 x1).trans ?_
      rw [hArr c]
      rfl
    · funext (x : Cert.ReferenceIdeal.S64x4x128x128.Idx)
      obtain ⟨x0, x1, x2, x3, rfl⟩ : ∃ a b d e, x = ix4 a b d e := ⟨x 0, x 1, x 2, x 3, by funext k; fin_cases k <;> rfl⟩
      refine (Cert.RefRun.out37 m' c ((hArr c).symm ▸ hfin c) x0 x1 x2 x3).trans ?_
      rw [hArr c]
      rfl

theorem reference3_sems : Cert.Reference3Ideal.sig.nSem + Cert.Reference3Ideal.sig.nDmaSem = 0 := by decide

theorem reference3_frame : quiescent_Reference3Ideal := fun m g _ =>
  (θ_run _ _ _).mono (fun r h => ⟨fun c => (h c).2, sem_eq_zero_of_no_sems reference3_sems r.2⟩)
    (Cert.Reference3Ideal.Value.run (F := Ideal) m g)

theorem reference4_sems : Cert.Reference4Ideal.sig.nSem + Cert.Reference4Ideal.sig.nDmaSem = 0 := by decide

theorem reference4_frame : quiescent_Reference4Ideal := fun m g _ =>
  (θ_run _ _ _).mono (fun r h => ⟨fun c => (h c).2.2, sem_eq_zero_of_no_sems reference4_sems r.2⟩)
    (Cert.Reference4Ideal.Value.run (F := Ideal) m g)

theorem reference5_sems : Cert.Reference5Ideal.sig.nSem + Cert.Reference5Ideal.sig.nDmaSem = 0 := by decide

theorem reference5_frame : quiescent_Reference5Ideal := fun m g _ =>
  (θ_run _ _ _).mono (fun r h => ⟨fun c => (h c).2, sem_eq_zero_of_no_sems reference5_sems r.2⟩)
    (Cert.Reference5Ideal.Value.run (F := Ideal) m g)

/-- The input projection's cotangent with respect to the layer's input. -/
theorem value3 : algebraic_Kernel3Ideal_Reference3Ideal := by
  intro m g m' g' _ hsame
  refine ⟨fun c => Cert.DxProj.O (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2)), ?_, ?_⟩
  · exact (θ_run _ _ _).mono (fun r h c => ⟨(h c).1.trans (Cert.DxProj.array5 m c), (h c).2⟩)
      (Cert.Kernel3Ideal.Value.run_blocks (F := Ideal) m g)
  · refine (θ_run _ _ _).mono (fun r h c => ⟨(h c).1.trans ?_, (h c).2⟩) (Cert.Reference3Ideal.Value.run (F := Ideal) m' g')
    obtain ⟨e0, e1, e2⟩ := hsame c
    funext (x : Cert.Reference3Ideal.S4096x1024.Idx)
    obtain ⟨x0, x1, rfl⟩ : ∃ a b, x = ix2 a b := ⟨x 0, x 1, by funext k; fin_cases k <;> rfl⟩
    rw [e0, e1, e2]
    exact Cert.DxProj.Ref.ref_ix _ _ _ x0 x1

/-- The input projection's cotangent with respect to its matrix. -/
theorem value4 : algebraic_Kernel4Ideal_Reference4Ideal := by
  intro m g m' g' _ hsame
  refine ⟨fun c => Cert.DwProj.O3 (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1)),
    fun c => Cert.DwProj.O4 (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1)), ?_, ?_⟩
  · exact (θ_run _ _ _).mono (fun r h c => ⟨(h c).1.trans (Cert.DwProj.array3 m c), (h c).2.1.trans (Cert.DwProj.array4 m c), (h c).2.2⟩)
      (Cert.Kernel4Ideal.Value.run (F := Ideal) m g)
  · refine (θ_run _ _ _).mono (fun r h c => ⟨(h c).1.trans ?_, (h c).2.1.trans ?_, (h c).2.2⟩) (Cert.Reference4Ideal.Value.run (F := Ideal) m' g')
    · obtain ⟨e0, e1⟩ := hsame c
      funext (x : Cert.Reference4Ideal.S3072x1024.Idx)
      obtain ⟨x0, x1, rfl⟩ : ∃ a b, x = ix2 a b := ⟨x 0, x 1, by funext k; fin_cases k <;> rfl⟩
      rw [e0, e1]
      exact Cert.DwProj.Ref.ref3_ix _ _ x0 x1
    · obtain ⟨e0, e1⟩ := hsame c
      funext (x : Cert.Reference4Ideal.S384x1024.Idx)
      obtain ⟨x0, x1, rfl⟩ : ∃ a b, x = ix2 a b := ⟨x 0, x 1, by funext k; fin_cases k <;> rfl⟩
      rw [e0, e1]
      exact Cert.DwProj.Ref.ref4_ix _ _ x0 x1

/-- The input projection. -/
theorem value5 : algebraic_Kernel5Ideal_Reference5Ideal := by
  intro m g m' g' _ hsame
  refine ⟨fun c => Cert.FwdProj.O (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1)), ?_, ?_⟩
  · exact (θ_run _ _ _).mono (fun r h c => ⟨(h c).1.trans (Cert.FwdProj.array2 m c), (h c).2⟩)
      (Cert.Kernel5Ideal.Value.run_blocks (F := Ideal) m g)
  · refine (θ_run _ _ _).mono (fun r h c => ⟨(h c).1.trans ?_, (h c).2⟩) (Cert.Reference5Ideal.Value.run (F := Ideal) m' g')
    obtain ⟨e0, e1⟩ := hsame c
    funext (x : Cert.Reference5Ideal.S4096x3456.Idx)
    obtain ⟨x0, x1, rfl⟩ : ∃ a b, x = ix2 a b := ⟨x 0, x 1, by funext k; fin_cases k <;> rfl⟩
    rw [e0, e1]
    exact Cert.FwdProj.Ref.ref_ix _ _ x0 x1

theorem reference2_sems : Cert.Reference2Ideal.sig.nSem + Cert.Reference2Ideal.sig.nDmaSem = 0 := by decide

theorem reference2_frame : quiescent_Reference2Ideal := fun m g _ =>
  (θ_run _ _ _).mono (fun r h => ⟨fun c => (h c).2.2.2.2.2, sem_eq_zero_of_no_sems reference2_sems r.2⟩)
    (Cert.Reference2Ideal.Value.run (F := Ideal) m g)

/-- The layer norm and the output projection, backward. -/
theorem value2 : algebraic_Kernel2Ideal_Reference2Ideal_pre_finite2 := by
  intro m g m' g' hpre hsame
  have hfin := fun c => Cert.Finite2.of_fn _ _ _ _ _ fun j => congrFun (hpre c) j
  refine ⟨fun c => Cert.Ln.Ker.O5 (Cert.Ln.Ker.R m c) (Cert.Ln.Ker.X0 m c) (Cert.Ln.Ker.X3 m c),
    fun c => Cert.Ln.Ker.O6 (Cert.Ln.Ker.R m c) (Cert.Ln.Ker.X0 m c) (Cert.Ln.Ker.X3 m c) (Cert.Ln.Ker.X4 m c),
    fun c => Cert.Ln.Ker.O7 (Cert.Ln.Ker.R m c) (Cert.Ln.Ker.X0 m c) (Cert.Ln.Ker.X3 m c) (Cert.Ln.Ker.X2 m c),
    fun c => Cert.Ln.Ker.O8 (Cert.Ln.Ker.R m c) (Cert.Ln.Ker.X0 m c), fun c => Cert.Ln.Ker.O9 (Cert.Ln.Ker.X0 m c), ?_, ?_⟩
  · exact (θ_run _ _ _).mono (fun r h c => ⟨(h c).1.trans (Cert.Ln.Ker.array5 m c), (h c).2.1.trans (Cert.Ln.Ker.array6 m c),
        (h c).2.2.1.trans (Cert.Ln.Ker.array7 m c), (h c).2.2.2.1.trans (Cert.Ln.Ker.array8 m c), (h c).2.2.2.2.1.trans (Cert.Ln.Ker.array9 m c),
        (h c).2.2.2.2.2⟩)
      (Cert.Kernel2Ideal.Value.run_blocks (F := Ideal) m g)
  · refine (θ_run _ _ _).mono (fun r h c => ⟨(h c).1.trans ?_, (h c).2.1.trans ?_, (h c).2.2.1.trans ?_, (h c).2.2.2.1.trans ?_,
      (h c).2.2.2.2.1.trans ?_, (h c).2.2.2.2.2⟩) (Cert.Reference2Ideal.Value.run (F := Ideal) m' g')
    · obtain ⟨e0, e1, e2, e3, e4⟩ := hsame c
      obtain ⟨hy, hx, hm, hg, hw⟩ := hfin c
      rw [Cert.Ln.Ref.v66, e0, e1, e2, e3, e4]
      exact Cert.Ln.Val.val5 _ _ _ _ _ hy hx hm hg hw
    · obtain ⟨e0, e1, e2, e3, e4⟩ := hsame c
      obtain ⟨hy, hx, hm, hg, hw⟩ := hfin c
      rw [Cert.Ln.Ref.v69, e0, e1, e2, e3, e4]
      exact funext fun i => Cert.Ln.Val.val6 _ _ _ _ _ hy hx hm hg hw i
    · obtain ⟨e0, e1, e2, e3, e4⟩ := hsame c
      obtain ⟨hy, hx, hm, hg, hw⟩ := hfin c
      rw [Cert.Ln.Ref.v68, e0, e1, e2, e3, e4]
      funext (x : Cert.Reference2Ideal.S1024x1024.Idx)
      obtain ⟨x0, x1, rfl⟩ : ∃ a b, x = ix2 a b := ⟨x 0, x 1, by funext k; fin_cases k <;> rfl⟩
      exact (Cert.Ln.Ref.dw_ix _ _ x0 x1).trans (Cert.Ln.Val.val7 _ _ _ _ _ hy hx hm hg hw x0 x1)
    · obtain ⟨e0, e1, e2, e3, e4⟩ := hsame c
      rw [e0, e1, e2, e4]
      funext (x : Cert.Reference2Ideal.S1x1024.Idx)
      obtain ⟨x0, x1, rfl⟩ : ∃ a b, x = ix2 a b := ⟨x 0, x 1, by funext k; fin_cases k <;> rfl⟩
      exact Cert.Ln.Val.val8' _ _ _ _ x0 x1
    · obtain ⟨e0, e1, e2, e3, e4⟩ := hsame c
      rw [e0]
      funext (x : Cert.Reference2Ideal.S1x1024.Idx)
      obtain ⟨x0, x1, rfl⟩ : ∃ a b, x = ix2 a b := ⟨x 0, x 1, by funext k; fin_cases k <;> rfl⟩
      exact Cert.Ln.Ref.col_ix _ x0 x1

theorem reference6_sems : Cert.Reference6Ideal.sig.nSem + Cert.Reference6Ideal.sig.nDmaSem = 0 := by decide

theorem reference6_frame : quiescent_Reference6Ideal := fun m g _ =>
  (θ_run _ _ _).mono (fun r h => ⟨fun c => (h c).2.2.2, sem_eq_zero_of_no_sems reference6_sems r.2⟩)
    (Cert.Reference6Ideal.Value.run (F := Ideal) m g)

/-- The first layer's mixer output, with the projection, the residual and the norm after it. -/
theorem value6 : algebraic_Kernel6Ideal_Reference6Ideal := by
  intro m g m' g' _ hsame
  refine ⟨fun c => Cert.Mix.Ker6.O9 (Cert.Mix.Ker6.A0 m c) (Cert.Mix.Ker6.A1 m c) (Cert.Mix.Ker6.A2 m c) (Cert.Mix.Ker6.A3 m c) (Cert.Mix.Ker6.A4 m c) (Cert.Mix.Ker6.A5 m c) (Cert.Mix.Ker6.A6 m c) (Cert.Mix.Ker6.A7 m c),
    fun c => Cert.Mix.Ker6.O10 (Cert.Mix.Ker6.A1 m c) (Cert.Mix.Ker6.A2 m c) (Cert.Mix.Ker6.A3 m c) (Cert.Mix.Ker6.A4 m c),
    fun c => Cert.Mix.Ker6.O11 (Cert.Mix.Ker6.A0 m c) (Cert.Mix.Ker6.A1 m c) (Cert.Mix.Ker6.A2 m c) (Cert.Mix.Ker6.A3 m c) (Cert.Mix.Ker6.A4 m c) (Cert.Mix.Ker6.A5 m c), ?_, ?_⟩
  · exact (θ_run _ _ _).mono (fun r h c => ⟨(h c).1.trans (Cert.Mix.Ker6.array9 m c), (h c).2.1.trans (Cert.Mix.Ker6.array10 m c), (h c).2.2.1.trans (Cert.Mix.Ker6.array11 m c), (h c).2.2.2⟩)
      (Cert.Kernel6Ideal.Value.run_blocks (F := Ideal) m g)
  · refine (θ_run _ _ _).mono (fun r h c => ⟨(h c).1.trans ?_, (h c).2.1.trans ?_, (h c).2.2.1.trans ?_, (h c).2.2.2⟩)
      (Cert.Reference6Ideal.Value.run (F := Ideal) m' g')
    · obtain ⟨e0, e1, e2, e3, e4, e5, e6, e7⟩ := hsame c
      rw [Cert.Mix.Ref.v49, e0, e1, e2, e3, e4, e5, e6, e7]
      exact Cert.Mix.Val6.val9 _ _ _ _ _ _ _ _
    · obtain ⟨e0, e1, e2, e3, e4, e5, e6, e7⟩ := hsame c
      rw [e1, e2, e3, e4]
      exact Cert.Mix.Val6.val10 _ _ _ _
    · obtain ⟨e0, e1, e2, e3, e4, e5, e6, e7⟩ := hsame c
      rw [e0, e1, e2, e3, e4, e5]
      exact Cert.Mix.Val6.val11 _ _ _ _ _ _

theorem reference7_sems : Cert.Reference7Ideal.sig.nSem + Cert.Reference7Ideal.sig.nDmaSem = 0 := by decide

theorem reference7_frame : quiescent_Reference7Ideal := fun m g _ =>
  (θ_run _ _ _).mono (fun r h => ⟨fun c => (h c).2.2.2.2, sem_eq_zero_of_no_sems reference7_sems r.2⟩)
    (Cert.Reference7Ideal.Value.run (F := Ideal) m g)

/-- The last layer's, with the loss and its derivative. -/
theorem value7 : algebraic_Kernel7Ideal_Reference7Ideal := by
  intro m g m' g' _ hsame
  refine ⟨fun c => Cert.Mix.Ker7.O10 (Cert.Mix.Ker7.A0 m c) (Cert.Mix.Ker7.A1 m c) (Cert.Mix.Ker7.A2 m c) (Cert.Mix.Ker7.A3 m c) (Cert.Mix.Ker7.A4 m c) (Cert.Mix.Ker7.A5 m c) (Cert.Mix.Ker7.A6 m c) (Cert.Mix.Ker7.A7 m c) (Cert.Mix.Ker7.A8 m c),
    fun c => Cert.Mix.Ker7.O11 (Cert.Mix.Ker7.A1 m c) (Cert.Mix.Ker7.A2 m c) (Cert.Mix.Ker7.A3 m c) (Cert.Mix.Ker7.A4 m c),
    fun c => Cert.Mix.Ker7.O12 (Cert.Mix.Ker7.A0 m c) (Cert.Mix.Ker7.A1 m c) (Cert.Mix.Ker7.A2 m c) (Cert.Mix.Ker7.A3 m c) (Cert.Mix.Ker7.A4 m c) (Cert.Mix.Ker7.A5 m c),
    fun c => Cert.Mix.Ker7.O13 (Cert.Mix.Ker7.A0 m c) (Cert.Mix.Ker7.A1 m c) (Cert.Mix.Ker7.A2 m c) (Cert.Mix.Ker7.A3 m c) (Cert.Mix.Ker7.A4 m c) (Cert.Mix.Ker7.A5 m c) (Cert.Mix.Ker7.A6 m c) (Cert.Mix.Ker7.A7 m c) (Cert.Mix.Ker7.A8 m c), ?_, ?_⟩
  · exact (θ_run _ _ _).mono (fun r h c => ⟨(h c).1.trans (Cert.Mix.Ker7.array10 m c), (h c).2.1.trans (Cert.Mix.Ker7.array11 m c), (h c).2.2.1.trans (Cert.Mix.Ker7.array12 m c), (h c).2.2.2.1.trans (Cert.Mix.Ker7.array13 m c), (h c).2.2.2.2⟩)
      (Cert.Kernel7Ideal.Value.run_blocks (F := Ideal) m g)
  · refine (θ_run _ _ _).mono (fun r h c => ⟨(h c).1.trans ?_, (h c).2.1.trans ?_, (h c).2.2.1.trans ?_, (h c).2.2.2.1.trans ?_, (h c).2.2.2.2⟩)
      (Cert.Reference7Ideal.Value.run (F := Ideal) m' g')
    · obtain ⟨e0, e1, e2, e3, e4, e5, e6, e7, e8⟩ := hsame c
      rw [Cert.Mix.Val7.v64, e0, e1, e2, e3, e4, e5, e6, e7, e8]
      exact Cert.Mix.Val7.val10 _ _ _ _ _ _ _ _ _
    · obtain ⟨e0, e1, e2, e3, e4, e5, e6, e7, e8⟩ := hsame c
      rw [e1, e2, e3, e4]
      exact Cert.Mix.Val7.val11 _ _ _ _
    · obtain ⟨e0, e1, e2, e3, e4, e5, e6, e7, e8⟩ := hsame c
      rw [e0, e1, e2, e3, e4, e5]
      exact Cert.Mix.Val7.val12 _ _ _ _ _ _
    · obtain ⟨e0, e1, e2, e3, e4, e5, e6, e7, e8⟩ := hsame c
      rw [Cert.Mix.Val7.v66, e0, e1, e2, e3, e4, e5, e6, e7, e8]
      exact Cert.Mix.Val7.val13 _ _ _ _ _ _ _ _ _

theorem reference8_sems : Cert.Reference8Ideal.sig.nSem + Cert.Reference8Ideal.sig.nDmaSem = 0 := by decide

theorem reference8_frame : quiescent_Reference8Ideal := fun m g _ =>
  (θ_run _ _ _).mono (fun r h => ⟨fun c => (h c).2.2, sem_eq_zero_of_no_sems reference8_sems r.2⟩)
    (Cert.Reference8Ideal.Value.run (F := Ideal) m g)

/-- The output norm's backward: the calls' arrays and the reference's gradients are one function
    of the four arguments. -/
theorem value8 : algebraic_Kernel8Ideal_Reference8Ideal := by
  intro m g m' g' _ hsame
  refine ⟨fun c => Cert.Post.Ker.O4 (Cert.Post.Ker.A0 m c) (Cert.Post.Ker.A1 m c) (Cert.Post.Ker.A2 m c) (Cert.Post.Ker.A3 m c),
    fun c => Cert.Post.Ker.O6 (Cert.Post.Ker.A0 m c) (Cert.Post.Ker.A1 m c) (Cert.Post.Ker.A2 m c), ?_, ?_⟩
  · exact (θ_run _ _ _).mono (fun r h c => ⟨(h c).1.trans (Cert.Post.Ker.array4 m c),
      (h c).2.2.1.trans (Cert.Post.Ker.array6 m c), (h c).2.2.2⟩)
      (Cert.Kernel8Ideal.Value.run_blocks (F := Ideal) m g)
  · refine (θ_run _ _ _).mono (fun r h c => ⟨(h c).1.trans ?_, (h c).2.1.trans ?_, (h c).2.2⟩)
      (Cert.Reference8Ideal.Value.run (F := Ideal) m' g')
    · obtain ⟨e0, e1, e2, e3⟩ := hsame c
      rw [Cert.Post.Val.v47, e0, e1, e2, e3]
      exact Cert.Post.Val.val4 _ _ _ _
    · obtain ⟨e0, e1, e2, _⟩ := hsame c
      rw [e0, e1, e2]
      exact Cert.Post.Val.val6 _ _ _

theorem reference9_sems : Cert.Reference9Ideal.sig.nSem + Cert.Reference9Ideal.sig.nDmaSem = 0 := by decide

theorem reference9_frame : quiescent_Reference9Ideal := fun m g _ =>
  (θ_run _ _ _).mono (fun r h => ⟨fun c => (h c).2.2, sem_eq_zero_of_no_sems reference9_sems r.2⟩)
    (Cert.Reference9Ideal.Value.run (F := Ideal) m g)

/-- The short convolution's backward: the call's arrays and the reference's gradients are one function
    of the four arguments. -/
theorem value9 : algebraic_Kernel9Ideal_Reference9Ideal := by
  intro m g m' g' _ hsame
  refine ⟨fun c => Cert.Conv.Ker.O4 (Cert.Conv.Ker.A0 m c) (Cert.Conv.Ker.A2 m c) (Cert.Conv.Ker.A3 m c),
    fun c => Cert.Conv.Ker.O5 (Cert.Conv.Ker.A0 m c) (Cert.Conv.Ker.A1 m c), ?_, ?_⟩
  · exact (θ_run _ _ _).mono (fun r h c => ⟨(h c).1.trans (Cert.Conv.Ker.array4 m c),
      (h c).2.1.trans (Cert.Conv.Ker.array5 m c), (h c).2.2⟩)
      (Cert.Kernel9Ideal.Value.run_blocks (F := Ideal) m g)
  · refine (θ_run _ _ _).mono (fun r h c => ⟨(h c).1.trans ?_, (h c).2.1.trans ?_, (h c).2.2⟩)
      (Cert.Reference9Ideal.Value.run (F := Ideal) m' g')
    · obtain ⟨e0, e1, e2, e3⟩ := hsame c
      rw [e0, e2, e3]
      exact Cert.Conv.Val.val4 _ _ _
    · obtain ⟨e0, e1, _, _⟩ := hsame c
      rw [e0, e1]
      exact Cert.Conv.Val.val5 _ _

theorem reference10_sems : Cert.Reference10Ideal.sig.nSem + Cert.Reference10Ideal.sig.nDmaSem = 0 := by decide

theorem reference10_frame : quiescent_Reference10Ideal := fun m g _ =>
  (θ_run _ _ _).mono (fun r h => ⟨fun c => (h c).2.2.2, sem_eq_zero_of_no_sems reference10_sems r.2⟩)
    (Cert.Reference10Ideal.Value.run (F := Ideal) m g)

/-- The forward scan: the call's three arrays and the reference's are one function of the six arguments. -/
theorem value10 : algebraic_Kernel10Ideal_Reference10Ideal := by
  intro m g m' g' _ hsame
  have hArr : ∀ c, Cert.RefRun10.arr m' c = Cert.KerRun10.arr m c := by
    intro c
    obtain ⟨e0, e1, e2, e3, e4, e5⟩ := hsame c
    unfold Cert.RefRun10.arr Cert.KerRun10.arr
    exact congr (congr (congr (congr (congr (congrArg _ e0) e1) e3) e4) e5) e2
  refine ⟨fun c => Cert.KerRun10.O6 (Cert.KerRun10.arr m c), fun c => Cert.KerRun10.O7 (Cert.KerRun10.arr m c),
    fun c => Cert.KerRun10.O8 (Cert.KerRun10.arr m c), ?_, ?_⟩
  · exact (θ_run _ _ _).mono (fun r h c => ⟨(h c).1.trans (Cert.KerRun10.array6 m c),
      (h c).2.1.trans (Cert.KerRun10.array7 m c), (h c).2.2.1.trans (Cert.KerRun10.array8 m c), (h c).2.2.2⟩)
      (Cert.Kernel10Ideal.Value.run_blocks (F := Ideal) m g)
  · refine (θ_run _ _ _).mono (fun r h c => ⟨(h c).1.trans ?_, (h c).2.1.trans ?_, (h c).2.2.1.trans ?_, (h c).2.2.2⟩)
      (Cert.Reference10Ideal.Value.run (F := Ideal) m' g')
    · funext (x : Cert.Reference10Ideal.S4096x512.Idx)
      obtain ⟨x0, x1, rfl⟩ : ∃ a b, x = ix2 a b := ⟨x 0, x 1, by funext k; fin_cases k <;> rfl⟩
      refine (Cert.RefRun10.out35 m' c x0 x1).trans ?_
      rw [hArr c]
      rfl
    · funext (x : Cert.Reference10Ideal.S4096x512.Idx)
      obtain ⟨x0, x1, rfl⟩ : ∃ a b, x = ix2 a b := ⟨x 0, x 1, by funext k; fin_cases k <;> rfl⟩
      refine (Cert.RefRun10.out37 m' c x0 x1).trans ?_
      rw [hArr c]
      rfl
    · funext (x : Cert.Reference10Ideal.S64x4x128x128.Idx)
      obtain ⟨x0, x1, x2, x3, rfl⟩ : ∃ a b d e, x = ix4 a b d e := ⟨x 0, x 1, x 2, x 3, by funext k; fin_cases k <;> rfl⟩
      refine (Cert.RefRun10.out38 m' c x0 x1 x2 x3).trans ?_
      rw [hArr c]
      rfl

theorem reference11_sems : Cert.Reference11Ideal.sig.nSem + Cert.Reference11Ideal.sig.nDmaSem = 0 := by decide

theorem reference11_frame : quiescent_Reference11Ideal := fun m g _ =>
  (θ_run _ _ _).mono (fun r h => ⟨fun c => (h c).2.2.2.2.2.2, sem_eq_zero_of_no_sems reference11_sems r.2⟩)
    (Cert.Reference11Ideal.Value.run (F := Ideal) m g)

/-- The short convolution's forward: the call's queries, keys, values, gates, transposed gates and the convolution's result and the
    reference's are one function of the arguments. -/
theorem value11 : algebraic_Kernel11Ideal_Reference11Ideal := by
  intro m g m' g' _ hsame
  refine ⟨fun c => Cert.Pre.Ker.OQ (Cert.Pre.Ker.A0 m c) (Cert.Pre.Ker.A1 m c), fun c => Cert.Pre.Ker.OK (Cert.Pre.Ker.A0 m c) (Cert.Pre.Ker.A1 m c),
    fun c => Cert.Pre.Ker.OV (Cert.Pre.Ker.A0 m c) (Cert.Pre.Ker.A1 m c), fun c => Cert.Pre.Ker.OB (Cert.Pre.Ker.A0 m c) (Cert.Pre.Ker.A2 m c),
    fun c => Cert.Pre.Ker.OT (Cert.Pre.Ker.A0 m c) (Cert.Pre.Ker.A2 m c), fun c => Cert.Pre.Ker.OC (Cert.Pre.Ker.A0 m c) (Cert.Pre.Ker.A1 m c), ?_, ?_⟩
  · exact (θ_run _ _ _).mono (fun r h c => ⟨(h c).1.trans (Cert.Pre.Ker.array5 m c), (h c).2.1.trans (Cert.Pre.Ker.array6 m c),
      (h c).2.2.1.trans (Cert.Pre.Ker.array7 m c), (h c).2.2.2.1.trans (Cert.Pre.Ker.array8 m c), (h c).2.2.2.2.1.trans (Cert.Pre.Ker.array9 m c),
      (h c).2.2.2.2.2.1.trans (Cert.Pre.Ker.array10 m c), (h c).2.2.2.2.2.2⟩)
      (Cert.Kernel11Ideal.Value.run_blocks (F := Ideal) m g)
  · refine (θ_run _ _ _).mono (fun r h c => ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩) (Cert.Reference11Ideal.Value.run (F := Ideal) m' g')
    all_goals obtain ⟨e0, e1, e2⟩ := hsame c
    · refine (Cert.Pre.Val.run0 m' c).trans ?_
      rw [e0, e1]
      exact Cert.Pre.Val.valQ _ _
    · refine (Cert.Pre.Val.run1 m' c).trans ?_
      rw [e0, e1]
      exact Cert.Pre.Val.valK _ _
    · refine (Cert.Pre.Val.run2 m' c).trans ?_
      rw [e0, e1]
      exact Cert.Pre.Val.valV _ _
    · rw [e0, e2]
      exact Cert.Pre.Val.valB _ _
    · rw [e0, e2]
      exact Cert.Pre.Val.valT' _ _
    · rw [e0, e1]
      exact Cert.Pre.Val.valC _ _

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Finite.facts, Cert.Finite2.facts,
    fun m g _ => Cert.Kernel.Gen.frame m g, fun m g _ => Cert.KernelIdeal.Gen.frame m g, fun m g _ => Cert.KernelIdeal.Gen.frame m g,
    reference_frame, fun m g _ => reference_frame m g trivial,
    fun m g _ => Cert.Kernel2.Gen.frame m g, fun m g _ => Cert.Kernel2Ideal.Gen.frame m g, fun m g _ => Cert.Kernel2Ideal.Gen.frame m g,
    reference2_frame, fun m g _ => reference2_frame m g trivial,
    fun m g _ => Cert.Kernel3.Gen.frame m g, fun m g _ => Cert.Kernel3Ideal.Gen.frame m g, reference3_frame,
    fun m g _ => Cert.Kernel4.Gen.frame m g, fun m g _ => Cert.Kernel4Ideal.Gen.frame m g, reference4_frame,
    fun m g _ => Cert.Kernel5.Gen.frame m g, fun m g _ => Cert.Kernel5Ideal.Gen.frame m g, reference5_frame,
    fun m g _ => Cert.Kernel6.Gen.frame m g, fun m g _ => Cert.Kernel6Ideal.Gen.frame m g, reference6_frame,
    fun m g _ => Cert.Kernel7.Gen.frame m g, fun m g _ => Cert.Kernel7Ideal.Gen.frame m g, reference7_frame,
    fun m g _ => Cert.Kernel8.Gen.frame m g, fun m g _ => Cert.Kernel8Ideal.Gen.frame m g, reference8_frame,
    fun m g _ => Cert.Kernel9.Gen.frame m g, fun m g _ => Cert.Kernel9Ideal.Gen.frame m g, reference9_frame,
    fun m g _ => Cert.Kernel10.Gen.frame m g, fun m g _ => Cert.Kernel10Ideal.Gen.frame m g, reference10_frame,
    fun m g _ => Cert.Kernel11.Gen.frame m g, fun m g _ => Cert.Kernel11Ideal.Gen.frame m g, reference11_frame,
    trivial, value, trivial, value2, trivial, value3, trivial, value4, trivial, value5,
    trivial, value6, trivial, value7, trivial, value8, trivial, value9, trivial, value10, trivial, value11⟩

end Cert.Proof

end
